-- ==== Defs.lean ====
def Pre_Kernel [hPre_slots_apart : Cert.Pre_slots_apart.Facts] (m : (ℓ : Loc Cert.Kernel.nD Cert.Kernel.τ Cert.Kernel.sig) → Buf (Elt Bits) ℓ) : Prop :=
  ∀ c : Dev Cert.Kernel.nD,
    (Cert.Pre_slots_apart.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_slots_apart : Cert.Pre_slots_apart.Facts] (m : (ℓ : Loc Cert.KernelIdeal.nD Cert.KernelIdeal.τ Cert.KernelIdeal.sig) → Buf (Elt Ideal) ℓ) : Prop :=
  ∀ c : Dev Cert.KernelIdeal.nD,
    (Cert.Pre_slots_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_slots_apart [hPre_slots_apart : Cert.Pre_slots_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slots_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 [hPre_tiles_scheduled : Cert.Pre_tiles_scheduled.Facts] (m : (ℓ : Loc Cert.Kernel2.nD Cert.Kernel2.τ Cert.Kernel2.sig) → Buf (Elt Bits) ℓ) : Prop :=
  ∀ c : Dev Cert.Kernel2.nD,
    (Cert.Pre_tiles_scheduled.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8)) (m ((c.tc : Thread Cert.Kernel2.nD Cert.Kernel2.τ).loc Cert.Kernel2.main_arg9)) (m ((c.tc : Thread Cert.Kernel2.nD Cert.Kernel2.τ).loc Cert.Kernel2.main_arg10)) (m ((c.tc : Thread Cert.Kernel2.nD Cert.Kernel2.τ).loc Cert.Kernel2.main_arg11))) = (fun _ => 1#1)

def Pre_Kernel2Ideal [hPre_tiles_scheduled : Cert.Pre_tiles_scheduled.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tiles_scheduled.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tiles_scheduled [hPre_tiles_scheduled : Cert.Pre_tiles_scheduled.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tiles_scheduled.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_slots_apart : Cert.Pre_slots_apart.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_slots_apart : Cert.Pre_slots_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_slots_apart [hReferenceIdeal : Cert.ReferenceIdeal.Facts] [hPre_slots_apart : Cert.Pre_slots_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_slots_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] [hPre_tiles_scheduled : Cert.Pre_tiles_scheduled.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] [hPre_tiles_scheduled : Cert.Pre_tiles_scheduled.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Reference2Ideal_pre_tiles_scheduled [hReference2Ideal : Cert.Reference2Ideal.Facts] [hPre_tiles_scheduled : Cert.Pre_tiles_scheduled.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tiles_scheduled m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  True

def algebraic_KernelIdeal_ReferenceIdeal_on_rows_written [hKernelIdeal : Cert.KernelIdeal.Facts] [hReferenceIdeal : Cert.ReferenceIdeal.Facts] [hPre_slots_apart : Cert.Pre_slots_apart.Facts] [hOn_rows_written : Cert.On_rows_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![81920, 2048]⟩ : Shape).Idx, (Cert.On_rows_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v3_0) i = v0 c i)
          ∧ (∀ i : (⟨2, ![8192, 4096]⟩ : Shape).Idx, (Cert.On_rows_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 i = 1#1 → r.2.mem ((c.tc : Thread Cert.KernelIdeal.nD Cert.KernelIdeal.τ).loc Cert.KernelIdeal.main_v3_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![81920, 2048]⟩ : Shape).Idx, (Cert.On_rows_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v9) i = v0 c i)
          ∧ (∀ i : (⟨2, ![8192, 4096]⟩ : Shape).Idx, (Cert.On_rows_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 i = 1#1 → r.2.mem ((c.tc : Thread Cert.ReferenceIdeal.nD Cert.ReferenceIdeal.τ).loc Cert.ReferenceIdeal.main_v16) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_on_rows_used [hKernel2Ideal : Cert.Kernel2Ideal.Facts] [hReference2Ideal : Cert.Reference2Ideal.Facts] [hPre_tiles_scheduled : Cert.Pre_tiles_scheduled.Facts] [hOn_rows_used : Cert.On_rows_used.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![81920, 4096]⟩ : Shape).Idx, (Cert.On_rows_used.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))) i = 1#1 → r.2.mem ((c.tc : Thread Cert.Kernel2Ideal.nD Cert.Kernel2Ideal.τ).loc Cert.Kernel2Ideal.main_v0) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![81920, 4096]⟩ : Shape).Idx, (Cert.On_rows_used.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11))) i = 1#1 → r.2.mem ((c.tc : Thread Cert.Reference2Ideal.nD Cert.Reference2Ideal.τ).loc Cert.Reference2Ideal.main_v19) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_slots_apart : Cert.Pre_slots_apart.Facts) (hPre_tiles_scheduled : Cert.Pre_tiles_scheduled.Facts) (hOn_rows_written : Cert.On_rows_written.Facts) (hOn_rows_used : Cert.On_rows_used.Facts),
    quiescent_Kernel (hKernel := hKernel) (hPre_slots_apart := hPre_slots_apart)
    ∧ quiescent_KernelIdeal (hKernelIdeal := hKernelIdeal) (hPre_slots_apart := hPre_slots_apart)
    ∧ quiescent_ReferenceIdeal (hReferenceIdeal := hReferenceIdeal)
    ∧ quiescent_ReferenceIdeal_pre_slots_apart (hReferenceIdeal := hReferenceIdeal) (hPre_slots_apart := hPre_slots_apart)
    ∧ quiescent_Kernel2 (hKernel2 := hKernel2) (hPre_tiles_scheduled := hPre_tiles_scheduled)
    ∧ quiescent_Kernel2Ideal (hKernel2Ideal := hKernel2Ideal) (hPre_tiles_scheduled := hPre_tiles_scheduled)
    ∧ quiescent_Reference2Ideal (hReference2Ideal := hReference2Ideal)
    ∧ quiescent_Reference2Ideal_pre_tiles_scheduled (hReference2Ideal := hReference2Ideal) (hPre_tiles_scheduled := hPre_tiles_scheduled)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_on_rows_written (hKernelIdeal := hKernelIdeal) (hReferenceIdeal := hReferenceIdeal) (hPre_slots_apart := hPre_slots_apart) (hOn_rows_written := hOn_rows_written)
    ∧ preserves_Kernel2_Kernel2Ideal
    ∧ algebraic_Kernel2Ideal_Reference2Ideal_on_rows_used (hKernel2Ideal := hKernel2Ideal) (hReference2Ideal := hReference2Ideal) (hPre_tiles_scheduled := hPre_tiles_scheduled) (hOn_rows_used := hOn_rows_used)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== On_rows_used.lean ====
abbrev S321 : Shape := ⟨1, ![321]⟩
abbrev S1 : Shape := ⟨1, ![1]⟩
abbrev S81920x4096 : Shape := ⟨2, ![81920, 4096]⟩
abbrev S2x64x4096x384 : Shape := ⟨4, ![2, 64, 4096, 384]⟩
abbrev S2x64x384x4096 : Shape := ⟨4, ![2, 64, 384, 4096]⟩
abbrev S81920 : Shape := ⟨1, ![81920]⟩
abbrev S_ : Shape := ⟨0, ![]⟩
abbrev S81920x1 : Shape := ⟨2, ![81920, 1]⟩

class Facts : Prop where
  shapeCasts_S1_S_ : S1.ShapeCasts S_
  bcast_S_S81920 : S_.BroadcastsInDim S81920 (![] : Fin 0 → Fin S81920.rank)
  bcast_S81920_S81920x1_0 : S81920.BroadcastsInDim S81920x1 (![0] : Fin 1 → Fin S81920x1.rank)
  bcast_S81920x1_S81920x4096_0_1 : S81920x1.BroadcastsInDim S81920x4096 (![0, 1] : Fin 2 → Fin S81920x4096.rank)

variable [Facts]

def fn {F : FTy → Type} [FloatOps F] (main_arg0 : IVec S321 32) (main_arg1 : IVec S321 32) (main_arg2 : IVec S321 32) (main_arg3 : IVec S321 32) (main_arg4 : IVec S321 32) (main_arg5 : IVec S321 32) (main_arg6 : IVec S321 32) (main_arg7 : IVec S1 32) (main_arg8 : FVec F S81920x4096 .bf16) (main_arg9 : FVec F S2x64x4096x384 .f32) (main_arg10 : FVec F S2x64x4096x384 .f32) (main_arg11 : FVec F S2x64x384x4096 .f32) : IVec S81920x4096 1 :=
  let main_v0 : IVec S81920 32 := iotaInDim S81920 32 0
  let main_v1 : IVec S_ 32 := shapeCast S_ main_arg7 shapeCasts_S1_S_
  let main_c : IVec S_ 32 := constantI S_ 32 256#32
  let main_v2 : IVec S_ 32 := muli main_v1 main_c
  let main_v3 : IVec S81920 32 := broadcastInDim S81920 ![] bcast_S_S81920 main_v2
  let main_v4 : IVec S81920 1 := cmpi .slt main_v0 main_v3
  let main_v5 : IVec S81920x1 1 := broadcastInDim S81920x1 ![0] bcast_S81920_S81920x1_0 main_v4
  let main_v6 : IVec S81920x4096 1 := broadcastInDim S81920x4096 ![0, 1] bcast_S81920x1_S81920x4096_0_1 main_v5
  main_v6
-- ==== On_rows_written.lean ====
abbrev S65536 : Shape := ⟨1, ![65536]⟩
abbrev S8192x2048 : Shape := ⟨2, ![8192, 2048]⟩
abbrev S8192x4096 : Shape := ⟨2, ![8192, 4096]⟩
abbrev S4096x384 : Shape := ⟨2, ![4096, 384]⟩
abbrev S384x4096 : Shape := ⟨2, ![384, 4096]⟩
abbrev S64 : Shape := ⟨1, ![64]⟩
abbrev S81920 : Shape := ⟨1, ![81920]⟩
abbrev S_ : Shape := ⟨0, ![]⟩
abbrev S65536x1 : Shape := ⟨2, ![65536, 1]⟩
abbrev S1x64 : Shape := ⟨2, ![1, 64]⟩
abbrev S81920x1 : Shape := ⟨2, ![81920, 1]⟩
abbrev S81920x64 : Shape := ⟨2, ![81920, 64]⟩
abbrev S81920x2048 : Shape := ⟨2, ![81920, 2048]⟩

class Facts : Prop where
  bcast_S_S81920 : S_.BroadcastsInDim S81920 (![] : Fin 0 → Fin S81920.rank)
  bcast_S_S65536 : S_.BroadcastsInDim S65536 (![] : Fin 0 → Fin S65536.rank)
  bcast_S65536_S65536x1_0 : S65536.BroadcastsInDim S65536x1 (![0] : Fin 1 → Fin S65536x1.rank)
  bcast_S64_S1x64_1 : S64.BroadcastsInDim S1x64 (![1] : Fin 1 → Fin S1x64.rank)
  bcast_S81920_S81920x1_0 : S81920.BroadcastsInDim S81920x1 (![0] : Fin 1 → Fin S81920x1.rank)
  bcast_S1x64_S81920x64_0_1 : S1x64.BroadcastsInDim S81920x64 (![0, 1] : Fin 2 → Fin S81920x64.rank)
  bcast_S81920x1_S81920x64_0_1 : S81920x1.BroadcastsInDim S81920x64 (![0, 1] : Fin 2 → Fin S81920x64.rank)
  reducesTo_S81920x64_S81920_d1 : S81920x64.ReducesTo [1] S81920
  h_S_ : 0 < S_.numel
  bcast_S81920x1_S81920x2048_0_1 : S81920x1.BroadcastsInDim S81920x2048 (![0, 1] : Fin 2 → Fin S81920x2048.rank)
  bcast_S_S8192x4096 : S_.BroadcastsInDim S8192x4096 (![] : Fin 0 → Fin S8192x4096.rank)
  scatter_S81920_S65536x1_S65536_n_0_0_1_wf : ScatterDims.WF S81920 S65536x1 S65536 [] [0] [0] 1

variable [Facts]

def scatter_S81920_S65536x1_S65536_n_0_0_1 : ScatterDims S81920 S65536x1 S65536 where
  updateWindowDims := []
  insertedWindowDims := [0]
  scatterDimsToOperandDims := [0]
  indexVectorDim := 1
  wf := scatter_S81920_S65536x1_S65536_n_0_0_1_wf
def fn_part1 {F : FTy → Type} [FloatOps F] (main_v11 : IVec S81920 1) (main_v16 : IVec S81920x64 1) (main_v17 : IVec S81920x1 32) (main_v18 : IVec S1x64 32) : IVec S81920x2048 1 × IVec S8192x4096 1 :=
  let main_v19 : IVec S81920x64 32 := broadcastInDim S81920x64 ![0, 1] bcast_S81920x1_S81920x64_0_1 main_v17
  let main_v20 : IVec S81920x64 32 := broadcastInDim S81920x64 ![0, 1] bcast_S1x64_S81920x64_0_1 main_v18
  let main_v21 : IVec S81920x64 1 := cmpi .slt main_v19 main_v20
  let main_v22 : IVec S81920x64 1 := andi main_v16 main_v21
  let main_c_4 : IVec S_ 1 := constantI S_ 1 0#1
  let main_v23 : IVec S81920 1 := (fun x v => Host.reduce IntOp.ori x v reducesTo_S81920x64_S81920_d1 h_S_) main_v22 main_c_4
  let main_v24 : IVec S81920 1 := ori main_v11 main_v23
  let main_v25 : IVec S81920x1 1 := broadcastInDim S81920x1 ![0] bcast_S81920_S81920x1_0 main_v24
  let main_v26 : IVec S81920x2048 1 := broadcastInDim S81920x2048 ![0, 1] bcast_S81920x1_S81920x2048_0_1 main_v25
  let main_c_5 : IVec S_ 1 := constantI S_ 1 1#1
  let main_v27 : IVec S8192x4096 1 := broadcastInDim S8192x4096 ![] bcast_S_S8192x4096 main_c_5
  (main_v26, main_v27)

def fn {F : FTy → Type} [FloatOps F] (main_arg0 : IVec S65536 32) (main_arg1 : IVec S8192x2048 32) (main_arg2 : FVec F S8192x4096 .bf16) (main_arg3 : FVec F S4096x384 .f32) (main_arg4 : FVec F S4096x384 .f32) (main_arg5 : FVec F S384x4096 .f32) (main_arg6 : IVec S64 32) (main_arg7 : IVec S64 32) : IVec S81920x2048 1 × IVec S8192x4096 1 :=
  let main_v0 : IVec S81920 32 := iotaInDim S81920 32 0
  let main_c : IVec S_ 32 := constantI S_ 32 0#32
  let main_v1 : IVec S81920 32 := broadcastInDim S81920 ![] bcast_S_S81920 main_c
  let main_c_0 : IVec S_ 32 := constantI S_ 32 0#32
  let main_v2 : IVec S65536 32 := broadcastInDim S65536 ![] bcast_S_S65536 main_c_0
  let main_v3 : IVec S65536 1 := cmpi .slt main_arg0 main_v2
  let main_c_1 : IVec S_ 32 := constantI S_ 32 81920#32
  let main_v4 : IVec S65536 32 := broadcastInDim S65536 ![] bcast_S_S65536 main_c_1
  let main_v5 : IVec S65536 32 := addi main_arg0 main_v4
  let main_v6 : IVec S65536 32 := select main_v3 main_v5 main_arg0
  let main_v7 : IVec S65536x1 32 := broadcastInDim S65536x1 ![0] bcast_S65536_S65536x1_0 main_v6
  let main_c_2 : IVec S_ 32 := constantI S_ 32 1#32
  let main_v8 : IVec S65536 32 := broadcastInDim S65536 ![] bcast_S_S65536 main_c_2
  let main_v9 : IVec S81920 32 := (fun x i u => Host.scatter scatter_S81920_S65536x1_S65536_n_0_0_1 (fun _ b => b) x i u) main_v1 main_v7 main_v8
  let main_c_3 : IVec S_ 32 := constantI S_ 32 1#32
  let main_v10 : IVec S81920 32 := broadcastInDim S81920 ![] bcast_S_S81920 main_c_3
  let main_v11 : IVec S81920 1 := cmpi .eq main_v9 main_v10
  let main_v12 : IVec S1x64 32 := broadcastInDim S1x64 ![1] bcast_S64_S1x64_1 main_arg6
  let main_v13 : IVec S81920x1 32 := broadcastInDim S81920x1 ![0] bcast_S81920_S81920x1_0 main_v0
  let main_v14 : IVec S81920x64 32 := broadcastInDim S81920x64 ![0, 1] bcast_S1x64_S81920x64_0_1 main_v12
  let main_v15 : IVec S81920x64 32 := broadcastInDim S81920x64 ![0, 1] bcast_S81920x1_S81920x64_0_1 main_v13
  let main_v16 : IVec S81920x64 1 := cmpi .sle main_v14 main_v15
  let main_v17 : IVec S81920x1 32 := broadcastInDim S81920x1 ![0] bcast_S81920_S81920x1_0 main_v0
  let main_v18 : IVec S1x64 32 := broadcastInDim S1x64 ![1] bcast_S64_S1x64_1 main_arg7
  fn_part1 (F := F) main_v11 main_v16 main_v17 main_v18
-- ==== Pre_slots_apart.lean ====
abbrev S65536 : Shape := ⟨1, ![65536]⟩
abbrev S8192x2048 : Shape := ⟨2, ![8192, 2048]⟩
abbrev S8192x4096 : Shape := ⟨2, ![8192, 4096]⟩
abbrev S4096x384 : Shape := ⟨2, ![4096, 384]⟩
abbrev S384x4096 : Shape := ⟨2, ![384, 4096]⟩
abbrev S64 : Shape := ⟨1, ![64]⟩
abbrev S_ : Shape := ⟨0, ![]⟩
abbrev S65536x1 : Shape := ⟨2, ![65536, 1]⟩
abbrev S1x65536 : Shape := ⟨2, ![1, 65536]⟩
abbrev S65536x65536 : Shape := ⟨2, ![65536, 65536]⟩
abbrev S1x64 : Shape := ⟨2, ![1, 64]⟩
abbrev S65536x64 : Shape := ⟨2, ![65536, 64]⟩

class Facts : Prop where
  bcast_S_S65536 : S_.BroadcastsInDim S65536 (![] : Fin 0 → Fin S65536.rank)
  reducesTo_S65536_S_d0 : S65536.ReducesTo [0] S_
  h_S_ : 0 < S_.numel
  bcast_S65536_S65536x1_0 : S65536.BroadcastsInDim S65536x1 (![0] : Fin 1 → Fin S65536x1.rank)
  bcast_S65536_S1x65536_1 : S65536.BroadcastsInDim S1x65536 (![1] : Fin 1 → Fin S1x65536.rank)
  bcast_S65536x1_S65536x65536_0_1 : S65536x1.BroadcastsInDim S65536x65536 (![0, 1] : Fin 2 → Fin S65536x65536.rank)
  bcast_S1x65536_S65536x65536_0_1 : S1x65536.BroadcastsInDim S65536x65536 (![0, 1] : Fin 2 → Fin S65536x65536.rank)
  reducesTo_S65536x65536_S_d0_1 : S65536x65536.ReducesTo [0, 1] S_
  bcast_S_S64 : S_.BroadcastsInDim S64 (![] : Fin 0 → Fin S64.rank)
  reducesTo_S64_S_d0 : S64.ReducesTo [0] S_
  bcast_S64_S1x64_1 : S64.BroadcastsInDim S1x64 (![1] : Fin 1 → Fin S1x64.rank)
  bcast_S65536x1_S65536x64_0_1 : S65536x1.BroadcastsInDim S65536x64 (![0, 1] : Fin 2 → Fin S65536x64.rank)
  bcast_S1x64_S65536x64_0_1 : S1x64.BroadcastsInDim S65536x64 (![0, 1] : Fin 2 → Fin S65536x64.rank)
  reducesTo_S65536x64_S_d0_1 : S65536x64.ReducesTo [0, 1] S_

variable [Facts]

def fn_part2 {F : FTy → Type} [FloatOps F] (main_v6 : IVec S_ 1) (main_v18 : IVec S_ 1) (main_v30 : IVec S_ 1) (main_v35 : IVec S65536x64 1) (main_v37 : IVec S1x64 32) (main_v38 : IVec S65536x64 32) : IVec S_ 1 :=
  let main_v39 : IVec S65536x64 32 := broadcastInDim S65536x64 ![0, 1] bcast_S1x64_S65536x64_0_1 main_v37
  let main_v40 : IVec S65536x64 1 := cmpi .sge main_v38 main_v39
  let main_v41 : IVec S65536x64 1 := ori main_v35 main_v40
  let main_c_8 : IVec S_ 1 := constantI S_ 1 1#1
  let main_v42 : IVec S_ 1 := (fun x v => Host.reduce IntOp.andi x v reducesTo_S65536x64_S_d0_1 h_S_) main_v41 main_c_8
  let main_v43 : IVec S_ 1 := andi main_v6 main_v18
  let main_v44 : IVec S_ 1 := andi main_v43 main_v30
  let main_v45 : IVec S_ 1 := andi main_v44 main_v42
  main_v45

def fn_part1 {F : FTy → Type} [FloatOps F] (main_arg0 : IVec S65536 32) (main_arg6 : IVec S64 32) (main_arg7 : IVec S64 32) (main_v6 : IVec S_ 1) (main_v18 : IVec S_ 1) (main_c_3 : IVec S_ 32) : IVec S_ 1 :=
  let main_v19 : IVec S64 32 := broadcastInDim S64 ![] bcast_S_S64 main_c_3
  let main_v20 : IVec S64 1 := cmpi .sge main_arg6 main_v19
  let main_c_4 : IVec S_ 32 := constantI S_ 32 81920#32
  let main_v21 : IVec S64 32 := broadcastInDim S64 ![] bcast_S_S64 main_c_4
  let main_v22 : IVec S64 1 := cmpi .sle main_arg6 main_v21
  let main_v23 : IVec S64 1 := andi main_v20 main_v22
  let main_c_5 : IVec S_ 32 := constantI S_ 32 0#32
  let main_v24 : IVec S64 32 := broadcastInDim S64 ![] bcast_S_S64 main_c_5
  let main_v25 : IVec S64 1 := cmpi .sge main_arg7 main_v24
  let main_v26 : IVec S64 1 := andi main_v23 main_v25
  let main_c_6 : IVec S_ 32 := constantI S_ 32 81920#32
  let main_v27 : IVec S64 32 := broadcastInDim S64 ![] bcast_S_S64 main_c_6
  let main_v28 : IVec S64 1 := cmpi .sle main_arg7 main_v27
  let main_v29 : IVec S64 1 := andi main_v26 main_v28
  let main_c_7 : IVec S_ 1 := constantI S_ 1 1#1
  let main_v30 : IVec S_ 1 := (fun x v => Host.reduce IntOp.andi x v reducesTo_S64_S_d0 h_S_) main_v29 main_c_7
  let main_v31 : IVec S65536x1 32 := broadcastInDim S65536x1 ![0] bcast_S65536_S65536x1_0 main_arg0
  let main_v32 : IVec S1x64 32 := broadcastInDim S1x64 ![1] bcast_S64_S1x64_1 main_arg6
  let main_v33 : IVec S65536x64 32 := broadcastInDim S65536x64 ![0, 1] bcast_S65536x1_S65536x64_0_1 main_v31
  let main_v34 : IVec S65536x64 32 := broadcastInDim S65536x64 ![0, 1] bcast_S1x64_S65536x64_0_1 main_v32
  let main_v35 : IVec S65536x64 1 := cmpi .slt main_v33 main_v34
  let main_v36 : IVec S65536x1 32 := broadcastInDim S65536x1 ![0] bcast_S65536_S65536x1_0 main_arg0
  let main_v37 : IVec S1x64 32 := broadcastInDim S1x64 ![1] bcast_S64_S1x64_1 main_arg7
  let main_v38 : IVec S65536x64 32 := broadcastInDim S65536x64 ![0, 1] bcast_S65536x1_S65536x64_0_1 main_v36
  fn_part2 (F := F) main_v6 main_v18 main_v30 main_v35 main_v37 main_v38

def fn {F : FTy → Type} [FloatOps F] (main_arg0 : IVec S65536 32) (main_arg1 : IVec S8192x2048 32) (main_arg2 : FVec F S8192x4096 .bf16) (main_arg3 : FVec F S4096x384 .f32) (main_arg4 : FVec F S4096x384 .f32) (main_arg5 : FVec F S384x4096 .f32) (main_arg6 : IVec S64 32) (main_arg7 : IVec S64 32) : IVec S_ 1 :=
  let main_v0 : IVec S65536 32 := iotaInDim S65536 32 0
  let main_c : IVec S_ 32 := constantI S_ 32 0#32
  let main_v1 : IVec S65536 32 := broadcastInDim S65536 ![] bcast_S_S65536 main_c
  let main_v2 : IVec S65536 1 := cmpi .sge main_arg0 main_v1
  let main_c_0 : IVec S_ 32 := constantI S_ 32 81920#32
  let main_v3 : IVec S65536 32 := broadcastInDim S65536 ![] bcast_S_S65536 main_c_0
  let main_v4 : IVec S65536 1 := cmpi .slt main_arg0 main_v3
  let main_v5 : IVec S65536 1 := andi main_v2 main_v4
  let main_c_1 : IVec S_ 1 := constantI S_ 1 1#1
  let main_v6 : IVec S_ 1 := (fun x v => Host.reduce IntOp.andi x v reducesTo_S65536_S_d0 h_S_) main_v5 main_c_1
  let main_v7 : IVec S65536x1 32 := broadcastInDim S65536x1 ![0] bcast_S65536_S65536x1_0 main_arg0
  let main_v8 : IVec S1x65536 32 := broadcastInDim S1x65536 ![1] bcast_S65536_S1x65536_1 main_arg0
  let main_v9 : IVec S65536x65536 32 := broadcastInDim S65536x65536 ![0, 1] bcast_S65536x1_S65536x65536_0_1 main_v7
  let main_v10 : IVec S65536x65536 32 := broadcastInDim S65536x65536 ![0, 1] bcast_S1x65536_S65536x65536_0_1 main_v8
  let main_v11 : IVec S65536x65536 1 := cmpi .ne main_v9 main_v10
  let main_v12 : IVec S65536x1 32 := broadcastInDim S65536x1 ![0] bcast_S65536_S65536x1_0 main_v0
  let main_v13 : IVec S1x65536 32 := broadcastInDim S1x65536 ![1] bcast_S65536_S1x65536_1 main_v0
  let main_v14 : IVec S65536x65536 32 := broadcastInDim S65536x65536 ![0, 1] bcast_S65536x1_S65536x65536_0_1 main_v12
  let main_v15 : IVec S65536x65536 32 := broadcastInDim S65536x65536 ![0, 1] bcast_S1x65536_S65536x65536_0_1 main_v13
  let main_v16 : IVec S65536x65536 1 := cmpi .eq main_v14 main_v15
  let main_v17 : IVec S65536x65536 1 := ori main_v11 main_v16
  let main_c_2 : IVec S_ 1 := constantI S_ 1 1#1
  let main_v18 : IVec S_ 1 := (fun x v => Host.reduce IntOp.andi x v reducesTo_S65536x65536_S_d0_1 h_S_) main_v17 main_c_2
  let main_c_3 : IVec S_ 32 := constantI S_ 32 0#32
  fn_part1 (F := F) main_arg0 main_arg6 main_arg7 main_v6 main_v18 main_c_3
-- ==== Pre_tiles_scheduled.lean ====
abbrev S321 : Shape := ⟨1, ![321]⟩
abbrev S1 : Shape := ⟨1, ![1]⟩
abbrev S81920x4096 : Shape := ⟨2, ![81920, 4096]⟩
abbrev S2x64x4096x384 : Shape := ⟨4, ![2, 64, 4096, 384]⟩
abbrev S2x64x384x4096 : Shape := ⟨4, ![2, 64, 384, 4096]⟩
abbrev S_ : Shape := ⟨0, ![]⟩
abbrev S320 : Shape := ⟨1, ![320]⟩

class Facts : Prop where
  shapeCasts_S1_S_ : S1.ShapeCasts S_
  bcast_S_S321 : S_.BroadcastsInDim S321 (![] : Fin 0 → Fin S321.rank)
  reducesTo_S321_S_d0 : S321.ReducesTo [0] S_
  h_S_ : 0 < S_.numel
  slices_S321_S320_0 : S321.Slices ![0] S320
  slices_S321_S320_1 : S321.Slices ![1] S320
  bcast_S_S320 : S_.BroadcastsInDim S320 (![] : Fin 0 → Fin S320.rank)
  reducesTo_S320_S_d0 : S320.ReducesTo [0] S_
  slices_S321_S1_0 : S321.Slices ![0] S1
  slices_S321_S1_320 : S321.Slices ![320] S1

variable [Facts]

def fn_where {F : FTy → Type} [FloatOps F] (arg0 : IVec S320 1) (arg1 : IVec S320 1) (arg2 : IVec S320 1) : IVec S320 1 :=
  let v0 : IVec S320 1 := select arg0 arg1 arg2
  v0

def fn_part3 {F : FTy → Type} [FloatOps F] (main_arg3 : IVec S321 32) (main_arg4 : IVec S321 32) (main_arg5 : IVec S321 32) (main_v4 : IVec S_ 1) (main_v13 : IVec S_ 1) (main_v19 : IVec S_ 1) (main_v33 : IVec S_ 1) (main_v55 : IVec S320 1) (main_v56 : IVec S320 32) : IVec S_ 1 :=
  let main_v57 : IVec S320 32 := (extractStridedSlice S320 ![0] · slices_S321_S320_0) main_arg5
  let main_v58 : IVec S320 1 := cmpi .eq main_v56 main_v57
  let main_v59 : IVec S320 1 := andi main_v55 main_v58
  let main_c_14 : IVec S_ 1 := constantI S_ 1 1#1
  let main_v60 : IVec S_ 1 := (fun x v => Host.reduce IntOp.andi x v reducesTo_S320_S_d0 h_S_) main_v59 main_c_14
  let main_v61 : IVec S_ 1 := andi main_v4 main_v13
  let main_v62 : IVec S_ 1 := andi main_v61 main_v19
  let main_v63 : IVec S_ 1 := andi main_v62 main_v33
  let main_v64 : IVec S_ 1 := andi main_v63 main_v60
  let main_v65 : IVec S1 32 := (extractStridedSlice S1 ![0] · slices_S321_S1_0) main_arg3
  let main_v66 : IVec S_ 32 := shapeCast S_ main_v65 shapeCasts_S1_S_
  let main_c_15 : IVec S_ 32 := constantI S_ 32 1#32
  let main_v67 : IVec S_ 1 := cmpi .eq main_v66 main_c_15
  let main_v68 : IVec S_ 1 := andi main_v64 main_v67
  let main_v69 : IVec S1 32 := (extractStridedSlice S1 ![320] · slices_S321_S1_320) main_arg4
  let main_v70 : IVec S_ 32 := shapeCast S_ main_v69 shapeCasts_S1_S_
  let main_c_16 : IVec S_ 32 := constantI S_ 32 0#32
  let main_v71 : IVec S_ 1 := cmpi .slt main_v70 main_c_16
  let main_v72 : IVec S_ 1 := andi main_v68 main_v71
  main_v72

def fn_part2 {F : FTy → Type} [FloatOps F] (main_arg0 : IVec S321 32) (main_arg3 : IVec S321 32) (main_arg4 : IVec S321 32) (main_arg5 : IVec S321 32) (main_arg6 : IVec S321 32) (main_v4 : IVec S_ 1) (main_v13 : IVec S_ 1) (main_v19 : IVec S_ 1) (main_v33 : IVec S_ 1) : IVec S_ 1 :=
  let main_v34 : IVec S320 32 := (extractStridedSlice S320 ![0] · slices_S321_S320_0) main_arg4
  let main_v35 : IVec S320 32 := (extractStridedSlice S320 ![1] · slices_S321_S320_1) main_arg0
  let main_v36 : IVec S320 1 := cmpi .eq main_v34 main_v35
  let main_v37 : IVec S320 32 := (extractStridedSlice S320 ![1] · slices_S321_S320_1) main_arg5
  let main_v38 : IVec S320 32 := (extractStridedSlice S320 ![0] · slices_S321_S320_0) main_arg5
  let main_v39 : IVec S320 1 := cmpi .ne main_v37 main_v38
  let main_v40 : IVec S320 1 := andi main_v36 main_v39
  let main_v41 : IVec S320 32 := (extractStridedSlice S320 ![1] · slices_S321_S320_1) main_arg0
  let main_v42 : IVec S320 32 := (extractStridedSlice S320 ![0] · slices_S321_S320_0) main_arg0
  let main_v43 : IVec S320 1 := cmpi .eq main_v41 main_v42
  let main_v44 : IVec S320 32 := (extractStridedSlice S320 ![1] · slices_S321_S320_1) main_arg4
  let main_v45 : IVec S320 32 := (extractStridedSlice S320 ![0] · slices_S321_S320_0) main_arg4
  let main_v46 : IVec S320 1 := cmpi .eq main_v44 main_v45
  let main_v47 : IVec S320 1 := andi main_v43 main_v46
  let main_v48 : IVec S320 32 := (extractStridedSlice S320 ![1] · slices_S321_S320_1) main_arg5
  let main_v49 : IVec S320 32 := (extractStridedSlice S320 ![0] · slices_S321_S320_0) main_arg5
  let main_v50 : IVec S320 1 := cmpi .eq main_v48 main_v49
  let main_v51 : IVec S320 1 := andi main_v47 main_v50
  let main_v52 : IVec S320 32 := (extractStridedSlice S320 ![1] · slices_S321_S320_1) main_arg3
  let main_c_13 : IVec S_ 32 := constantI S_ 32 1#32
  let main_v53 : IVec S320 32 := broadcastInDim S320 ![] bcast_S_S320 main_c_13
  let main_v54 : IVec S320 1 := cmpi .eq main_v52 main_v53
  let main_v55 : IVec S320 1 := fn_where (F := F) main_v54 main_v40 main_v51
  let main_v56 : IVec S320 32 := (extractStridedSlice S320 ![1] · slices_S321_S320_1) main_arg6
  fn_part3 (F := F) main_arg3 main_arg4 main_arg5 main_v4 main_v13 main_v19 main_v33 main_v55 main_v56

def fn_part1 {F : FTy → Type} [FloatOps F] (main_arg0 : IVec S321 32) (main_arg1 : IVec S321 32) (main_arg2 : IVec S321 32) (main_arg3 : IVec S321 32) (main_arg4 : IVec S321 32) (main_arg5 : IVec S321 32) (main_arg6 : IVec S321 32) (main_v0 : IVec S321 32) (main_v1 : IVec S_ 32) (main_v4 : IVec S_ 1) (main_v13 : IVec S_ 1) (main_v15 : IVec S321 1) (main_c_6 : IVec S_ 32) : IVec S_ 1 :=
  let main_v16 : IVec S321 32 := broadcastInDim S321 ![] bcast_S_S321 main_c_6
  let main_v17 : IVec S321 1 := cmpi .eq main_arg5 main_v16
  let main_v18 : IVec S321 1 := ori main_v15 main_v17
  let main_c_7 : IVec S_ 1 := constantI S_ 1 1#1
  let main_v19 : IVec S_ 1 := (fun x v => Host.reduce IntOp.andi x v reducesTo_S321_S_d0 h_S_) main_v18 main_c_7
  let main_c_8 : IVec S_ 32 := constantI S_ 32 1#32
  let main_v20 : IVec S_ 32 := subi main_v1 main_c_8
  let main_v21 : IVec S321 32 := broadcastInDim S321 ![] bcast_S_S321 main_v20
  let main_v22 : IVec S321 32 := minsi main_v0 main_v21
  let main_v23 : IVec S321 1 := cmpi .eq main_arg1 main_v22
  let main_c_9 : IVec S_ 32 := constantI S_ 32 1#32
  let main_v24 : IVec S321 32 := broadcastInDim S321 ![] bcast_S_S321 main_c_9
  let main_v25 : IVec S321 32 := subi main_v0 main_v24
  let main_c_10 : IVec S_ 32 := constantI S_ 32 0#32
  let main_v26 : IVec S321 32 := broadcastInDim S321 ![] bcast_S_S321 main_c_10
  let main_v27 : IVec S321 32 := maxsi main_v25 main_v26
  let main_c_11 : IVec S_ 32 := constantI S_ 32 1#32
  let main_v28 : IVec S_ 32 := subi main_v1 main_c_11
  let main_v29 : IVec S321 32 := broadcastInDim S321 ![] bcast_S_S321 main_v28
  let main_v30 : IVec S321 32 := minsi main_v27 main_v29
  let main_v31 : IVec S321 1 := cmpi .eq main_arg2 main_v30
  let main_v32 : IVec S321 1 := andi main_v23 main_v31
  let main_c_12 : IVec S_ 1 := constantI S_ 1 1#1
  let main_v33 : IVec S_ 1 := (fun x v => Host.reduce IntOp.andi x v reducesTo_S321_S_d0 h_S_) main_v32 main_c_12
  fn_part2 (F := F) main_arg0 main_arg3 main_arg4 main_arg5 main_arg6 main_v4 main_v13 main_v19 main_v33

def fn {F : FTy → Type} [FloatOps F] (main_arg0 : IVec S321 32) (main_arg1 : IVec S321 32) (main_arg2 : IVec S321 32) (main_arg3 : IVec S321 32) (main_arg4 : IVec S321 32) (main_arg5 : IVec S321 32) (main_arg6 : IVec S321 32) (main_arg7 : IVec S1 32) (main_arg8 : FVec F S81920x4096 .bf16) (main_arg9 : FVec F S2x64x4096x384 .f32) (main_arg10 : FVec F S2x64x4096x384 .f32) (main_arg11 : FVec F S2x64x384x4096 .f32) : IVec S_ 1 :=
  let main_v0 : IVec S321 32 := iotaInDim S321 32 0
  let main_v1 : IVec S_ 32 := shapeCast S_ main_arg7 shapeCasts_S1_S_
  let main_c : IVec S_ 32 := constantI S_ 32 1#32
  let main_v2 : IVec S_ 1 := cmpi .sge main_v1 main_c
  let main_c_0 : IVec S_ 32 := constantI S_ 32 320#32
  let main_v3 : IVec S_ 1 := cmpi .sle main_v1 main_c_0
  let main_v4 : IVec S_ 1 := andi main_v2 main_v3
  let main_c_1 : IVec S_ 32 := constantI S_ 32 0#32
  let main_v5 : IVec S321 32 := broadcastInDim S321 ![] bcast_S_S321 main_c_1
  let main_v6 : IVec S321 1 := cmpi .sge main_arg0 main_v5
  let main_c_2 : IVec S_ 32 := constantI S_ 32 64#32
  let main_v7 : IVec S321 32 := broadcastInDim S321 ![] bcast_S_S321 main_c_2
  let main_v8 : IVec S321 1 := cmpi .slt main_arg0 main_v7
  let main_v9 : IVec S321 1 := andi main_v6 main_v8
  let main_c_3 : IVec S_ 32 := constantI S_ 32 64#32
  let main_v10 : IVec S321 32 := broadcastInDim S321 ![] bcast_S_S321 main_c_3
  let main_v11 : IVec S321 1 := cmpi .slt main_arg4 main_v10
  let main_v12 : IVec S321 1 := andi main_v9 main_v11
  let main_c_4 : IVec S_ 1 := constantI S_ 1 1#1
  let main_v13 : IVec S_ 1 := (fun x v => Host.reduce IntOp.andi x v reducesTo_S321_S_d0 h_S_) main_v12 main_c_4
  let main_c_5 : IVec S_ 32 := constantI S_ 32 0#32
  let main_v14 : IVec S321 32 := broadcastInDim S321 ![] bcast_S_S321 main_c_5
  let main_v15 : IVec S321 1 := cmpi .eq main_arg5 main_v14
  let main_c_6 : IVec S_ 32 := constantI S_ 32 1#32
  fn_part1 (F := F) main_arg0 main_arg1 main_arg2 main_arg3 main_arg4 main_arg5 main_arg6 main_v0 main_v1 main_v4 main_v13 main_v15 main_c_6
-- ==== Kernel.lean ====
abbrev S65536 : Shape := ⟨1, ![65536]⟩
abbrev S8192x2048 : Shape := ⟨2, ![8192, 2048]⟩
abbrev S8192x4096 : Shape := ⟨2, ![8192, 4096]⟩
abbrev S4096x384 : Shape := ⟨2, ![4096, 384]⟩
abbrev S384x4096 : Shape := ⟨2, ![384, 4096]⟩
abbrev S64 : Shape := ⟨1, ![64]⟩
abbrev S81920x2048 : Shape := ⟨2, ![81920, 2048]⟩
abbrev S2048 : Shape := ⟨1, ![2048]⟩
abbrev S256x2048 : Shape := ⟨2, ![256, 2048]⟩
abbrev S256x4096 : Shape := ⟨2, ![256, 4096]⟩
abbrev S8x2048 : Shape := ⟨2, ![8, 2048]⟩
abbrev S2 : Shape := ⟨1, ![2]⟩
abbrev S1 : Shape := ⟨1, ![1]⟩
abbrev S_ : Shape := ⟨0, ![]⟩
abbrev S1x2048 : Shape := ⟨2, ![1, 2048]⟩
abbrev S256x384 : Shape := ⟨2, ![256, 384]⟩

abbrev nBuf : Space → Nat
  | .hbm => 11
  | .vmem => 10
  | .smem => 4
  | _ => 0

abbrev bufTy : (tb : Table) → Fin (tcTables nBuf tb) → BufTy
  | .hbm, ⟨0, _⟩ => ⟨S65536, .i32⟩
  | .hbm, ⟨1, _⟩ => ⟨S8192x2048, .i32⟩
  | .hbm, ⟨2, _⟩ => ⟨S8192x4096, .bf16⟩
  | .hbm, ⟨3, _⟩ => ⟨S4096x384, .f32⟩
  | .hbm, ⟨4, _⟩ => ⟨S4096x384, .f32⟩
  | .hbm, ⟨5, _⟩ => ⟨S384x4096, .f32⟩
  | .hbm, ⟨6, _⟩ => ⟨S4096x384, .bf16⟩
  | .hbm, ⟨7, _⟩ => ⟨S4096x384, .bf16⟩
  | .hbm, ⟨8, _⟩ => ⟨S384x4096, .bf16⟩
  | .hbm, ⟨9, _⟩ => ⟨S81920x2048, .i32⟩
  | .hbm, ⟨10, _⟩ => ⟨S8192x4096, .bf16⟩
  | .local _ .vmem, ⟨0, _⟩ => ⟨S256x2048, .i32⟩
  | .local _ .vmem, ⟨1, _⟩ => ⟨S256x2048, .i32⟩
  | .local _ .vmem, ⟨2, _⟩ => ⟨S256x4096, .bf16⟩
  | .local _ .vmem, ⟨3, _⟩ => ⟨S256x4096, .bf16⟩
  | .local _ .vmem, ⟨4, _⟩ => ⟨S4096x384, .bf16⟩
  | .local _ .vmem, ⟨5, _⟩ => ⟨S4096x384, .bf16⟩
  | .local _ .vmem, ⟨6, _⟩ => ⟨S384x4096, .bf16⟩
  | .local _ .vmem, ⟨7, _⟩ => ⟨S256x4096, .bf16⟩
  | .local _ .vmem, ⟨8, _⟩ => ⟨S256x4096, .bf16⟩
  | .local _ .vmem, ⟨9, _⟩ => ⟨S8x2048, .i32⟩
  | .local _ .smem, ⟨0, _⟩ => ⟨S64, .i32⟩
  | .local _ .smem, ⟨1, _⟩ => ⟨S64, .i32⟩
  | .local _ .smem, ⟨2, _⟩ => ⟨S2048, .i32⟩
  | .local _ .smem, ⟨3, _⟩ => ⟨S2048, .i32⟩
  | _, _ => ⟨S65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_arg6 : Ref sig .tc := ⟨.smem, 0, rfl⟩
abbrev main_arg7 : Ref sig .tc := ⟨.smem, 1, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_stg0_0 : Ref sig .tc := ⟨.smem, 2, rfl⟩
abbrev cc0_stg0_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

abbrev pre0 : Pipeline.Prefetch sig := ⟨2, ![main_arg6.idx, main_arg7.idx], fun | 0 => main_arg6.names | 1 => main_arg7.names | ⟨_ + 2, h⟩ => absurd h (Nat.not_lt.2 (Nat.le_add_left _ _)), fun | 0 => rfl | 1 => rfl | ⟨_ + 2, h⟩ => absurd h (Nat.not_lt.2 (Nat.le_add_left _ _))⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg13 : BitVec 32 := Scf.iv c0_i32 c1_i32 k0_t1
  let c8_i32 : BitVec 32 := 8#32
  let v27 : BitVec 32 := Scalar.muli arg13 c8_i32
  let c0_i32_20 : BitVec 32 := 0#32
  let v28 : BitVec 32 := Scalar.addi v27 c0_i32_20
  let v29 : Index := Scalar.indexCast v28
  ![v29.toNat]
def k0_off2 (v30 : BitVec 32) : Fin 2 → Nat :=
  let c0_i32_22 : BitVec 32 := 0#32
  ![v30.toNat, 0]

def k0_chk1 (v30 : BitVec 32) : Prop :=
  (∀ a, (k0_off2 v30) a + S1x2048.size a ≤ S81920x2048.size a)
theorem k0_off2_inb : ∀ (v30 : BitVec 32) (k0_hw1 : k0_chk1 v30), ∀ a, (k0_off2 v30) a + S1x2048.size a ≤ S81920x2048.size a := fun v30 k0_hw1 => k0_hw1

def k0_off3 (k0_t1 : Fin k0_t1_loop.trips) : Fin 2 → Nat :=
  let c0_i32 : BitVec 32 := 0#32
  let c1_i32 : BitVec 32 := 1#32
  let arg13 : BitVec 32 := Scf.iv c0_i32 c1_i32 k0_t1
  let c0_i32_23 : BitVec 32 := 0#32
  ![arg13.toNat, 0]
def k0_off4 (k0_t1 : Fin k0_t1_loop.trips) : Fin 1 → Nat :=
  let c0_i32 : BitVec 32 := 0#32
  let c1_i32 : BitVec 32 := 1#32
  let arg13 : BitVec 32 := Scf.iv c0_i32 c1_i32 k0_t1
  let c8_i32_24 : BitVec 32 := 8#32
  let v35 : BitVec 32 := Scalar.muli arg13 c8_i32_24
  let c1_i32_25 : BitVec 32 := 1#32
  let v36 : BitVec 32 := Scalar.addi v35 c1_i32_25
  let v37 : Index := Scalar.indexCast v36
  ![v37.toNat]
def k0_off5 (v38 : BitVec 32) : Fin 2 → Nat :=
  let c0_i32_27 : BitVec 32 := 0#32
  ![v38.toNat, 0]

def k0_chk2 (v38 : BitVec 32) : Prop :=
  (∀ a, (k0_off5 v38) a + S1x2048.size a ≤ S81920x2048.size a)
theorem k0_off5_inb : ∀ (v38 : BitVec 32) (k0_hw2 : k0_chk2 v38), ∀ a, (k0_off5 v38) a + S1x2048.size a ≤ S81920x2048.size a := fun v38 k0_hw2 => k0_hw2

def k0_off6 (k0_t1 : Fin k0_t1_loop.trips) : Fin 2 → Nat :=
  let c0_i32 : BitVec 32 := 0#32
  let c1_i32 : BitVec 32 := 1#32
  let arg13 : BitVec 32 := Scf.iv c0_i32 c1_i32 k0_t1
  let c0_i32_28 : BitVec 32 := 0#32
  ![arg13.toNat, 0]
def k0_off7 (k0_t1 : Fin k0_t1_loop.trips) : Fin 1 → Nat :=
  let c0_i32 : BitVec 32 := 0#32
  let c1_i32 : BitVec 32 := 1#32
  let arg13 : BitVec 32 := Scf.iv c0_i32 c1_i32 k0_t1
  let c8_i32_29 : BitVec 32 := 8#32
  let v43 : BitVec 32 := Scalar.muli arg13 c8_i32_29
  let c2_i32 : BitVec 32 := 2#32
  let v44 : BitVec 32 := Scalar.addi v43 c2_i32
  let v45 : Index := Scalar.indexCast v44
  ![v45.toNat]
def k0_off8 (v46 : BitVec 32) : Fin 2 → Nat :=
  let c0_i32_31 : BitVec 32 := 0#32
  ![v46.toNat, 0]

def k0_chk3 (v46 : BitVec 32) : Prop :=
  (∀ a, (k0_off8 v46) a + S1x2048.size a ≤ S81920x2048.size a)
theorem k0_off8_inb : ∀ (v46 : BitVec 32) (k0_hw3 : k0_chk3 v46), ∀ a, (k0_off8 v46) a + S1x2048.size a ≤ S81920x2048.size a := fun v46 k0_hw3 => k0_hw3

def k0_off9 (k0_t1 : Fin k0_t1_loop.trips) : Fin 2 → Nat :=
  let c0_i32 : BitVec 32 := 0#32
  let c1_i32 : BitVec 32 := 1#32
  let arg13 : BitVec 32 := Scf.iv c0_i32 c1_i32 k0_t1
  let c0_i32_32 : BitVec 32 := 0#32
  ![arg13.toNat, 0]
def k0_off10 (k0_t1 : Fin k0_t1_loop.trips) : Fin 1 → Nat :=
  let c0_i32 : BitVec 32 := 0#32
  let c1_i32 : BitVec 32 := 1#32
  let arg13 : BitVec 32 := Scf.iv c0_i32 c1_i32 k0_t1
  let c8_i32_33 : BitVec 32 := 8#32
  let v51 : BitVec 32 := Scalar.muli arg13 c8_i32_33
  let c3_i32 : BitVec 32 := 3#32
  let v52 : BitVec 32 := Scalar.addi v51 c3_i32
  let v53 : Index := Scalar.indexCast v52
  ![v53.toNat]
def k0_off11 (v54 : BitVec 32) : Fin 2 → Nat :=
  let c0_i32_35 : BitVec 32 := 0#32
  ![v54.toNat, 0]

def k0_chk4 (v54 : BitVec 32) : Prop :=
  (∀ a, (k0_off11 v54) a + S1x2048.size a ≤ S81920x2048.size a)
theorem k0_off11_inb : ∀ (v54 : BitVec 32) (k0_hw4 : k0_chk4 v54), ∀ a, (k0_off11 v54) a + S1x2048.size a ≤ S81920x2048.size a := fun v54 k0_hw4 => k0_hw4

def k0_off12 (k0_t1 : Fin k0_t1_loop.trips) : Fin 2 → Nat :=
  let c0_i32 : BitVec 32 := 0#32
  let c1_i32 : BitVec 32 := 1#32
  let arg13 : BitVec 32 := Scf.iv c0_i32 c1_i32 k0_t1
  let c0_i32_36 : BitVec 32 := 0#32
  ![arg13.toNat, 0]
def k0_off13 (k0_t1 : Fin k0_t1_loop.trips) : Fin 1 → Nat :=
  let c0_i32 : BitVec 32 := 0#32
  let c1_i32 : BitVec 32 := 1#32
  let arg13 : BitVec 32 := Scf.iv c0_i32 c1_i32 k0_t1
  let c8_i32_37 : BitVec 32 := 8#32
  let v59 : BitVec 32 := Scalar.muli arg13 c8_i32_37
  let c4_i32 : BitVec 32 := 4#32
  let v60 : BitVec 32 := Scalar.addi v59 c4_i32
  let v61 : Index := Scalar.indexCast v60
  ![v61.toNat]
def k0_off14 (v62 : BitVec 32) : Fin 2 → Nat :=
  let c0_i32_39 : BitVec 32 := 0#32
  ![v62.toNat, 0]

def k0_chk5 (v62 : BitVec 32) : Prop :=
  (∀ a, (k0_off14 v62) a + S1x2048.size a ≤ S81920x2048.size a)
theorem k0_off14_inb : ∀ (v62 : BitVec 32) (k0_hw5 : k0_chk5 v62), ∀ a, (k0_off14 v62) a + S1x2048.size a ≤ S81920x2048.size a := fun v62 k0_hw5 => k0_hw5

def k0_off15 (k0_t1 : Fin k0_t1_loop.trips) : Fin 2 → Nat :=
  let c0_i32 : BitVec 32 := 0#32
  let c1_i32 : BitVec 32 := 1#32
  let arg13 : BitVec 32 := Scf.iv c0_i32 c1_i32 k0_t1
  let c0_i32_40 : BitVec 32 := 0#32
  ![arg13.toNat, 0]
def k0_off16 (k0_t1 : Fin k0_t1_loop.trips) : Fin 1 → Nat :=
  let c0_i32 : BitVec 32 := 0#32
  let c1_i32 : BitVec 32 := 1#32
  let arg13 : BitVec 32 := Scf.iv c0_i32 c1_i32 k0_t1
  let c8_i32_41 : BitVec 32 := 8#32
  let v67 : BitVec 32 := Scalar.muli arg13 c8_i32_41
  let c5_i32 : BitVec 32 := 5#32
  let v68 : BitVec 32 := Scalar.addi v67 c5_i32
  let v69 : Index := Scalar.indexCast v68
  ![v69.toNat]
def k0_off17 (v70 : BitVec 32) : Fin 2 → Nat :=
  let c0_i32_43 : BitVec 32 := 0#32
  ![v70.toNat, 0]

def k0_chk6 (v70 : BitVec 32) : Prop :=
  (∀ a, (k0_off17 v70) a + S1x2048.size a ≤ S81920x2048.size a)
theorem k0_off17_inb : ∀ (v70 : BitVec 32) (k0_hw6 : k0_chk6 v70), ∀ a, (k0_off17 v70) a + S1x2048.size a ≤ S81920x2048.size a := fun v70 k0_hw6 => k0_hw6

def k0_off18 (k0_t1 : Fin k0_t1_loop.trips) : Fin 2 → Nat :=
  let c0_i32 : BitVec 32 := 0#32
  let c1_i32 : BitVec 32 := 1#32
  let arg13 : BitVec 32 := Scf.iv c0_i32 c1_i32 k0_t1
  let c0_i32_44 : BitVec 32 := 0#32
  ![arg13.toNat, 0]
def k0_off19 (k0_t1 : Fin k0_t1_loop.trips) : Fin 1 → Nat :=
  let c0_i32 : BitVec 32 := 0#32
  let c1_i32 : BitVec 32 := 1#32
  let arg13 : BitVec 32 := Scf.iv c0_i32 c1_i32 k0_t1
  let c8_i32_45 : BitVec 32 := 8#32
  let v75 : BitVec 32 := Scalar.muli arg13 c8_i32_45
  let c6_i32 : BitVec 32 := 6#32
  let v76 : BitVec 32 := Scalar.addi v75 c6_i32
  let v77 : Index := Scalar.indexCast v76
  ![v77.toNat]
def k0_off20 (v78 : BitVec 32) : Fin 2 → Nat :=
  let c0_i32_47 : BitVec 32 := 0#32
  ![v78.toNat, 0]

def k0_chk7 (v78 : BitVec 32) : Prop :=
  (∀ a, (k0_off20 v78) a + S1x2048.size a ≤ S81920x2048.size a)
theorem k0_off20_inb : ∀ (v78 : BitVec 32) (k0_hw7 : k0_chk7 v78), ∀ a, (k0_off20 v78) a + S1x2048.size a ≤ S81920x2048.size a := fun v78 k0_hw7 => k0_hw7

def k0_off21 (k0_t1 : Fin k0_t1_loop.trips) : Fin 2 → Nat :=
  let c0_i32 : BitVec 32 := 0#32
  let c1_i32 : BitVec 32 := 1#32
  let arg13 : BitVec 32 := Scf.iv c0_i32 c1_i32 k0_t1
  let c0_i32_48 : BitVec 32 := 0#32
  ![arg13.toNat, 0]
def k0_off22 (k0_t1 : Fin k0_t1_loop.trips) : Fin 1 → Nat :=
  let c0_i32 : BitVec 32 := 0#32
  let c1_i32 : BitVec 32 := 1#32
  let arg13 : BitVec 32 := Scf.iv c0_i32 c1_i32 k0_t1
  let c8_i32_49 : BitVec 32 := 8#32
  let v83 : BitVec 32 := Scalar.muli arg13 c8_i32_49
  let c7_i32 : BitVec 32 := 7#32
  let v84 : BitVec 32 := Scalar.addi v83 c7_i32
  let v85 : Index := Scalar.indexCast v84
  ![v85.toNat]
def k0_off23 (v86 : BitVec 32) : Fin 2 → Nat :=
  let c0_i32_51 : BitVec 32 := 0#32
  ![v86.toNat, 0]

def k0_chk8 (v86 : BitVec 32) : Prop :=
  (∀ a, (k0_off23 v86) a + S1x2048.size a ≤ S81920x2048.size a)
theorem k0_off23_inb : ∀ (v86 : BitVec 32) (k0_hw8 : k0_chk8 v86), ∀ a, (k0_off23 v86) a + S1x2048.size a ≤ S81920x2048.size a := fun v86 k0_hw8 => k0_hw8

def k0_off24 (k0_t1 : Fin k0_t1_loop.trips) : Fin 2 → Nat :=
  let c0_i32 : BitVec 32 := 0#32
  let c1_i32 : BitVec 32 := 1#32
  let arg13 : BitVec 32 := Scf.iv c0_i32 c1_i32 k0_t1
  let c0_i32_52 : BitVec 32 := 0#32
  ![arg13.toNat, 0]
def k0_cond1 (i : grid0.Coords) : BitVec 1 :=
  let arg0 : BitVec 32 := BitVec.ofNat 32 (i 0).val
  let c0_i32_1 : BitVec 32 := 0#32
  let v1 : BitVec 1 := Scalar.cmpi .eq arg0 c0_i32_1
  let v2 : BitVec 32 := Scalar.extui v1
  let c0_i32_2 : BitVec 32 := 0#32
  let v3 : BitVec 1 := Scalar.cmpi .ne v2 c0_i32_2
  v3

@[reducible] def k0_t2_loop : Scf.Loop 32 :=
  let c0_i32_23 : BitVec 32 := 0#32
  let c64_i32 : BitVec 32 := 64#32
  let v31 : BitVec 32 := Scalar.addi c0_i32_23 c64_i32
  let c1_i32_24 : BitVec 32 := 1#32
  ⟨c0_i32_23, v31, c1_i32_24⟩
def k0_off25 (k0_t2 : Fin k0_t2_loop.trips) : Fin 1 → Nat :=
  let c0_i32_23 : BitVec 32 := 0#32
  let c1_i32_24 : BitVec 32 := 1#32
  let arg13 : BitVec 32 := Scf.iv c0_i32_23 c1_i32_24 k0_t2
  let v32 : Index := Scalar.indexCast arg13
  ![v32.toNat]
@[reducible] def k0_t3_loop (v33 : BitVec 32) (v35 : BitVec 32) : Scf.Loop 32 :=
  let v36 : BitVec 32 := Scalar.subi v35 v33
  let c1_i32_27 : BitVec 32 := 1#32
  let v38 : BitVec 32 := Scalar.divsi v36 c1_i32_27
  let v39 : BitVec 32 := Scalar.muli v38 c1_i32_27
  let v40 : BitVec 32 := Scalar.addi v33 v39
  let c1_i32_28 : BitVec 32 := 1#32
  ⟨v33, v40, c1_i32_28⟩

def k0_off26 (v33 : BitVec 32) (v35 : BitVec 32) (k0_t3 : Fin (k0_t3_loop v33 v35).trips) : Fin 2 → Nat :=
  let c1_i32_28 : BitVec 32 := 1#32
  let arg14 : BitVec 32 := Scf.iv v33 c1_i32_28 k0_t3
  let c0_i32_35 : BitVec 32 := 0#32
  ![arg14.toNat, 0]
@[reducible] def k0_t4_loop (v33 : BitVec 32) (v35 : BitVec 32) : Scf.Loop 32 :=
  let v36 : BitVec 32 := Scalar.subi v35 v33
  let c1_i32_27 : BitVec 32 := 1#32
  let v38 : BitVec 32 := Scalar.divsi v36 c1_i32_27
  let v39 : BitVec 32 := Scalar.muli v38 c1_i32_27
  let v40 : BitVec 32 := Scalar.addi v33 v39
  let v37 : BitVec 32 := Scalar.addi v33 v36
  let c1_i32_29 : BitVec 32 := 1#32
  ⟨v40, v37, c1_i32_29⟩
def k0_off27 (v33 : BitVec 32) (v35 : BitVec 32) (k0_t4 : Fin (k0_t4_loop v33 v35).trips) : Fin 2 → Nat :=
  let v36 : BitVec 32 := Scalar.subi v35 v33
  let c1_i32_27 : BitVec 32 := 1#32
  let v38 : BitVec 32 := Scalar.divsi v36 c1_i32_27
  let v39 : BitVec 32 := Scalar.muli v38 c1_i32_27
  let v40 : BitVec 32 := Scalar.addi v33 v39
  let c1_i32_29 : BitVec 32 := 1#32
  let arg14 : BitVec 32 := Scf.iv v40 c1_i32_29 k0_t4
  let c0_i32_35 : BitVec 32 := 0#32
  ![arg14.toNat, 0]
@[reducible] def k0_t5_loop (v33 : BitVec 32) (v35 : BitVec 32) : Scf.Loop 32 :=
  let v41 : BitVec 32 := Scalar.subi v35 v33
  let c1_i32_31 : BitVec 32 := 1#32
  let v43 : BitVec 32 := Scalar.divsi v41 c1_i32_31
  let v44 : BitVec 32 := Scalar.muli v43 c1_i32_31
  let v45 : BitVec 32 := Scalar.addi v33 v44
  let c1_i32_32 : BitVec 32 := 1#32
  ⟨v33, v45, c1_i32_32⟩
@[reducible] def k0_t6_loop (v33 : BitVec 32) (v35 : BitVec 32) : Scf.Loop 32 :=
  let v41 : BitVec 32 := Scalar.subi v35 v33
  let c1_i32_31 : BitVec 32 := 1#32
  let v43 : BitVec 32 := Scalar.divsi v41 c1_i32_31
  let v44 : BitVec 32 := Scalar.muli v43 c1_i32_31
  let v45 : BitVec 32 := Scalar.addi v33 v44
  let v42 : BitVec 32 := Scalar.addi v33 v41
  let c1_i32_33 : BitVec 32 := 1#32
  ⟨v45, v42, c1_i32_33⟩

def k0_chk9 (i : grid0.Coords) (v33 : BitVec 32) (v35 : BitVec 32) : Prop :=
  (∀ (k0_h1 : k0_cond1 i = 1#1), (k0_t3_loop v33 v35).OK) ∧
  (∀ k0_t3 : Fin (k0_t3_loop v33 v35).trips, ∀ (k0_h1 : k0_cond1 i = 1#1), ∀ a, (k0_off26 v33 v35 k0_t3) a + S1x2048.size a ≤ S81920x2048.size a) ∧
  (∀ (k0_h1 : k0_cond1 i = 1#1), (k0_t4_loop v33 v35).OK) ∧
  (∀ k0_t4 : Fin (k0_t4_loop v33 v35).trips, ∀ (k0_h1 : k0_cond1 i = 1#1), ∀ a, (k0_off27 v33 v35 k0_t4) a + S1x2048.size a ≤ S81920x2048.size a) ∧
  (∀ (k0_h1 : k0_cond1 i = 1#1), (k0_t5_loop v33 v35).OK) ∧
  (∀ (k0_h1 : k0_cond1 i = 1#1), (k0_t6_loop v33 v35).OK)
theorem k0_t3_ok : ∀ (i : grid0.Coords) (v33 : BitVec 32) (v35 : BitVec 32) (k0_hw9 : k0_chk9 i v33 v35), ∀ (k0_h1 : k0_cond1 i = 1#1), (k0_t3_loop v33 v35).OK := fun i v33 v35 k0_hw9 k0_h1 => k0_hw9.1 k0_h1
theorem k0_off26_inb : ∀ (i : grid0.Coords) (v33 : BitVec 32) (v35 : BitVec 32) (k0_hw9 : k0_chk9 i v33 v35) (k0_t3 : Fin (k0_t3_loop v33 v35).trips), ∀ (k0_h1 : k0_cond1 i = 1#1), ∀ a, (k0_off26 v33 v35 k0_t3) a + S1x2048.size a ≤ S81920x2048.size a := fun i v33 v35 k0_hw9 k0_t3 k0_h1 => k0_hw9.2.1 k0_t3 k0_h1
theorem k0_t4_ok : ∀ (i : grid0.Coords) (v33 : BitVec 32) (v35 : BitVec 32) (k0_hw9 : k0_chk9 i v33 v35), ∀ (k0_h1 : k0_cond1 i = 1#1), (k0_t4_loop v33 v35).OK := fun i v33 v35 k0_hw9 k0_h1 => k0_hw9.2.2.1 k0_h1
theorem k0_off27_inb : ∀ (i : grid0.Coords) (v33 : BitVec 32) (v35 : BitVec 32) (k0_hw9 : k0_chk9 i v33 v35) (k0_t4 : Fin (k0_t4_loop v33 v35).trips), ∀ (k0_h1 : k0_cond1 i = 1#1), ∀ a, (k0_off27 v33 v35 k0_t4) a + S1x2048.size a ≤ S81920x2048.size a := fun i v33 v35 k0_hw9 k0_t4 k0_h1 => k0_hw9.2.2.2.1 k0_t4 k0_h1
theorem k0_t5_ok : ∀ (i : grid0.Coords) (v33 : BitVec 32) (v35 : BitVec 32) (k0_hw9 : k0_chk9 i v33 v35), ∀ (k0_h1 : k0_cond1 i = 1#1), (k0_t5_loop v33 v35).OK := fun i v33 v35 k0_hw9 k0_h1 => k0_hw9.2.2.2.2.1 k0_h1
theorem k0_t6_ok : ∀ (i : grid0.Coords) (v33 : BitVec 32) (v35 : BitVec 32) (k0_hw9 : k0_chk9 i v33 v35), ∀ (k0_h1 : k0_cond1 i = 1#1), (k0_t6_loop v33 v35).OK := fun i v33 v35 k0_hw9 k0_h1 => k0_hw9.2.2.2.2.2 k0_h1

@[reducible] def k0_t7_loop : Scf.Loop 32 :=
  let c0_i32_17 : BitVec 32 := 0#32
  let c256_i32_18 : BitVec 32 := 256#32
  let v26 : BitVec 32 := Scalar.addi c0_i32_17 c256_i32_18
  let c1_i32_19 : BitVec 32 := 1#32
  ⟨c0_i32_17, v26, c1_i32_19⟩
def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S65536 : Shape := ⟨1, ![65536]⟩
abbrev S8192x2048 : Shape := ⟨2, ![8192, 2048]⟩
abbrev S8192x4096 : Shape := ⟨2, ![8192, 4096]⟩
abbrev S4096x384 : Shape := ⟨2, ![4096, 384]⟩
abbrev S384x4096 : Shape := ⟨2, ![384, 4096]⟩
abbrev S64 : Shape := ⟨1, ![64]⟩
abbrev S_ : Shape := ⟨0, ![]⟩
abbrev S81920x2048 : Shape := ⟨2, ![81920, 2048]⟩
abbrev S8192x8x2048 : Shape := ⟨3, ![8192, 8, 2048]⟩
abbrev S65536x2048 : Shape := ⟨2, ![65536, 2048]⟩
abbrev S65536x1 : Shape := ⟨2, ![65536, 1]⟩
abbrev S8192x384 : Shape := ⟨2, ![8192, 384]⟩

abbrev nBuf : Space → Nat
  | .hbm => 36
  | .vmem => 0
  | .smem => 0
  | _ => 0

abbrev bufTy : (tb : Table) → Fin (tcTables nBuf tb) → BufTy
  | .hbm, ⟨0, _⟩ => ⟨S65536, .i32⟩
  | .hbm, ⟨1, _⟩ => ⟨S8192x2048, .i32⟩
  | .hbm, ⟨2, _⟩ => ⟨S8192x4096, .bf16⟩
  | .hbm, ⟨3, _⟩ => ⟨S4096x384, .f32⟩
  | .hbm, ⟨4, _⟩ => ⟨S4096x384, .f32⟩
  | .hbm, ⟨5, _⟩ => ⟨S384x4096, .f32⟩
  | .hbm, ⟨6, _⟩ => ⟨S64, .i32⟩
  | .hbm, ⟨7, _⟩ => ⟨S64, .i32⟩
  | .hbm, ⟨8, _⟩ => ⟨S_, .i32⟩
  | .hbm, ⟨9, _⟩ => ⟨S81920x2048, .i32⟩
  | .hbm, ⟨10, _⟩ => ⟨S8192x8x2048, .i32⟩
  | .hbm, ⟨11, _⟩ => ⟨S65536x2048, .i32⟩
  | .hbm, ⟨12, _⟩ => ⟨S_, .i32⟩
  | .hbm, ⟨13, _⟩ => ⟨S65536, .i32⟩
  | .hbm, ⟨14, _⟩ => ⟨S65536, .i1⟩
  | .hbm, ⟨15, _⟩ => ⟨S_, .i32⟩
  | .hbm, ⟨16, _⟩ => ⟨S65536, .i32⟩
  | .hbm, ⟨17, _⟩ => ⟨S65536, .i32⟩
  | .hbm, ⟨18, _⟩ => ⟨S65536, .i32⟩
  | .hbm, ⟨19, _⟩ => ⟨S65536x1, .i32⟩
  | .hbm, ⟨20, _⟩ => ⟨S81920x2048, .i32⟩
  | .hbm, ⟨21, _⟩ => ⟨S8192x4096, .f32⟩
  | .hbm, ⟨22, _⟩ => ⟨S8192x384, .f32⟩
  | .hbm, ⟨23, _⟩ => ⟨S8192x384, .f32⟩
  | .hbm, ⟨24, _⟩ => ⟨S8192x384, .f32⟩
  | .hbm, ⟨25, _⟩ => ⟨S_, .f32⟩
  | .hbm, ⟨26, _⟩ => ⟨S8192x384, .f32⟩
  | .hbm, ⟨27, _⟩ => ⟨S8192x384, .f32⟩
  | .hbm, ⟨28, _⟩ => ⟨S_, .f32⟩
  | .hbm, ⟨29, _⟩ => ⟨S8192x384, .f32⟩
  | .hbm, ⟨30, _⟩ => ⟨S8192x384, .f32⟩
  | .hbm, ⟨31, _⟩ => ⟨S8192x384, .f32⟩
  | .hbm, ⟨32, _⟩ => ⟨S8192x384, .f32⟩
  | .hbm, ⟨33, _⟩ => ⟨S8192x384, .f32⟩
  | .hbm, ⟨34, _⟩ => ⟨S8192x4096, .f32⟩
  | .hbm, ⟨35, _⟩ => ⟨S8192x4096, .bf16⟩
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩

abbrev nD : Nat := 1
abbrev τ : Topo := Topo.v7x

variable {F : FTy → Type} [FloatOps F]
-- ==== Kernel2.lean ====
abbrev S321 : Shape := ⟨1, ![321]⟩
abbrev S1 : Shape := ⟨1, ![1]⟩
abbrev S81920x4096 : Shape := ⟨2, ![81920, 4096]⟩
abbrev S2x64x4096x384 : Shape := ⟨4, ![2, 64, 4096, 384]⟩
abbrev S2x64x384x4096 : Shape := ⟨4, ![2, 64, 384, 4096]⟩
abbrev S256x4096 : Shape := ⟨2, ![256, 4096]⟩
abbrev S4096x384 : Shape := ⟨2, ![4096, 384]⟩
abbrev S384x4096 : Shape := ⟨2, ![384, 4096]⟩
abbrev S4096x768 : Shape := ⟨2, ![4096, 768]⟩
abbrev S2x384x4096 : Shape := ⟨3, ![2, 384, 4096]⟩
abbrev S256x384 : Shape := ⟨2, ![256, 384]⟩
abbrev S256x768 : Shape := ⟨2, ![256, 768]⟩
abbrev S3 : Shape := ⟨1, ![3]⟩
abbrev S_ : Shape := ⟨0, ![]⟩
abbrev S1x1x4096x384 : Shape := ⟨4, ![1, 1, 4096, 384]⟩
abbrev S1x1x384x4096 : Shape := ⟨4, ![1, 1, 384, 4096]⟩
abbrev S1x384x4096 : Shape := ⟨3, ![1, 384, 4096]⟩
abbrev S256x512 : Shape := ⟨2, ![256, 512]⟩
abbrev S512x768 : Shape := ⟨2, ![512, 768]⟩
abbrev S384x512 : Shape := ⟨2, ![384, 512]⟩

abbrev nBuf : Space → Nat
  | .hbm => 5
  | .vmem => 12
  | .smem => 8
  | _ => 0

abbrev bufTy : (tb : Table) → Fin (tcTables nBuf tb) → BufTy
  | .hbm, ⟨0, _⟩ => ⟨S81920x4096, .bf16⟩
  | .hbm, ⟨1, _⟩ => ⟨S2x64x4096x384, .f32⟩
  | .hbm, ⟨2, _⟩ => ⟨S2x64x4096x384, .f32⟩
  | .hbm, ⟨3, _⟩ => ⟨S2x64x384x4096, .f32⟩
  | .hbm, ⟨4, _⟩ => ⟨S81920x4096, .bf16⟩
  | .local _ .vmem, ⟨0, _⟩ => ⟨S256x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S4096x384, .f32⟩
  | .local _ .vmem, ⟨5, _⟩ => ⟨S4096x384, .f32⟩
  | .local _ .vmem, ⟨6, _⟩ => ⟨S384x4096, .f32⟩
  | .local _ .vmem, ⟨7, _⟩ => ⟨S4096x768, .bf16⟩
  | .local _ .vmem, ⟨8, _⟩ => ⟨S2x384x4096, .bf16⟩
  | .local _ .vmem, ⟨9, _⟩ => ⟨S256x384, .bf16⟩
  | .local _ .vmem, ⟨10, _⟩ => ⟨S256x384, .bf16⟩
  | .local _ .vmem, ⟨11, _⟩ => ⟨S256x768, .f32⟩
  | .local _ .smem, ⟨0, _⟩ => ⟨S321, .i32⟩
  | .local _ .smem, ⟨1, _⟩ => ⟨S321, .i32⟩
  | .local _ .smem, ⟨2, _⟩ => ⟨S321, .i32⟩
  | .local _ .smem, ⟨3, _⟩ => ⟨S321, .i32⟩
  | .local _ .smem, ⟨4, _⟩ => ⟨S321, .i32⟩
  | .local _ .smem, ⟨5, _⟩ => ⟨S321, .i32⟩
  | .local _ .smem, ⟨6, _⟩ => ⟨S321, .i32⟩
  | .local _ .smem, ⟨7, _⟩ => ⟨S1, .i32⟩
  | _, _ => ⟨S81920x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg8 : Ref sig .tc := ⟨.hbm, 0, rfl⟩
abbrev main_arg9 : Ref sig .tc := ⟨.hbm, 1, rfl⟩
abbrev main_arg10 : Ref sig .tc := ⟨.hbm, 2, rfl⟩
abbrev main_arg11 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev main_arg5 : Ref sig .tc := ⟨.smem, 5, rfl⟩
abbrev main_arg6 : Ref sig .tc := ⟨.smem, 6, rfl⟩
abbrev main_arg7 : Ref sig .tc := ⟨.smem, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![321], ![false]⟩

abbrev pre0 : Pipeline.Prefetch sig := ⟨8, ![main_arg0.idx, main_arg1.idx, main_arg2.idx, main_arg3.idx, main_arg4.idx, main_arg5.idx, main_arg6.idx, main_arg7.idx], fun | 0 => main_arg0.names | 1 => main_arg1.names | 2 => main_arg2.names | 3 => main_arg3.names | 4 => main_arg4.names | 5 => main_arg5.names | 6 => main_arg6.names | 7 => main_arg7.names | ⟨_ + 8, h⟩ => absurd h (Nat.not_lt.2 (Nat.le_add_left _ _)), fun | 0 => rfl | 1 => rfl | 2 => rfl | 3 => rfl | 4 => rfl | 5 => rfl | 6 => rfl | 7 => rfl | ⟨_ + 8, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off2 (v80 : BitVec 32) : Fin 4 → Nat :=
  let c0_i32_40 : BitVec 32 := 0#32
  let c0_i32_42 : BitVec 32 := 0#32
  let c0_i32_43 : BitVec 32 := 0#32
  ![0, v80.toNat, 0, 0]

def k0_off3 (v80 : BitVec 32) : Fin 4 → Nat :=
  let c0_i32_48 : BitVec 32 := 0#32
  let c0_i32_50 : BitVec 32 := 0#32
  let c0_i32_51 : BitVec 32 := 0#32
  ![0, v80.toNat, 0, 0]

def k0_chk1 (i : grid0.Coords) (v80 : BitVec 32) : Prop :=
  (∀ (k0_h1 : k0_cond1 i = 1#1), ∀ a, (k0_off2 v80) a + S1x1x4096x384.size a ≤ S2x64x4096x384.size a) ∧
  (∀ (k0_h1 : k0_cond1 i = 1#1), ∀ a, (k0_off3 v80) a + S1x1x384x4096.size a ≤ S2x64x384x4096.size a)
theorem k0_off2_inb : ∀ (i : grid0.Coords) (v80 : BitVec 32) (k0_hw1 : k0_chk1 i v80), ∀ (k0_h1 : k0_cond1 i = 1#1), ∀ a, (k0_off2 v80) a + S1x1x4096x384.size a ≤ S2x64x4096x384.size a := fun i v80 k0_hw1 k0_h1 => k0_hw1.1 k0_h1
theorem k0_off3_inb : ∀ (i : grid0.Coords) (v80 : BitVec 32) (k0_hw1 : k0_chk1 i v80), ∀ (k0_h1 : k0_cond1 i = 1#1), ∀ a, (k0_off3 v80) a + S1x1x384x4096.size a ≤ S2x64x384x4096.size a := fun i v80 k0_hw1 k0_h1 => k0_hw1.2 k0_h1

def k0_off4 (i : grid0.Coords) : Fin 1 → Nat :=
  let arg0 : BitVec 32 := BitVec.ofNat 32 (i 0).val
  let v80 : Index := Scalar.indexCast arg0
  ![v80.toNat]
def k0_off5 (v81 : BitVec 32) : Fin 4 → Nat :=
  let c0_i32_39 : BitVec 32 := 0#32
  let c0_i32_41 : BitVec 32 := 0#32
  let c0_i32_42 : BitVec 32 := 0#32
  ![0, v81.toNat, 0, 0]
def k0_cond2 (v5 : BitVec 32) : BitVec 1 :=
  let c1_i32 : BitVec 32 := 1#32
  let v6 : BitVec 1 := Scalar.cmpi .eq v5 c1_i32
  let v7 : BitVec 32 := Scalar.extui v6
  let c0_i32_1 : BitVec 32 := 0#32
  let v8 : BitVec 1 := Scalar.cmpi .ne v7 c0_i32_1
  v8

def k0_off6 (v81 : BitVec 32) : Fin 4 → Nat :=
  let c0_i32_47 : BitVec 32 := 0#32
  let c0_i32_49 : BitVec 32 := 0#32
  let c0_i32_50 : BitVec 32 := 0#32
  ![0, v81.toNat, 0, 0]

def k0_chk2 (v5 : BitVec 32) (v81 : BitVec 32) : Prop :=
  (∀ (k0_h2 : k0_cond2 v5 = 1#1), ∀ a, (k0_off5 v81) a + S1x1x4096x384.size a ≤ S2x64x4096x384.size a) ∧
  (∀ (k0_h2 : k0_cond2 v5 = 1#1), ∀ a, (k0_off6 v81) a + S1x1x384x4096.size a ≤ S2x64x384x4096.size a)
theorem k0_off5_inb : ∀ (v5 : BitVec 32) (v81 : BitVec 32) (k0_hw2 : k0_chk2 v5 v81), ∀ (k0_h2 : k0_cond2 v5 = 1#1), ∀ a, (k0_off5 v81) a + S1x1x4096x384.size a ≤ S2x64x4096x384.size a := fun v5 v81 k0_hw2 k0_h2 => k0_hw2.1 k0_h2
theorem k0_off6_inb : ∀ (v5 : BitVec 32) (v81 : BitVec 32) (k0_hw2 : k0_chk2 v5 v81), ∀ (k0_h2 : k0_cond2 v5 = 1#1), ∀ a, (k0_off6 v81) a + S1x1x384x4096.size a ≤ S2x64x384x4096.size a := fun v5 v81 k0_hw2 k0_h2 => k0_hw2.2 k0_h2

def k0_off7 (i : grid0.Coords) : Fin 1 → Nat :=
  let arg0 : BitVec 32 := BitVec.ofNat 32 (i 0).val
  let v106 : Index := Scalar.indexCast arg0
  ![v106.toNat]
def k0_off8 (v107 : BitVec 32) : Fin 3 → Nat :=
  let v108 : Index := Scalar.indexCast v107
  let c0_60 : Index := 0#32
  let c0_61 : Index := 0#32
  ![v108.toNat, 0, 0]

def k0_chk3 (v5 : BitVec 32) (v107 : BitVec 32) : Prop :=
  (∀ (k0_h2 : k0_cond2 v5 = 1#1), ∀ a, (k0_off8 v107) a + S1x384x4096.size a ≤ S2x384x4096.size a) ∧
  (∀ (k0_h2 : k0_cond2 v5 = 1#1), ∀ (hinb : ∀ a, (k0_off8 v107) a + S1x384x4096.size a ≤ S2x384x4096.size a), (Rect.unit (s := S2x384x4096) (k0_off8 v107) S1x384x4096.size hinb).PackedRows (EltTy.packing .bf16))
theorem k0_off8_inb : ∀ (v5 : BitVec 32) (v107 : BitVec 32) (k0_hw3 : k0_chk3 v5 v107), ∀ (k0_h2 : k0_cond2 v5 = 1#1), ∀ a, (k0_off8 v107) a + S1x384x4096.size a ≤ S2x384x4096.size a := fun v5 v107 k0_hw3 k0_h2 => k0_hw3.1 k0_h2
theorem k0_off8_packedbf16 : ∀ (v5 : BitVec 32) (v107 : BitVec 32) (k0_hw3 : k0_chk3 v5 v107), ∀ (k0_h2 : k0_cond2 v5 = 1#1), (Rect.unit (s := S2x384x4096) (k0_off8 v107) S1x384x4096.size (k0_off8_inb v5 v107 k0_hw3 k0_h2)).PackedRows (EltTy.packing .bf16) := fun v5 v107 k0_hw3 k0_h2 => k0_hw3.2 k0_h2 (k0_off8_inb v5 v107 k0_hw3 k0_h2)

def k0_off9 (i : grid0.Coords) : Fin 1 → Nat :=
  let arg0 : BitVec 32 := BitVec.ofNat 32 (i 0).val
  let v112 : Index := Scalar.indexCast arg0
  ![v112.toNat]
def k0_off10 (i : grid0.Coords) : Fin 1 → Nat :=
  let arg0 : BitVec 32 := BitVec.ofNat 32 (i 0).val
  let v117 : Index := Scalar.indexCast arg0
  ![v117.toNat]
def k0_off11 (v118 : BitVec 32) : Fin 4 → Nat :=
  let c0_i32_64 : BitVec 32 := 0#32
  let c0_i32_66 : BitVec 32 := 0#32
  let c0_i32_67 : BitVec 32 := 0#32
  ![0, v118.toNat, 0, 0]
def k0_cond3 (v113 : BitVec 32) : BitVec 1 :=
  let c0_i32_62 : BitVec 32 := 0#32
  let v114 : BitVec 1 := Scalar.cmpi .sge v113 c0_i32_62
  let v115 : BitVec 32 := Scalar.extui v114
  let c0_i32_63 : BitVec 32 := 0#32
  let v116 : BitVec 1 := Scalar.cmpi .ne v115 c0_i32_63
  v116

def k0_off12 (v118 : BitVec 32) : Fin 4 → Nat :=
  let c0_i32_72 : BitVec 32 := 0#32
  let c0_i32_74 : BitVec 32 := 0#32
  let c0_i32_75 : BitVec 32 := 0#32
  ![0, v118.toNat, 0, 0]

def k0_chk4 (v5 : BitVec 32) (v113 : BitVec 32) (v118 : BitVec 32) : Prop :=
  (∀ (k0_h2 : k0_cond2 v5 = 1#1), ∀ (k0_h3 : k0_cond3 v113 = 1#1), ∀ a, (k0_off11 v118) a + S1x1x4096x384.size a ≤ S2x64x4096x384.size a) ∧
  (∀ (k0_h2 : k0_cond2 v5 = 1#1), ∀ (k0_h3 : k0_cond3 v113 = 1#1), ∀ a, (k0_off12 v118) a + S1x1x384x4096.size a ≤ S2x64x384x4096.size a)
theorem k0_off11_inb : ∀ (v5 : BitVec 32) (v113 : BitVec 32) (v118 : BitVec 32) (k0_hw4 : k0_chk4 v5 v113 v118), ∀ (k0_h2 : k0_cond2 v5 = 1#1), ∀ (k0_h3 : k0_cond3 v113 = 1#1), ∀ a, (k0_off11 v118) a + S1x1x4096x384.size a ≤ S2x64x4096x384.size a := fun v5 v113 v118 k0_hw4 k0_h2 k0_h3 => k0_hw4.1 k0_h2 k0_h3
theorem k0_off12_inb : ∀ (v5 : BitVec 32) (v113 : BitVec 32) (v118 : BitVec 32) (k0_hw4 : k0_chk4 v5 v113 v118), ∀ (k0_h2 : k0_cond2 v5 = 1#1), ∀ (k0_h3 : k0_cond3 v113 = 1#1), ∀ a, (k0_off12 v118) a + S1x1x384x4096.size a ≤ S2x64x384x4096.size a := fun v5 v113 v118 k0_hw4 k0_h2 k0_h3 => k0_hw4.2 k0_h2 k0_h3

def k0_off13 (i : grid0.Coords) : Fin 1 → Nat :=
  let arg0 : BitVec 32 := BitVec.ofNat 32 (i 0).val
  let v142 : Index := Scalar.indexCast arg0
  ![v142.toNat]
def k0_off14 (v143 : BitVec 32) : Fin 3 → Nat :=
  let c0_i32_95 : BitVec 32 := 0#32
  let c0_i32_96 : BitVec 32 := 0#32
  ![v143.toNat, 0, 0]
def k0_cond5 (i : grid0.Coords) (v0 : BitVec 32) : BitVec 1 :=
  let arg0 : BitVec 32 := BitVec.ofNat 32 (i 0).val
  let c1_i32_4 : BitVec 32 := 1#32
  let v12 : BitVec 1 := Scalar.cmpi .sge arg0 c1_i32_4
  let v13 : BitVec 1 := Scalar.cmpi .slt arg0 v0
  let v14 : BitVec 1 := Scalar.andi v12 v13
  let c2_i32 : BitVec 32 := 2#32
  let c0_i32_5 : BitVec 32 := 0#32
  let v15 : BitVec 1 := Scalar.cmpi .eq c2_i32 c0_i32_5
  let c1_i32_6 : BitVec 32 := 1#32
  let v16 : BitVec 32 := Scalar.select v15 c1_i32_6 c2_i32
  let v17 : BitVec 32 := Scalar.remsi arg0 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c0_i32_10 : BitVec 32 := 0#32
  let v25 : BitVec 1 := Scalar.cmpi .eq v24 c0_i32_10
  let v26 : BitVec 1 := Scalar.andi v14 v25
  let v27 : BitVec 32 := Scalar.extui v26
  let c0_i32_11 : BitVec 32 := 0#32
  let v28 : BitVec 1 := Scalar.cmpi .ne v27 c0_i32_11
  v28

def k0_chk5 (i : grid0.Coords) (v0 : BitVec 32) (v143 : BitVec 32) : Prop :=
  (∀ (k0_h5 : k0_cond5 i v0 = 1#1), ∀ a, (k0_off14 v143) a + S1x384x4096.size a ≤ S2x384x4096.size a)
theorem k0_off14_inb : ∀ (i : grid0.Coords) (v0 : BitVec 32) (v143 : BitVec 32) (k0_hw5 : k0_chk5 i v0 v143), ∀ (k0_h5 : k0_cond5 i v0 = 1#1), ∀ a, (k0_off14 v143) a + S1x384x4096.size a ≤ S2x384x4096.size a := fun i v0 v143 k0_hw5 k0_h5 => k0_hw5 k0_h5

def k0_off15 (i : grid0.Coords) : Fin 1 → Nat :=
  let arg0 : BitVec 32 := BitVec.ofNat 32 (i 0).val
  let v81 : Index := Scalar.indexCast arg0
  ![v81.toNat]
def k0_off16 (v82 : BitVec 32) : Fin 3 → Nat :=
  let c0_i32_41 : BitVec 32 := 0#32
  let c0_i32_42 : BitVec 32 := 0#32
  ![v82.toNat, 0, 0]
def k0_cond6 (i : grid0.Coords) (v0 : BitVec 32) : BitVec 1 :=
  let arg0 : BitVec 32 := BitVec.ofNat 32 (i 0).val
  let c1_i32_12 : BitVec 32 := 1#32
  let v29 : BitVec 1 := Scalar.cmpi .sge arg0 c1_i32_12
  let v30 : BitVec 1 := Scalar.cmpi .eq arg0 v0
  let v31 : BitVec 1 := Scalar.andi v29 v30
  let c2_i32_13 : BitVec 32 := 2#32
  let c0_i32_14 : BitVec 32 := 0#32
  let v32 : BitVec 1 := Scalar.cmpi .eq c2_i32_13 c0_i32_14
  let c1_i32_15 : BitVec 32 := 1#32
  let v33 : BitVec 32 := Scalar.select v32 c1_i32_15 c2_i32_13
  let v34 : BitVec 32 := Scalar.remsi arg0 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c0_i32_19 : BitVec 32 := 0#32
  let v42 : BitVec 1 := Scalar.cmpi .eq v41 c0_i32_19
  let v43 : BitVec 1 := Scalar.andi v31 v42
  let v44 : BitVec 32 := Scalar.extui v43
  let c0_i32_20 : BitVec 32 := 0#32
  let v45 : BitVec 1 := Scalar.cmpi .ne v44 c0_i32_20
  v45

def k0_chk6 (i : grid0.Coords) (v0 : BitVec 32) (v82 : BitVec 32) : Prop :=
  (∀ (k0_h6 : k0_cond6 i v0 = 1#1), ∀ a, (k0_off16 v82) a + S1x384x4096.size a ≤ S2x384x4096.size a)
theorem k0_off16_inb : ∀ (i : grid0.Coords) (v0 : BitVec 32) (v82 : BitVec 32) (k0_hw6 : k0_chk6 i v0 v82), ∀ (k0_h6 : k0_cond6 i v0 = 1#1), ∀ a, (k0_off16 v82) a + S1x384x4096.size a ≤ S2x384x4096.size a := fun i v0 v82 k0_hw6 k0_h6 => k0_hw6 k0_h6

def k0_off17 (i : grid0.Coords) : Fin 1 → Nat :=
  let arg0 : BitVec 32 := BitVec.ofNat 32 (i 0).val
  let v142 : Index := Scalar.indexCast arg0
  ![v142.toNat]
def k0_off18 (v143 : BitVec 32) : Fin 3 → Nat :=
  let c0_i32_95 : BitVec 32 := 0#32
  let c0_i32_96 : BitVec 32 := 0#32
  ![v143.toNat, 0, 0]
def k0_cond7 (i : grid0.Coords) (v0 : BitVec 32) : BitVec 1 :=
  let arg0 : BitVec 32 := BitVec.ofNat 32 (i 0).val
  let c1_i32_21 : BitVec 32 := 1#32
  let v46 : BitVec 1 := Scalar.cmpi .sge arg0 c1_i32_21
  let v47 : BitVec 1 := Scalar.cmpi .slt arg0 v0
  let v48 : BitVec 1 := Scalar.andi v46 v47
  let c2_i32_22 : BitVec 32 := 2#32
  let c0_i32_23 : BitVec 32 := 0#32
  let v49 : BitVec 1 := Scalar.cmpi .eq c2_i32_22 c0_i32_23
  let c1_i32_24 : BitVec 32 := 1#32
  let v50 : BitVec 32 := Scalar.select v49 c1_i32_24 c2_i32_22
  let v51 : BitVec 32 := Scalar.remsi arg0 v50
  let c0_i32_26 : BitVec 32 := 0#32
  let v53 : BitVec 1 := Scalar.cmpi .slt v51 c0_i32_26
  let c0_i32_27 : BitVec 32 := 0#32
  let v54 : BitVec 1 := Scalar.cmpi .slt v50 c0_i32_27
  let v55 : BitVec 1 := Scalar.xori v53 v54
  let c0_i32_25 : BitVec 32 := 0#32
  let v52 : BitVec 1 := Scalar.cmpi .ne v51 c0_i32_25
  let v56 : BitVec 1 := Scalar.andi v55 v52
  let v57 : BitVec 32 := Scalar.addi v51 v50
  let v58 : BitVec 32 := Scalar.select v56 v57 v51
  let c1_i32_28 : BitVec 32 := 1#32
  let v59 : BitVec 1 := Scalar.cmpi .eq v58 c1_i32_28
  let v60 : BitVec 1 := Scalar.andi v48 v59
  let v61 : BitVec 32 := Scalar.extui v60
  let c0_i32_29 : BitVec 32 := 0#32
  let v62 : BitVec 1 := Scalar.cmpi .ne v61 c0_i32_29
  v62

def k0_chk7 (i : grid0.Coords) (v0 : BitVec 32) (v143 : BitVec 32) : Prop :=
  (∀ (k0_h7 : k0_cond7 i v0 = 1#1), ∀ a, (k0_off18 v143) a + S1x384x4096.size a ≤ S2x384x4096.size a)
theorem k0_off18_inb : ∀ (i : grid0.Coords) (v0 : BitVec 32) (v143 : BitVec 32) (k0_hw7 : k0_chk7 i v0 v143), ∀ (k0_h7 : k0_cond7 i v0 = 1#1), ∀ a, (k0_off18 v143) a + S1x384x4096.size a ≤ S2x384x4096.size a := fun i v0 v143 k0_hw7 k0_h7 => k0_hw7 k0_h7

def k0_off19 (i : grid0.Coords) : Fin 1 → Nat :=
  let arg0 : BitVec 32 := BitVec.ofNat 32 (i 0).val
  let v81 : Index := Scalar.indexCast arg0
  ![v81.toNat]
def k0_off20 (v82 : BitVec 32) : Fin 3 → Nat :=
  let c0_i32_41 : BitVec 32 := 0#32
  let c0_i32_42 : BitVec 32 := 0#32
  ![v82.toNat, 0, 0]
def k0_cond8 (i : grid0.Coords) (v0 : BitVec 32) : BitVec 1 :=
  let arg0 : BitVec 32 := BitVec.ofNat 32 (i 0).val
  let c1_i32_30 : BitVec 32 := 1#32
  let v63 : BitVec 1 := Scalar.cmpi .sge arg0 c1_i32_30
  let v64 : BitVec 1 := Scalar.cmpi .eq arg0 v0
  let v65 : BitVec 1 := Scalar.andi v63 v64
  let c2_i32_31 : BitVec 32 := 2#32
  let c0_i32_32 : BitVec 32 := 0#32
  let v66 : BitVec 1 := Scalar.cmpi .eq c2_i32_31 c0_i32_32
  let c1_i32_33 : BitVec 32 := 1#32
  let v67 : BitVec 32 := Scalar.select v66 c1_i32_33 c2_i32_31
  let v68 : BitVec 32 := Scalar.remsi arg0 v67
  let c0_i32_35 : BitVec 32 := 0#32
  let v70 : BitVec 1 := Scalar.cmpi .slt v68 c0_i32_35
  let c0_i32_36 : BitVec 32 := 0#32
  let v71 : BitVec 1 := Scalar.cmpi .slt v67 c0_i32_36
  let v72 : BitVec 1 := Scalar.xori v70 v71
  let c0_i32_34 : BitVec 32 := 0#32
  let v69 : BitVec 1 := Scalar.cmpi .ne v68 c0_i32_34
  let v73 : BitVec 1 := Scalar.andi v72 v69
  let v74 : BitVec 32 := Scalar.addi v68 v67
  let v75 : BitVec 32 := Scalar.select v73 v74 v68
  let c1_i32_37 : BitVec 32 := 1#32
  let v76 : BitVec 1 := Scalar.cmpi .eq v75 c1_i32_37
  let v77 : BitVec 1 := Scalar.andi v65 v76
  let v78 : BitVec 32 := Scalar.extui v77
  let c0_i32_38 : BitVec 32 := 0#32
  let v79 : BitVec 1 := Scalar.cmpi .ne v78 c0_i32_38
  v79

def k0_chk8 (i : grid0.Coords) (v0 : BitVec 32) (v82 : BitVec 32) : Prop :=
  (∀ (k0_h8 : k0_cond8 i v0 = 1#1), ∀ a, (k0_off20 v82) a + S1x384x4096.size a ≤ S2x384x4096.size a)
theorem k0_off20_inb : ∀ (i : grid0.Coords) (v0 : BitVec 32) (v82 : BitVec 32) (k0_hw8 : k0_chk8 i v0 v82), ∀ (k0_h8 : k0_cond8 i v0 = 1#1), ∀ a, (k0_off20 v82) a + S1x384x4096.size a ≤ S2x384x4096.size a := fun i v0 v82 k0_hw8 k0_h8 => k0_hw8 k0_h8

def cc0_transform_0 (k0_off1_inb : ∀ i : grid0.Coords, ∀ a, (k0_off1 i) a + S1.size a ≤ S321.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S321) ![v0.toNat] S1.size (k0_off1_inb i)) numel1_S1
  let c0_i32 : BitVec 32 := 0#32
  let c0_i32_0 : BitVec 32 := 0#32
  ![v1.toNat, c0_i32.toNat]

def cc0_transform_4 (k0_off1_inb : ∀ i : grid0.Coords, ∀ a, (k0_off1 i) a + S1.size a ≤ S321.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S321) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference2Ideal.lean ====
abbrev S321 : Shape := ⟨1, ![321]⟩
abbrev S1 : Shape := ⟨1, ![1]⟩
abbrev S81920x4096 : Shape := ⟨2, ![81920, 4096]⟩
abbrev S2x64x4096x384 : Shape := ⟨4, ![2, 64, 4096, 384]⟩
abbrev S2x64x384x4096 : Shape := ⟨4, ![2, 64, 384, 4096]⟩
abbrev S320 : Shape := ⟨1, ![320]⟩
abbrev S320x256 : Shape := ⟨2, ![320, 256]⟩
abbrev S81920 : Shape := ⟨1, ![81920]⟩
abbrev S81920x1 : Shape := ⟨2, ![81920, 1]⟩
abbrev S1x64 : Shape := ⟨2, ![1, 64]⟩
abbrev S81920x64 : Shape := ⟨2, ![81920, 64]⟩
abbrev S1x64x4096x384 : Shape := ⟨4, ![1, 64, 4096, 384]⟩
abbrev S64x4096x384 : Shape := ⟨3, ![64, 4096, 384]⟩
abbrev S81920x64x384 : Shape := ⟨3, ![81920, 64, 384]⟩
abbrev S_ : Shape := ⟨0, ![]⟩
abbrev S81920x64x1 : Shape := ⟨3, ![81920, 64, 1]⟩
abbrev S1x64x384x4096 : Shape := ⟨4, ![1, 64, 384, 4096]⟩
abbrev S64x384x4096 : Shape := ⟨3, ![64, 384, 4096]⟩

abbrev nBuf : Space → Nat
  | .hbm => 45
  | .vmem => 0
  | .smem => 0
  | _ => 0

abbrev bufTy : (tb : Table) → Fin (tcTables nBuf tb) → BufTy
  | .hbm, ⟨0, _⟩ => ⟨S321, .i32⟩
  | .hbm, ⟨1, _⟩ => ⟨S321, .i32⟩
  | .hbm, ⟨2, _⟩ => ⟨S321, .i32⟩
  | .hbm, ⟨3, _⟩ => ⟨S321, .i32⟩
  | .hbm, ⟨4, _⟩ => ⟨S321, .i32⟩
  | .hbm, ⟨5, _⟩ => ⟨S321, .i32⟩
  | .hbm, ⟨6, _⟩ => ⟨S321, .i32⟩
  | .hbm, ⟨7, _⟩ => ⟨S1, .i32⟩
  | .hbm, ⟨8, _⟩ => ⟨S81920x4096, .bf16⟩
  | .hbm, ⟨9, _⟩ => ⟨S2x64x4096x384, .f32⟩
  | .hbm, ⟨10, _⟩ => ⟨S2x64x4096x384, .f32⟩
  | .hbm, ⟨11, _⟩ => ⟨S2x64x384x4096, .f32⟩
  | .hbm, ⟨12, _⟩ => ⟨S320, .i32⟩
  | .hbm, ⟨13, _⟩ => ⟨S320x256, .i32⟩
  | .hbm, ⟨14, _⟩ => ⟨S81920, .i32⟩
  | .hbm, ⟨15, _⟩ => ⟨S81920x1, .i32⟩
  | .hbm, ⟨16, _⟩ => ⟨S1x64, .i32⟩
  | .hbm, ⟨17, _⟩ => ⟨S81920x64, .i32⟩
  | .hbm, ⟨18, _⟩ => ⟨S81920x64, .i32⟩
  | .hbm, ⟨19, _⟩ => ⟨S81920x64, .i1⟩
  | .hbm, ⟨20, _⟩ => ⟨S81920x64, .f32⟩
  | .hbm, ⟨21, _⟩ => ⟨S81920x4096, .f32⟩
  | .hbm, ⟨22, _⟩ => ⟨S1x64x4096x384, .f32⟩
  | .hbm, ⟨23, _⟩ => ⟨S64x4096x384, .f32⟩
  | .hbm, ⟨24, _⟩ => ⟨S81920x64x384, .f32⟩
  | .hbm, ⟨25, _⟩ => ⟨S81920x64x384, .f32⟩
  | .hbm, ⟨26, _⟩ => ⟨S81920x64x384, .f32⟩
  | .hbm, ⟨27, _⟩ => ⟨S_, .f32⟩
  | .hbm, ⟨28, _⟩ => ⟨S81920x64x384, .f32⟩
  | .hbm, ⟨29, _⟩ => ⟨S81920x64x384, .f32⟩
  | .hbm, ⟨30, _⟩ => ⟨S_, .f32⟩
  | .hbm, ⟨31, _⟩ => ⟨S81920x64x384, .f32⟩
  | .hbm, ⟨32, _⟩ => ⟨S81920x64x384, .f32⟩
  | .hbm, ⟨33, _⟩ => ⟨S81920x64x384, .f32⟩
  | .hbm, ⟨34, _⟩ => ⟨S1x64x4096x384, .f32⟩
  | .hbm, ⟨35, _⟩ => ⟨S64x4096x384, .f32⟩
  | .hbm, ⟨36, _⟩ => ⟨S81920x64x384, .f32⟩
  | .hbm, ⟨37, _⟩ => ⟨S81920x64x384, .f32⟩
  | .hbm, ⟨38, _⟩ => ⟨S81920x64x1, .f32⟩
  | .hbm, ⟨39, _⟩ => ⟨S81920x64x384, .f32⟩
  | .hbm, ⟨40, _⟩ => ⟨S81920x64x384, .f32⟩
  | .hbm, ⟨41, _⟩ => ⟨S1x64x384x4096, .f32⟩
  | .hbm, ⟨42, _⟩ => ⟨S64x384x4096, .f32⟩
  | .hbm, ⟨43, _⟩ => ⟨S81920x4096, .f32⟩
  | .hbm, ⟨44, _⟩ => ⟨S81920x4096, .bf16⟩
  | _, _ => ⟨S321, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩

abbrev nD : Nat := 1
abbrev τ : Topo := Topo.v7x

variable {F : FTy → Type} [FloatOps F]
-- ==== Kernel3.lean ====
abbrev S8192x4096 : Shape := ⟨2, ![8192, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .bf16⟩
  | .local _ .vmem, ⟨5, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8192x4096 : Shape := ⟨2, ![8192, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | .hbm, ⟨4, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S8192x4096 : Shape := ⟨2, ![8192, 4096]⟩
abbrev S8192x256 : Shape := ⟨2, ![8192, 256]⟩
abbrev S4096x4096 : Shape := ⟨2, ![4096, 4096]⟩
abbrev S256x4096 : Shape := ⟨2, ![256, 4096]⟩
abbrev S4096 : Shape := ⟨1, ![4096]⟩
abbrev S1x4096 : Shape := ⟨2, ![1, 4096]⟩
abbrev S512x4096 : Shape := ⟨2, ![512, 4096]⟩
abbrev S4096x512 : Shape := ⟨2, ![4096, 512]⟩
abbrev S512x512 : Shape := ⟨2, ![512, 512]⟩
abbrev S512x256 : Shape := ⟨2, ![512, 256]⟩
abbrev S256x512 : Shape := ⟨2, ![256, 512]⟩
abbrev S1x512 : Shape := ⟨2, ![1, 512]⟩
abbrev S8x512x512 : Shape := ⟨3, ![8, 512, 512]⟩
abbrev S512x1 : Shape := ⟨2, ![512, 1]⟩
abbrev S1x512x512 : Shape := ⟨3, ![1, 512, 512]⟩
abbrev S512 : Shape := ⟨1, ![512]⟩
abbrev S32x1 : Shape := ⟨2, ![32, 1]⟩
abbrev S1x32x512 : Shape := ⟨3, ![1, 32, 512]⟩
abbrev S32x512 : Shape := ⟨2, ![32, 512]⟩

abbrev nBuf : Space → Nat
  | .hbm => 14
  | .vmem => 19
  | .smem => 0
  | _ => 0

abbrev bufTy : (tb : Table) → Fin (tcTables nBuf tb) → BufTy
  | .hbm, ⟨0, _⟩ => ⟨S8192x4096, .bf16⟩
  | .hbm, ⟨1, _⟩ => ⟨S8192x256, .f32⟩
  | .hbm, ⟨2, _⟩ => ⟨S4096x4096, .f32⟩
  | .hbm, ⟨3, _⟩ => ⟨S256x4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S4096x4096, .bf16⟩
  | .hbm, ⟨8, _⟩ => ⟨S8192x256, .bf16⟩
  | .hbm, ⟨9, _⟩ => ⟨S256x4096, .bf16⟩
  | .hbm, ⟨10, _⟩ => ⟨S1x4096, .f32⟩
  | .hbm, ⟨11, _⟩ => ⟨S1x4096, .f32⟩
  | .hbm, ⟨12, _⟩ => ⟨S1x4096, .f32⟩
  | .hbm, ⟨13, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S512x512, .bf16⟩
  | .local _ .vmem, ⟨5, _⟩ => ⟨S512x512, .bf16⟩
  | .local _ .vmem, ⟨6, _⟩ => ⟨S1x4096, .f32⟩
  | .local _ .vmem, ⟨7, _⟩ => ⟨S1x4096, .f32⟩
  | .local _ .vmem, ⟨8, _⟩ => ⟨S512x256, .bf16⟩
  | .local _ .vmem, ⟨9, _⟩ => ⟨S512x256, .bf16⟩
  | .local _ .vmem, ⟨10, _⟩ => ⟨S256x512, .bf16⟩
  | .local _ .vmem, ⟨11, _⟩ => ⟨S256x512, .bf16⟩
  | .local _ .vmem, ⟨12, _⟩ => ⟨S1x512, .f32⟩
  | .local _ .vmem, ⟨13, _⟩ => ⟨S1x512, .f32⟩
  | .local _ .vmem, ⟨14, _⟩ => ⟨S512x4096, .f32⟩
  | .local _ .vmem, ⟨15, _⟩ => ⟨S512x4096, .f32⟩
  | .local _ .vmem, ⟨16, _⟩ => ⟨S8x512x512, .f32⟩
  | .local _ .vmem, ⟨17, _⟩ => ⟨S512x1, .f32⟩
  | .local _ .vmem, ⟨18, _⟩ => ⟨S512x1, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 8], ![false, false]⟩

def k0_off1 (i : grid0.Coords) : Fin 3 → Nat :=
  let arg1 : BitVec 32 := BitVec.ofNat 32 (i 1).val
  let v26 : Index := Scalar.indexCast arg1
  let c0_16 : Index := 0#32
  let c0_17 : Index := 0#32
  ![v26.toNat, 0, 0]
def k0_cond3 (i : grid0.Coords) : BitVec 1 :=
  let arg1 : BitVec 32 := BitVec.ofNat 32 (i 1).val
  let c7_i32 : BitVec 32 := 7#32
  let v45 : BitVec 1 := Scalar.cmpi .eq arg1 c7_i32
  let v46 : BitVec 32 := Scalar.extui v45
  let c0_i32_24 : BitVec 32 := 0#32
  let v47 : BitVec 1 := Scalar.cmpi .ne v46 c0_i32_24
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference4Ideal.lean ====
abbrev S8192x4096 : Shape := ⟨2, ![8192, 4096]⟩
abbrev S8192x256 : Shape := ⟨2, ![8192, 256]⟩
abbrev S4096x4096 : Shape := ⟨2, ![4096, 4096]⟩
abbrev S256x4096 : Shape := ⟨2, ![256, 4096]⟩
abbrev S4096 : Shape := ⟨1, ![4096]⟩
abbrev S1x4096 : Shape := ⟨2, ![1, 4096]⟩
abbrev S_ : Shape := ⟨0, ![]⟩
abbrev S8192 : Shape := ⟨1, ![8192]⟩
abbrev S8192x1 : Shape := ⟨2, ![8192, 1]⟩

abbrev nBuf : Space → Nat
  | .hbm => 55
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x256, .f32⟩
  | .hbm, ⟨2, _⟩ => ⟨S4096x4096, .f32⟩
  | .hbm, ⟨3, _⟩ => ⟨S256x4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S8192x4096, .f32⟩
  | .hbm, ⟨8, _⟩ => ⟨S8192x4096, .f32⟩
  | .hbm, ⟨9, _⟩ => ⟨S1x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x4096, .f32⟩
  | .hbm, ⟨33, _⟩ => ⟨S8192x4096, .f32⟩
  | .hbm, ⟨34, _⟩ => ⟨S8192x4096, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x4096, .f32⟩
  | .hbm, ⟨42, _⟩ => ⟨S8192x4096, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x4096, .f32⟩
  | .hbm, ⟨48, _⟩ => ⟨S8192x4096, .f32⟩
  | .hbm, ⟨49, _⟩ => ⟨S1x4096, .f32⟩
  | .hbm, ⟨50, _⟩ => ⟨S8192x4096, .f32⟩
  | .hbm, ⟨51, _⟩ => ⟨S8192x4096, .f32⟩
  | .hbm, ⟨52, _⟩ => ⟨S1x4096, .f32⟩
  | .hbm, ⟨53, _⟩ => ⟨S8192x4096, .f32⟩
  | .hbm, ⟨54, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Proof.Send.lean ====
/-
  One slot's send of the dispatch: the position read from the block of positions, and the token's row sent to the row of the
  result that the position names, one transfer of the batch the grid point's 2048 sends make. What the batch owes for a send
  is the result's row at the contents `g` the point is to leave, and the share of the token's row the send borrowed.
-/
module

public import proofs.«01_k».proof.Proof.Gen.KernelIdeal
public import proofs.«01_k».proof.Proof.Gen.KernelIdeal.Skeleton
public import Idealize.ShloMosaic.Lib.Batch
public import Idealize.ShloMosaic.Lib.Tactic
public import Idealize.ShloMosaic.Lib.Pipeline.Kit

@[expose] public section

set_option maxRecDepth 16384

noncomputable section

namespace Cert.Proof.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the staging cells' rounds beside the counters the transfers' tokens come from. -/
abbrev UU (nD : Nat) (τ : Topo) : Type := UR sig nD τ × Counters

local notation "𝕄" => MT nD τ sig Unit (Elt F) ℕ (UU nD τ) ℕ

/-- The counters, the algebra's second half. -/
abbrev EC : UEmb Counters (MT nD τ sig Unit (Elt F) ℕ (UU nD τ) ℕ) := countersEmb (U := UU nD τ)

/-- The dispatched rows' buffer, whole. -/
abbrev XM : Memref sig .tc .hbm S81920x2048 .i32 := Memref.whole main_v3_0
/-- Where it lies on core `c`. -/
abbrev XL (c : Dev nD) : Loc nD τ sig := XM.view.loc (c : Thread nD τ)

/-- The elements of row `r` of the dispatched rows. -/
def rowsAt (r : Nat) : Finset S81920x2048.Idx := Finset.univ.filter fun x => (x 0).val = r

theorem mem_rowsAt {r : Nat} {x : S81920x2048.Idx} : x ∈ rowsAt r ↔ (x 0).val = r := by
  simp [rowsAt]

theorem rowsAt_disjoint {r r' : Nat} (h : r ≠ r') : Disjoint (rowsAt r) (rowsAt r') :=
  Finset.disjoint_left.mpr fun _ hx hx' => h ((mem_rowsAt.1 hx).symm.trans (mem_rowsAt.1 hx'))

/-- A row of the dispatched rows as the kernel names it: the slice at offsets `o`. -/
abbrev dstRow (o : Fin 2 → Nat) (h : ∀ a, o a + S1x2048.size a ≤ S81920x2048.size a) : Memref sig .tc .hbm S1x2048 .i32 :=
  XM.slice (Rect.unit (s := S81920x2048) o S1x2048.size h) (fun _ => rfl)

/-- A token's row in the staged block `M`. -/
abbrev srcRow (M : Memref sig .tc .vmem S256x2048 .i32) (o : Fin 2 → Nat) (h : ∀ a, o a + S1x2048.size a ≤ S256x2048.size a) :
    Memref sig .tc .vmem S1x2048 .i32 :=
  M.slice (Rect.unit (s := S256x2048) o S1x2048.size h) (fun _ => rfl)

/-- Column `j` of row `i` of a staged block. -/
abbrev at256 (i : Fin 256) (j : Fin 2048) : S256x2048.Idx := fun | 0 => i | 1 => j
abbrev at1 (j : Fin 2048) : S1x2048.Idx := fun | 0 => (0 : Fin 1) | 1 => j

theorem src_inb (i : Fin 256) : ∀ a, (![i.val, 0] : Fin 2 → Nat) a + S1x2048.size a ≤ S256x2048.size a := by
  intro a; fin_cases a
  · show i.val + 1 ≤ 256; omega
  · show 0 + 2048 ≤ 2048; omega

theorem dst_emb (r : Nat) (h) (x : S81920x2048.Idx) (hx : (x 0).val = r) : (dstRow ![r, 0] h).view.emb (at1 (x 1)) = x := by
  funext a
  apply Fin.ext
  fin_cases a
  · show r + 1 * 0 = (x 0).val; omega
  · show 0 + 1 * (x 1).val = (x 1).val; omega

theorem dst_set (r : Nat) (h) : (dstRow ![r, 0] h).view.set = rowsAt r := by
  ext x
  rw [mem_rowsAt]
  constructor
  · intro hx
    obtain ⟨y, -, rfl⟩ := Finset.mem_map.mp hx
    show r + 1 * (y 0).val = r
    have : (y 0).val < 1 := (y 0).isLt
    omega
  · intro hx
    rw [← dst_emb r h x hx]
    exact View.emb_mem_set _ _

/-- What a send leaves on its row: the token's row. -/
theorem sent_eq (c : Dev nD) (M : Memref sig .tc .vmem S256x2048 .i32) (hp : Buf (Elt F) (M.view.loc (c : Thread nD τ)))
    (f : Buf (Elt F) (XL c)) (r : Nat) (h) (i : Fin 256) (h') (x : S81920x2048.Idx) (hx : (x 0).val = r) :
    (dstRow ![r, 0] h).view.write (Elt F) f ((ReadAs.same (Val := Elt F)).apply ((srcRow M ![i.val, 0] h').view.read (Elt F) hp)) Finset.univ x
      = M.view.read (Elt F) hp (at256 i (x 1)) := by
  conv_lhs => rw [← dst_emb r h x hx]
  rw [View.write_emb_of_mem _ _ (Finset.mem_univ _)]
  show M.view.read (Elt F) hp _ = _
  congr 1
  funext a
  apply Fin.ext
  fin_cases a
  · show i.val + 1 * 0 = i.val; omega
  · show 0 + 1 * (x 1).val = (x 1).val; omega

/-- The units one row's transfer credits its cell with. -/
abbrev N0 : ℕ := (dstRow ![0, 0] (by decide)).view.dmaCredit

/-! ## A grid point's sends as one batch -/

section Batch

variable (c : Dev nD) (M : Memref sig .tc .vmem S256x2048 .i32) (hp : Buf (Elt F) (M.view.loc (c : Thread nD τ)))
variable (pos : Fin 2048 → Nat) (f g : Buf (Elt F) (XL c))

/-- The token whose row slot `s` sends. -/
abbrev tok (s : Fin 2048) : Fin 256 := ⟨s.val / 8, by omega⟩

/-- The share of its token's row that slot `s` borrows. -/
abbrev lent (s : Fin 2048) : sProp 𝕄 :=
  M.view.loc (c : Thread nD τ) ↦[(srcRow M ![(tok s).val, 0] (src_inb _)).view.set]{Transfers.dealOf fullShare Finset.univ s} hp

/-- What slot `s` brings back: its row of the result, at `g`, and the borrowed share. -/
def deliv (s : Fin 2048) : sProp 𝕄 := iprop((XL c ↦[rowsAt (pos s)]{fullShare} g) ∗ lent c M hp s)
/-- What slot `s` takes: its row of the result as it stands, and the share. -/
def taken (s : Fin 2048) : sProp 𝕄 := iprop((XL c ↦[rowsAt (pos s)]{fullShare} f) ∗ lent c M hp s)

instance deliv_storable (s : Fin 2048) : Storable (upEmb : UEmb _ 𝕄) (deliv c M hp pos g s) := by
  unfold deliv; infer_instance

/-- The batch with `k` slots sent and `u` units drained, on the kernel's first scratch cell. -/
abbrev flight (k u : ℕ) : sProp 𝕄 := Transfers.Batch EC (c : Thread nD τ) (.dma 11) () N0 (deliv c M hp pos g) k u

variable (hg : ∀ s (x : S81920x2048.Idx), (x 0).val = pos s → g x = M.view.read (Elt F) hp (at256 (tok s) (x 1)))

include hg in
/-- ONE SEND: slot `j`'s transfer joins the batch. -/
theorem send {α : Type} {Q : α → sProp 𝕄} {o2 o3 : Fin 2 → Nat} {h2 h3} (j : ℕ) (hj : j < 2048)
    (e2 : o2 = ![pos ⟨j, hj⟩, 0]) (e3 : o3 = ![j / 8, 0])
    {hsrc hdst hsem} {kk : PUnit → Prog (TpuEff nD τ sig (Elt F) Λ₀ .tc) α} :
    iprop(flight c M hp pos g j 0 ∗ bigSep (Transfers.pending j) (taken c M hp pos f))
      ⊢ iprop((iprop(flight c M hp pos g (j + 1) 0 ∗ bigSep (Transfers.pending (j + 1)) (taken c M hp pos f))
            -∗ wp frame (wpE (defs₀ (F := F)) Variants.none c none) Set.univ (kk ⟨⟩) Q)
          -∗ wp frame (wpE (defs₀ (F := F)) Variants.none c none) Set.univ
              (.op (.enqueueDma (srcRow M o3 h3) (.here (dstRow o2 h2)) (.dma 11) hsrc hdst hsem) kk) Q) := by
  subst e2; subst e3
  rw [Transfers.bigSep_pending_step (taken c M hp pos f) j hj]
  iintro ⟨HB, ⟨HT, HP⟩⟩ Hk
  unfold taken
  icases HT with ⟨Hd, Hs⟩
  iapply (Transfers.wp_dmaBatch EC Variants.none (c : Thread nD τ) none (src := srcRow M ![j / 8, 0] h3) (dst := dstRow ![pos ⟨j, hj⟩, 0] h2) () N0 rfl (Sd := rowsAt (pos ⟨j, hj⟩))
    (fd := f) (fs := hp) (dst_set _ _).subset (D := deliv c M hp pos g) (j := j) (u := 0) hj (Nat.zero_le _) (by
      unfold deliv
      refine sep_mono (Entails.of_eq (pointsTo_congr fun x hx => ?_)) .rfl
      have hx' := mem_rowsAt.1 hx
      exact (sent_eq c M hp f _ h2 (tok ⟨j, hj⟩) h3 x hx').trans (hg ⟨j, hj⟩ x hx').symm)) $$ [Hs Hd HB]
  · isplitl [Hs]; · iexact Hs
    isplitl [Hd]; · iexact Hd
    iexact HB
  iintro HB
  iapply Hk
  isplitl [HB]; · iexact HB
  iexact HP

end Batch

end Cert.Proof.Dispatch

end
-- ==== Proof.Trip.lean ====
/-
  The sending loop: a trip is eight slots, each one position read, one row sent; the loop's 256 trips send the grid point's
  2048 slots.
-/
module

public import proofs.«01_k».proof.Proof.Send

@[expose] public section

set_option maxRecDepth 16384

noncomputable section

namespace Cert.Proof.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Slot

variable (c : Dev nD) (K : Memref sig .tc .smem S2048 .i32) (ps : Buf (Elt F) (K.view.loc (c : Thread nD τ)))
variable (M : Memref sig .tc .vmem S256x2048 .i32) (hp : Buf (Elt F) (M.view.loc (c : Thread nD τ)))
variable (f g : Buf (Elt F) (XL c))

/-- The position of slot `s` of the block. -/
abbrev posOf (s : Fin 2048) : Nat := BitVec.toNat (K.view.read (Elt F) ps (fun | 0 => s))

/-- The block of positions held whole. -/
abbrev posPt : sProp 𝕄 := K.view.loc (c : Thread nD τ) ↦{fullShare} ps

/-- A word names a row of the result. -/
abbrev InRange (v : BitVec 32) : Prop := ∀ a, (![v.toNat, 0] : Fin 2 → Nat) a + S1x2048.size a ≤ S81920x2048.size a

theorem inRange_of_lt {v : BitVec 32} (h : v.toNat < 81920) : InRange v := by
  intro a; fin_cases a
  · show v.toNat + 1 ≤ 81920; omega
  · show 0 + 2048 ≤ 2048; omega

/-- One slot of a trip, then `kk`. -/
def slot {α : Type} (o1 : Fin 1 → Nat) (h1 : ∀ a, o1 a + S1.size a ≤ S2048.size a) (o3 : Fin 2 → Nat)
    (h3 : ∀ a, o3 a + S1x2048.size a ≤ S256x2048.size a) (d : ∀ v : BitVec 32, Decidable (InRange v))
    (kk : Prog (TpuEff nD τ sig (Elt F) Λ₀ .tc) α) : Prog (TpuEff nD τ sig (Elt F) Λ₀ .tc) α :=
  smemLoadElt (p := .tc) K (Rect.unit (s := S2048) o1 S1.size h1) (View.loads_smem_one rfl numel1_S1)
    (Shape.Idx.first (numel1_S1.symm ▸ Nat.one_pos)) fun v =>
    .op (.assume (InRange v) (d v)) fun hw =>
      .op (.enqueueDma (srcRow M o3 h3) (.here (dstRow ![(v : BitVec 32).toNat, 0] hw.down)) (.dma 11)
        (View.wordExact_bits rfl) (View.wordExact_bits rfl) ⟨Or.inl rfl, trivial⟩) fun _ => kk

variable (hpos : ∀ s, posOf c K ps s < 81920)
variable (hg : ∀ s (x : S81920x2048.Idx), (x 0).val = posOf c K ps s → g x = M.view.read (Elt F) hp (at256 (tok s) (x 1)))

include hpos hg in
/-- A slot's run: one more transfer of the batch issued. -/
theorem slot_run {α : Type} {Q : α → sProp 𝕄} {o1 h1 o3 h3 d} (j : ℕ) (hj : j < 2048) (e1 : o1 = ![j]) (e3 : o3 = ![j / 8, 0])
    {kk : Prog (TpuEff nD τ sig (Elt F) Λ₀ .tc) α} :
    iprop(posPt c K ps ∗ flight c M hp (posOf c K ps) g j 0 ∗ bigSep (Transfers.pending j) (taken c M hp (posOf c K ps) f))
      ⊢ iprop((iprop(posPt c K ps ∗ flight c M hp (posOf c K ps) g (j + 1) 0
              ∗ bigSep (Transfers.pending (j + 1)) (taken c M hp (posOf c K ps) f))
            -∗ wp frame (wpE (defs₀ (F := F)) Variants.none c none) Set.univ kk Q)
          -∗ wp frame (wpE (defs₀ (F := F)) Variants.none c none) Set.univ (slot K M o1 h1 o3 h3 d kk) Q) := by
  subst e1
  iintro ⟨HP, HB, HT⟩ Hk
  unfold slot
  iapply (wp_smemLoadElt (m := K) (r := Rect.unit (s := S2048) ![j] S1.size h1) (S := Finset.univ) (f := ps) Variants.none (c : Thread nD τ) none Set.univ (Finset.subset_univ _)) $$ HP
  iintro HP
  have hv : (View.read (Elt F) (K.access (Rect.unit (s := S2048) ![j] S1.size h1)) ps (Shape.Idx.first (numel1_S1.symm ▸ Nat.one_pos)))
      = K.view.read (Elt F) ps (fun | 0 => ⟨j, hj⟩) := by
    show K.view.read (Elt F) ps _ = _
    congr 1
    funext a
    apply Fin.ext
    fin_cases a
    show j + 1 * 0 = j
    omega
  rw [hv]
  iapply (wp_assume Variants.none (c : Thread nD τ) none Set.univ (inRange_of_lt (hpos ⟨j, hj⟩)))
  iapply (send c M hp (posOf c K ps) f g hg j hj rfl e3) $$ [HB HT]
  · isplitl [HB] <;> iassumption
  iintro ⟨HB, HT⟩
  iapply Hk
  isplitl [HP]; · iexact HP
  isplitl [HB] <;> iassumption

/-! ## A trip: eight slots -/

theorem trips1 : k0_t1_loop.trips = 256 := by decide +kernel

section Offsets
variable (t : Fin k0_t1_loop.trips)
theorem off1_eq : k0_off1 t = ![8 * t.val + 0] := by
  have := t.isLt; simp only [trips1] at this
  simp only [k0_off1, Scalar.muli, Scalar.addi, Scalar.indexCast, Scf.iv, IntOp.muli, IntOp.addi]
  congr 1
  simp only [BitVec.toNat_add, BitVec.toNat_mul, BitVec.toNat_ofNat]
  omega
theorem off3_eq : k0_off3 t = ![(8 * t.val + 0) / 8, 0] := by
  have := t.isLt; simp only [trips1] at this
  simp only [k0_off3, Scf.iv]
  congr 1
  simp only [BitVec.toNat_add, BitVec.toNat_mul, BitVec.toNat_ofNat]
  omega
theorem off4_eq : k0_off4 t = ![8 * t.val + 1] := by
  have := t.isLt; simp only [trips1] at this
  simp only [k0_off4, Scalar.muli, Scalar.addi, Scalar.indexCast, Scf.iv, IntOp.muli, IntOp.addi]
  congr 1
  simp only [BitVec.toNat_add, BitVec.toNat_mul, BitVec.toNat_ofNat]
  omega
theorem off6_eq : k0_off6 t = ![(8 * t.val + 1) / 8, 0] := by
  have := t.isLt; simp only [trips1] at this
  simp only [k0_off6, Scf.iv]
  congr 1
  simp only [BitVec.toNat_add, BitVec.toNat_mul, BitVec.toNat_ofNat]
  omega
theorem off7_eq : k0_off7 t = ![8 * t.val + 2] := by
  have := t.isLt; simp only [trips1] at this
  simp only [k0_off7, Scalar.muli, Scalar.addi, Scalar.indexCast, Scf.iv, IntOp.muli, IntOp.addi]
  congr 1
  simp only [BitVec.toNat_add, BitVec.toNat_mul, BitVec.toNat_ofNat]
  omega
theorem off9_eq : k0_off9 t = ![(8 * t.val + 2) / 8, 0] := by
  have := t.isLt; simp only [trips1] at this
  simp only [k0_off9, Scf.iv]
  congr 1
  simp only [BitVec.toNat_add, BitVec.toNat_mul, BitVec.toNat_ofNat]
  omega
theorem off10_eq : k0_off10 t = ![8 * t.val + 3] := by
  have := t.isLt; simp only [trips1] at this
  simp only [k0_off10, Scalar.muli, Scalar.addi, Scalar.indexCast, Scf.iv, IntOp.muli, IntOp.addi]
  congr 1
  simp only [BitVec.toNat_add, BitVec.toNat_mul, BitVec.toNat_ofNat]
  omega
theorem off12_eq : k0_off12 t = ![(8 * t.val + 3) / 8, 0] := by
  have := t.isLt; simp only [trips1] at this
  simp only [k0_off12, Scf.iv]
  congr 1
  simp only [BitVec.toNat_add, BitVec.toNat_mul, BitVec.toNat_ofNat]
  omega
theorem off13_eq : k0_off13 t = ![8 * t.val + 4] := by
  have := t.isLt; simp only [trips1] at this
  simp only [k0_off13, Scalar.muli, Scalar.addi, Scalar.indexCast, Scf.iv, IntOp.muli, IntOp.addi]
  congr 1
  simp only [BitVec.toNat_add, BitVec.toNat_mul, BitVec.toNat_ofNat]
  omega
theorem off15_eq : k0_off15 t = ![(8 * t.val + 4) / 8, 0] := by
  have := t.isLt; simp only [trips1] at this
  simp only [k0_off15, Scf.iv]
  congr 1
  simp only [BitVec.toNat_add, BitVec.toNat_mul, BitVec.toNat_ofNat]
  omega
theorem off16_eq : k0_off16 t = ![8 * t.val + 5] := by
  have := t.isLt; simp only [trips1] at this
  simp only [k0_off16, Scalar.muli, Scalar.addi, Scalar.indexCast, Scf.iv, IntOp.muli, IntOp.addi]
  congr 1
  simp only [BitVec.toNat_add, BitVec.toNat_mul, BitVec.toNat_ofNat]
  omega
theorem off18_eq : k0_off18 t = ![(8 * t.val + 5) / 8, 0] := by
  have := t.isLt; simp only [trips1] at this
  simp only [k0_off18, Scf.iv]
  congr 1
  simp only [BitVec.toNat_add, BitVec.toNat_mul, BitVec.toNat_ofNat]
  omega
theorem off19_eq : k0_off19 t = ![8 * t.val + 6] := by
  have := t.isLt; simp only [trips1] at this
  simp only [k0_off19, Scalar.muli, Scalar.addi, Scalar.indexCast, Scf.iv, IntOp.muli, IntOp.addi]
  congr 1
  simp only [BitVec.toNat_add, BitVec.toNat_mul, BitVec.toNat_ofNat]
  omega
theorem off21_eq : k0_off21 t = ![(8 * t.val + 6) / 8, 0] := by
  have := t.isLt; simp only [trips1] at this
  simp only [k0_off21, Scf.iv]
  congr 1
  simp only [BitVec.toNat_add, BitVec.toNat_mul, BitVec.toNat_ofNat]
  omega
theorem off22_eq : k0_off22 t = ![8 * t.val + 7] := by
  have := t.isLt; simp only [trips1] at this
  simp only [k0_off22, Scalar.muli, Scalar.addi, Scalar.indexCast, Scf.iv, IntOp.muli, IntOp.addi]
  congr 1
  simp only [BitVec.toNat_add, BitVec.toNat_mul, BitVec.toNat_ofNat]
  omega
theorem off24_eq : k0_off24 t = ![(8 * t.val + 7) / 8, 0] := by
  have := t.isLt; simp only [trips1] at this
  simp only [k0_off24, Scf.iv]
  congr 1
  simp only [BitVec.toNat_add, BitVec.toNat_mul, BitVec.toNat_ofNat]
  omega

end Offsets

/-- A trip of the sending loop. -/
def trip (t : Fin k0_t1_loop.trips) : Prog (TpuEff nD τ sig (Elt F) Λ₀ .tc) Unit :=
  slot K M (k0_off1 t) (k0_off1_inb t) (k0_off3 t) (k0_off3_inb t) (fun v => k0_chk1.dec v) <|
  slot K M (k0_off4 t) (k0_off4_inb t) (k0_off6 t) (k0_off6_inb t) (fun v => k0_chk2.dec v) <|
  slot K M (k0_off7 t) (k0_off7_inb t) (k0_off9 t) (k0_off9_inb t) (fun v => k0_chk3.dec v) <|
  slot K M (k0_off10 t) (k0_off10_inb t) (k0_off12 t) (k0_off12_inb t) (fun v => k0_chk4.dec v) <|
  slot K M (k0_off13 t) (k0_off13_inb t) (k0_off15 t) (k0_off15_inb t) (fun v => k0_chk5.dec v) <|
  slot K M (k0_off16 t) (k0_off16_inb t) (k0_off18 t) (k0_off18_inb t) (fun v => k0_chk6.dec v) <|
  slot K M (k0_off19 t) (k0_off19_inb t) (k0_off21 t) (k0_off21_inb t) (fun v => k0_chk7.dec v) <|
  slot K M (k0_off22 t) (k0_off22_inb t) (k0_off24 t) (k0_off24_inb t) (fun v => k0_chk8.dec v) <|
  .ret ⟨⟩

/-- The loop's state before trip `k`: the positions, the batch with `8 k` slots sent, and what the others are to take. -/
abbrev sending (k : Nat) : sProp 𝕄 :=
  iprop(posPt c K ps ∗ flight c M hp (posOf c K ps) g (8 * k) 0 ∗ bigSep (Transfers.pending (8 * k)) (taken c M hp (posOf c K ps) f))

include hpos hg in
theorem trip_run (t : Fin k0_t1_loop.trips) :
    sending c K ps M hp f g t.val
      ⊢ wp frame (wpE (defs₀ (F := F)) Variants.none c none) Set.univ (trip K M t) (fun _ => sending c K ps M hp f g (t.val + 1)) := by
  have ht := t.isLt; simp only [trips1] at ht
  iintro H
  unfold trip
  iapply (slot_run c K ps M hp f g hpos hg (8 * t.val + 0) (by omega) (off1_eq t) (off3_eq t)) $$ H
  iintro H
  iapply (slot_run c K ps M hp f g hpos hg (8 * t.val + 1) (by omega) (off4_eq t) (off6_eq t)) $$ H
  iintro H
  iapply (slot_run c K ps M hp f g hpos hg (8 * t.val + 2) (by omega) (off7_eq t) (off9_eq t)) $$ H
  iintro H
  iapply (slot_run c K ps M hp f g hpos hg (8 * t.val + 3) (by omega) (off10_eq t) (off12_eq t)) $$ H
  iintro H
  iapply (slot_run c K ps M hp f g hpos hg (8 * t.val + 4) (by omega) (off13_eq t) (off15_eq t)) $$ H
  iintro H
  iapply (slot_run c K ps M hp f g hpos hg (8 * t.val + 5) (by omega) (off16_eq t) (off18_eq t)) $$ H
  iintro H
  iapply (slot_run c K ps M hp f g hpos hg (8 * t.val + 6) (by omega) (off19_eq t) (off21_eq t)) $$ H
  iintro H
  iapply (slot_run c K ps M hp f g hpos hg (8 * t.val + 7) (by omega) (off22_eq t) (off24_eq t)) $$ H
  iintro H
  sl_step
  iexact H

end Slot

set_option maxRecDepth 65536 in
/-- The loop's body as printed is the trip. -/
theorem body1_eq (i : grid0.Coords) (K : Memref sig .tc .smem S2048 .i32) (hK : K.IsWhole) (M : Memref sig .tc .vmem S256x2048 .i32)
    (hM : M.IsWhole) (arg5 h5 arg6 h6 arg7 h7 arg8 h8 arg10 h10) (t : Fin k0_t1_loop.trips) :
    k0_t1_body (F := F) i (Memref.whole main_arg6) (Memref.isWhole_whole _) (Memref.whole main_arg7) (Memref.isWhole_whole _)
      K hK M hM arg5 h5 arg6 h6 arg7 h7 arg8 h8 (Memref.whole main_v3_0) (Memref.isWhole_whole _) arg10 h10
      (Memref.whole cc0_scratch0) (Memref.isWhole_whole _) cc0_scratch1 t () = trip K M t := by
  unfold k0_t1_body
  rw [k0_part1_eq_skeleton, k0_part2_eq_skeleton]
  rfl

end Cert.Proof.Dispatch

end
-- ==== Proof.Drain.lean ====
/-
  The draining loop: a trip is eight waits on the cell the sends credit, each for one row's units; the loop's 256 trips
  drain the grid point's 2048 sends, whose rows and borrowed shares then come back.
-/
module

public import proofs.«01_k».proof.Proof.Trip

@[expose] public section

set_option maxRecDepth 16384

noncomputable section

namespace Cert.Proof.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- The core owing nothing, whatever its waits have recorded. -/
abbrev owesNone (c : Dev nD) : sProp 𝕄 := iprop(∃ W, owes (c : Thread nD τ) 0 W)

theorem trips7 : k0_t7_loop.trips = 256 := by decide +kernel

section Drain

variable (c : Dev nD) (M : Memref sig .tc .vmem S256x2048 .i32) (hp : Buf (Elt F) (M.view.loc (c : Thread nD τ)))
variable (pos : Fin 2048 → Nat) (g : Buf (Elt F) (XL c))

/-- One wait of a trip, then `kk`. -/
def waitRow {α : Type} (kk : Prog (TpuEff nD τ sig (Elt F) Λ₀ .tc) α) : Prog (TpuEff nD τ sig (Elt F) Λ₀ .tc) α :=
  .op (.waitDma2 (11 : DmaSem sig) (srcRow M ![0, 0] inb_S256x2048_S1x2048_0_0) (dstRow ![0, 0] inb_S81920x2048_S1x2048_0_0)
    (View.wordExact_bits rfl) (View.wordExact_bits rfl)) fun _ => kk

/-- The batch all sent, `u` rows drained. -/
abbrev drained (u : ℕ) : sProp 𝕄 := iprop(flight c M hp pos g 2048 (u * N0) ∗ owesNone c)

/-- One wait: one more row drained. -/
theorem waitRow_run {α : Type} {Q : α → sProp 𝕄} (u : ℕ) (hu : u < 2048) {kk : Prog (TpuEff nD τ sig (Elt F) Λ₀ .tc) α} :
    drained c M hp pos g u
      ⊢ iprop((drained c M hp pos g (u + 1) -∗ wp frame (wpE (defs₀ (F := F)) Variants.none c none) Set.univ kk Q)
          -∗ wp frame (wpE (defs₀ (F := F)) Variants.none c none) Set.univ (waitRow M kk) Q) := by
  iintro ⟨HB, ⟨%W, HO⟩⟩ Hk
  unfold waitRow
  iapply (Transfers.wp_waitBatchMul EC Variants.none (c : Thread nD τ) none () (N := N0) 1 (Nat.one_mul _).symm (D := deliv c M hp pos g)
    (j := 2048) (u := u * N0) (by rw [← Nat.add_mul, Nat.mul_comm]; exact Nat.mul_le_mul_left _ hu)) $$ [HB HO]
  · isplitl [HB] <;> iassumption
  iintro ⟨HB, HO⟩
  iapply Hk
  isplitl [HB]
  · rw [← Nat.add_mul]; iexact HB
  · iexists _; iexact HO

/-- A trip of the draining loop. -/
def drain : Prog (TpuEff nD τ sig (Elt F) Λ₀ .tc) Unit :=
  waitRow M <| waitRow M <| waitRow M <| waitRow M <| waitRow M <| waitRow M <| waitRow M <| waitRow M <| .ret ⟨⟩

theorem drain_run (t : Nat) (ht : t < 256) :
    drained c M hp pos g (8 * t)
      ⊢ wp frame (wpE (defs₀ (F := F)) Variants.none c none) Set.univ (drain M) (fun _ => drained c M hp pos g (8 * (t + 1))) := by
  iintro H
  unfold drain
  iapply (waitRow_run c M hp pos g (8 * t) (by omega)) $$ H
  iintro H
  iapply (waitRow_run c M hp pos g (8 * t + 1) (by omega)) $$ H
  iintro H
  iapply (waitRow_run c M hp pos g (8 * t + 1 + 1) (by omega)) $$ H
  iintro H
  iapply (waitRow_run c M hp pos g (8 * t + 1 + 1 + 1) (by omega)) $$ H
  iintro H
  iapply (waitRow_run c M hp pos g (8 * t + 1 + 1 + 1 + 1) (by omega)) $$ H
  iintro H
  iapply (waitRow_run c M hp pos g (8 * t + 1 + 1 + 1 + 1 + 1) (by omega)) $$ H
  iintro H
  iapply (waitRow_run c M hp pos g (8 * t + 1 + 1 + 1 + 1 + 1 + 1) (by omega)) $$ H
  iintro H
  iapply (waitRow_run c M hp pos g (8 * t + 1 + 1 + 1 + 1 + 1 + 1 + 1) (by omega)) $$ H
  iintro H
  sl_step
  iexact H

end Drain

set_option maxRecDepth 65536 in
/-- The loop's body as printed is the trip. -/
theorem body7_eq (i : grid0.Coords) (K : Memref sig .tc .smem S2048 .i32) (hK : K.IsWhole) (M : Memref sig .tc .vmem S256x2048 .i32)
    (hM : M.IsWhole) (arg5 h5 arg6 h6 arg7 h7 arg8 h8 arg10 h10) (t : Fin k0_t7_loop.trips) :
    k0_t7_body (F := F) i (Memref.whole main_arg6) (Memref.isWhole_whole _) (Memref.whole main_arg7) (Memref.isWhole_whole _)
      K hK M hM arg5 h5 arg6 h6 arg7 h7 arg8 h8 (Memref.whole main_v3_0) (Memref.isWhole_whole _) arg10 h10
      (Memref.whole cc0_scratch0) (Memref.isWhole_whole _) cc0_scratch1 t () = drain M := by
  unfold k0_t7_body
  rw [k0_part3_eq_skeleton]
  rfl

end Cert.Proof.Dispatch

end
-- ==== Proof.Zero.lean ====
/-
  The zero fill of the dispatch's first grid point: for one expert, the rows from `lo` to `hi` are each sent a row of zeros,
  one batch of transfers on the kernel's second cell, and the batch is drained before the next expert's.
-/
module

public import proofs.«01_k».proof.Proof.Drain

@[expose] public section

set_option maxRecDepth 16384

noncomputable section

namespace Cert.Proof.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## The loops' bounds -/

section Bounds
variable {lo hi : BitVec 32} (hlo : lo.toNat ≤ 81920) (hhi : hi.toNat ≤ 81920)

theorem divsi_one (x : BitVec 32) : Scalar.divsi x 1#32 = x := by
  simp only [Scalar.divsi, IntOp.divsi]
  rw [if_neg (by simp [IntOp.SDivCorner])]
  simp

theorem span_eq (lo hi : BitVec 32) : Scalar.addi lo (Scalar.subi hi lo) = hi := by
  simp only [Scalar.addi, Scalar.subi, IntOp.addi, IntOp.subi]
  rw [BitVec.add_comm, BitVec.sub_add_cancel]

theorem ub_eq (lo hi : BitVec 32) : Scalar.addi lo (Scalar.muli (Scalar.divsi (Scalar.subi hi lo) 1#32) 1#32) = hi := by
  rw [divsi_one]
  have : ∀ x : BitVec 32, Scalar.muli x 1#32 = x := fun x => by simp [Scalar.muli, IntOp.muli]
  rw [this, span_eq]

theorem loop3_eq (lo hi : BitVec 32) : k0_t3_loop lo hi = ⟨lo, hi, 1#32⟩ := by
  show (⟨lo, _, 1#32⟩ : Scf.Loop 32) = _
  rw [ub_eq]
theorem loop5_eq (lo hi : BitVec 32) : k0_t5_loop lo hi = ⟨lo, hi, 1#32⟩ := loop3_eq lo hi
theorem loop4_eq (lo hi : BitVec 32) : k0_t4_loop lo hi = ⟨hi, hi, 1#32⟩ := by
  show (⟨Scalar.addi lo _, Scalar.addi lo (Scalar.subi hi lo), 1#32⟩ : Scf.Loop 32) = _
  rw [ub_eq, span_eq]
theorem loop6_eq (lo hi : BitVec 32) : k0_t6_loop lo hi = ⟨hi, hi, 1#32⟩ := loop4_eq lo hi

include hlo in
theorem toInt_eq : lo.toInt = lo.toNat := by rw [BitVec.toInt_eq_toNat_of_lt]; omega

include hlo hhi in
theorem unit_trips : (⟨lo, hi, 1#32⟩ : Scf.Loop 32).trips = hi.toNat - lo.toNat := by
  show ((hi.toInt - lo.toInt + (1#32 : BitVec 32).toInt - 1) / (1#32 : BitVec 32).toInt).toNat = _
  rw [toInt_eq hlo, toInt_eq hhi, show (1#32 : BitVec 32).toInt = 1 from by decide]
  omega

include hlo hhi in
theorem unit_ok : (⟨lo, hi, 1#32⟩ : Scf.Loop 32).OK := by
  refine ⟨(by decide : 0 < (1#32 : BitVec 32).toInt), ?_⟩
  have h := unit_trips hlo hhi
  show lo.toInt + ((⟨lo, hi, 1#32⟩ : Scf.Loop 32).trips : Int) * (1#32 : BitVec 32).toInt < _
  rw [h, toInt_eq hlo, show (1#32 : BitVec 32).toInt = 1 from by decide, show (2 : Int) ^ (32 - 1) = 2147483648 from by decide]
  omega

include hlo hhi in
theorem trips3 : (k0_t3_loop lo hi).trips = hi.toNat - lo.toNat := by rw [loop3_eq]; exact unit_trips hlo hhi
include hlo hhi in
theorem trips5 : (k0_t5_loop lo hi).trips = hi.toNat - lo.toNat := trips3 hlo hhi
include hhi in
theorem trips4 : (k0_t4_loop lo hi).trips = 0 := by rw [loop4_eq, unit_trips hhi hhi]; omega
include hhi in
theorem trips6 : (k0_t6_loop lo hi).trips = 0 := by rw [loop6_eq, unit_trips hhi hhi]; omega

include hlo hhi in
theorem off26_eq (t : Fin (k0_t3_loop lo hi).trips) : k0_off26 lo hi t = ![lo.toNat + t.val, 0] := by
  have ht := Nat.lt_of_lt_of_eq t.isLt (trips3 hlo hhi)
  simp only [k0_off26, Scf.iv]
  congr 1
  simp only [BitVec.toNat_add, BitVec.toNat_mul, BitVec.toNat_ofNat]
  omega

include hlo hhi in
theorem chk9_holds (i : grid0.Coords) : k0_chk9 i lo hi := by
  refine ⟨fun _ => by rw [loop3_eq]; exact unit_ok hlo hhi, fun t _ a => ?_, fun _ => by rw [loop4_eq]; exact unit_ok hhi hhi, fun t => ?_,
    fun _ => by rw [loop5_eq]; exact unit_ok hlo hhi, fun _ => by rw [loop6_eq]; exact unit_ok hhi hhi⟩
  · have ht := Nat.lt_of_lt_of_eq t.isLt (trips3 hlo hhi)
    rw [off26_eq hlo hhi]
    fin_cases a
    · show lo.toNat + t.val + 1 ≤ 81920; omega
    · show 0 + 2048 ≤ 2048; omega
  · exact absurd (Nat.lt_of_lt_of_eq t.isLt (trips4 hhi)) (Nat.not_lt_zero _)

end Bounds

/-- A family over `n + 1` indices is its first and the rest. -/
theorem bigSep_univ_succ' {n : ℕ} (Φ : Fin (n + 1) → sProp 𝕄) :
    bigSep Finset.univ Φ = iprop(Φ 0 ∗ bigSep Finset.univ fun r : Fin n => Φ r.succ) := by
  rw [Fin.univ_succ, Finset.cons_eq_insert, bigSep_insert (by simp), bigSep_map]; rfl

theorem N0_pos : 0 < N0 := View.dmaCredit_pos _ (by decide)

/-! ## One expert's rows as one batch -/

/-- The buffer of zeros, whole. -/
abbrev ZM : Memref sig .tc .vmem S8x2048 .i32 := Memref.whole cc0_scratch0
abbrev ZL (c : Dev nD) : Loc nD τ sig := ZM.view.loc (c : Thread nD τ)
/-- Its first row, what each transfer sends. -/
abbrev zRow : Memref sig .tc .vmem S1x2048 .i32 :=
  ZM.slice (Rect.unit (s := S8x2048) ![0, 0] S1x2048.size inb_S8x2048_S1x2048_0_0) (fun _ => rfl)

/-- The elements of rows `lo` up to `hi`. -/
def padRows (lo hi : Nat) : Finset S81920x2048.Idx := Finset.univ.filter fun x => lo ≤ (x 0).val ∧ (x 0).val < hi

theorem mem_padRows {lo hi : Nat} {x : S81920x2048.Idx} : x ∈ padRows lo hi ↔ lo ≤ (x 0).val ∧ (x 0).val < hi := by
  simp [padRows]

theorem padRows_eq (lo hi : Nat) : (Finset.univ : Finset (Fin (hi - lo))).biUnion (fun r => rowsAt (lo + r.val)) = padRows lo hi := by
  ext x
  simp only [Finset.mem_biUnion, Finset.mem_univ, true_and, mem_rowsAt, mem_padRows]
  constructor
  · rintro ⟨r, hr⟩; have := r.isLt; omega
  · intro h; exact ⟨⟨(x 0).val - lo, by omega⟩, by show (x 0).val = lo + ((x 0).val - lo); omega⟩

section Fill

variable (c : Dev nD) (z : Buf (Elt F) (ZL c)) (lo n : Nat) (f : Buf (Elt F) (XL c))

/-- The share of the row of zeros the `r`th transfer borrows. -/
abbrev zlent (r : Fin n) : sProp 𝕄 := ZL c ↦[zRow.view.set]{Transfers.dealOf fullShare (Finset.univ : Finset (Fin (n + 1))) r.succ} z
/-- The contents of the result's rows after the fill. -/
def zeros : Buf (Elt F) (XL c) := fun _ => (0#32 : BitVec 32)
def zdeliv (r : Fin n) : sProp 𝕄 := iprop((XL c ↦[rowsAt (lo + r.val)]{fullShare} zeros c) ∗ zlent c z n r)
def ztaken (r : Fin n) : sProp 𝕄 := iprop((XL c ↦[rowsAt (lo + r.val)]{fullShare} f) ∗ zlent c z n r)

instance zdeliv_storable (r : Fin n) : Storable (upEmb : UEmb _ 𝕄) (zdeliv c z lo n r) := by
  unfold zdeliv; infer_instance

abbrev zflight (k u : ℕ) : sProp 𝕄 := Transfers.Batch EC (c : Thread nD τ) (.dma 12) () N0 (zdeliv c z lo n) k u

variable (hz : ∀ x, z x = (0#32 : BitVec 32))

/-- One transfer of the fill. -/
def zsend (o : Fin 2 → Nat) (h : ∀ a, o a + S1x2048.size a ≤ S81920x2048.size a) : Prog (TpuEff nD τ sig (Elt F) Λ₀ .tc) Unit :=
  .op (.enqueueDma zRow (.here (dstRow o h)) (.dma 12) (View.wordExact_bits rfl) (View.wordExact_bits rfl) ⟨Or.inl rfl, trivial⟩) fun _ => .ret ⟨⟩

include hz in
theorem zsend_run {o : Fin 2 → Nat} {h} (j : ℕ) (hj : j < n) (e : o = ![lo + j, 0]) :
    iprop(zflight c z lo n j 0 ∗ bigSep (Transfers.pending j) (ztaken c z lo n f))
      ⊢ wp frame (wpE (defs₀ (F := F)) Variants.none c none) Set.univ (zsend o h)
          (fun _ => iprop(zflight c z lo n (j + 1) 0 ∗ bigSep (Transfers.pending (j + 1)) (ztaken c z lo n f))) := by
  subst e
  rw [Transfers.bigSep_pending_step (ztaken c z lo n f) j hj]
  iintro ⟨HB, ⟨HT, HP⟩⟩
  unfold ztaken
  icases HT with ⟨Hd, Hs⟩
  unfold zsend
  iapply (Transfers.wp_dmaBatch EC Variants.none (c : Thread nD τ) none (src := zRow) (dst := dstRow ![lo + j, 0] h) () N0 rfl (Sd := rowsAt (lo + j))
    (fd := f) (fs := z) (dst_set _ _).subset (D := zdeliv c z lo n) (j := j) (u := 0) hj (Nat.zero_le _) (by
      unfold zdeliv
      refine sep_mono (Entails.of_eq (pointsTo_congr fun x hx => ?_)) .rfl
      have hx' := mem_rowsAt.1 hx
      rw [← dst_emb (lo + j) h x hx', View.write_emb_of_mem _ _ (Finset.mem_univ _)]
      exact hz _)) $$ [Hs Hd HB]
  · isplitl [Hs]; · iexact Hs
    isplitl [Hd]; · iexact Hd
    iexact HB
  iintro HB
  sl_step
  isplitl [HB]; · iexact HB
  iexact HP

/-- One wait of the drain. -/
def zwait : Prog (TpuEff nD τ sig (Elt F) Λ₀ .tc) Unit :=
  .op (.waitDma2 (12 : DmaSem sig) zRow (dstRow ![0, 0] inb_S81920x2048_S1x2048_0_0) (View.wordExact_bits rfl) (View.wordExact_bits rfl)) fun _ => .ret ⟨⟩

theorem zwait_run (u : ℕ) (hu : u < n) :
    iprop(zflight c z lo n n (u * N0) ∗ owesNone c)
      ⊢ wp frame (wpE (defs₀ (F := F)) Variants.none c none) Set.univ zwait (fun _ => iprop(zflight c z lo n n ((u + 1) * N0) ∗ owesNone c)) := by
  iintro ⟨HB, ⟨%W, HO⟩⟩
  unfold zwait
  iapply (Transfers.wp_waitBatchMul EC Variants.none (c : Thread nD τ) none () (N := N0) 1 (Nat.one_mul _).symm (D := zdeliv c z lo n)
    (j := n) (u := u * N0) (by rw [← Nat.add_mul, Nat.mul_comm]; exact Nat.mul_le_mul_left _ hu)) $$ [HB HO]
  · isplitl [HB] <;> iassumption
  iintro ⟨HB, HO⟩
  sl_step
  isplitl [HB]
  · rw [← Nat.add_mul]; iexact HB
  · iexists _; iexact HO

end Fill

/-- The fill of one expert's rows: the transfers issued, then drained; the loops of no trips between. -/
def fill (lo hi : BitVec 32) (h3 : (k0_t3_loop lo hi).OK) (h26 : ∀ (t : Fin (k0_t3_loop lo hi).trips) a, k0_off26 lo hi t a + S1x2048.size a ≤ S81920x2048.size a)
    (h4 : (k0_t4_loop lo hi).OK) (b4 : Fin (k0_t4_loop lo hi).trips → Unit → Prog (TpuEff nD τ sig (Elt F) Λ₀ .tc) Unit) (h5 : (k0_t5_loop lo hi).OK)
    (h6 : (k0_t6_loop lo hi).OK) (b6 : Fin (k0_t6_loop lo hi).trips → Unit → Prog (TpuEff nD τ sig (Elt F) Λ₀ .tc) Unit) :
    Prog (TpuEff nD τ sig (Elt F) Λ₀ .tc) Unit :=
  Scf.Loop.for (k0_t3_loop lo hi) h3 ⟨⟩ (fun t _ => zsend (k0_off26 lo hi t) (h26 t)) >>= fun _ =>
  Scf.Loop.for (k0_t4_loop lo hi) h4 ⟨⟩ b4 >>= fun _ =>
  Scf.Loop.for (k0_t5_loop lo hi) h5 ⟨⟩ (fun _ _ => zwait) >>= fun _ =>
  Scf.Loop.for (k0_t6_loop lo hi) h6 ⟨⟩ b6 >>= fun _ => .ret ⟨⟩

/-- What rows hold once rows `lo` to `hi` are zero. -/
def zeroed (c : Dev nD) (lo hi : Nat) (f : Buf (Elt F) (XL c)) : Buf (Elt F) (XL c) :=
  (padRows lo hi).piecewise (zeros c) f

section FillRun

variable (c : Dev nD) (z : Buf (Elt F) (ZL c)) (hz : ∀ x, z x = (0#32 : BitVec 32))

include hz in
/-- An expert's fill: its rows, among those held, are zero; the rest is as it was. -/
theorem fill_run (S : Finset S81920x2048.Idx) (f : Buf (Elt F) (XL c)) (lo hi : BitVec 32) (hlo : lo.toNat ≤ 81920) (hhi : hi.toNat ≤ 81920)
    (hS : padRows lo.toNat hi.toNat ⊆ S) (h3 h26 h4 b4 h5 h6 b6) :
    iprop((XL c ↦[S]{fullShare} f) ∗ (ZL c ↦{fullShare} z) ∗ semVal ((c : Thread nD τ), .dma 12) 0 ∗ owesNone c)
      ⊢ (wp frame (wpE (defs₀ (F := F)) Variants.none c none) Set.univ (fill lo hi h3 h26 h4 b4 h5 h6 b6)
          (fun _ => iprop((XL c ↦[S]{fullShare} zeroed c lo.toNat hi.toNat f) ∗ (ZL c ↦{fullShare} z) ∗ semVal ((c : Thread nD τ), .dma 12) 0 ∗ owesNone c)) : sProp 𝕄) := by
  have e3 := trips3 hlo hhi
  have e5 := trips5 hlo hhi
  iintro ⟨HX, HZ, Hsem, HO⟩
  ihave HX := (pointsTo_split_subset (ℓ := XL c) (q := fullShare) (f := f) hS).1 $$ HX
  icases HX with ⟨HX, HR⟩
  ihave HZ := (pointsTo_split_subset (ℓ := ZL c) (q := fullShare) (f := z) (Finset.subset_univ zRow.view.set)).1 $$ HZ
  icases HZ with ⟨HZ, HZR⟩
  ihave HZ := (Entails.of_eq ((Transfers.pointsTo_deal (ℓ := ZL c) (f := z) (S := zRow.view.set) (Finset.univ : Finset (Fin (hi.toNat - lo.toNat + 1)))
    ⟨0, Finset.mem_univ _⟩ fullShare).trans (bigSep_univ_succ' _))) $$ HZ
  icases HZ with ⟨HZ0, HZ⟩
  ihave HX := (Entails.of_eq ((congrArg (fun I => (XL c ↦[I]{fullShare} f : sProp 𝕄)) (padRows_eq lo.toNat hi.toNat).symm).trans
    (pointsTo_biUnion Finset.univ _ fun t _ t' _ h => rowsAt_disjoint (fun e => h (Fin.ext (by omega)))))) $$ HX
  imod (Transfers.batch_alloc' (Lvl := ℕ) EC (c : Thread nD τ) () N0 (zdeliv c z lo.toNat (hi.toNat - lo.toNat)) (sm := .dma 12) (E := Set.univ)) $$ Hsem with HB
  ihave HT := (Entails.of_eq ((bigSep_sep' _ _ _).symm.trans (Transfers.bigSep_pending_zero (ztaken c z lo.toNat (hi.toNat - lo.toNat) f)))) $$ [HX HZ]
  · isplitl [HX] <;> iassumption
  unfold fill
  iapply (Scf.wp_for_bind frame (wpE (defs₀ (F := F)) Variants.none c none) Set.univ _ _ _ h3 ⟨⟩ (fun t _ => zsend (k0_off26 lo hi t) (h26 t))
    (fun k _ => iprop(zflight c z lo.toNat (hi.toNat - lo.toNat) k 0 ∗ bigSep (Transfers.pending k) (ztaken c z lo.toNat (hi.toNat - lo.toNat) f)))
    (fun t _ => zsend_run c z lo.toNat (hi.toNat - lo.toNat) f hz t.val (Nat.lt_of_lt_of_eq t.isLt e3) (off26_eq hlo hhi t))) $$ [HB HT]
  · isplitl [HB] <;> iassumption
  iintro %_ ⟨HB, -⟩
  ihave HB := (Entails.of_eq (congrArg (fun k => (zflight c z lo.toNat (hi.toNat - lo.toNat) k 0 : sProp 𝕄)) e3)) $$ HB
  iapply (Scf.wp_for_bind frame (wpE (defs₀ (F := F)) Variants.none c none) Set.univ _ _ _ h4 ⟨⟩ b4 (fun _ _ => iprop(emp))
    (fun t _ => absurd (Nat.lt_of_lt_of_eq t.isLt (trips4 hhi)) (Nat.not_lt_zero _))) $$ []
  · iempintro
  iintro %_ -
  iapply (Scf.wp_for_bind frame (wpE (defs₀ (F := F)) Variants.none c none) Set.univ _ _ _ h5 ⟨⟩ (fun _ _ => zwait)
    (fun k _ => iprop(zflight c z lo.toNat (hi.toNat - lo.toNat) (hi.toNat - lo.toNat) (k * N0) ∗ owesNone c))
    (fun t _ => zwait_run c z lo.toNat (hi.toNat - lo.toNat) t.val (Nat.lt_of_lt_of_eq t.isLt e5))) $$ [HB HO]
  · isplitl [HB]
    · rw [Nat.zero_mul]; iexact HB
    · iexact HO
  iintro %_ ⟨HB, HO⟩
  ihave HB := (Entails.of_eq (congrArg (fun k => (zflight c z lo.toNat (hi.toNat - lo.toNat) (hi.toNat - lo.toNat) k : sProp 𝕄))
    ((congrArg (· * N0) e5).trans (Nat.mul_comm _ _)))) $$ HB
  iapply (Scf.wp_for_bind frame (wpE (defs₀ (F := F)) Variants.none c none) Set.univ _ _ _ h6 ⟨⟩ b6 (fun _ _ => iprop(emp))
    (fun t _ => absurd (Nat.lt_of_lt_of_eq t.isLt (trips6 hhi)) (Nat.not_lt_zero _))) $$ []
  · iempintro
  iintro %_ -
  imod (Transfers.batch_collect' EC (c : Thread nD τ) N0_pos) $$ HB with ⟨HD, Hsem⟩
  unfold zdeliv
  ihave HD := (Entails.of_eq (bigSep_sep' _ _ _)) $$ HD
  icases HD with ⟨HX, HZ⟩
  sl_step
  isplitl [HX HR]
  · ihave HX := (Entails.of_eq (((congrArg (fun I => (XL c ↦[I]{fullShare} zeros c : sProp 𝕄)) (padRows_eq lo.toNat hi.toNat).symm).trans
      (pointsTo_biUnion Finset.univ _ fun t _ t' _ h => rowsAt_disjoint (fun e => h (Fin.ext (by omega))))).symm)) $$ HX
    iapply (pointsTo_join_subset hS)
    isplitl [HX] <;> iassumption
  isplitl [HZ0 HZ HZR]
  · iapply (pointsTo_split_subset (ℓ := ZL c) (q := fullShare) (f := z) (Finset.subset_univ zRow.view.set)).2
    isplitl [HZ0 HZ]
    · iapply (Entails.of_eq ((Transfers.pointsTo_deal (ℓ := ZL c) (f := z) (S := zRow.view.set) (Finset.univ : Finset (Fin (hi.toNat - lo.toNat + 1)))
        ⟨0, Finset.mem_univ _⟩ fullShare).trans (bigSep_univ_succ' _)).symm)
      isplitl [HZ0] <;> iassumption
    · iexact HZR
  isplitl [Hsem] <;> iassumption

end FillRun

end Cert.Proof.Dispatch

end
-- ==== Proof.Fill.lean ====
/-
  The zero fill over the experts: each trip reads the expert's first and last row and fills the rows between.
-/
module

public import proofs.«01_k».proof.Proof.Zero

@[expose] public section

set_option maxRecDepth 16384

noncomputable section

namespace Cert.Proof.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- The tables of first and last rows, whole. -/
abbrev LoM : Memref sig .tc .smem S64 .i32 := Memref.whole main_arg6
abbrev HiM : Memref sig .tc .smem S64 .i32 := Memref.whole main_arg7
abbrev LoL (c : Dev nD) : Loc nD τ sig := LoM.view.loc (c : Thread nD τ)
abbrev HiL (c : Dev nD) : Loc nD τ sig := HiM.view.loc (c : Thread nD τ)

abbrev at64 (e : Fin 64) : S64.Idx := fun | 0 => e

theorem trips2 : k0_t2_loop.trips = 64 := by decide +kernel

theorem off25_eq (t : Fin k0_t2_loop.trips) : k0_off25 t = ![t.val] := by
  have := t.isLt; simp only [trips2] at this
  simp only [k0_off25, Scalar.indexCast, Scf.iv]
  congr 1
  simp only [BitVec.toNat_add, BitVec.toNat_mul, BitVec.toNat_ofNat]
  omega

section Experts

variable (c : Dev nD) (tl : Buf (Elt F) (LoL c)) (th : Buf (Elt F) (HiL c))

/-- Expert `e`'s first row, and the row after its last. -/
abbrev loOf (e : Fin 64) : BitVec 32 := tl (at64 e)
abbrev hiOf (e : Fin 64) : BitVec 32 := th (at64 e)

/-- A row lies in the rows of one of the first `k` experts. -/
def padded (k : Nat) (r : Nat) : Prop := ∃ e : Fin 64, e.val < k ∧ (loOf c tl e).toNat ≤ r ∧ r < (hiOf c th e).toNat

open Classical in
/-- What the rows hold once the first `k` experts are filled. -/
def zeroedTo (k : Nat) (f : Buf (Elt F) (XL c)) : Buf (Elt F) (XL c) :=
  fun x => if padded c tl th k (x 0).val then (0#32 : BitVec 32) else f x

theorem zeroedTo_of (k : Nat) (f : Buf (Elt F) (XL c)) {x : S81920x2048.Idx} (h : padded c tl th k (x 0).val) :
    zeroedTo c tl th k f x = (0#32 : BitVec 32) := by
  unfold zeroedTo; exact if_pos h

theorem zeroedTo_of_not (k : Nat) (f : Buf (Elt F) (XL c)) {x : S81920x2048.Idx} (h : ¬ padded c tl th k (x 0).val) :
    zeroedTo c tl th k f x = f x := by
  unfold zeroedTo; exact if_neg h

theorem zeroedTo_zero (f : Buf (Elt F) (XL c)) : zeroedTo c tl th 0 f = f := by
  funext x
  refine zeroedTo_of_not c tl th 0 f ?_
  rintro ⟨e, he, -⟩
  exact absurd he (Nat.not_lt_zero _)

theorem zeroedTo_succ (k : Fin 64) (f : Buf (Elt F) (XL c)) :
    zeroed c (loOf c tl k).toNat (hiOf c th k).toNat (zeroedTo c tl th k.val f) = zeroedTo c tl th (k.val + 1) f := by
  funext x
  unfold zeroed
  by_cases hx : x ∈ padRows (loOf c tl k).toNat (hiOf c th k).toNat
  · rw [Finset.piecewise_eq_of_mem _ _ _ hx]
    exact (zeroedTo_of c tl th (k.val + 1) f ⟨k, Nat.lt_succ_self _, mem_padRows.1 hx⟩).symm
  · rw [Finset.piecewise_eq_of_notMem _ _ _ hx]
    by_cases hk : padded c tl th k.val (x 0).val
    · obtain ⟨e, he, h⟩ := hk
      exact (zeroedTo_of c tl th k.val f ⟨e, he, h⟩).trans (zeroedTo_of c tl th (k.val + 1) f ⟨e, Nat.lt_succ_of_lt he, h⟩).symm
    · refine (zeroedTo_of_not c tl th k.val f hk).trans (zeroedTo_of_not c tl th (k.val + 1) f ?_).symm
      rintro ⟨e, he, h⟩
      rcases Nat.lt_succ_iff_lt_or_eq.1 he with h' | h'
      · exact hk ⟨e, h', h⟩
      · obtain rfl := Fin.ext h'
        exact hx (mem_padRows.2 h)

variable (z : Buf (Elt F) (ZL c)) (S : Finset S81920x2048.Idx) (f : Buf (Elt F) (XL c))

/-- The fill's state before expert `k`. -/
def filling (k : Nat) : sProp 𝕄 :=
  iprop((LoL c ↦{fullShare} tl) ∗ (HiL c ↦{fullShare} th) ∗ (XL c ↦[S]{fullShare} zeroedTo c tl th k f) ∗ (ZL c ↦{fullShare} z)
    ∗ semVal ((c : Thread nD τ), .dma 12) 0 ∗ owesNone c)

/-- A trip of the fill: the expert's rows read from the tables, the side condition of the facts computed from them, the
    rows filled. -/
def expert (i : grid0.Coords) (h1 : k0_cond1 i = 1#1)
    (b4 : ∀ (lo hi : BitVec 32), k0_chk9 i lo hi → Fin (k0_t4_loop lo hi).trips → Unit → Prog (TpuEff nD τ sig (Elt F) Λ₀ .tc) Unit)
    (b6 : ∀ (lo hi : BitVec 32), k0_chk9 i lo hi → Fin (k0_t6_loop lo hi).trips → Unit → Prog (TpuEff nD τ sig (Elt F) Λ₀ .tc) Unit) (t : Fin k0_t2_loop.trips) :
    Prog (TpuEff nD τ sig (Elt F) Λ₀ .tc) Unit :=
  smemLoadElt (p := .tc) LoM (Rect.unit (s := S64) (k0_off25 t) S1.size (k0_off25_inb i t h1)) (View.loads_smem_one rfl numel1_S1)
    (Shape.Idx.first (numel1_S1.symm ▸ Nat.one_pos)) fun lo =>
  smemLoadElt (p := .tc) HiM (Rect.unit (s := S64) (k0_off25 t) S1.size (k0_off25_inb i t h1)) (View.loads_smem_one rfl numel1_S1)
    (Shape.Idx.first (numel1_S1.symm ▸ Nat.one_pos)) fun hi =>
  .op (.assume (k0_chk9 i lo hi) (k0_chk9.dec i lo hi)) fun hw =>
    fill lo hi (k0_t3_ok i lo hi hw.down h1) (fun t => k0_off26_inb i lo hi hw.down t h1) (k0_t4_ok i lo hi hw.down h1) (b4 lo hi hw.down)
      (k0_t5_ok i lo hi hw.down h1) (k0_t6_ok i lo hi hw.down h1) (b6 lo hi hw.down)

variable (hz : ∀ x, z x = (0#32 : BitVec 32))
variable (hlo : ∀ e, (loOf c tl e).toNat ≤ 81920) (hhi : ∀ e, (hiOf c th e).toNat ≤ 81920)
variable (hS : ∀ e, padRows (loOf c tl e).toNat (hiOf c th e).toNat ⊆ S)

include hz hlo hhi hS in
theorem expert_run (i : grid0.Coords) (h1 b4 b6) (t : Fin k0_t2_loop.trips) :
    filling c tl th z S f t.val
      ⊢ wp frame (wpE (defs₀ (F := F)) Variants.none c none) Set.univ (expert i h1 b4 b6 t) (fun _ => filling c tl th z S f (t.val + 1)) := by
  have ht := t.isLt; simp only [trips2] at ht
  unfold filling
  iintro ⟨HL, HH, HX, HZ, Hs, HO⟩
  unfold expert
  iapply (wp_smemLoadElt (m := LoM) (r := Rect.unit (s := S64) (k0_off25 t) S1.size (k0_off25_inb i t h1)) (S := Finset.univ) (f := tl) Variants.none (c : Thread nD τ) none Set.univ (Finset.subset_univ _)) $$ HL
  iintro HL
  iapply (wp_smemLoadElt (m := HiM) (r := Rect.unit (s := S64) (k0_off25 t) S1.size (k0_off25_inb i t h1)) (S := Finset.univ) (f := th) Variants.none (c : Thread nD τ) none Set.univ (Finset.subset_univ _)) $$ HH
  iintro HH
  have e : ∀ y : S1.Idx, (Rect.unit (s := S64) (k0_off25 t) S1.size (k0_off25_inb i t h1)).emb y = at64 ⟨t.val, ht⟩ := by
    intro y
    funext a
    apply Fin.ext
    fin_cases a
    have hy : (y 0).val < 1 := (y 0).isLt
    show k0_off25 t 0 + 1 * (y 0).val = t.val
    rw [off25_eq]
    show t.val + 1 * (y 0).val = t.val
    omega
  have hv : (View.read (Elt F) (LoM.access (Rect.unit (s := S64) (k0_off25 t) S1.size (k0_off25_inb i t h1))) tl (Shape.Idx.first (numel1_S1.symm ▸ Nat.one_pos)))
      = loOf c tl ⟨t.val, ht⟩ := congrArg tl (e _)
  have hw : (View.read (Elt F) (HiM.access (Rect.unit (s := S64) (k0_off25 t) S1.size (k0_off25_inb i t h1))) th (Shape.Idx.first (numel1_S1.symm ▸ Nat.one_pos)))
      = hiOf c th ⟨t.val, ht⟩ := congrArg th (e _)
  rw [hv, hw]
  iapply (wp_assume Variants.none (c : Thread nD τ) none Set.univ (chk9_holds (hlo ⟨t.val, ht⟩) (hhi ⟨t.val, ht⟩) i))
  iapply (wp_wand frame (wpE (defs₀ (F := F)) Variants.none c none) Set.univ) $$ [HX HZ Hs HO]
  · iapply (fill_run c z hz S (zeroedTo c tl th t.val f) _ _ (hlo ⟨t.val, ht⟩) (hhi ⟨t.val, ht⟩) (hS ⟨t.val, ht⟩))
    isplitl [HX]; · iexact HX
    isplitl [HZ]; · iexact HZ
    isplitl [Hs] <;> iassumption
  rw [zeroedTo_succ c tl th ⟨t.val, ht⟩ f]
  iintro %_ ⟨HX, HZ, Hs, HO⟩
  isplitl [HL]; · iexact HL
  isplitl [HH]; · iexact HH
  isplitl [HX]; · iexact HX
  isplitl [HZ]; · iexact HZ
  isplitl [Hs] <;> iassumption

end Experts

set_option maxRecDepth 65536 in
/-- The loop's body as printed is the trip. -/
theorem body2_eq (i : grid0.Coords) (h1 : k0_cond1 i = 1#1) (K : Memref sig .tc .smem S2048 .i32) (hK : K.IsWhole) (M : Memref sig .tc .vmem S256x2048 .i32)
    (hM : M.IsWhole) (arg5 h5 arg6 h6 arg7 h7 arg8 h8 arg10 h10) (t : Fin k0_t2_loop.trips) :
    k0_t2_body (F := F) i (Memref.whole main_arg6) (Memref.isWhole_whole _) (Memref.whole main_arg7) (Memref.isWhole_whole _)
      K hK M hM arg5 h5 arg6 h6 arg7 h7 arg8 h8 (Memref.whole main_v3_0) (Memref.isWhole_whole _) arg10 h10
      (Memref.whole cc0_scratch0) (Memref.isWhole_whole _) cc0_scratch1 h1 t ()
      = expert i h1
          (fun lo hi hw => k0_t4_body (F := F) i (Memref.whole main_arg6) (Memref.isWhole_whole _) (Memref.whole main_arg7) (Memref.isWhole_whole _)
            K hK M hM arg5 h5 arg6 h6 arg7 h7 arg8 h8 (Memref.whole main_v3_0) (Memref.isWhole_whole _) arg10 h10
            (Memref.whole cc0_scratch0) (Memref.isWhole_whole _) cc0_scratch1 h1 lo hi hw)
          (fun lo hi hw => k0_t6_body (F := F) i (Memref.whole main_arg6) (Memref.isWhole_whole _) (Memref.whole main_arg7) (Memref.isWhole_whole _)
            K hK M hM arg5 h5 arg6 h6 arg7 h7 arg8 h8 (Memref.whole main_v3_0) (Memref.isWhole_whole _) arg10 h10
            (Memref.whole cc0_scratch0) (Memref.isWhole_whole _) cc0_scratch1 h1 lo hi hw) t := by
  unfold k0_t2_body
  rfl

end Cert.Proof.Dispatch

end
-- ==== Proof.Body.lean ====
/-
  A grid point's run: the sends issued, the zero fill at the first point, the shared expert's block computed and stored, the
  sends drained.
-/
module

public import proofs.«01_k».proof.Proof.Fill

@[expose] public section

set_option maxRecDepth 16384

noncomputable section

namespace Cert.Proof.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- A rectangle at the origin of the view's own extents reads the view. -/
theorem read_full {s : Shape} {e : EltTy} {sp : Space} (M : Memref sig .tc sp s e) (o : Fin s.rank → Nat) (ho : ∀ a, o a = 0)
    (h : ∀ a, o a + s.size a ≤ s.size a) (f : M.view.ty.Contents (Elt F)) :
    (M.access (Rect.unit (s := s) o s.size h)).read (Elt F) f = M.view.read (Elt F) f := by
  funext y
  show M.view.read (Elt F) f ((Rect.unit (s := s) o s.size h).emb y) = _
  congr 1
  funext a
  apply Fin.ext
  show o a + 1 * (y a).val = (y a).val
  rw [ho a]; omega

/-! ## The zero fill, at the first point only -/

section Middle

variable (i : grid0.Coords)
variable (b2 : k0_cond1 i = 1#1 → Fin k0_t2_loop.trips → Unit → Prog (TpuEff nD τ sig (Elt F) Λ₀ .tc) Unit)

def zeroFill (h1 : k0_cond1 i = 1#1) : Prog (TpuEff nD τ sig (Elt F) Λ₀ .tc) PUnit.{1} :=
  .op (.load ZM (Rect.unit (s := S8x2048) ![0, 0] S8x2048.size inb_S8x2048_S8x2048_0_0).toLoadRect (View.loadsAt_vmem h_S8x2048)) fun _ =>
  .op (.store ZM (Rect.unit (s := S8x2048) ![0, 0] S8x2048.size inb_S8x2048_S8x2048_0_0) k0_pay1 Finset.univ (View.stores_vmem_bits_univ h_S8x2048 rfl) (.inl rfl)) fun _ =>
  Scf.Loop.for k0_t2_loop (k0_t2_ok i h1) ⟨⟩ (b2 h1) >>= fun _ => .ret ⟨⟩

def middle : Prog (TpuEff nD τ sig (Elt F) Λ₀ .tc) PUnit.{1} := if h1 : k0_cond1 i = 1#1 then zeroFill i b2 h1 else .ret ⟨⟩

variable (c : Dev nD) (tl : Buf (Elt F) (LoL c)) (th : Buf (Elt F) (HiL c)) (S : Finset S81920x2048.Idx) (f : Buf (Elt F) (XL c))

open Classical in
/-- What the rows the point does not send hold after it: the first point zeroes the experts' rows. -/
def kept : Buf (Elt F) (XL c) := if k0_cond1 i = 1#1 then zeroedTo c tl th 64 f else f

abbrev idleRows (f : Buf (Elt F) (XL c)) : sProp 𝕄 :=
  iprop((LoL c ↦{fullShare} tl) ∗ (HiL c ↦{fullShare} th) ∗ (XL c ↦[S]{fullShare} f) ∗ (∃ z, ZL c ↦{fullShare} z)
    ∗ semVal ((c : Thread nD τ), .dma 12) 0 ∗ owesNone c)

theorem middle_run
    (hb2 : ∀ h1, ∃ b4 b6, ∀ t, b2 h1 t () = expert i h1 b4 b6 t)
    (hlo : ∀ e, (loOf c tl e).toNat ≤ 81920) (hhi : ∀ e, (hiOf c th e).toNat ≤ 81920)
    (hS : ∀ e, padRows (loOf c tl e).toNat (hiOf c th e).toNat ⊆ S) :
    idleRows c tl th S f
      ⊢ wp frame (wpE (defs₀ (F := F)) Variants.none c none) Set.univ (middle i b2) (fun _ => idleRows c tl th S (kept i c tl th f)) := by
  unfold middle
  by_cases h1 : k0_cond1 i = 1#1
  · rw [dif_pos h1, show kept i c tl th f = zeroedTo c tl th 64 f from if_pos h1]
    obtain ⟨b4, b6, hb⟩ := hb2 h1
    iintro ⟨HL, HH, HX, ⟨%z, HZ⟩, Hs, HO⟩
    unfold zeroFill
    iapply (wp_load_rect (m := ZM) (r := Rect.unit (s := S8x2048) ![0, 0] S8x2048.size inb_S8x2048_S8x2048_0_0) (S := Finset.univ) (f := z) Variants.none (c : Thread nD τ) none Set.univ (Finset.subset_univ _)) $$ HZ
    iintro HZ
    iapply (wp_store (m := ZM) (r := Rect.unit (s := S8x2048) ![0, 0] S8x2048.size inb_S8x2048_S8x2048_0_0) (w := k0_pay1) (Mk := Finset.univ) (S := Finset.univ) (f := z) Variants.none (c : Thread nD τ) none Set.univ (Finset.subset_univ _)) $$ HZ
    iintro HZ
    have hz : ∀ x, (ZM.access (Rect.unit (s := S8x2048) ![0, 0] S8x2048.size inb_S8x2048_S8x2048_0_0)).write (Elt F) z k0_pay1 Finset.univ x = (0#32 : BitVec 32) := by
      intro x
      have h := congrFun (read_full (F := F) ZM ![0, 0] (by decide) inb_S8x2048_S8x2048_0_0
        ((ZM.access (Rect.unit (s := S8x2048) ![0, 0] S8x2048.size inb_S8x2048_S8x2048_0_0)).write (Elt F) z k0_pay1 Finset.univ)) x
      rw [View.read_write_univ] at h
      exact h.symm
    iapply (Scf.wp_for_bind frame (wpE (defs₀ (F := F)) Variants.none c none) Set.univ _ _ _ (k0_t2_ok i h1) ⟨⟩ (b2 h1)
      (fun k _ => filling c tl th _ S f k)
      (fun t _ => by rw [hb t]; exact expert_run c tl th _ S f hz hlo hhi hS i h1 b4 b6 t)) $$ [HL HH HX HZ Hs HO]
    · unfold filling
      rw [zeroedTo_zero]
      isplitl [HL]; · iexact HL
      isplitl [HH]; · iexact HH
      isplitl [HX]; · iexact HX
      isplitl [HZ]; · iexact HZ
      isplitl [Hs] <;> iassumption
    iintro %_ H
    ihave H := (Entails.of_eq (congrArg (filling c tl th _ S f) trips2)) $$ H
    unfold filling
    icases H with ⟨HL, HH, HX, HZ, Hs, HO⟩
    sl_step
    isplitl [HL]; · iexact HL
    isplitl [HH]; · iexact HH
    isplitl [HX]; · iexact HX
    isplitl [HZ]; · iexists _; iexact HZ
    isplitl [Hs] <;> iassumption
  · rw [dif_neg h1, show kept i c tl th f = f from if_neg h1]
    iintro H
    sl_step
    iexact H

end Middle

/-! ## The shared expert's block -/

section Dense

variable (c : Dev nD)
variable (A5 : Memref sig .tc .vmem S256x4096 .bf16) (A6 A7 : Memref sig .tc .vmem S4096x384 .bf16)
variable (A8 : Memref sig .tc .vmem S384x4096 .bf16) (A10 : Memref sig .tc .vmem S256x4096 .bf16) (h10 : A10.IsWhole)

abbrev rX : Rect S256x4096 := Rect.unit (s := S256x4096) ![0, 0] S256x4096.size inb_S256x4096_S256x4096_0_0
abbrev rG : Rect S4096x384 := Rect.unit (s := S4096x384) ![0, 0] S4096x384.size inb_S4096x384_S4096x384_0_0
abbrev rD : Rect S384x4096 := Rect.unit (s := S384x4096) ![0, 0] S384x4096.size inb_S384x4096_S384x4096_0_0

/-- The block's loads and its store, then `kk`. -/
def dense {α : Type} (kk : Prog (TpuEff nD τ sig (Elt F) Λ₀ .tc) α) : Prog (TpuEff nD τ sig (Elt F) Λ₀ .tc) α :=
  .op (.load A5 rX.toLoadRect (View.loadsAt_vmem h_S256x4096)) fun v4 =>
  .op (.load A6 rG.toLoadRect (View.loadsAt_vmem h_S4096x384)) fun v5 =>
  .op (.load A7 rG.toLoadRect (View.loadsAt_vmem h_S4096x384)) fun v8 =>
  .op (.load A8 rD.toLoadRect (View.loadsAt_vmem h_S384x4096)) fun v21 =>
  .op (.load A10 rX.toLoadRect (View.loadsAt_vmem h_S256x4096)) fun _ =>
  .op (.store A10 rX (k0_pay2 v4 v5 v8 v21) Finset.univ
    (View.stores_vmem h_S256x4096 (h10.storeExact_slice rfl _ packedbf16_S256x4096_S256x4096_0_0) (fun _ => rfl)) (.inl rfl)) fun _ => kk

variable (x : Buf (Elt F) (A5.view.loc (c : Thread nD τ))) (wg : Buf (Elt F) (A6.view.loc (c : Thread nD τ)))
variable (wu : Buf (Elt F) (A7.view.loc (c : Thread nD τ))) (wd : Buf (Elt F) (A8.view.loc (c : Thread nD τ)))

abbrev operands : sProp 𝕄 :=
  iprop((A5.view.loc (c : Thread nD τ) ↦{fullShare} x) ∗ (A6.view.loc (c : Thread nD τ) ↦{fullShare} wg)
    ∗ (A7.view.loc (c : Thread nD τ) ↦{fullShare} wu) ∗ (A8.view.loc (c : Thread nD τ) ↦{fullShare} wd))

theorem dense_run {α : Type} {Q : α → sProp 𝕄} (o : Buf (Elt F) (A10.view.loc (c : Thread nD τ))) {kk : Prog (TpuEff nD τ sig (Elt F) Λ₀ .tc) α} :
    iprop(operands c A5 A6 A7 A8 x wg wu wd ∗ (A10.view.loc (c : Thread nD τ) ↦{fullShare} o))
      ⊢ iprop((iprop(operands c A5 A6 A7 A8 x wg wu wd
            ∗ ∃ o', ⌜A10.view.read (Elt F) o' = k0_pay2 (A5.view.read (Elt F) x) (A6.view.read (Elt F) wg) (A7.view.read (Elt F) wu) (A8.view.read (Elt F) wd)⌝
              ∗ (A10.view.loc (c : Thread nD τ) ↦{fullShare} o'))
            -∗ wp frame (wpE (defs₀ (F := F)) Variants.none c none) Set.univ kk Q)
          -∗ wp frame (wpE (defs₀ (F := F)) Variants.none c none) Set.univ (dense A5 A6 A7 A8 A10 h10 kk) Q) := by
  iintro ⟨⟨H5, H6, H7, H8⟩, H10⟩ Hk
  unfold dense
  iapply (wp_load_rect (m := A5) (r := rX) (S := Finset.univ) (f := x) Variants.none (c : Thread nD τ) none Set.univ (Finset.subset_univ _)) $$ H5
  iintro H5
  iapply (wp_load_rect (m := A6) (r := rG) (S := Finset.univ) (f := wg) Variants.none (c : Thread nD τ) none Set.univ (Finset.subset_univ _)) $$ H6
  iintro H6
  iapply (wp_load_rect (m := A7) (r := rG) (S := Finset.univ) (f := wu) Variants.none (c : Thread nD τ) none Set.univ (Finset.subset_univ _)) $$ H7
  iintro H7
  iapply (wp_load_rect (m := A8) (r := rD) (S := Finset.univ) (f := wd) Variants.none (c : Thread nD τ) none Set.univ (Finset.subset_univ _)) $$ H8
  iintro H8
  iapply (wp_load_rect (m := A10) (r := rX) (S := Finset.univ) (f := o) Variants.none (c : Thread nD τ) none Set.univ (Finset.subset_univ _)) $$ H10
  iintro H10
  rw [read_full A5 ![0, 0] (by decide), read_full A6 ![0, 0] (by decide), read_full A7 ![0, 0] (by decide), read_full A8 ![0, 0] (by decide)]
  iapply (wp_store (m := A10) (r := rX) (Mk := Finset.univ) (S := Finset.univ) (f := o) Variants.none (c : Thread nD τ) none Set.univ (Finset.subset_univ _)) $$ H10
  iintro H10
  iapply Hk
  isplitl [H5 H6 H7 H8]
  · isplitl [H5]; · iexact H5
    isplitl [H6]; · iexact H6
    isplitl [H7] <;> iassumption
  iexists _
  isplitr; swap; (· iexact H10)
  ipureintro
  rw [← read_full A10 ![0, 0] (by decide) inb_S256x4096_S256x4096_0_0]
  exact View.read_write_univ _ _

end Dense

/-! ## The point -/

section Point

variable (i : grid0.Coords) (c : Dev nD)
variable (K : Memref sig .tc .smem S2048 .i32) (hK : K.IsWhole) (M : Memref sig .tc .vmem S256x2048 .i32) (hM : M.IsWhole)
variable (A5 : Memref sig .tc .vmem S256x4096 .bf16) (h5 : A5.IsWhole) (A6 : Memref sig .tc .vmem S4096x384 .bf16) (h6 : A6.IsWhole)
variable (A7 : Memref sig .tc .vmem S4096x384 .bf16) (h7 : A7.IsWhole) (A8 : Memref sig .tc .vmem S384x4096 .bf16) (h8 : A8.IsWhole)
variable (A10 : Memref sig .tc .vmem S256x4096 .bf16) (h10 : A10.IsWhole)

/-- The kernel at a point, its staged arguments named. -/
abbrev point : Prog (TpuEff nD τ sig (Elt F) Λ₀ .tc) PUnit.{1} :=
  cc0_dispatch_shared (F := F) i LoM (Memref.isWhole_whole _) HiM (Memref.isWhole_whole _) K hK M hM A5 h5 A6 h6 A7 h7 A8 h8
    XM (Memref.isWhole_whole _) A10 h10 ZM (Memref.isWhole_whole _) cc0_scratch1

abbrev B1 : Fin k0_t1_loop.trips → Unit → Prog (TpuEff nD τ sig (Elt F) Λ₀ .tc) Unit :=
  k0_t1_body (F := F) i LoM (Memref.isWhole_whole _) HiM (Memref.isWhole_whole _) K hK M hM A5 h5 A6 h6 A7 h7 A8 h8
    XM (Memref.isWhole_whole _) A10 h10 ZM (Memref.isWhole_whole _) cc0_scratch1
abbrev B2 (h1 : k0_cond1 i = 1#1) : Fin k0_t2_loop.trips → Unit → Prog (TpuEff nD τ sig (Elt F) Λ₀ .tc) Unit :=
  k0_t2_body (F := F) i LoM (Memref.isWhole_whole _) HiM (Memref.isWhole_whole _) K hK M hM A5 h5 A6 h6 A7 h7 A8 h8
    XM (Memref.isWhole_whole _) A10 h10 ZM (Memref.isWhole_whole _) cc0_scratch1 h1
abbrev B7 : Fin k0_t7_loop.trips → Unit → Prog (TpuEff nD τ sig (Elt F) Λ₀ .tc) Unit :=
  k0_t7_body (F := F) i LoM (Memref.isWhole_whole _) HiM (Memref.isWhole_whole _) K hK M hM A5 h5 A6 h6 A7 h7 A8 h8
    XM (Memref.isWhole_whole _) A10 h10 ZM (Memref.isWhole_whole _) cc0_scratch1

set_option maxRecDepth 65536 in
theorem point_eq : point (F := F) i K hK M hM A5 h5 A6 h6 A7 h7 A8 h8 A10 h10
    = Scf.Loop.for k0_t1_loop k0_t1_ok ⟨⟩ (B1 i K hK M hM A5 h5 A6 h6 A7 h7 A8 h8 A10 h10) >>= fun _ =>
      middle i (B2 i K hK M hM A5 h5 A6 h6 A7 h7 A8 h8 A10 h10) >>= fun _ =>
      dense A5 A6 A7 A8 A10 h10
        (Scf.Loop.for k0_t7_loop k0_t7_ok ⟨⟩ (B7 i K hK M hM A5 h5 A6 h6 A7 h7 A8 h8 A10 h10) >>= fun _ => .ret ⟨⟩) := by
  unfold point
  rw [cc0_dispatch_shared_eq_skeleton]
  unfold cc0_dispatch_shared_skel middle
  refine bind_congr fun _ => ?_
  by_cases h1 : k0_cond1 i = 1#1
  · rw [dif_pos h1, dif_pos h1]
    refine Eq.trans ?_ (rfl : Prog.op _ (fun _ => Prog.op _ fun _ =>
      (Scf.Loop.for k0_t2_loop (k0_t2_ok i h1) ⟨⟩ (B2 i K hK M hM A5 h5 A6 h6 A7 h7 A8 h8 A10 h10 h1) >>= fun _ => .ret PUnit.unit) >>= fun _ =>
      dense A5 A6 A7 A8 A10 h10
        (Scf.Loop.for k0_t7_loop k0_t7_ok ⟨⟩ (B7 i K hK M hM A5 h5 A6 h6 A7 h7 A8 h8 A10 h10) >>= fun _ => .ret PUnit.unit)) = _)
    rw [bind_assoc]
    rfl
  · rw [dif_neg h1, dif_neg h1]
    rfl

variable (ps : Buf (Elt F) (K.view.loc (c : Thread nD τ))) (hp : Buf (Elt F) (M.view.loc (c : Thread nD τ)))
variable (x : Buf (Elt F) (A5.view.loc (c : Thread nD τ))) (wg : Buf (Elt F) (A6.view.loc (c : Thread nD τ)))
variable (wu : Buf (Elt F) (A7.view.loc (c : Thread nD τ))) (wd : Buf (Elt F) (A8.view.loc (c : Thread nD τ)))
variable (tl : Buf (Elt F) (LoL c)) (th : Buf (Elt F) (HiL c)) (f g : Buf (Elt F) (XL c))

/-- The rows the point sends. -/
def named : Finset S81920x2048.Idx := (Finset.univ : Finset (Fin 2048)).biUnion fun s => rowsAt (posOf c K ps s)

theorem mem_named {x : S81920x2048.Idx} : x ∈ named c K ps ↔ ∃ s, (x 0).val = posOf c K ps s := by
  simp [named, mem_rowsAt]

/-- The rows it does not. -/
def others : Finset (Idx (XL c)) := Finset.univ \ named c K ps

theorem mem_others (y : S81920x2048.Idx) : y ∈ others c K ps ↔ ∀ s, (y 0).val ≠ posOf c K ps s := by
  have h : y ∈ others c K ps ↔ y ∉ named c K ps := by
    unfold others
    exact Finset.mem_sdiff.trans (and_iff_right (Finset.mem_univ y))
  rw [h, mem_named, not_exists]

theorem pad_sub (a b : Nat) (h : ∀ s, posOf c K ps s < a ∨ b ≤ posOf c K ps s) : padRows a b ⊆ others c K ps := by
  intro y hy
  have hm := mem_others c K ps y
  rw [hm]
  intro s hs
  obtain ⟨h1, h2⟩ := mem_padRows.1 hy
  rcases h s with h | h
  · exact absurd h1 (Nat.not_le.2 (hs ▸ h))
  · exact absurd h2 (Nat.not_lt.2 (hs ▸ h))

variable (hpos : ∀ s, posOf c K ps s < 81920) (hinj : ∀ s s', posOf c K ps s = posOf c K ps s' → s = s')
variable (hlo : ∀ e, (loOf c tl e).toNat ≤ 81920) (hhi : ∀ e, (hiOf c th e).toNat ≤ 81920)
variable (hout : ∀ s e, posOf c K ps s < (loOf c tl e).toNat ∨ (hiOf c th e).toNat ≤ posOf c K ps s)
variable (hg : ∀ s (x : S81920x2048.Idx), (x 0).val = posOf c K ps s → g x = M.view.read (Elt F) hp (at256 (tok s) (x 1)))
variable (hgk : ∀ x ∈ others c K ps, kept i c tl th f x = g x)

/-- The rest of a token's block beside the row a slot borrows, at the slot's share. -/
abbrev besides (s : Fin 2048) : sProp 𝕄 :=
  M.view.loc (c : Thread nD τ) ↦[Finset.univ \ (srcRow M ![(tok s).val, 0] (src_inb _)).view.set]{Transfers.dealOf fullShare Finset.univ s} hp

/-- The tokens' block whole is every slot's borrowed row and what is beside it. -/
theorem lent_all : (M.view.loc (c : Thread nD τ) ↦{fullShare} hp : sProp 𝕄)
    = iprop(bigSep Finset.univ (lent c M hp) ∗ bigSep Finset.univ (besides c M hp)) := by
  rw [← bigSep_sep', Transfers.pointsTo_deal (Finset.univ : Finset (Fin 2048)) ⟨0, Finset.mem_univ _⟩ fullShare]
  exact bigSep_congr fun s _ => equiv_iff.mp ⟨(pointsTo_split_subset (Finset.subset_univ _)).1, (pointsTo_split_subset (Finset.subset_univ _)).2⟩

/-- The named rows at some contents are each slot's row at them. -/
theorem named_all (hinj : ∀ s s', posOf c K ps s = posOf c K ps s' → s = s') (f : Buf (Elt F) (XL c)) :
    (XL c ↦[named c K ps]{fullShare} f : sProp 𝕄) = bigSep Finset.univ fun s => XL c ↦[rowsAt (posOf c K ps s)]{fullShare} f :=
  pointsTo_biUnion Finset.univ _ fun s _ s' _ h => rowsAt_disjoint fun e => h (hinj s s' e)

include hpos hinj hlo hhi hout hg hgk in
/-- A POINT'S RUN: the rows go from `f` to `g`, the output block to the shared expert's, the rest as it was. -/
theorem point_run (o : Buf (Elt F) (A10.view.loc (c : Thread nD τ))) :
    iprop(posPt c K ps ∗ (M.view.loc (c : Thread nD τ) ↦{fullShare} hp) ∗ operands c A5 A6 A7 A8 x wg wu wd
        ∗ (A10.view.loc (c : Thread nD τ) ↦{fullShare} o) ∗ semVal ((c : Thread nD τ), .dma 11) 0 ∗ idleRows c tl th Finset.univ f)
      ⊢ wp frame (wpE (defs₀ (F := F)) Variants.none c none) Set.univ (point i K hK M hM A5 h5 A6 h6 A7 h7 A8 h8 A10 h10)
          (fun _ => iprop(posPt c K ps ∗ (M.view.loc (c : Thread nD τ) ↦{fullShare} hp) ∗ operands c A5 A6 A7 A8 x wg wu wd
            ∗ (∃ o', ⌜A10.view.read (Elt F) o' = k0_pay2 (A5.view.read (Elt F) x) (A6.view.read (Elt F) wg) (A7.view.read (Elt F) wu) (A8.view.read (Elt F) wd)⌝
              ∗ (A10.view.loc (c : Thread nD τ) ↦{fullShare} o'))
            ∗ semVal ((c : Thread nD τ), .dma 11) 0 ∗ idleRows c tl th Finset.univ g)) := by
  rw [point_eq]
  iintro ⟨HP, HM, Hops, Hout, Hs, HL, HH, HX, HZ, Hs2, HO⟩
  ihave HX := (pointsTo_split_subset (ℓ := XL c) (q := fullShare) (f := f) (Finset.subset_univ (named c K ps))).1 $$ HX
  icases HX with ⟨HX, HR⟩
  ihave HX := (Entails.of_eq (named_all c K ps hinj f)) $$ HX
  ihave HM := (Entails.of_eq (lent_all c M hp)) $$ HM
  icases HM with ⟨HM, HMR⟩
  ihave HT := (Entails.of_eq ((bigSep_sep' _ _ _).symm.trans (Transfers.bigSep_pending_zero (taken c M hp (posOf c K ps) f)))) $$ [HX HM]
  · isplitl [HX] <;> iassumption
  imod (Transfers.batch_alloc' (Lvl := ℕ) EC (c : Thread nD τ) () N0 (deliv c M hp (posOf c K ps) g) (sm := .dma 11) (E := Set.univ)) $$ Hs with HB
  iapply (Scf.wp_for_bind frame (wpE (defs₀ (F := F)) Variants.none c none) Set.univ _ _ _ k0_t1_ok ⟨⟩ (B1 i K hK M hM A5 h5 A6 h6 A7 h7 A8 h8 A10 h10)
    (fun k _ => sending c K ps M hp f g k)
    (fun t u => by cases u; exact (trip_run c K ps M hp f g hpos hg t).trans (Entails.of_eq (congrArg (fun p => wp frame (wpE (defs₀ (F := F)) Variants.none c none) Set.univ p _) (body1_eq i K hK M hM A5 h5 A6 h6 A7 h7 A8 h8 A10 h10 t).symm)))) $$ [HP HB HT]
  · isplitl [HP]; · iexact HP
    isplitl [HB] <;> iassumption
  iintro %_ H
  ihave H := (Entails.of_eq (congrArg (sending c K ps M hp f g) trips1)) $$ H
  icases H with ⟨HP, HB, -⟩
  iapply (Entails.of_eq (wp_bind frame (wpE (defs₀ (F := F)) Variants.none c none) Set.univ _ _ _).symm)
  iapply (wp_wand frame (wpE (defs₀ (F := F)) Variants.none c none) Set.univ) $$ [HL HH HR HZ Hs2 HO]
  · iapply (middle_run i (B2 i K hK M hM A5 h5 A6 h6 A7 h7 A8 h8 A10 h10) c tl th (others c K ps) f
      (fun h1 => ⟨_, _, fun t => body2_eq i h1 K hK M hM A5 h5 A6 h6 A7 h7 A8 h8 A10 h10 t⟩) hlo hhi (fun e => pad_sub c K ps _ _ fun s => hout s e))
    isplitl [HL]; · iexact HL
    isplitl [HH]; · iexact HH
    isplitl [HR]; · iexact HR
    isplitl [HZ]; · iexact HZ
    isplitl [Hs2] <;> iassumption
  iintro %_ ⟨HL, HH, HR, HZ, Hs2, HO⟩
  ihave HR := (Entails.of_eq (pointsTo_congr (g := g) hgk)) $$ HR
  iapply (dense_run c A5 A6 A7 A8 A10 h10 x wg wu wd o) $$ [Hops Hout]
  · isplitl [Hops] <;> iassumption
  iintro ⟨Hops, Hout⟩
  iapply (Scf.wp_for_bind frame (wpE (defs₀ (F := F)) Variants.none c none) Set.univ _ _ _ k0_t7_ok ⟨⟩ (B7 i K hK M hM A5 h5 A6 h6 A7 h7 A8 h8 A10 h10)
    (fun k _ => drained c M hp (posOf c K ps) g (8 * k))
    (fun t u => by cases u; exact (drain_run c M hp (posOf c K ps) g t.val (Nat.lt_of_lt_of_eq t.isLt trips7)).trans (Entails.of_eq (congrArg (fun p => wp frame (wpE (defs₀ (F := F)) Variants.none c none) Set.univ p _) (body7_eq i K hK M hM A5 h5 A6 h6 A7 h7 A8 h8 A10 h10 t).symm)))) $$ [HB HO]
  · isplitl [HB]
    · rw [Nat.mul_zero, Nat.zero_mul]; iexact HB
    · iexact HO
  iintro %_ H
  ihave H := (Entails.of_eq (congrArg (fun k => drained c M hp (posOf c K ps) g (8 * k)) trips7)) $$ H
  icases H with ⟨HB, HO⟩
  ihave HB := (Entails.of_eq (congrArg (fun k => (flight c M hp (posOf c K ps) g 2048 k : sProp 𝕄)) (Nat.mul_comm 2048 N0))) $$ HB
  imod (Transfers.batch_collect' EC (c : Thread nD τ) N0_pos) $$ HB with ⟨HD, Hs⟩
  unfold deliv
  ihave HD := (Entails.of_eq (bigSep_sep' _ _ _)) $$ HD
  icases HD with ⟨HX, HM⟩
  sl_step
  isplitl [HP]; · iexact HP
  isplitl [HM HMR]
  · iapply (Entails.of_eq (lent_all c M hp).symm)
    isplitl [HM] <;> iassumption
  isplitl [Hops]; · iexact Hops
  isplitl [Hout]; · iexact Hout
  isplitl [Hs]; · iexact Hs
  isplitl [HL]; · iexact HL
  isplitl [HH]; · iexact HH
  isplitl [HX HR]
  · iapply (pointsTo_split_subset (ℓ := XL c) (q := fullShare) (f := g) (Finset.subset_univ (named c K ps))).2
    isplitl [HX]
    · iapply (Entails.of_eq (named_all c K ps hinj g).symm); iexact HX
    · iexact HR
  isplitl [HZ]; · iexact HZ
  isplitl [Hs2] <;> iassumption

end Point

end Cert.Proof.Dispatch

end
-- ==== Proof.Rows.lean ====
/-
  What the dispatched rows hold before each grid point: a row named by a slot already sent holds that slot's token, a padding
  row zeros once the first point has run, any other row what it held at launch.
-/
module

public import proofs.«01_k».proof.Proof.Body

@[expose] public section

set_option maxRecDepth 16384

noncomputable section

namespace Cert.Proof.Dispatch

open Cert.KernelIdeal Cert.KernelIdeal.Gen
open Idealize.ShloMosaic Idealize.ShloMosaic.TcCoe

variable {F : FTy → Type} [FloatOps F]

abbrev at65536 (s : Fin 65536) : S65536.Idx := fun | 0 => s
abbrev at8192 (i : Fin 8192) (j : Fin 2048) : S8192x2048.Idx := fun | 0 => i | 1 => j

/-- The token slot `s` carries: each token has eight slots. -/
def tokOf (s : Fin 65536) : Fin 8192 := ⟨s.val / 8, by have := s.isLt; omega⟩

variable (m : (ℓ : Loc nD τ sig) → Buf (Elt F) ℓ) (c : Dev nD)

/-- The row slot `s` names. -/
def rowOf (s : Fin 65536) : Nat := BitVec.toNat (m ((c : Thread nD τ).loc main_arg0) (at65536 s))

abbrev tlo : Buf (Elt F) (LoL c) := m (LoL c)
abbrev thi : Buf (Elt F) (HiL c) := m (HiL c)

/-- What the precondition says of the positions and the padding tables: the slots name distinct rows of the result, none
    of them a padding row, and the padding ends within it. -/
structure Apart : Prop where
  pos : ∀ s, rowOf m c s < 81920
  inj : ∀ s s', rowOf m c s = rowOf m c s' → s = s'
  lo : ∀ e, (loOf c (tlo m c) e).toNat ≤ 81920
  hi : ∀ e, (hiOf c (thi m c) e).toNat ≤ 81920
  out : ∀ s e, rowOf m c s < (loOf c (tlo m c) e).toNat ∨ (hiOf c (thi m c) e).toNat ≤ rowOf m c s

/-- A row among the first `n` points' slots'. -/
def sent (n r : Nat) : Prop := ∃ s : Fin 65536, s.val < 2048 * n ∧ rowOf m c s = r

open Classical in
/-- The rows before point `n`. -/
def rows (n : Nat) : Buf (Elt F) (XL c) := fun x : S81920x2048.Idx =>
  if h : sent m c n (x 0).val then m ((c : Thread nD τ).loc main_arg1) (at8192 (tokOf h.choose) (x 1))
  else if 0 < n then zeroedTo c (tlo m c) (thi m c) 64 (m (XL c)) x else m (XL c) x

variable {m c}

theorem rows_sent (H : Apart m c) (n : Nat) (x : S81920x2048.Idx) (s : Fin 65536) (hs : s.val < 2048 * n) (hx : (x 0).val = rowOf m c s) :
    rows m c n x = m ((c : Thread nD τ).loc main_arg1) (at8192 (tokOf s) (x 1)) := by
  have h : sent m c n (x 0).val := ⟨s, hs, hx.symm⟩
  have e : h.choose = s := H.inj _ _ (h.choose_spec.2.trans hx)
  unfold rows
  rw [dif_pos h, e]

theorem rows_other (n : Nat) (hn : 0 < n) (x : S81920x2048.Idx) (h : ¬ sent m c n (x 0).val) :
    rows m c n x = zeroedTo c (tlo m c) (thi m c) 64 (m (XL c)) x := by
  unfold rows
  rw [dif_neg h, if_pos hn]

theorem rows_first : rows m c 0 = m (XL c) := by
  funext x
  have h : ¬ sent m c 0 ((x : S81920x2048.Idx) 0).val := by
    rintro ⟨s, hs, -⟩
    exact absurd hs (Nat.not_lt_zero _)
  unfold rows
  rw [dif_neg h, if_neg (Nat.lt_irrefl 0)]

theorem lt_span {t s : Nat} (ht : t < 32) (hs : s < 2048) : 2048 * t + s < 65536 := by omega
theorem lt_next {t s : Nat} (hs : s < 2048) : 2048 * t + s < 2048 * (t + 1) := by omega

/-- A row none of point `t`'s slots names was sent before it or not at all. -/
theorem sent_succ {t : Nat} (ht : t < 32) (r : Nat) (h : ∀ s : Fin 2048, r ≠ rowOf m c ⟨2048 * t + s.val, lt_span ht s.isLt⟩) :
    sent m c (t + 1) r ↔ sent m c t r := by
  constructor
  · rintro ⟨s, hs, e⟩
    refine ⟨s, ?_, e⟩
    by_contra hn
    have h1 : s.val - 2048 * t < 2048 := by omega
    have h2 : 2048 * t + (s.val - 2048 * t) = s.val := by omega
    refine h ⟨s.val - 2048 * t, h1⟩ (e.symm.trans (congrArg (rowOf m c) (Fin.ext ?_)))
    exact h2.symm
  · rintro ⟨s, hs, e⟩
    exact ⟨s, by omega, e⟩

/-- Point `t` keeps the rows its slots do not name, but for the first point's zero fill. -/
theorem rows_kept (H : Apart m c) {t : Nat} (ht : t < 32) (i : grid0.Coords) (hi : k0_cond1 i = 1#1 ↔ t = 0) (x : S81920x2048.Idx)
    (h : ∀ s : Fin 2048, (x 0).val ≠ rowOf m c ⟨2048 * t + s.val, lt_span ht s.isLt⟩) :
    kept i c (tlo m c) (thi m c) (rows m c t) x = rows m c (t + 1) x := by
  unfold kept
  by_cases h0 : t = 0
  · subst h0
    rw [if_pos (hi.2 rfl), rows_first, rows_other 1 Nat.one_pos]
    intro hs
    obtain ⟨s, hs, -⟩ := (sent_succ ht (x 0).val h).1 hs
    exact absurd hs (Nat.not_lt_zero _)
  · rw [if_neg fun e => h0 (hi.1 e)]
    have hs := sent_succ ht (x 0).val h
    by_cases hn : sent m c t (x 0).val
    · obtain ⟨s, hs1, hs2⟩ := hn
      rw [rows_sent H t x s hs1 hs2.symm, rows_sent H (t + 1) x s (by omega) hs2.symm]
    · rw [rows_other t (Nat.pos_of_ne_zero h0) x hn, rows_other (t + 1) (Nat.succ_pos _) x fun e => hn (hs.1 e)]

end Cert.Proof.Dispatch

end
-- ==== Proof.Run.lean ====
/-
  The call as launched: the weights cast, then the grid's thirty-two points, each by `point_run`; every execution ends with the
  output blocks the shared expert's and the dispatched rows `rows 32`.
-/
module

public import proofs.«01_k».proof.Proof.Rows
public import proofs.«01_k».proof.Proof.Gen.KernelIdeal.Launch
public import Idealize.ShloMosaic.Lib.Pipeline.Regions
public import Idealize.ShloMosaic.Lib.Pipeline.FrameBody

@[expose] public section

set_option maxRecDepth 16384

noncomputable section

namespace Cert.Proof.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

abbrev EP : Emb (UR sig nD τ) (MT nD τ sig Unit (Elt F) ℕ (UU nD τ) ℕ) := embL

variable (m : (ℓ : Loc nD τ sig) → Buf (Elt F) ℓ) (ρ : Dev nD → PrngReg)

/-- The buffers at launch, and when the call is entered. -/
abbrev V₀ (c : Dev nD) : Valuation τ sig (Elt F) := fun b => (s₀ m ρ).mem ((c : Dev nD), b)
abbrev V (c : Dev nD) (b : Ref sig .tc) : Buf (Elt F) ((c : Thread nD τ).loc b) := StableHlo.after hostOps0 (V₀ m ρ c) b

theorem not_written (b : Ref sig .tc) (hb : b ≠ main_v0 ∧ b ≠ main_v1 ∧ b ≠ main_v2) :
    ∀ op ∈ (hostOps0 (F := F)), Proc.devRef .tc b ∉ op.writes := by
  obtain ⟨h0, h1, h2⟩ := hb
  intro op hop
  simp only [List.mem_cons, List.mem_nil_iff, or_false] at hop
  rcases hop with rfl | rfl | rfl <;>
    simp only [StableHlo.unary_writes, Finset.mem_singleton] <;>
    exact StableHlo.devRef_ne_of_ne ‹_›

/-- A buffer no cast writes is as launched. -/
theorem V_kept (c : Dev nD) (b : Ref sig .tc) (hb : b ≠ main_v0 ∧ b ≠ main_v1 ∧ b ≠ main_v2) :
    V m ρ c b = m ((c : Thread nD τ).loc b) :=
  StableHlo.after_of_forall_not_mem (b := Proc.devRef .tc b) hostOps0 (V₀ m ρ c) (not_written b hb)

def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

omit [FloatOps F] in
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-- The two padding tables as launched: every content is admissible. -/
def adm (_ : Fin 1) : (pcfg0 (F := F)).Adm :=
  ⟨fun | 0 => m (LoL (0 : Dev nD)) | 1 => m (HiL (0 : Dev nD)) | ⟨_ + 2, h⟩ => absurd h (Nat.not_lt.2 (Nat.le_add_left _ _)), trivial⟩

abbrev cfgA : Cfg sig Λ₀ := cfg0 (adm m 0)

/-- The positions' block at point `t`, and its other operands. -/
abbrev blkP (c : Dev nD) (t : Fin 32) : S2048.Idx → BitVec 32 :=
  fun x => m ((c : Thread nD τ).loc main_arg0) (at65536 ⟨2048 * t.val + (x 0).val, lt_span t.isLt (x 0).isLt⟩)
theorem lt_tok {t s : Nat} (ht : t < 32) (hs : s < 256) : 256 * t + s < 8192 := by omega
abbrev blkH (c : Dev nD) (t : Fin 32) : S256x2048.Idx → BitVec 32 :=
  fun x => m ((c : Thread nD τ).loc main_arg1) (at8192 ⟨256 * t.val + (x 0).val, lt_tok t.isLt (x 0).isLt⟩ (x 1))
abbrev at4096 (i : Fin 8192) (j : Fin 4096) : S8192x4096.Idx := fun | 0 => i | 1 => j
abbrev blkX (c : Dev nD) (t : Fin 32) : S256x4096.Idx → Elt F .bf16 :=
  fun x => m ((c : Thread nD τ).loc main_arg2) (at4096 ⟨256 * t.val + (x 0).val, lt_tok t.isLt (x 0).isLt⟩ (x 1))
abbrev wG (c : Dev nD) : S4096x384.Idx → Elt F .bf16 := V m ρ c main_v0
abbrev wU (c : Dev nD) : S4096x384.Idx → Elt F .bf16 := V m ρ c main_v1
abbrev wD (c : Dev nD) : S384x4096.Idx → Elt F .bf16 := V m ρ c main_v2

/-- The invariant before point `n`: the rows so far, the tables, the two semaphores at zero, the zero block. -/
def Φc (c : Dev nD) (n : Nat) : sProp 𝕄 :=
  iprop((LoL c ↦{fullShare} tlo m c) ∗ (HiL c ↦{fullShare} thi m c) ∗ (XL c ↦{fullShare} rows m c n) ∗ (∃ z, ZL c ↦{fullShare} z)
    ∗ semVal ((c : Thread nD τ), .dma 11) 0 ∗ semVal ((c : Thread nD τ), .dma 12) 0)

def dats (_ : Fin 1) (c : Dev nD) : Dat τ (Elt F) Unit ℕ (UU nD τ) ℕ (cfgA m) c where
  A w := V m ρ c (Pipeline.arrRef spec0 w)
  after w t := match w with
    | ⟨0, _⟩ => blkP m c t
    | ⟨1, _⟩ => blkH m c t
    | ⟨2, _⟩ => blkX m c t
    | ⟨3, _⟩ => wG m ρ c
    | ⟨4, _⟩ => wU m ρ c
    | ⟨5, _⟩ => wD m ρ c
    | ⟨6, _⟩ => k0_pay2 (blkX m c t) (wG m ρ c) (wU m ρ c) (wD m ρ c)
    | ⟨_ + 7, h⟩ => absurd h (Nat.not_lt.2 (Nat.le_add_left _ _))
  Φ t := Φc m c t.val
  q _ := fullShare
  owed _ := 0

theorem A_eq (c : Dev nD) (w : Fin (cfgA m).W) : (dats m ρ 0 c).A w = V m ρ c (Pipeline.arrRef spec0 w) := by
  dsimp only [dats]

abbrev 𝒱₀ : Variants := Variants.none

theorem idx_of (t : Fin (cfgA m).N) : ((cfgA m).grid.coords t 0).val = t.val := by
  revert t
  exact (by decide +kernel : ∀ t : Fin grid0.N, (grid0.coords t 0).val = t.val)

theorem cond_iff (t : Fin grid0.N) : k0_cond1 (grid0.coords t) = 1#1 ↔ t.val = 0 := by
  revert t
  exact (by decide +kernel : ∀ t : Fin grid0.N, k0_cond1 (grid0.coords t) = 1#1 ↔ t.val = 0)

/-- A grid coordinate as a word is itself. -/
theorem word_of {n : Nat} (h : n < 32) : (BitVec.ofNat 32 n).toNat = n := by
  rw [BitVec.toNat_ofNat]; exact Nat.mod_eq_of_lt (by omega)

theorem blk0 (c : Dev nD) (t : Fin (cfgA m).N) : (dats m ρ 0 c).blockOf 0 t = blkP m c t := by
  refine funext fun x : S2048.Idx => ?_
  have hv := V_kept m ρ c main_arg0 (by decide)
  show V m ρ c main_arg0 _ = _
  rw [hv]
  refine congrArg (m ((c : Thread nD τ).loc main_arg0)) (funext fun a => Fin.ext ?_)
  fin_cases a
  show (BitVec.ofNat 32 ((cfgA m).grid.coords t 0).val).toNat * 2048 + 1 * (x 0).val = 2048 * t.val + (x 0).val
  rw [word_of ((cfgA m).grid.coords t 0).isLt, idx_of]
  omega

theorem blk1 (c : Dev nD) (t : Fin (cfgA m).N) : (dats m ρ 0 c).blockOf 1 t = blkH m c t := by
  refine funext fun x : S256x2048.Idx => ?_
  have hv := V_kept m ρ c main_arg1 (by decide)
  show V m ρ c main_arg1 _ = _
  rw [hv]
  refine congrArg (m ((c : Thread nD τ).loc main_arg1)) (funext fun a => Fin.ext ?_)
  fin_cases a
  · show (BitVec.ofNat 32 ((cfgA m).grid.coords t 0).val).toNat * 256 + 1 * (x 0).val = 256 * t.val + (x 0).val
    rw [word_of ((cfgA m).grid.coords t 0).isLt, idx_of]
    omega
  · show (0 : Nat) * 2048 + 1 * (x 1).val = (x 1).val
    omega

theorem blk2 (c : Dev nD) (t : Fin (cfgA m).N) : (dats m ρ 0 c).blockOf 2 t = blkX m c t := by
  refine funext fun x : S256x4096.Idx => ?_
  have hv := V_kept m ρ c main_arg2 (by decide)
  show V m ρ c main_arg2 _ = _
  rw [hv]
  refine congrArg (m ((c : Thread nD τ).loc main_arg2)) (funext fun a => Fin.ext ?_)
  fin_cases a
  · show (BitVec.ofNat 32 ((cfgA m).grid.coords t 0).val).toNat * 256 + 1 * (x 0).val = 256 * t.val + (x 0).val
    rw [word_of ((cfgA m).grid.coords t 0).isLt, idx_of]
    omega
  · show (0 : Nat) * 4096 + 1 * (x 1).val = (x 1).val
    omega

theorem blk3 (c : Dev nD) (t : Fin (cfgA m).N) : (dats m ρ 0 c).blockOf 3 t = wG m ρ c := by
  refine funext fun x : S4096x384.Idx => ?_
  show V m ρ c main_v0 _ = V m ρ c main_v0 x
  refine congrArg (V m ρ c main_v0) (funext fun a => Fin.ext ?_)
  fin_cases a
  · show (0 : Nat) * 4096 + 1 * (x 0).val = (x 0).val
    omega
  · show (0 : Nat) * 384 + 1 * (x 1).val = (x 1).val
    omega

theorem blk4 (c : Dev nD) (t : Fin (cfgA m).N) : (dats m ρ 0 c).blockOf 4 t = wU m ρ c := by
  refine funext fun x : S4096x384.Idx => ?_
  show V m ρ c main_v1 _ = V m ρ c main_v1 x
  refine congrArg (V m ρ c main_v1) (funext fun a => Fin.ext ?_)
  fin_cases a
  · show (0 : Nat) * 4096 + 1 * (x 0).val = (x 0).val
    omega
  · show (0 : Nat) * 384 + 1 * (x 1).val = (x 1).val
    omega

theorem blk5 (c : Dev nD) (t : Fin (cfgA m).N) : (dats m ρ 0 c).blockOf 5 t = wD m ρ c := by
  refine funext fun x : S384x4096.Idx => ?_
  show V m ρ c main_v2 _ = V m ρ c main_v2 x
  refine congrArg (V m ρ c main_v2) (funext fun a => Fin.ext ?_)
  fin_cases a
  · show (0 : Nat) * 384 + 1 * (x 0).val = (x 0).val
    omega
  · show (0 : Nat) * 4096 + 1 * (x 1).val = (x 1).val
    omega

/-- A fetched window holds its block at every point. -/
theorem before_in (c : Dev nD) (w : Fin (cfgA m).W) (hw : ((cfgA m).win w).isOut = false) (hl : ∀ i, (cfgA m).idle w i = false)
    (hc : ∀ i a, ((cfgA m).win w).clip i a = none)
    (hk : ∀ t, ((cfgA m).win w).cut ((cfgA m).grid.coords t) ((dats m ρ 0 c).after w t) = (dats m ρ 0 c).blockOf w t)
    (t : Fin (cfgA m).N) (d) : (dats m ρ 0 c).before w t d = (dats m ρ 0 c).after w t := by
  rw [Dat.before_in_eq_fetched (dats m ρ 0 c) w hw hl (fun t t' _ => funext fun a => (hc _ a).trans (hc _ a).symm) hk]
  unfold Dat.fetched
  rw [← hk, Pipeline.fill_of_clip_none w _ (hc _) d ((dats m ρ 0 c).after w t), Window.fill_cut]

theorem before0 (c : Dev nD) (t : Fin (cfgA m).N) (d) : (dats m ρ 0 c).before 0 t d = blkP m c t :=
  before_in m ρ c 0 rfl (fun _ => rfl) (fun _ _ => rfl) (fun t => (blk0 m ρ c t).symm) t d
theorem before1 (c : Dev nD) (t : Fin (cfgA m).N) (d) : (dats m ρ 0 c).before 1 t d = blkH m c t :=
  before_in m ρ c 1 rfl (fun _ => rfl) (fun _ _ => rfl) (fun t => (blk1 m ρ c t).symm) t d
theorem before2 (c : Dev nD) (t : Fin (cfgA m).N) (d) : (dats m ρ 0 c).before 2 t d = blkX m c t :=
  before_in m ρ c 2 rfl (fun _ => rfl) (fun _ _ => rfl) (fun t => (blk2 m ρ c t).symm) t d
theorem before3 (c : Dev nD) (t : Fin (cfgA m).N) (d) : (dats m ρ 0 c).before 3 t d = wG m ρ c :=
  before_in m ρ c 3 rfl (fun _ => rfl) (fun _ _ => rfl) (fun t => (blk3 m ρ c t).symm) t d
theorem before4 (c : Dev nD) (t : Fin (cfgA m).N) (d) : (dats m ρ 0 c).before 4 t d = wU m ρ c :=
  before_in m ρ c 4 rfl (fun _ => rfl) (fun _ _ => rfl) (fun t => (blk4 m ρ c t).symm) t d
theorem before5 (c : Dev nD) (t : Fin (cfgA m).N) (d) : (dats m ρ 0 c).before 5 t d = wD m ρ c :=
  before_in m ρ c 5 rfl (fun _ => rfl) (fun _ _ => rfl) (fun t => (blk5 m ρ c t).symm) t d

/-- A whole buffer's contents are known of it all. -/
theorem owns_all {sp : Space} {sh : Shape} {e : EltTy} (c : Dev nD) (M : Memref sig .tc sp sh e) (h : M.IsWhole) (X : sh.Idx → Elt F e) :
    (owns (c : Thread nD τ) M fullShare X : sProp 𝕄)
      = iprop(∃ f, ⌜M.view.read (Elt F) f = X⌝ ∗ (M.view.loc (c : Thread nD τ) ↦{fullShare} f)) := by
  unfold owns
  rw [Memref.IsWhole.set_eq_univ h]

abbrev stK (t : Fin (cfgA m).N) : Memref sig .tc .smem S2048 .i32 := spec0_0.stage ((cfgA m).slots t 0)
abbrev stM (t : Fin (cfgA m).N) : Memref sig .tc .vmem S256x2048 .i32 := spec0_1.stage ((cfgA m).slots t 1)
abbrev st5 (t : Fin (cfgA m).N) : Memref sig .tc .vmem S256x4096 .bf16 := spec0_2.stage ((cfgA m).slots t 2)
abbrev st6 (t : Fin (cfgA m).N) : Memref sig .tc .vmem S4096x384 .bf16 := spec0_3.stage ((cfgA m).slots t 3)
abbrev st7 (t : Fin (cfgA m).N) : Memref sig .tc .vmem S4096x384 .bf16 := spec0_4.stage ((cfgA m).slots t 4)
abbrev st8 (t : Fin (cfgA m).N) : Memref sig .tc .vmem S384x4096 .bf16 := spec0_5.stage ((cfgA m).slots t 5)
abbrev st10 (t : Fin (cfgA m).N) : Memref sig .tc .vmem S256x4096 .bf16 := spec0_6.stage ((cfgA m).slots t 6)

theorem kept_all (c : Dev nD) (H : Apart m c) (K : Memref sig .tc .smem S2048 .i32) (ps : Buf (Elt F) (K.view.loc (c : Thread nD τ)))
    (t : Fin grid0.N) (hp0 : ∀ s, posOf c K ps s = rowOf m c ⟨2048 * t.val + s.val, lt_span t.isLt s.isLt⟩) :
    ∀ y ∈ others c K ps, kept (grid0.coords t) c (tlo m c) (thi m c) (rows m c t.val) y = rows m c (t.val + 1) y := by
  intro y hy
  have hm := mem_others c K ps y
  rw [hm] at hy
  refine rows_kept H t.isLt _ (cond_iff t) y ?_
  intro s e
  refine hy s ?_
  rw [hp0]
  exact e

theorem body_obligation (c : Dev nD) (H : Apart m c) : BodyObligation (dats m ρ 0 c) (defs₀ (F := F)) 𝒱₀ () Set.univ := fun t => by
  rw [bigSep_W0, bigSep_W0]
  have ht : t.val < 32 := Nat.lt_of_lt_of_eq t.isLt N_0
  rw [show (dats m ρ 0 c).Φ t.castSucc = Φc m c t.val from rfl, show (dats m ρ 0 c).Φ t.succ = Φc m c (t.val + 1) from rfl]
  unfold Φc Dat.owesAt Pipeline.owesWithin
  rw [show (dats m ρ 0 c).owed t.castSucc = 0 from rfl, show (dats m ρ 0 c).owed t.succ = 0 from rfl]
  iintro ⟨⟨HL, HH, HX, HZ, Hs, Hs2⟩, ⟨%W, %hW, HO⟩, ⟨%d0, H0⟩, ⟨%d1, H1⟩, ⟨%d2, H2⟩, ⟨%d3, H3⟩, ⟨%d4, H4⟩, ⟨%d5, H5⟩, ⟨%d6, H6⟩⟩
  ihave H0 := (Entails.of_eq ((congrArg _ (before0 m ρ c t d0)).trans (owns_all c (stK m t) (hstage0_0 _) (blkP m c t)))) $$ H0
  ihave H1 := (Entails.of_eq ((congrArg _ (before1 m ρ c t d1)).trans (owns_all c (stM m t) (hstage0_1 _) (blkH m c t)))) $$ H1
  ihave H2 := (Entails.of_eq ((congrArg _ (before2 m ρ c t d2)).trans (owns_all c (st5 m t) (hstage0_2 _) (blkX m c t)))) $$ H2
  ihave H3 := (Entails.of_eq ((congrArg _ (before3 m ρ c t d3)).trans (owns_all c (st6 m t) (hstage0_3 _) (wG m ρ c)))) $$ H3
  ihave H4 := (Entails.of_eq ((congrArg _ (before4 m ρ c t d4)).trans (owns_all c (st7 m t) (hstage0_4 _) (wU m ρ c)))) $$ H4
  ihave H5 := (Entails.of_eq ((congrArg _ (before5 m ρ c t d5)).trans (owns_all c (st8 m t) (hstage0_5 _) (wD m ρ c)))) $$ H5
  ihave H6 := (Entails.of_eq (owns_all c (st10 m t) (hstage0_6 _) _)) $$ H6
  icases H0 with ⟨%ps, %e0, H0⟩
  icases H1 with ⟨%hp, %e1, H1⟩
  icases H2 with ⟨%x, %e2, H2⟩
  icases H3 with ⟨%wg, %e3, H3⟩
  icases H4 with ⟨%wu, %e4, H4⟩
  icases H5 with ⟨%wd, %e5, H5⟩
  icases H6 with ⟨%o, %e6, H6⟩
  have hp0 : ∀ s, posOf c (stK m t) ps s = rowOf m c ⟨2048 * t.val + s.val, lt_span ht s.isLt⟩ := fun s =>
    congrArg BitVec.toNat (congrFun e0 _)
  iapply (wp_wand frame (wpE (defs₀ (F := F)) 𝒱₀ c none) Set.univ) $$ [HL HH HX HZ Hs Hs2 HO H0 H1 H2 H3 H4 H5 H6]
  · iapply (point_run (i := (cfgA m).grid.coords t) (K := stK m t) (hK := hstage0_0 _) (M := stM m t) (hM := hstage0_1 _)
      (A5 := st5 m t) (h5 := hstage0_2 _) (A6 := st6 m t) (h6 := hstage0_3 _) (A7 := st7 m t) (h7 := hstage0_4 _)
      (A8 := st8 m t) (h8 := hstage0_5 _) (A10 := st10 m t) (h10 := hstage0_6 _) (c := c) (ps := ps) (hp := hp) (f := rows m c t.val)
      (g := rows m c (t.val + 1)) (tl := tlo m c) (th := thi m c) (x := x) (wg := wg) (wu := wu) (wd := wd) (o := o)
      (hpos := fun s => by rw [hp0]; exact H.pos _)
      (hinj := fun s s' h => by
        rw [hp0, hp0] at h
        have := congrArg Fin.val (H.inj _ _ h)
        exact Fin.ext (Nat.add_left_cancel this))
      (hlo := H.lo) (hhi := H.hi) (hout := fun s e => by rw [hp0]; exact H.out _ e)
      (hg := fun s y hy => by
        have h1 := rows_sent H (t.val + 1) y ⟨2048 * t.val + s.val, lt_span ht s.isLt⟩ (lt_next s.isLt) (hy.trans (hp0 s))
        have h2 := congrFun e1 (at256 (tok s) (y 1))
        rw [h1, h2]
        refine congrArg (fun k => m ((c : Thread nD τ).loc main_arg1) (at8192 k (y 1))) (Fin.ext ?_)
        show (2048 * t.val + s.val) / 8 = 256 * t.val + s.val / 8
        omega)
      (hgk := kept_all m c H (stK m t) ps t hp0))
    isplitl [H0]; · iexact H0
    isplitl [H1]; · iexact H1
    isplitl [H2 H3 H4 H5]
    · isplitl [H2]; · iexact H2
      isplitl [H3]; · iexact H3
      isplitl [H4] <;> iassumption
    isplitl [H6]; · iexact H6
    isplitl [Hs]; · iexact Hs
    isplitl [HL]; · iexact HL
    isplitl [HH]; · iexact HH
    isplitl [HX]; · iexact HX
    isplitl [HZ]; · iexact HZ
    isplitl [Hs2]; · iexact Hs2
    iexists W; iexact HO
  iintro %_ ⟨H0, H1, ⟨H2, H3, H4, H5⟩, ⟨%o', %eo, H6⟩, Hs, HL, HH, HX, HZ, Hs2, ⟨%W', HO⟩⟩
  isplitl [HL HH HX HZ Hs Hs2]
  · isplitl [HL]; · iexact HL
    isplitl [HH]; · iexact HH
    isplitl [HX]; · iexact HX
    isplitl [HZ]; · iexact HZ
    isplitl [Hs] <;> iassumption
  isplitl [HO]
  · iexists W'; isplitr; · ipureintro; exact fun _ _ => Or.inl trivial
    iexact HO
  isplitl [H0]; · iapply (Entails.of_eq (owns_all c (stK m t) (hstage0_0 _) (blkP m c t)).symm); iexists ps; isplitr; · ipureintro; exact e0
                  iexact H0
  isplitl [H1]; · iapply (Entails.of_eq (owns_all c (stM m t) (hstage0_1 _) (blkH m c t)).symm); iexists hp; isplitr; · ipureintro; exact e1
                  iexact H1
  isplitl [H2]; · iapply (Entails.of_eq (owns_all c (st5 m t) (hstage0_2 _) (blkX m c t)).symm); iexists x; isplitr; · ipureintro; exact e2
                  iexact H2
  isplitl [H3]; · iapply (Entails.of_eq (owns_all c (st6 m t) (hstage0_3 _) (wG m ρ c)).symm); iexists wg; isplitr; · ipureintro; exact e3
                  iexact H3
  isplitl [H4]; · iapply (Entails.of_eq (owns_all c (st7 m t) (hstage0_4 _) (wU m ρ c)).symm); iexists wu; isplitr; · ipureintro; exact e4
                  iexact H4
  isplitl [H5]; · iapply (Entails.of_eq (owns_all c (st8 m t) (hstage0_5 _) (wD m ρ c)).symm); iexists wd; isplitr; · ipureintro; exact e5
                  iexact H5
  iapply (Entails.of_eq (owns_all c (st10 m t) (hstage0_6 _) (k0_pay2 (blkX m c t) (wG m ρ c) (wU m ρ c) (wD m ρ c))).symm)
  iexists o'; isplitr
  · ipureintro; rw [eo, e2, e3, e4, e5]
  iexact H6

/-! ## The launch -/

abbrev osem : Fin 2 → SemLoc sig := fun | 0 => .dma 11 | 1 => .dma 12 | ⟨_ + 2, h⟩ => absurd h (Nat.not_lt.2 (Nat.le_add_left _ _))

theorem ownSemFacts : Pipeline.OwnSemFacts spec0 osem := by decide

abbrev admF : (p : Fin 1) → (pcfgs (F := F) p).Adm := adm m

/-- The launch element: the pipeline's own part; no counter yet. -/
def u₀ : UU nD τ := (initOf (Pipeline.cells (Pipeline.pin pcfgs (admF m)) (cellOf_inj (admF m))) (Pipeline.launchToks (Pipeline.pin pcfgs (admF m)) (cellOf_inj (admF m))), 1)

abbrev sems (c : Dev nD) : sProp 𝕄 := iprop(semVal ((c : Thread nD τ), .dma 11) 0 ∗ semVal ((c : Thread nD τ), .dma 12) 0)

omit [FloatOps F] in
theorem ownSems0_eq (c : Dev nD) :
    (Pipeline.ownSems0 (Ix := Unit) (Name := ℕ) (U := UU nD τ) (Lvl := ℕ) (Val := Elt F) (τ := τ) osem c : sProp 𝕄) = sems c :=
  Pipeline.ownSems0_eq_of_list c osem [0, 1] (by decide) (by decide)

/-- The tables held, one by one. -/
theorem tables_eq (c : Dev nD) : (Pipeline.prefHeld pre0 c (fun _ => fullShare) (adm m 0).1 : sProp 𝕄)
    = iprop((LoL c ↦{fullShare} tlo m c) ∗ (HiL c ↦{fullShare} thi m c)) := by
  obtain rfl : c = 0 := Subsingleton.elim _ _
  unfold Pipeline.prefHeld
  rw [show (Finset.univ : Finset (Fin pre0.K)) = insert (0 : Fin 2) {(1 : Fin 2)} from by decide, bigSep_insert (by decide), bigSep_singleton]
  rfl

/-- The tables are as launched when the call is entered. -/
theorem tables_kept (c : Dev nD) : (fun k => V m ρ c (pre0.ref k)) = (adm m 0).1 := by
  obtain rfl : c = 0 := Subsingleton.elim _ _
  funext k
  fin_cases k
  · exact V_kept m ρ 0 main_arg6 (by decide)
  · exact V_kept m ρ 0 main_arg7 (by decide)

abbrev L : GSem nD τ sig → Finset Unit := fun _ => ∅
abbrev lv : GSem nD τ sig → Unit → ℕ := fun _ _ => 0
abbrev R (c : Dev nD) : sProp 𝕄 := iprop(∃ W, owes (c : Thread nD τ) (0 : CellTallies nD τ sig Unit) W)

def seg0 : Pipeline.HostSeg (Name := ℕ) (U := UU nD τ) (pcfgs (F := F)) defs₀ 𝒱₀ L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m ρ) R

/-- The weights as given, untouched by the call. -/
abbrev weights (c : Dev nD) : sProp 𝕄 :=
  iprop((((c : Thread nD τ).loc main_arg3) ↦{fullShare} V m ρ c main_arg3) ∗ (((c : Thread nD τ).loc main_arg4) ↦{fullShare} V m ρ c main_arg4)
    ∗ (((c : Thread nD τ).loc main_arg5) ↦{fullShare} V m ρ c main_arg5))

/-- What the call leaves: its windows' arrays, the rows sent, the tables and the weights as given. -/
abbrev Tₙ (c : Dev nD) : sProp 𝕄 :=
  iprop((dats m ρ 0 c).arrays ((dats m ρ 0 c).arrAt · (cfgA m).N) ∗ (XL c ↦{fullShare} rows m c 32)
    ∗ ((LoL c ↦{fullShare} tlo m c) ∗ (HiL c ↦{fullShare} thi m c)) ∗ weights m ρ c)

set_option backward.isDefEq.respectTransparency.types false in
def reg0 (H : ∀ c, Apart m c) : Pipeline.RegionSeg (pcfgs (F := F)) (admF m) (dats m ρ) () defs₀ 𝒱₀ L lv 0 where
  win := (launch0 (F := F)).win.to₀
  block_pos := (launch0 (F := F)).block_pos
  stage_whole := (launch0 (F := F)).stage_whole
  K := Fin 2
  osem := osem
  ho := ownSemFacts
  hbody c := (body_obligation m ρ c (H c)).loose
  hwaits := Pipeline.hwaits_of_owed_zero _ _ _ _ L lv 0 fun _ _ => rfl
  pre c := iprop(StableHlo.held (c : Thread nD τ) ucRefs (StableHlo.after hostOps0 (V₀ m ρ c)) ∗ R c)
  post c := iprop(Tₙ m ρ c ∗ R c)
  X c := iprop((XL c ↦{fullShare} rows m c 0) ∗ sems c)
  Y c := iprop((XL c ↦{fullShare} rows m c 32) ∗ ((LoL c ↦{fullShare} tlo m c) ∗ (HiL c ↦{fullShare} thi m c)))
  Z c := weights m ρ c
  hentry c := by
    rw [show StableHlo.held (c : Thread nD τ) ucRefs (StableHlo.after hostOps0 (V₀ m ρ c)) = unscopedBufs c (V m ρ c) from (unscopedBufs_held c _).symm,
      ownSems0_eq]
    have hsplit := (Pipeline.arrays_of_unscopedBufs (pcfgs (F := F)) (admF m) (dats m ρ) (launch0 (F := F)).win (launch0 (F := F)).arr_whole c
      ((dats m ρ 0 c).share_full fun _ => rfl) (V m ρ c) (A_eq m ρ c)).trans
        (sep_mono .rfl (Entails.of_eq ((Pipeline.unscopedRest_split preFacts0 c (V m ρ c)).trans
          (congrArg₂ _ rfl (unscopedRestP0_eq c (V m ρ c))))))
    iintro ⟨⟨Hub, HO⟩, Hos, -⟩
    ihave H := hsplit $$ Hub
    icases H with ⟨Ha, Hp, H3, H4, H5, HX⟩
    imodintro
    isplitl [Ha]; · iexact Ha
    isplitl [Hp]; · iapply (Entails.of_eq (congrArg (fun v => (Pipeline.prefHeld pre0 c (fun _ => fullShare) v : sProp 𝕄)) (tables_kept m ρ c))); iexact Hp
    isplitl [HO]
    · unfold Pipeline.Dat.owesAt Pipeline.owesWithin
      icases HO with ⟨%W, HO⟩; iexists W; isplitr; · ipureintro; exact fun _ _ => Or.inl trivial
      iexact HO
    isplitl [HX Hos]
    · isplitl [HX]; · iapply (Entails.of_eq (congrArg (fun v => (XL c ↦{fullShare} v : sProp 𝕄)) ((V_kept m ρ c main_v3_0 (by decide)).trans rows_first.symm))); iexact HX
      iexact Hos
    isplitl [H3]; · iexact H3
    isplitl [H4] <;> iassumption
  hin c := by
    rw [show (dats m ρ 0 c).Φ 0 = Φc m c 0 from rfl]; unfold Φc
    iintro ⟨⟨HX, Hs, Hs2⟩, Hp, Hr⟩
    ihave Hp := (Entails.of_eq (tables_eq m c)) $$ Hp
    icases Hp with ⟨HL, HH⟩
    ihave Hr := (Entails.of_eq (scopedRest0_eq c)) $$ Hr
    isplitl [HL]; · iexact HL
    isplitl [HH]; · iexact HH
    isplitl [HX]; · iexact HX
    isplitl [Hr]; · iexact Hr
    isplitl [Hs] <;> iassumption
  hout c := by
    rw [ownSems0_eq, show (dats m ρ 0 c).Φ (Fin.last (cfgA m).N) = Φc m c 32 from congrArg (Φc m c) N_0]; unfold Φc
    iintro ⟨HL, HH, HX, HZ, Hs, Hs2⟩
    isplitl [HL HH HX]
    · isplitl [HX]; · iexact HX
      isplitl [HL] <;> iassumption
    isplitl [Hs Hs2]
    · isplitl [Hs] <;> iassumption
    iapply (Entails.of_eq (scopedRest0_eq c).symm); iexact HZ
  hexit c := by
    iintro ⟨Ha, HO, ⟨HX, HT⟩, HZ⟩
    imodintro
    isplitr [HO]
    · isplitl [Ha]; · iexact Ha
      isplitl [HX]; · iexact HX
      isplitl [HT] <;> iassumption
    · unfold Pipeline.Dat.owesAt Pipeline.owesWithin
      icases HO with ⟨%W, -, HO⟩; iexists W; iexact HO

/-- What every execution ends with. -/
def QC : PUnit × MemSt nD τ sig (Elt F) → Prop := fun r =>
  ∀ c : Dev nD, (∀ w : Fin (cfgA m).W, r.2.mem (((cfgA m).win w).arr.view.loc (c : Thread nD τ)) = (dats m ρ 0 c).arrAt w (cfgA m).N)
    ∧ r.2.mem (XL c) = rows m c 32
    ∧ (r.2.mem ((c : Thread nD τ).loc main_arg6) = m ((c : Thread nD τ).loc main_arg6) ∧ r.2.mem ((c : Thread nD τ).loc main_arg7) = m ((c : Thread nD τ).loc main_arg7))
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)

abbrev segs (H : ∀ c, Apart m c) : List (Pipeline.Seg (pcfgs (F := F)) (admF m) (dats m ρ) () defs₀ 𝒱₀ L lv) := [.host (seg0 m ρ), .region (reg0 m ρ H)]

set_option backward.isDefEq.respectTransparency.types false in
theorem run_main (H : ∀ c, Apart m c) : θ_run defs (onTc (τ := τ) (main (F := F))) (s₀ m ρ) (fun r => QC m ρ r ∧ r.2.sem = fun _ => 0) :=
  Pipeline.θ_run_regions_kit_sems (pcfgs (F := F)) (admF m) (dats m ρ) () (cellOf_inj (admF m)) EP defs₀ 𝒱₀ L lv m ρ main (segs m ρ H)
    (fun c Q => by rw [main_segs (admF m) (dats m ρ) () 𝒱₀ L lv (seg0 m ρ) (reg0 m ρ H) rfl c])
    (by simp only [Pipeline.Seg.pipes_host, Pipeline.Seg.pipes_region, Pipeline.Seg.pipes_nil]; decide) (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m ρ c) from unscopedBufs_held c (V₀ m ρ c)]
      iintro ⟨⟨Hh, -, HO, -, -, -⟩, -⟩
      imodintro
      isplitl [Hh]; · iexact Hh
      iexists ∅; iexact HO)
    (QY := fun c s => (∀ w : Fin (cfgA m).W, s.mem (((cfgA m).win w).arr.view.loc (c : Thread nD τ)) = (dats m ρ 0 c).arrAt w (cfgA m).N)
      ∧ s.mem (XL c) = rows m c 32
      ∧ (s.mem ((c : Thread nD τ).loc main_arg6) = m ((c : Thread nD τ).loc main_arg6) ∧ s.mem ((c : Thread nD τ).loc main_arg7) = m ((c : Thread nD τ).loc main_arg7))
      ∧ s.mem ((c : Thread nD τ).loc main_arg3) = m ((c : Thread nD τ).loc main_arg3)
      ∧ s.mem ((c : Thread nD τ).loc main_arg4) = m ((c : Thread nD τ).loc main_arg4)
      ∧ s.mem ((c : Thread nD τ).loc main_arg5) = m ((c : Thread nD τ).loc main_arg5))
    (hfin := fun c s' => by
      dsimp only [Tₙ, weights]
      rw [V_kept m ρ c main_arg3 (by decide), V_kept m ρ c main_arg4 (by decide), V_kept m ρ c main_arg5 (by decide)]
      iintro ⟨⟨Ha, HX, ⟨HL, HH⟩, H3, H4, H5⟩, HSI⟩
      icombine HSI HX gives %hx
      icombine HSI HL gives %hl
      icombine HSI HH gives %hh
      icombine HSI H3 gives %h3
      icombine HSI H4 gives %h4
      icombine HSI H5 gives %h5
      ihave Hr := (Pipeline.arrays_read (pcfgs (F := F)) (admF m) (dats m ρ) (launch0 (F := F)).arr_whole c ((dats m ρ 0 c).share_full fun _ => rfl) _ s') $$ [Ha HSI]
      · isplitl [Ha] <;> iassumption
      icases Hr with ⟨%ha, HSI⟩
      imodintro
      isplitr
      · ipureintro
        exact ⟨ha, Buf.eq_of_forall_mem_univ hx, ⟨Buf.eq_of_forall_mem_univ hl, Buf.eq_of_forall_mem_univ hh⟩,
          Buf.eq_of_forall_mem_univ h3, Buf.eq_of_forall_mem_univ h4, Buf.eq_of_forall_mem_univ h5⟩
      iexact HSI)
    (hQ := fun _ h hz => ⟨h, funext fun g => hz g (.inr (by revert g; decide))⟩)

end Cert.Proof.Dispatch

end
-- ==== Proof.Pre.lean ====
/-
  What the precondition says, element by element: the four conjunctions of `slots_apart` read off its one bit.
-/
module

public import proofs.«01_k».proof.Pre_slots_apart
public import Idealize.ShloMosaic.Lib.ReduceAll

@[expose] public section

set_option maxRecDepth 16384

noncomputable section

namespace Cert.Proof.Dispatch

open Cert.Pre_slots_apart Cert.Pre_slots_apart.Facts
open Idealize.ShloMosaic

variable {F : FTy → Type} [FloatOps F] [Cert.Pre_slots_apart.Facts]

theorem ofBool_one (p : Bool) : BitVec.ofBool p = 1#1 ↔ p = true := by cases p <;> decide
theorem ori_one {a b : BitVec 1} : IntOp.ori a b = 1#1 ↔ a = 1#1 ∨ b = 1#1 := by
  revert a b; decide

theorem nat_of_signed {v : BitVec 32} (h0 : BitVec.sle 0#32 v = true) : v.toInt = v.toNat := by
  simp only [BitVec.sle, decide_eq_true_eq] at h0
  have : (0#32 : BitVec 32).toInt = 0 := by decide
  rw [this] at h0
  simp only [BitVec.toInt] at h0 ⊢
  split at h0
  · rw [if_pos ‹_›]
  · have := v.isLt; omega

theorem lt_of_signed {v w : BitVec 32} (hv : BitVec.sle 0#32 v = true) (hw : BitVec.sle 0#32 w = true) :
    (BitVec.slt v w = true ↔ v.toNat < w.toNat) ∧ (BitVec.sle v w = true ↔ v.toNat ≤ w.toNat) := by
  simp only [BitVec.slt, BitVec.sle, decide_eq_true_eq]
  rw [nat_of_signed hv, nat_of_signed hw]
  omega

abbrev ix65536 (s : Fin 65536) : S65536.Idx := fun | 0 => s
abbrev ix64 (e : Fin 64) : S64.Idx := fun | 0 => e

variable (p : IVec S65536 32) (h1 : IVec S8192x2048 32) (h2 : FVec F S8192x4096 .bf16) (h3 h4 : FVec F S4096x384 .f32)
  (h5 : FVec F S384x4096 .f32) (lo hi : IVec S64 32)

/-- The four conjunctions. -/
theorem pre_parts (h : fn (F := F) p h1 h2 h3 h4 h5 lo hi = fun _ => 1#1) :
    (∀ s, BitVec.sle 0#32 (p (ix65536 s)) = true ∧ (p (ix65536 s)).toNat < 81920)
    ∧ (∀ s s', p (ix65536 s) = p (ix65536 s') → s = s')
    ∧ (∀ e, (BitVec.sle 0#32 (lo (ix64 e)) = true ∧ (lo (ix64 e)).toNat ≤ 81920) ∧ (BitVec.sle 0#32 (hi (ix64 e)) = true ∧ (hi (ix64 e)).toNat ≤ 81920))
    ∧ (∀ s e, (p (ix65536 s)).toNat < (lo (ix64 e)).toNat ∨ (hi (ix64 e)).toNat ≤ (p (ix65536 s)).toNat) := by
  have e := congrFun h (fun a => a.elim0)
  obtain ⟨e, h42⟩ := IntOp.andi_eq_one.1 (show IntOp.andi _ _ = 1#1 from e)
  obtain ⟨e, h30⟩ := IntOp.andi_eq_one.1 (show IntOp.andi _ _ = 1#1 from e)
  obtain ⟨h6, h18⟩ := IntOp.andi_eq_one.1 (show IntOp.andi _ _ = 1#1 from e)
  have k81920 : BitVec.sle 0#32 81920#32 = true := by decide
  have A : ∀ s, BitVec.sle 0#32 (p (ix65536 s)) = true ∧ (p (ix65536 s)).toNat < 81920 := fun s => by
    have a : IntOp.andi (IntOp.cmpi .sge (p (ix65536 s)) 0#32) (IntOp.cmpi .slt (p (ix65536 s)) 81920#32) = 1#1 :=
      Host.reduce_andi_all _ _ _ _ _ h6 (ix65536 s)
    obtain ⟨a, b⟩ := IntOp.andi_eq_one.1 a
    have a := (ofBool_one _).1 a
    have b := (ofBool_one _).1 b
    exact ⟨a, (lt_of_signed a k81920).1.1 b⟩
  have C : ∀ e, (BitVec.sle 0#32 (lo (ix64 e)) = true ∧ (lo (ix64 e)).toNat ≤ 81920) ∧ (BitVec.sle 0#32 (hi (ix64 e)) = true ∧ (hi (ix64 e)).toNat ≤ 81920) := fun e => by
    have a : IntOp.andi (IntOp.andi (IntOp.andi (IntOp.cmpi .sge (lo (ix64 e)) 0#32) (IntOp.cmpi .sle (lo (ix64 e)) 81920#32))
        (IntOp.cmpi .sge (hi (ix64 e)) 0#32)) (IntOp.cmpi .sle (hi (ix64 e)) 81920#32) = 1#1 :=
      Host.reduce_andi_all _ _ _ _ _ h30 (ix64 e)
    obtain ⟨a, b4⟩ := IntOp.andi_eq_one.1 a
    obtain ⟨a, b3⟩ := IntOp.andi_eq_one.1 a
    obtain ⟨b1, b2⟩ := IntOp.andi_eq_one.1 a
    have b1 := (ofBool_one _).1 b1
    have b2 := (ofBool_one _).1 b2
    have b3 := (ofBool_one _).1 b3
    have b4 := (ofBool_one _).1 b4
    exact ⟨⟨b1, (lt_of_signed b1 k81920).2.1 b2⟩, b3, (lt_of_signed b3 k81920).2.1 b4⟩
  refine ⟨A, fun s s' hs => ?_, C, fun s e => ?_⟩
  · have a := Host.reduce_andi_all _ _ _ _ _ h18 (fun | 0 => s | 1 => s' : S65536x65536.Idx)
    have a : IntOp.ori (IntOp.cmpi .ne (p (ix65536 s)) (p (ix65536 s'))) (IntOp.cmpi .eq (BitVec.ofNat 32 s.val) (BitVec.ofNat 32 s'.val)) = 1#1 := by
      refine Eq.trans ?_ a
      exact congrArg₂ IntOp.ori (congrArg₂ (IntOp.cmpi .ne) (congrArg p (funext fun a => by fin_cases a; rfl)) (congrArg p (funext fun a => by fin_cases a; rfl))) (congrArg₂ (IntOp.cmpi .eq) rfl rfl)
    rcases ori_one.1 a with a | a
    · have a := (ofBool_one _).1 a
      exact absurd hs (by simpa using a)
    · have a := (ofBool_one _).1 a
      have a : BitVec.ofNat 32 s.val = BitVec.ofNat 32 s'.val := by simpa using a
      have a := congrArg BitVec.toNat a
      rw [BitVec.toNat_ofNat, BitVec.toNat_ofNat, Nat.mod_eq_of_lt (by have := s.isLt; omega), Nat.mod_eq_of_lt (by have := s'.isLt; omega)] at a
      exact Fin.ext a
  · have a := Host.reduce_andi_all _ _ _ _ _ h42 (fun | 0 => s | 1 => e : S65536x64.Idx)
    have a : IntOp.ori (IntOp.cmpi .slt (p (ix65536 s)) (lo (ix64 e))) (IntOp.cmpi .sge (p (ix65536 s)) (hi (ix64 e))) = 1#1 := by
      refine Eq.trans ?_ a
      exact congrArg₂ IntOp.ori (congrArg₂ (IntOp.cmpi .slt) (congrArg p (funext fun a => by fin_cases a; rfl)) (congrArg lo (funext fun a => by fin_cases a; rfl))) (congrArg₂ (IntOp.cmpi .sge) (congrArg p (funext fun a => by fin_cases a; rfl)) (congrArg hi (funext fun a => by fin_cases a; rfl)))
    rcases ori_one.1 a with a | a
    · exact Or.inl ((lt_of_signed (A s).1 (C e).1.1).1.1 ((ofBool_one _).1 a))
    · exact Or.inr ((lt_of_signed (C e).2.1 (A s).1).2.1 ((ofBool_one _).1 a))

end Cert.Proof.Dispatch

end
-- ==== Proof.Frames.lean ====
/-
  The precondition as `Apart` of a memory, and the frames: the run of the call, from any memory where the slots are apart, ends with
  every argument as it was and every counter zero — at either instance, for the two programs are the same text.
-/
module

public import proofs.«01_k».proof.Defs
public import proofs.«01_k».proof.Proof.Run
public import proofs.«01_k».proof.Proof.Pre
public import proofs.«01_k».proof.Proof.Gen.Kernel
public import proofs.«01_k».proof.Proof.Gen.KernelIdeal
public import proofs.«01_k».proof.Proof.Gen.ReferenceIdeal.Run
public import proofs.«01_k».proof.Proof.Gen.Pre_slots_apart

@[expose] public section

set_option maxRecDepth 16384

noncomputable section

namespace Cert.Proof.Dispatch

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- The precondition at a core, read off as `Apart`. -/
theorem apart_of (c : Dev nD)
    (h : Cert.Pre_slots_apart.fn (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = fun _ => 1#1) :
    Apart m c := by
  obtain ⟨A, B, C, D⟩ := pre_parts _ _ _ _ _ _ _ _ h
  exact ⟨fun s => (A s).2, fun s s' e => B s s' (BitVec.eq_of_toNat_eq e), fun e => (C e).1.2, fun e => (C e).2.2, D⟩

theorem arg0_kept {r : PUnit × MemSt nD τ sig (Elt F)} (h : QC m ρ r) (c : Dev nD) : r.2.mem ((c : Thread nD τ).loc main_arg0) = m ((c : Thread nD τ).loc main_arg0) :=
  ((h c).1 0).trans ((((dats m ρ 0 c).arrAt_in 0 rfl _).trans (A_eq m ρ c 0)).trans (V_kept m ρ c main_arg0 (by decide)))
theorem arg1_kept {r : PUnit × MemSt nD τ sig (Elt F)} (h : QC m ρ r) (c : Dev nD) : r.2.mem ((c : Thread nD τ).loc main_arg1) = m ((c : Thread nD τ).loc main_arg1) :=
  ((h c).1 1).trans ((((dats m ρ 0 c).arrAt_in 1 rfl _).trans (A_eq m ρ c 1)).trans (V_kept m ρ c main_arg1 (by decide)))
theorem arg2_kept {r : PUnit × MemSt nD τ sig (Elt F)} (h : QC m ρ r) (c : Dev nD) : r.2.mem ((c : Thread nD τ).loc main_arg2) = m ((c : Thread nD τ).loc main_arg2) :=
  ((h c).1 2).trans ((((dats m ρ 0 c).arrAt_in 2 rfl _).trans (A_eq m ρ c 2)).trans (V_kept m ρ c main_arg2 (by decide)))

theorem args_kept {r : PUnit × MemSt nD τ sig (Elt F)} (h : QC m ρ r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7) :=
  ⟨arg0_kept m ρ h c, arg1_kept m ρ h c, arg2_kept m ρ h c, (h c).2.2.2.1, (h c).2.2.2.2.1, (h c).2.2.2.2.2, (h c).2.2.1.1, (h c).2.2.1.2⟩

theorem frame_ideal : Cert.quiescent_KernelIdeal := fun m ρ hp =>
  (θ_run Cert.KernelIdeal.defs _ _).mono (fun _ h => ⟨fun c => args_kept m ρ h.1 c, h.2⟩)
    (run_main (F := Ideal) m ρ fun c => apart_of m c (hp c))

/-- The two instances' programs are the same text. -/
theorem body_same : @Cert.Kernel.cc0_dispatch_shared Bits _ Cert.Kernel.Gen.facts = @Cert.KernelIdeal.cc0_dispatch_shared Bits _ Cert.KernelIdeal.Gen.facts := by
  funext i a1 b1 a2 b2 a3 b3 a4 b4 a5 b5 a6 b6 a7 b7 a8 b8 a9 b9 a10 b10 a11 b11 s
  unfold Cert.Kernel.cc0_dispatch_shared Cert.KernelIdeal.cc0_dispatch_shared
  rfl
theorem bodies_same : Cert.Kernel.defs₀ (F := Bits) = Cert.KernelIdeal.defs₀ (F := Bits) := by
  unfold Cert.Kernel.defs₀ Cert.KernelIdeal.defs₀
  rw [body_same]
  refine congrArg Defs.onTc (funext fun k => funext fun a => ?_)
  match k, a with
  | ⟨0, _⟩, (t, s) => rfl
theorem defs_same : Cert.Kernel.defs (F := Bits) = Cert.KernelIdeal.defs (F := Bits) := by
  unfold Cert.Kernel.defs Cert.KernelIdeal.defs
  rw [bodies_same]
  rfl

theorem frame_kernel : Cert.quiescent_Kernel := fun m ρ hp => by
  rw [defs_same]
  exact (θ_run Cert.KernelIdeal.defs _ _).mono (fun _ h => ⟨fun c => args_kept (F := Bits) m ρ h.1 c, h.2⟩)
    (run_main (F := Bits) m ρ fun c => apart_of (F := Bits) m c (hp c))

theorem frame_reference : Cert.quiescent_ReferenceIdeal := fun m ρ _ =>
  (θ_run Cert.ReferenceIdeal.defs _ _).mono (fun _ h => ⟨fun c => (h c).2.2, Idealize.ShloMosaic.sem_eq_zero_of_no_sems (by decide) _⟩) (Cert.ReferenceIdeal.Value.run (F := Ideal) m ρ)

end Cert.Proof.Dispatch

end
-- ==== Proof.Shared.lean ====
/-
  The shared expert's block at the ideal instance, element by element: the kernel's block and the reference's product are one formula.
-/
module

public import proofs.«01_k».proof.Proof.Run
public import proofs.«01_k».proof.Proof.Gen.ReferenceIdeal
public import Idealize.ShloMosaic.Lib.Pointwise
public import Idealize.ShloMosaic.Lib.Pipeline.Value

@[expose] public section

set_option maxRecDepth 16384

noncomputable section

namespace Cert.Proof.Dispatch

open Cert.KernelIdeal Cert.KernelIdeal.Gen
open Idealize.ShloMosaic Idealize.ShloMosaic.TcCoe
open Idealize.SL Idealize.SL.Sem

/-- The reference's second result, of its arguments. -/
def sharedRef (x : FVec Ideal S8192x4096 .bf16) (g u : FVec Ideal S4096x384 .f32) (d : FVec Ideal S384x4096 .f32) : FVec Ideal S8192x4096 .bf16 :=
  truncf .bf16 (Host.dotGeneral Cert.ReferenceIdeal.dot_S8192x384_S384x4096_S8192x4096_1_0_0_1_n_n none
    (mulf (mulf (Host.dotGeneral Cert.ReferenceIdeal.dot_S8192x4096_S4096x384_S8192x384_1_0_0_1_n_n none (extf .f32 x Cert.ReferenceIdeal.Facts₀.bitsLt_bf16_f32) g)
      (Host.divf (broadcastInDim Cert.ReferenceIdeal.S8192x384 ![] Cert.ReferenceIdeal.Facts₀.bcast_S_S8192x384 (constant S_ .f32 0x3F800000#32))
        (addf (broadcastInDim Cert.ReferenceIdeal.S8192x384 ![] Cert.ReferenceIdeal.Facts₀.bcast_S_S8192x384 (constant S_ .f32 0x3F800000#32))
          (Host.exp (Host.negf (Host.dotGeneral Cert.ReferenceIdeal.dot_S8192x4096_S4096x384_S8192x384_1_0_0_1_n_n none (extf .f32 x Cert.ReferenceIdeal.Facts₀.bitsLt_bf16_f32) g))))))
      (Host.dotGeneral Cert.ReferenceIdeal.dot_S8192x4096_S4096x384_S8192x384_1_0_0_1_n_n none (extf .f32 x Cert.ReferenceIdeal.Facts₀.bitsLt_bf16_f32) u)) d)
    Cert.ReferenceIdeal.Facts₀.bitsLt_bf16_f32

/-- Row `p` of a block that holds row `r` of the tokens comes out as row `r` of the reference. -/
theorem pay2_apply (x : Vec Ideal S256x4096 .bf16) (X : Vec Ideal S8192x4096 .bf16) (g u : Vec Ideal S4096x384 .bf16)
    (G U : FVec Ideal S4096x384 .f32) (d : Vec Ideal S384x4096 .bf16) (D : FVec Ideal S384x4096 .f32) (p : Fin 256) (q : Fin 4096) (r : Fin 8192)
    (hx : ∀ k : Fin 4096, x (ix2 p k) = X (ix2 r k)) (hg : ∀ i, g i = G i) (hu : ∀ i, u i = U i) (hd : ∀ i, d i = D i) :
    k0_pay2 (F := Ideal) x g u d (ix2 p q) = sharedRef X G U D (ix2 r q) := by
  pointwise [k0_pay2, sharedRef]
  simp only [hx, hg, hu, hd, zero_sub]

/-- Every token's row eight times in a row: slot `s` has token `s / 8`'s. -/
theorem repeat_apply (h : IVec S8192x2048 32) (s : Fin 65536) (q : Fin 2048) :
    (shapeCast Cert.ReferenceIdeal.S65536x2048 (broadcastInDim Cert.ReferenceIdeal.S8192x8x2048 ![0, 2] Cert.ReferenceIdeal.Facts₀.bcast_S8192x2048_S8192x8x2048_0_2 h)
      Cert.ReferenceIdeal.Facts₀.shapeCasts_S8192x8x2048_S65536x2048) (ix2 s q) = h (ix2 (tokOf s) q) := by
  pointwise
  rfl

variable (m : (ℓ : Loc nD τ sig) → Buf (Elt Ideal) ℓ) (ρ : Dev nD → PrngReg)

theorem wG_eq (c : Dev nD) (i) : wG m ρ c i = m ((c : Thread nD τ).loc main_arg3) i := by
  unfold wG V
  after_results
  rfl
theorem wU_eq (c : Dev nD) (i) : wU m ρ c i = m ((c : Thread nD τ).loc main_arg4) i := by
  unfold wU V
  after_results
  rfl
theorem wD_eq (c : Dev nD) (i) : wD m ρ c i = m ((c : Thread nD τ).loc main_arg5) i := by
  unfold wD V
  after_results
  rfl

/-- What the output array ends at. -/
def sharedOf (c : Dev nD) : S8192x4096.Idx → Elt Ideal .bf16 :=
  sharedRef (m ((c : Thread nD τ).loc main_arg2)) (m ((c : Thread nD τ).loc main_arg3)) (m ((c : Thread nD τ).loc main_arg4)) (m ((c : Thread nD τ).loc main_arg5))

theorem index6 (t : Fin (cfgA m).N) : ((cfgA m).win 6).index t (0 : Fin 2) = t.val := by
  show (BitVec.ofNat 32 ((cfgA m).grid.coords t 0).val).toNat = t.val
  rw [word_of ((cfgA m).grid.coords t 0).isLt, idx_of]

theorem flush6 (t : Fin (cfgA m).N) : ((cfgA m).win 6).flush t = true := by
  refine (Pipeline.Window.flush_out _ rfl t).2 ?_
  by_cases h : t.val + 1 < (cfgA m).grid.N
  · refine Or.inr ⟨h, fun e => ?_⟩
    have e := congrFun e (0 : Fin 2)
    rw [index6, index6] at e
    simp at e
  · exact Or.inl (Nat.le_antisymm t.isLt (Nat.not_lt.1 h))

theorem flushed6 (c : Dev nD) (t : Fin (cfgA m).N) :
    (dats m ρ 0 c).flushed 6 t = (((cfgA m).win 6).blk t).view.read (Elt Ideal) (sharedOf m c) := by
  refine funext fun y : S256x4096.Idx => ?_
  have ht : t.val < 32 := Nat.lt_of_lt_of_eq t.isLt N_0
  obtain ⟨p, q, rfl⟩ : ∃ (p : Fin 256) (q : Fin 4096), y = ix2 p q := ⟨y 0, y 1, eq_ix2 y⟩
  have hr : 256 * t.val + p.val < 8192 := by have := p.isLt; omega
  have e := pay2_apply (blkX m c t) (m ((c : Thread nD τ).loc main_arg2)) _ _ _ _ _ _ p q ⟨256 * t.val + p.val, hr⟩
    (fun k => congrArg (m ((c : Thread nD τ).loc main_arg2)) (funext fun a => by fin_cases a <;> rfl)) (wG_eq m ρ c) (wU_eq m ρ c) (wD_eq m ρ c)
  refine Eq.trans e ?_
  show sharedOf m c _ = sharedOf m c _
  refine congrArg (sharedOf m c) (funext fun a => Fin.ext ?_)
  fin_cases a
  · show 256 * t.val + p.val = (BitVec.ofNat 32 ((cfgA m).grid.coords t 0).val).toNat * 256 + 1 * p.val
    rw [word_of ((cfgA m).grid.coords t 0).isLt, idx_of]
    omega
  · show q.val = (0 : Nat) * 4096 + 1 * q.val
    omega

theorem cover6 (i : S8192x4096.Idx) : ∃ t : Fin (cfgA m).N, ((cfgA m).win 6).flush t = true ∧ i ∈ (((cfgA m).win 6).blk t).view.set := by
  have h0 : (i 0).val < 8192 := (i 0).isLt
  have h1 : (i 1).val < 4096 := (i 1).isLt
  have ht : (i 0).val / 256 < (cfgA m).N := by rw [show (cfgA m).N = 32 from N_0]; omega
  refine ⟨⟨(i 0).val / 256, ht⟩, flush6 m _, ?_⟩
  have hp : (i 0).val % 256 < 256 := Nat.mod_lt _ (by decide)
  have e : i = (((cfgA m).win 6).blk ⟨(i 0).val / 256, ht⟩).view.emb (ix2 (⟨(i 0).val % 256, hp⟩ : Fin 256) (⟨(i 1).val, h1⟩ : Fin 4096)) := by
    refine funext fun a => Fin.ext ?_
    fin_cases a
    · show (i 0).val = (BitVec.ofNat 32 ((cfgA m).grid.coords ⟨(i 0).val / 256, ht⟩ 0).val).toNat * 256 + 1 * ((i 0).val % 256)
      rw [word_of ((cfgA m).grid.coords _ 0).isLt, idx_of]
      show (i 0).val = (i 0).val / 256 * 256 + 1 * ((i 0).val % 256)
      omega
    · show (i 1).val = (0 : Nat) * 4096 + 1 * (i 1).val
      omega
  exact Eq.mpr (congrArg (fun z => z ∈ (((cfgA m).win 6).blk ⟨(i 0).val / 256, ht⟩).view.set) e) ((((cfgA m).win 6).blk ⟨(i 0).val / 256, ht⟩).view.emb_mem_set _)

theorem final6 (c : Dev nD) : (dats m ρ 0 c).arrAt 6 (cfgA m).N = sharedOf m c :=
  (dats m ρ 0 c).arrAt_eq_of_cover 6 (sharedOf m c) (fun t _ => flushed6 m ρ c t) (cover6 m)

end Cert.Proof.Dispatch

end
-- ==== Proof.Routed.lean ====
/-
  The dispatched rows against the reference's: where a slot names a row both hold that slot's token, and a padding row is zero in both.
-/
module

public import proofs.«01_k».proof.Proof.Frames
public import proofs.«01_k».proof.Proof.Shared
public import proofs.«01_k».proof.Proof.Gen.On_rows_written
public import Idealize.ShloMosaic.Lib.Routing.OpsSet
public import Idealize.ShloMosaic.Lib.Routing.OpsPair
public import Idealize.ShloMosaic.Lib.Routing.OpsOrder

@[expose] public section

set_option maxRecDepth 16384

noncomputable section

namespace Cert.Proof.Dispatch

open Cert.KernelIdeal Cert.KernelIdeal.Gen
open Idealize.ShloMosaic Idealize.ShloMosaic.TcCoe
open Idealize.SL Idealize.SL.Sem

abbrev S65536x1 : Shape := ⟨2, ![65536, 1]⟩
abbrev S65536x2048 : Shape := ⟨2, ![65536, 2048]⟩

/-- Where slot `s`'s word stands, and where its row's word `q` does. -/
abbrev slotIx (s : Fin 65536) : S65536x1.Idx := fun | 0 => s | 1 => (0 : Fin 1)

/-- The slots' rows as the host program spells them: a negative one would count from the end. -/
def slotWords (p : IVec S65536 32) : IVec S65536x1 32 :=
  broadcastInDim Cert.ReferenceIdeal.S65536x1 ![0] Cert.ReferenceIdeal.Facts₀.bcast_S65536_S65536x1_0
    (select (cmpi .slt p (broadcastInDim S65536 ![] Cert.ReferenceIdeal.Facts₀.bcast_S_S65536 (constantI S_ 32 0#32)))
      (addi p (broadcastInDim S65536 ![] Cert.ReferenceIdeal.Facts₀.bcast_S_S65536 (constantI S_ 32 81920#32))) p)

theorem slotWords_apply (p : IVec S65536 32) (s : Fin 65536) (h : (p (at65536 s)).toNat < 81920) :
    slotWords p (slotIx s) = p (at65536 s) := by
  have e : slotWords p (slotIx s)
      = Scalar.select (IntOp.cmpi .slt (p (at65536 s)) 0#32) (IntOp.addi (p (at65536 s)) 81920#32) (p (at65536 s)) := by
    have hi : ∀ g : S65536.Idx → BitVec 32, broadcastInDim Cert.ReferenceIdeal.S65536x1 ![0] Cert.ReferenceIdeal.Facts₀.bcast_S65536_S65536x1_0 g (slotIx s) = g (at65536 s) :=
      fun g => congrArg g (funext fun a => by fin_cases a; rfl)
    exact hi _
  rw [e]
  exact Routing.wrap_of_lt _ _ (by omega)

abbrev dRow : ScatterDims S81920x2048 S65536x1 S65536x2048 := Cert.ReferenceIdeal.scatter_S81920x2048_S65536x1_S65536x2048_1_0_0_1

theorem land_row (idx : IVec S65536x1 32) (s : Fin 65536) (q : Fin 2048) (x : S81920x2048.Idx) :
    dRow.resultIdx? (fun | 0 => s | 1 => q : S65536x2048.Idx) idx = some x ↔ (idx (slotIx s)).toInt = ((x 0).val : Int) ∧ q.val = (x 1).val := by
  rw [Routing.resultIdx?_eq_some]
  have h0 : dRow.start (fun | 0 => s | 1 => q : S65536x2048.Idx) idx 0 = (idx (slotIx s)).toInt := by
    unfold ScatterDims.start
    rw [dif_pos (by decide)]
    exact congrArg (fun i => (idx i).toInt) (funext fun a => by fin_cases a <;> rfl)
  have h1 : dRow.start (fun | 0 => s | 1 => q : S65536x2048.Idx) idx 1 = 0 := by
    unfold ScatterDims.start
    rw [dif_neg (by decide)]
  have w0 : dRow.window (fun | 0 => s | 1 => q : S65536x2048.Idx) 0 = 0 := by
    unfold ScatterDims.window
    rw [dif_neg (by decide)]
  have w1 : dRow.window (fun | 0 => s | 1 => q : S65536x2048.Idx) 1 = q.val := by
    unfold ScatterDims.window
    rw [dif_pos (by decide)]
    rfl
  constructor
  · intro h
    have a := h 0
    have b := h 1
    rw [h0, w0] at a
    rw [h1, w1] at b
    constructor <;> omega
  · rintro ⟨a, b⟩ i
    fin_cases i
    · show dRow.start _ idx 0 + (dRow.window _ 0 : Int) = _
      rw [h0, w0, a]; simp
    · show dRow.start _ idx 1 + (dRow.window _ 1 : Int) = _
      rw [h1, w1, b]; simp

abbrev dName : ScatterDims (⟨1, ![81920]⟩ : Shape) S65536x1 S65536 := Cert.On_rows_written.scatter_S81920_S65536x1_S65536_n_0_0_1

theorem land_name (idx : IVec S65536x1 32) (s : Fin 65536) (x : (⟨1, ![81920]⟩ : Shape).Idx) :
    dName.resultIdx? (at65536 s) idx = some x ↔ (idx (slotIx s)).toInt = ((x 0).val : Int) := by
  rw [Routing.resultIdx?_eq_some]
  have h0 : dName.start (at65536 s) idx 0 = (idx (slotIx s)).toInt := by
    unfold ScatterDims.start
    rw [dif_pos (by decide)]
    exact congrArg (fun i => (idx i).toInt) (funext fun a => by fin_cases a <;> rfl)
  have w0 : dName.window (at65536 s) 0 = 0 := by
    unfold ScatterDims.window
    rw [dif_neg (by decide)]
  constructor
  · intro h
    have a := h 0
    rw [h0, w0] at a
    omega
  · rintro a i
    fin_cases i
    show dName.start _ idx 0 + (dName.window _ 0 : Int) = _
    rw [h0, w0, a]; simp

/-- The reference's first result, of its arguments. -/
def rowsRef (p : IVec S65536 32) (h : IVec S8192x2048 32) : IVec S81920x2048 32 :=
  Host.scatter dRow (fun _ b => b) (broadcastInDim S81920x2048 ![] Cert.ReferenceIdeal.Facts₀.bcast_S_S81920x2048 (constantI S_ 32 0#32)) (slotWords p)
    (shapeCast Cert.ReferenceIdeal.S65536x2048 (broadcastInDim Cert.ReferenceIdeal.S8192x8x2048 ![0, 2] Cert.ReferenceIdeal.Facts₀.bcast_S8192x2048_S8192x8x2048_0_2 h)
      Cert.ReferenceIdeal.Facts₀.shapeCasts_S8192x8x2048_S65536x2048)

theorem word_int {v : BitVec 32} (h : v.toNat < 81920) : v.toInt = (v.toNat : Int) := by
  simp only [BitVec.toInt]
  rw [if_pos (by omega)]

variable (p : IVec Cert.KernelIdeal.S65536 32) (h : IVec Cert.KernelIdeal.S8192x2048 32) (hp : ∀ s, (p (at65536 s)).toNat < 81920)

include hp in
/-- A row that slot `s` names, and no other slot does, holds the slot's token. -/
theorem rowsRef_hit (x : S81920x2048.Idx) (s : Fin 65536) (hs : (x 0).val = (p (at65536 s)).toNat)
    (hu : ∀ s', (p (at65536 s')).toNat = (p (at65536 s)).toNat → s' = s) : rowsRef p h x = h (at8192 (tokOf s) (x 1)) := by
  refine Routing.scatter_set_hit dRow _ _ _ x _ (fun k hk => ?_) (ix2 s (x 1)) ?_
  · obtain ⟨s', q, rfl⟩ : ∃ (s' : Fin 65536) (q : Fin 2048), k = ix2 s' q := ⟨k 0, k 1, eq_ix2 k⟩
    obtain ⟨a, b⟩ := (land_row (slotWords p) s' q x).1 ((congrArg (fun k => dRow.resultIdx? k (slotWords p)) (funext fun a => by fin_cases a <;> rfl)).trans hk)
    rw [slotWords_apply p s' (hp s'), word_int (hp s')] at a
    have e : s' = s := hu s' (by omega)
    subst e
    refine (repeat_apply h s' q).trans (congrArg h (funext fun a => ?_))
    fin_cases a
    · rfl
    · exact Fin.ext b
  · refine (congrArg (fun k => dRow.resultIdx? k (slotWords p)) (funext fun a => by fin_cases a <;> rfl)).trans ((land_row (slotWords p) s (x 1) x).2 ⟨?_, rfl⟩)
    rw [slotWords_apply p s (hp s), word_int (hp s), hs]

include hp in
/-- A row that no slot names is zero. -/
theorem rowsRef_miss (x : S81920x2048.Idx) (hn : ∀ s, (p (at65536 s)).toNat ≠ (x 0).val) : rowsRef p h x = 0#32 := by
  refine (Routing.scatter_set_miss dRow _ _ _ x fun k hk => ?_).trans rfl
  obtain ⟨s', q, rfl⟩ : ∃ (s' : Fin 65536) (q : Fin 2048), k = ix2 s' q := ⟨k 0, k 1, eq_ix2 k⟩
  obtain ⟨a, b⟩ := (land_row (slotWords p) s' q x).1 ((congrArg (fun k => dRow.resultIdx? k (slotWords p)) (funext fun a => by fin_cases a <;> rfl)).trans hk)
  rw [slotWords_apply p s' (hp s'), word_int (hp s')] at a
  exact hn s' (by omega)

section
open Cert.On_rows_written

/-- The rows a slot names. -/
def slotNames : IVec S81920 1 :=
  cmpi .eq (Host.scatter dName (fun _ b => b) (broadcastInDim S81920 ![] Facts.bcast_S_S81920 (constantI Cert.On_rows_written.S_ 32 0#32)) (slotWords p)
    (broadcastInDim Cert.On_rows_written.S65536 ![] Facts.bcast_S_S65536 (constantI Cert.On_rows_written.S_ 32 1#32)))
    (broadcastInDim S81920 ![] Facts.bcast_S_S81920 (constantI Cert.On_rows_written.S_ 32 1#32))

/-- Row by padding range: whether the range has the row. -/
def padBits (lo hi : IVec Cert.On_rows_written.S64 32) : IVec S81920x64 1 :=
  andi (cmpi .sle (broadcastInDim S81920x64 ![0, 1] Facts.bcast_S1x64_S81920x64_0_1 (broadcastInDim S1x64 ![1] Facts.bcast_S64_S1x64_1 lo))
      (broadcastInDim S81920x64 ![0, 1] Facts.bcast_S81920x1_S81920x64_0_1 (broadcastInDim S81920x1 ![0] Facts.bcast_S81920_S81920x1_0 (iotaInDim S81920 32 0))))
    (cmpi .slt (broadcastInDim S81920x64 ![0, 1] Facts.bcast_S81920x1_S81920x64_0_1 (broadcastInDim S81920x1 ![0] Facts.bcast_S81920_S81920x1_0 (iotaInDim S81920 32 0)))
      (broadcastInDim S81920x64 ![0, 1] Facts.bcast_S1x64_S81920x64_0_1 (broadcastInDim S1x64 ![1] Facts.bcast_S64_S1x64_1 hi)))

abbrev rowIx (r : Fin 81920) : S81920.Idx := fun | 0 => r
abbrev rangeIx (r : Fin 81920) (e : Fin 64) : S81920x64.Idx := fun | 0 => r | 1 => e

include hp in
theorem slotNames_some (r : Fin 81920) (e : slotNames p (rowIx r) = 1#1) : ∃ s, (p (at65536 s)).toNat = r.val := by
  refine Classical.byContradiction fun hc => ?_
  have z := Routing.scatter_set_miss dName (broadcastInDim S81920 ![] Facts.bcast_S_S81920 (constantI Cert.On_rows_written.S_ 32 0#32)) (slotWords p)
      (broadcastInDim Cert.On_rows_written.S65536 ![] Facts.bcast_S_S65536 (constantI Cert.On_rows_written.S_ 32 1#32)) (rowIx r) fun k hk => by
    have ek : k = at65536 (k 0) := funext fun a => by fin_cases a; rfl
    rw [ek] at hk
    have a := (land_name (slotWords p) (k 0) _).1 hk
    rw [slotWords_apply p (k 0) (hp (k 0)), word_int (hp (k 0))] at a
    exact hc ⟨k 0, Int.ofNat_inj.1 a⟩
  have e : IntOp.cmpi .eq (Host.scatter dName (fun _ b => b) (broadcastInDim S81920 ![] Facts.bcast_S_S81920 (constantI Cert.On_rows_written.S_ 32 0#32)) (slotWords p)
      (broadcastInDim Cert.On_rows_written.S65536 ![] Facts.bcast_S_S65536 (constantI Cert.On_rows_written.S_ 32 1#32)) (rowIx r)) 1#32 = 1#1 := e
  rw [z] at e
  exact absurd (show IntOp.cmpi .eq 0#32 1#32 = 1#1 from e) (by decide)

theorem padBits_apply (lo hi : IVec Cert.On_rows_written.S64 32) (r : Fin 81920) (e : Fin 64) :
    padBits lo hi (rangeIx r e) = IntOp.andi (IntOp.cmpi .sle (lo (ix64 e)) (BitVec.ofNat 32 r.val)) (IntOp.cmpi .slt (BitVec.ofNat 32 r.val) (hi (ix64 e))) := by
  have hl : ∀ g : Cert.On_rows_written.S64.Idx → BitVec 32, broadcastInDim S81920x64 ![0, 1] Facts.bcast_S1x64_S81920x64_0_1 (broadcastInDim S1x64 ![1] Facts.bcast_S64_S1x64_1 g) (rangeIx r e) = g (ix64 e) :=
    fun g => congrArg g (funext fun a => by fin_cases a; rfl)
  have hr : broadcastInDim S81920x64 ![0, 1] Facts.bcast_S81920x1_S81920x64_0_1 (broadcastInDim S81920x1 ![0] Facts.bcast_S81920_S81920x1_0 (iotaInDim S81920 32 0)) (rangeIx r e) = BitVec.ofNat 32 r.val := rfl
  exact congrArg₂ IntOp.andi (congrArg₂ (IntOp.cmpi .sle) (hl lo) hr) (congrArg₂ (IntOp.cmpi .slt) hr (hl hi))

theorem pad_some (lo hi : IVec Cert.On_rows_written.S64 32) (hlo : ∀ e, BitVec.sle 0#32 (lo (ix64 e)) = true) (hhi : ∀ e, BitVec.sle 0#32 (hi (ix64 e)) = true)
    (r : Fin 81920) (e : Host.reduce IntOp.ori (padBits lo hi) (constantI Cert.On_rows_written.S_ 1 0#1) Facts.reducesTo_S81920x64_S81920_d1 Facts.h_S_ (rowIx r) = 1#1) :
    ∃ e, (lo (ix64 e)).toNat ≤ r.val ∧ r.val < (hi (ix64 e)).toNat := by
  rw [Host.reduce_eq_fold] at e
  obtain ⟨i, hi', e⟩ := (Routing.fold_ori _ _).1 e
  have hd := (Finset.mem_filter.1 hi').2
  have h0 : i 0 = r := congrFun hd (0 : Fin 1)
  have ei : i = rangeIx r (i 1) := funext fun a => by
    fin_cases a
    · exact h0
    · rfl
  have e := (padBits_apply lo hi r (i 1)).symm.trans ((congrArg (padBits lo hi) ei).symm.trans e)
  obtain ⟨a, b⟩ := IntOp.andi_eq_one.1 e
  have hr : (BitVec.ofNat 32 r.val).toNat = r.val := by
    rw [BitVec.toNat_ofNat]; exact Nat.mod_eq_of_lt (by have := r.isLt; omega)
  have s0 : BitVec.sle 0#32 (BitVec.ofNat 32 r.val) = true := by
    have := word_int (v := BitVec.ofNat 32 r.val) (by rw [hr]; exact r.isLt)
    simp only [BitVec.sle, decide_eq_true_eq]
    rw [this]; show (0 : Int) ≤ _; omega
  refine ⟨i 1, ?_, ?_⟩
  · have := (lt_of_signed (hlo (i 1)) s0).2.1 ((ofBool_one _).1 a); rwa [hr] at this
  · have := (lt_of_signed s0 (hhi (i 1))).1.1 ((ofBool_one _).1 b); rwa [hr] at this

variable (h2 : FVec Ideal Cert.On_rows_written.S8192x4096 .bf16) (h3 h4 : FVec Ideal Cert.On_rows_written.S4096x384 .f32) (h5 : FVec Ideal Cert.On_rows_written.S384x4096 .f32) (lo hi : IVec Cert.On_rows_written.S64 32)

include hp in
/-- Where the claim is made: a slot names the row, or a padding range has it. -/
theorem mask_cases (x : Cert.On_rows_written.S81920x2048.Idx) (hlo : ∀ e, BitVec.sle 0#32 (lo (ix64 e)) = true) (hhi : ∀ e, BitVec.sle 0#32 (hi (ix64 e)) = true)
    (e : (Cert.On_rows_written.fn (F := Ideal) p h h2 h3 h4 h5 lo hi).1 x = 1#1) :
    (∃ s, (p (at65536 s)).toNat = (x 0).val) ∨ (∃ e, (lo (ix64 e)).toNat ≤ (x 0).val ∧ (x 0).val < (hi (ix64 e)).toNat) := by
  have hb : ∀ g : IVec S81920 1, broadcastInDim Cert.On_rows_written.S81920x2048 ![0, 1] Facts.bcast_S81920x1_S81920x2048_0_1 (broadcastInDim S81920x1 ![0] Facts.bcast_S81920_S81920x1_0 g) x = g (rowIx (x 0)) :=
    fun g => congrArg g (funext fun a => by fin_cases a; rfl)
  have e := (hb (ori (slotNames p) (Host.reduce IntOp.ori (padBits lo hi) (constantI Cert.On_rows_written.S_ 1 0#1) Facts.reducesTo_S81920x64_S81920_d1 Facts.h_S_))).symm.trans e
  rcases ori_one.1 (show IntOp.ori (slotNames p (rowIx (x 0))) (Host.reduce IntOp.ori (padBits lo hi) (constantI Cert.On_rows_written.S_ 1 0#1) Facts.reducesTo_S81920x64_S81920_d1 Facts.h_S_ (rowIx (x 0))) = 1#1 from e) with e | e
  · exact Or.inl (slotNames_some p hp (x 0) e)
  · exact Or.inr (pad_some lo hi hlo hhi (x 0) e)

end

end Cert.Proof.Dispatch

end
-- ==== Proof.Agree.lean ====
/-
  The dispatch and its reference leave the same: the shared expert's rows everywhere, the dispatched rows wherever a slot names the row or
  a padding range has it.
-/
module

public import proofs.«01_k».proof.Proof.Routed

@[expose] public section

set_option maxRecDepth 16384

noncomputable section

namespace Cert.Proof.Dispatch

open Cert.KernelIdeal Cert.KernelIdeal.Gen
open Idealize.ShloMosaic Idealize.ShloMosaic.TcCoe
open Idealize.SL Idealize.SL.Sem

/-- The dispatched rows are the reference's wherever the claim is made. -/
theorem rows_agree (m : (ℓ : Loc nD τ sig) → Buf (Elt Ideal) ℓ) (c : Dev nD)
    (hp : Cert.Pre_slots_apart.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = fun _ => 1#1)
    (x : S81920x2048.Idx)
    (hx : (Cert.On_rows_written.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))).1 x = 1#1) :
    rows m c 32 x = rowsRef (m ((c : Thread nD τ).loc main_arg0)) (m ((c : Thread nD τ).loc main_arg1)) x := by
  have H := apart_of m c hp
  obtain ⟨-, -, C, -⟩ := pre_parts _ _ _ _ _ _ _ _ hp
  rcases mask_cases _ _ H.pos _ _ _ _ _ _ x (fun e => (C e).1.1) (fun e => (C e).2.1) hx with ⟨s, hs⟩ | ⟨e, hl, hh⟩
  · exact (rows_sent H 32 x s (by have := s.isLt; omega) hs.symm).trans
      (rowsRef_hit _ _ H.pos x s hs.symm fun s' h => H.inj s' s h).symm
  · have hn : ∀ s, rowOf m c s ≠ (x 0).val := fun s h => by
      rcases H.out s e with a | a
      · exact absurd (Nat.lt_of_lt_of_le (h ▸ a) hl) (Nat.lt_irrefl _)
      · exact absurd (Nat.lt_of_lt_of_le hh (h ▸ a)) (Nat.lt_irrefl _)
    exact (rows_other 32 (by decide) x fun ⟨s, _, h⟩ => hn s h).trans
      ((zeroedTo_of c (tlo m c) (thi m c) 64 _ ⟨e, e.isLt, hl, hh⟩).trans (rowsRef_miss _ _ H.pos x hn).symm)

theorem agree : Cert.algebraic_KernelIdeal_ReferenceIdeal_on_rows_written := by
  intro m g m' g' hp ha
  refine ⟨fun c => rowsRef (m ((c : Thread nD τ).loc main_arg0)) (m ((c : Thread nD τ).loc main_arg1)), fun c => sharedOf m c, ?_, ?_⟩
  · refine (θ_run Cert.KernelIdeal.defs _ _).mono (fun r h c => ⟨fun x hx => ?_, fun x _ => ?_, args_kept m g h.1 c⟩)
      (run_main (F := Ideal) m g fun c => apart_of m c (hp c))
    · exact (congrFun (h.1 c).2.1 x).trans (rows_agree m c (hp c) x hx)
    · exact congrFun (((h.1 c).1 6).trans (final6 m g c)) x
  · refine (θ_run Cert.ReferenceIdeal.defs _ _).mono (fun r h c => ⟨fun x _ => ?_, fun x _ => ?_, (h c).2.2⟩)
      (Cert.ReferenceIdeal.Value.run (F := Ideal) m' g')
    · have e := (h c).1
      rw [(ha c).1, (ha c).2.1] at e
      exact congrFun e x
    · have e := (h c).2.1
      rw [(ha c).2.2.1, (ha c).2.2.2.1, (ha c).2.2.2.2.1, (ha c).2.2.2.2.2.1] at e
      exact congrFun e x

end Cert.Proof.Dispatch

end
-- ==== Proof.Rules.lean ====
/-
  Loads, stores, and the reading of a table's word, for the experts' kernel: each stated over a memref held at the values it
  reads, so that a run carries values and no views.
-/
module

public import proofs.«01_k».proof.Proof.Gen.Kernel2Ideal
public import proofs.«01_k».proof.Proof.Gen.Kernel2Ideal.Skeleton
public import Idealize.ShloMosaic.Lib.Transfers
public import Idealize.ShloMosaic.Lib.VecWindow
public import Idealize.ShloMosaic.Lib.Tactic
public import Idealize.ShloMosaic.Lib.Pipeline.Kit

@[expose] public section

set_option maxRecDepth 16384

noncomputable section

namespace Cert.Proof.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the staging cells' rounds beside the counters the transfers' tokens come from. -/
abbrev UU (nD : Nat) (τ : Topo) : Type := UR sig nD τ × Counters

local notation "𝕄" => MT nD τ sig Unit (Elt F) ℕ (UU nD τ) ℕ

/-- The counters, the algebra's second half. -/
abbrev EC : UEmb Counters (MT nD τ sig Unit (Elt F) ℕ (UU nD τ) ℕ) := countersEmb (U := UU nD τ)

/-- What a program's run yields. -/
abbrev Runs {α : Type} (c : Dev nD) (p : Prog (TpuEff nD τ sig (Elt F) Λ₀ .tc) α) (Q : α → sProp 𝕄) : sProp 𝕄 :=
  wp frame (wpE (defs₀ (F := F)) Variants.none c none) Set.univ p Q

/-- A memref of core `c` held whole at the values `X`. -/
abbrev Held (c : Dev nD) {sp : Space} {s : Shape} {e : EltTy} (M : Memref sig .tc sp s e) (X : s.Idx → Elt F e) : sProp 𝕄 :=
  owns (Val := Elt F) (c : Thread nD τ) M fullShare X

/-- A slice seen without its axes of size one has elements of the memref's. -/
theorem sub_set {sp : Space} {s s' : Shape} {e : EltTy} (M : Memref sig .tc sp s e) (r : Rect s) (hr) (hq : r.shape.Squeezes s') :
    ((M.slice r hr).squeeze s' hq).view.set ⊆ M.view.set :=
  (View.set_reshape (M.view.slice r) hq.numel_eq).subset.trans (View.set_slice_subset M.view r)

section Rules

variable (c : Dev nD) {α : Type}

/-- A load at a rectangle of unit strides reads the window of the values there. -/
theorem ld {Q : α → sProp 𝕄} {cs : CoreSpace} {s : Shape} {e : EltTy} {M : Memref sig .tc cs s e} {X : s.Idx → Elt F e} {off size : Fin s.rank → ℕ}
    {inb : ∀ a, off a + size a ≤ s.size a} {hl : M.view.LoadsAt (Rect.unit off size inb).toLoadRect}
    {k : ((Rect.unit off size inb).shape.Idx → Elt F e) → Prog (TpuEff nD τ sig (Elt F) Λ₀ .tc) α} {q : PosShare TreeShare} :
    owns (Val := Elt F) (c : Thread nD τ) M q X
      ⊢ iprop((owns (Val := Elt F) (c : Thread nD τ) M q X -∗ Runs c (k (VecWindow.window X off size inb)) Q)
          -∗ Runs c (Prog.lift (.load M (Rect.unit off size inb).toLoadRect hl) >>= k) Q) := by
  unfold owns
  iintro ⟨%f, %hf, H⟩ Hk
  subst hf
  iapply (wp_load_rect (m := M) (r := Rect.unit off size inb) (S := M.view.set) (f := f) Variants.none (c : Thread nD τ) none Set.univ
    (View.set_slice_subset _ _)) $$ H
  iintro H
  iapply Hk
  iexists f
  isplitr; · ipureintro; rfl
  iexact H

/-- A store there puts the payload over the window. -/
theorem st {Q : α → sProp 𝕄} {cs : CoreSpace} {s : Shape} {e : EltTy} {M : Memref sig .tc cs s e} {X : s.Idx → Elt F e} {off size : Fin s.rank → ℕ}
    {inb : ∀ a, off a + size a ≤ s.size a} {w : (Rect.unit off size inb).shape.Idx → Elt F e}
    {hx : (M.access (Rect.unit off size inb)).Stores Finset.univ} {hm}
    {k : PUnit → Prog (TpuEff nD τ sig (Elt F) Λ₀ .tc) α} :
    Held c M X
      ⊢ iprop((Held c M (VecWindow.put X off size w) -∗ Runs c (k ⟨⟩) Q)
          -∗ Runs c (Prog.lift (.store M (Rect.unit off size inb) w Finset.univ hx hm) >>= k) Q) := by
  unfold Held owns
  iintro ⟨%f, %hf, H⟩ Hk
  subst hf
  iapply (wp_store (m := M) (r := Rect.unit off size inb) (w := w) (Mk := Finset.univ) (S := M.view.set) (f := f) Variants.none (c : Thread nD τ) none Set.univ
    (View.set_slice_subset _ _)) $$ H
  iintro H
  iapply Hk
  iexists _
  isplitr
  swap; · iexact H
  ipureintro
  have h := View.read_writes_cons_put (Val := Elt F) M.view f inb w [] rfl
  rw [View.writes_nil] at h
  exact h

/-- The whole window is the values. -/
theorem window_whole {s : Shape} {β : Type} (X : s.Idx → β) (off : Fin s.rank → ℕ) (inb : ∀ a, off a + s.size a ≤ s.size a) :
    VecWindow.window X off s.size inb = X := by
  funext y
  exact congrArg X (Rect.emb_unit_full inb y)

/-- The payload put over the whole. -/
theorem put_whole {s : Shape} {β : Type} (X : s.Idx → β) (off : Fin s.rank → ℕ) (inb : ∀ a, off a + s.size a ≤ s.size a) (w : s.Idx → β) :
    VecWindow.put X off s.size w = w := by
  have h := VecWindow.window_put_same X off s.size inb w
  rwa [window_whole] at h

/-- A load of the whole. -/
theorem ldw {Q : α → sProp 𝕄} {cs : CoreSpace} {s : Shape} {e : EltTy} {M : Memref sig .tc cs s e} {X : s.Idx → Elt F e} {off : Fin s.rank → ℕ}
    {inb : ∀ a, off a + s.size a ≤ s.size a} {hl : M.view.LoadsAt (Rect.unit off s.size inb).toLoadRect}
    {k : ((Rect.unit off s.size inb).shape.Idx → Elt F e) → Prog (TpuEff nD τ sig (Elt F) Λ₀ .tc) α} {q : PosShare TreeShare} :
    owns (Val := Elt F) (c : Thread nD τ) M q X
      ⊢ iprop((owns (Val := Elt F) (c : Thread nD τ) M q X -∗ Runs c (k X) Q)
          -∗ Runs c (Prog.lift (.load M (Rect.unit off s.size inb).toLoadRect hl) >>= k) Q) := by
  have h := ld (F := F) c (Q := Q) (M := M) (X := X) (inb := inb) (hl := hl) (k := k) (q := q)
  rwa [window_whole] at h

/-- A store over the whole. -/
theorem stw {Q : α → sProp 𝕄} {cs : CoreSpace} {s : Shape} {e : EltTy} {M : Memref sig .tc cs s e} {X : s.Idx → Elt F e} {off : Fin s.rank → ℕ}
    {inb : ∀ a, off a + s.size a ≤ s.size a} {w : (Rect.unit off s.size inb).shape.Idx → Elt F e}
    {hx : (M.access (Rect.unit off s.size inb)).Stores Finset.univ} {hm}
    {k : PUnit → Prog (TpuEff nD τ sig (Elt F) Λ₀ .tc) α} :
    Held c M X
      ⊢ iprop((Held c M w -∗ Runs c (k ⟨⟩) Q)
          -∗ Runs c (Prog.lift (.store M (Rect.unit off s.size inb) w Finset.univ hx hm) >>= k) Q) := by
  have h := st (F := F) c (Q := Q) (M := M) (X := X) (inb := inb) (w := w) (hx := hx) (hm := hm) (k := k)
  rwa [put_whole _ _ inb] at h

/-- A word of a table. -/
theorem word {Q : α → sProp 𝕄} {s : Shape} {e : EltTy} {M : Memref sig .tc .smem s e} {X : s.Idx → Elt F e} {off size : Fin s.rank → ℕ}
    {inb : ∀ a, off a + size a ≤ s.size a} {h1} {hp : e.packing = 1} {q : PosShare TreeShare}
    {k : Elt F e → Prog (TpuEff nD τ sig (Elt F) Λ₀ .tc) α} (x : s.Idx) (hx : ∀ a, (x a).val = off a) :
    owns (Val := Elt F) (c : Thread nD τ) M q X
      ⊢ iprop((owns (Val := Elt F) (c : Thread nD τ) M q X -∗ Runs c (k (X x)) Q)
          -∗ Runs c (smemLoad (p := .tc) M (Rect.unit off size inb) h1 hp >>= k) Q) := by
  have e : VecWindow.window X off size inb (Shape.Idx.first (h1.symm ▸ Nat.one_pos)) = X x := by
    refine congrArg X (funext fun a => Fin.ext ?_)
    have hs : size a = 1 := by
      have : (Rect.unit (s := s) off size inb).shape.numel = ∏ a, size a := rfl
      exact Nat.dvd_one.1 ((Finset.dvd_prod_of_mem size (Finset.mem_univ a)).trans (by rw [← this, h1]))
    have hy : ((Shape.Idx.first (s := (Rect.unit (s := s) off size inb).shape) (h1.symm ▸ Nat.one_pos)) a).val < size a := Fin.isLt _
    show off a + 1 * _ = (x a).val
    rw [hx]; omega
  have h := ld (F := F) c (Q := Q) (M := M) (X := X) (inb := inb) (q := q)
    (hl := View.loadsAt_rect (View.loads_smem_one hp h1)) (k := fun f => k (f (Shape.Idx.first (h1.symm ▸ Nat.one_pos))))
  simp only [e] at h
  exact h

/-- A program at its end. -/
theorem fin {Q : α → sProp 𝕄} (a : α) : Q a ⊢ Runs c (Pure.pure a) Q := by
  show Q a ⊢ wp frame (wpE (defs₀ (F := F)) Variants.none c none) Set.univ (.ret a) Q
  iintro H
  sl_step
  iexact H

/-- A program run after another. -/
theorem seq {β : Type} {Q : β → sProp 𝕄} (R : α → sProp 𝕄) {p : Prog (TpuEff nD τ sig (Elt F) Λ₀ .tc) α} {k : α → Prog (TpuEff nD τ sig (Elt F) Λ₀ .tc) β} :
    Runs c p R ⊢ iprop((∀ a, R a -∗ Runs c (k a) Q) -∗ Runs c (p >>= k) Q) := by
  iintro H Hk
  iapply (Entails.of_eq (wp_bind frame (wpE (defs₀ (F := F)) Variants.none c none) Set.univ _ _ _).symm)
  iapply (wp_wand frame (wpE (defs₀ (F := F)) Variants.none c none) Set.univ) $$ H
  iexact Hk

end Rules

end Cert.Proof.Experts

end
-- ==== Proof.Hidden.lean ====
/-
  One tile's hidden rows: the tile's rows against the gate and up matrices held side by side, eight chunks of the contraction
  added in four steps of two, the first half through the gate's nonlinearity and times the second half.
-/
module

public import proofs.«01_k».proof.Proof.Rules

@[expose] public section

set_option maxRecDepth 16384

noncomputable section

namespace Cert.Proof.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Values

variable (X : S256x4096.Idx → Elt F .bf16) (W : S4096x768.Idx → Elt F .bf16)

/-- 512 of a tile's columns, from column `o`. -/
abbrev cols (o : ℕ) (h : ∀ a, (![0, o] : Fin 2 → ℕ) a + S256x512.size a ≤ S256x4096.size a) : Vec F S256x512 .bf16 :=
  VecWindow.window X ![0, o] S256x512.size h
/-- 512 of the gate and up matrices' rows, from row `o`. -/
abbrev rows (o : ℕ) (h : ∀ a, (![o, 0] : Fin 2 → ℕ) a + S512x768.size a ≤ S4096x768.size a) : Vec F S512x768 .bf16 :=
  VecWindow.window W ![o, 0] S512x768.size h

/-- The tile against the two matrices: after the first chunk, the second, the third and the fourth. -/
def acc1 : FVec F S256x768 .f32 :=
  k0_pay8 (cols X 0 inb_S256x4096_S256x512_0_0) (cols X 2048 inb_S256x4096_S256x512_0_2048) (rows W 0 inb_S4096x768_S512x768_0_0)
    (rows W 2048 inb_S4096x768_S512x768_2048_0)
def acc2 : FVec F S256x768 .f32 :=
  k0_pay9 (cols X 512 inb_S256x4096_S256x512_0_512) (cols X 2560 inb_S256x4096_S256x512_0_2560) (rows W 512 inb_S4096x768_S512x768_512_0)
    (rows W 2560 inb_S4096x768_S512x768_2560_0) (acc1 X W)
def acc3 : FVec F S256x768 .f32 :=
  k0_pay10 (cols X 1024 inb_S256x4096_S256x512_0_1024) (cols X 3072 inb_S256x4096_S256x512_0_3072) (rows W 1024 inb_S4096x768_S512x768_1024_0)
    (constant S256x768 .f32 0x00000000#32) (rows W 3072 inb_S4096x768_S512x768_3072_0) (acc2 X W)
def acc4 : FVec F S256x768 .f32 :=
  k0_pay11 (cols X 1536 inb_S256x4096_S256x512_0_1536) (cols X 3584 inb_S256x4096_S256x512_0_3584) (rows W 1536 inb_S4096x768_S512x768_1536_0)
    (rows W 3584 inb_S4096x768_S512x768_3584_0) (acc3 X W)
/-- Its gate half and its up half. -/
def gateHalf : Vec F S256x384 .f32 := VecWindow.window (acc4 X W) ![0, 0] S256x384.size inb_S256x768_S256x384_0_0
def upHalf : Vec F S256x384 .f32 := VecWindow.window (acc4 X W) ![0, 384] S256x384.size inb_S256x768_S256x384_0_384
/-- The tile's hidden rows. -/
def hidden : FVec F S256x384 .bf16 := k0_pay48 (gateHalf X W) (upHalf X W) (k0_pay12 (gateHalf X W))

end Values

section Run

variable (c : Dev nD) (X : S256x4096.Idx → Elt F .bf16) (W : S4096x768.Idx → Elt F .bf16) (G : S256x768.Idx → Elt F .f32)
variable (i : grid0.Coords) (arg1 : Memref sig .tc .smem S321 .i32) (harg1 : arg1.IsWhole) (arg2 : Memref sig .tc .smem S321 .i32) (harg2 : arg2.IsWhole) (arg3 : Memref sig .tc .smem S321 .i32) (harg3 : arg3.IsWhole) (arg4 : Memref sig .tc .smem S321 .i32) (harg4 : arg4.IsWhole) (arg5 : Memref sig .tc .smem S321 .i32) (harg5 : arg5.IsWhole) (arg6 : Memref sig .tc .smem S321 .i32) (harg6 : arg6.IsWhole) (arg7 : Memref sig .tc .smem S321 .i32) (harg7 : arg7.IsWhole) (arg8 : Memref sig .tc .smem S1 .i32) (harg8 : arg8.IsWhole) (arg9 : Memref sig .tc .vmem S256x4096 .bf16) (harg9 : arg9.IsWhole) (arg10 : Memref sig .tc .hbm S2x64x4096x384 .f32) (harg10 : arg10.IsWhole) (arg11 : Memref sig .tc .hbm S2x64x4096x384 .f32) (harg11 : arg11.IsWhole) (arg12 : Memref sig .tc .hbm S2x64x384x4096 .f32) (harg12 : arg12.IsWhole) (arg13 : Memref sig .tc .vmem S256x4096 .bf16) (harg13 : arg13.IsWhole) (arg14 : Memref sig .tc .vmem S4096x384 .f32) (harg14 : arg14.IsWhole) (arg15 : Memref sig .tc .vmem S4096x384 .f32) (harg15 : arg15.IsWhole) (arg16 : Memref sig .tc .vmem S384x4096 .f32) (harg16 : arg16.IsWhole) (arg17 : Memref sig .tc .vmem S4096x768 .bf16) (harg17 : arg17.IsWhole) (arg18 : Memref sig .tc .vmem S2x384x4096 .bf16) (harg18 : arg18.IsWhole) (arg19 : Memref sig .tc .vmem S256x384 .bf16) (harg19 : arg19.IsWhole) (arg20 : Memref sig .tc .vmem S256x384 .bf16) (harg20 : arg20.IsWhole) (arg21 : Memref sig .tc .vmem S256x768 .f32) (harg21 : arg21.IsWhole) (arg22 : DmaSems sig S3)

/-- The first half of the chunks. -/
theorem first_half_run :
    iprop(Held c arg9 X ∗ Held c arg17 W ∗ Held c arg21 G)
      ⊢ Runs c (k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22)
        (fun r => iprop(⌜r = ⟨cols X 1024 inb_S256x4096_S256x512_0_1024, cols X 3072 inb_S256x4096_S256x512_0_3072, rows W 1024 inb_S4096x768_S512x768_1024_0, constant S256x768 .f32 0x00000000#32⟩⌝
          ∗ Held c arg9 X ∗ Held c arg17 W ∗ Held c arg21 (acc2 X W))) := by
  rw [k0_part2_eq_skeleton]
  unfold k0_part2_skel
  iintro ⟨HX, HW, HG⟩
  iapply (ld c) $$ HX
  iintro HX
  iapply (ld c) $$ HX
  iintro HX
  iapply (ld c) $$ HW
  iintro HW
  iapply (ld c) $$ HW
  iintro HW
  iapply (ldw c) $$ HG
  iintro HG
  iapply (stw c) $$ HG
  iintro HG
  iapply (ld c) $$ HX
  iintro HX
  iapply (ld c) $$ HX
  iintro HX
  iapply (ld c) $$ HW
  iintro HW
  iapply (ld c) $$ HW
  iintro HW
  iapply (ldw c) $$ HG
  iintro HG
  iapply (ldw c) $$ HG
  iintro HG
  iapply (stw c) $$ HG
  iintro HG
  iapply (ld c) $$ HX
  iintro HX
  iapply (ld c) $$ HX
  iintro HX
  iapply (ld c) $$ HW
  iintro HW
  iapply (fin c)
  isplitr; · ipureintro; rfl
  isplitl [HX]; · iexact HX
  isplitl [HW]; · iexact HW
  iexact HG

/-- The second half, and the two halves of the sum. -/
theorem second_half_run :
    iprop(Held c arg9 X ∗ Held c arg17 W ∗ Held c arg21 (acc2 X W))
      ⊢ Runs c (k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (cols X 1024 inb_S256x4096_S256x512_0_1024) (cols X 3072 inb_S256x4096_S256x512_0_3072)
          (rows W 1024 inb_S4096x768_S512x768_1024_0) (constant S256x768 .f32 0x00000000#32))
        (fun r => iprop(⌜r = ⟨gateHalf X W, upHalf X W, k0_pay12 (gateHalf X W)⟩⌝
          ∗ Held c arg9 X ∗ Held c arg17 W ∗ Held c arg21 (acc4 X W))) := by
  rw [k0_part3_eq_skeleton]
  unfold k0_part3_skel
  iintro ⟨HX, HW, HG⟩
  iapply (ld c) $$ HW
  iintro HW
  iapply (ldw c) $$ HG
  iintro HG
  iapply (ldw c) $$ HG
  iintro HG
  iapply (stw c) $$ HG
  iintro HG
  iapply (ld c) $$ HX
  iintro HX
  iapply (ld c) $$ HX
  iintro HX
  iapply (ld c) $$ HW
  iintro HW
  iapply (ld c) $$ HW
  iintro HW
  iapply (ldw c) $$ HG
  iintro HG
  iapply (ldw c) $$ HG
  iintro HG
  iapply (stw c) $$ HG
  iintro HG
  iapply (ld c) $$ HG
  iintro HG
  iapply (ld c) $$ HG
  iintro HG
  iapply (fin c)
  isplitr; · ipureintro; rfl
  isplitl [HX]; · iexact HX
  isplitl [HW]; · iexact HW
  iexact HG

/-- The two later copies of the two halves are these. -/
theorem part4_eq : k0_part4 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 = k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 := rfl
theorem part9_eq : k0_part9 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 = k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 := rfl
theorem part5_eq (a b d e) : k0_part5 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 a b d e = k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 a b d e := rfl
theorem part10_eq (a b d e) : k0_part10 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 a b d e = k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 a b d e := rfl

end Run

end Cert.Proof.Experts

end
-- ==== Proof.Down.lean ====
/-
  One tile's output rows: the hidden rows of the tile before against the down matrix held in the slot a table names, in eight
  chunks of columns stored one after another.
-/
module

public import proofs.«01_k».proof.Proof.Hidden

@[expose] public section

set_option maxRecDepth 16384

noncomputable section

namespace Cert.Proof.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- The grid point's place in a table. -/
def at321 (i : grid0.Coords) : S321.Idx := fun | 0 => ⟨(i 0).val, (i 0).isLt⟩

theorem at321_off (i : grid0.Coords) : ∀ a, (at321 i a).val = k0_off1 i a := by
  intro a
  fin_cases a
  have h : (i 0).val < 321 := (i 0).isLt
  show (i 0).val = (BitVec.ofNat 32 (i 0).val).toNat
  rw [BitVec.toNat_ofNat]; omega

/-- A slot of the down matrices, by itself. -/
def slotOf (D : S2x384x4096.Idx → Elt F .bf16) (off : Fin 3 → ℕ) (h : ∀ a, off a + S1x384x4096.size a ≤ S2x384x4096.size a) :
    S384x4096.Idx → Elt F .bf16 :=
  fun y => D ((Rect.unit (s := S2x384x4096) off S1x384x4096.size h).emb (Shape.reshapeEquiv squeezes_S1x384x4096_S384x4096.numel_eq y))

/-- The tile's output after the eight chunks over `Y`. -/
def downOver (H : S256x384.Idx → Elt F .bf16) (V : S384x4096.Idx → Elt F .bf16) (Y : S256x4096.Idx → Elt F .bf16) : S256x4096.Idx → Elt F .bf16 :=
  (VecWindow.put (VecWindow.put (VecWindow.put (VecWindow.put (VecWindow.put (VecWindow.put (VecWindow.put (VecWindow.put Y ![0, 0] S256x512.size (k0_pay19 H (VecWindow.window V ![0, 0] S384x512.size inb_S384x4096_S384x512_0_0))) ![0, 2048] S256x512.size (k0_pay19 H (VecWindow.window V ![0, 2048] S384x512.size inb_S384x4096_S384x512_0_2048))) ![0, 512] S256x512.size (k0_pay19 H (VecWindow.window V ![0, 512] S384x512.size inb_S384x4096_S384x512_0_512))) ![0, 2560] S256x512.size (k0_pay19 H (VecWindow.window V ![0, 2560] S384x512.size inb_S384x4096_S384x512_0_2560))) ![0, 1024] S256x512.size (k0_pay19 H (VecWindow.window V ![0, 1024] S384x512.size inb_S384x4096_S384x512_0_1024))) ![0, 3072] S256x512.size (k0_pay19 H (VecWindow.window V ![0, 3072] S384x512.size inb_S384x4096_S384x512_0_3072))) ![0, 1536] S256x512.size (k0_pay19 H (VecWindow.window V ![0, 1536] S384x512.size inb_S384x4096_S384x512_0_1536))) ![0, 3584] S256x512.size (k0_pay19 H (VecWindow.window V ![0, 3584] S384x512.size inb_S384x4096_S384x512_0_3584)))

section Rules

variable (c : Dev nD) {α : Type}

/-- A load of a slot's window. -/
theorem lds {Q : α → sProp 𝕄} {M : Memref sig .tc .vmem S2x384x4096 .bf16} {D : S2x384x4096.Idx → Elt F .bf16} {o : Fin 3 → ℕ} {h} {hr}
    {off size : Fin 2 → ℕ} {inb : ∀ a, off a + size a ≤ S384x4096.size a} {hl}
    {k : ((Rect.unit (s := S384x4096) off size inb).shape.Idx → Elt F .bf16) → Prog (TpuEff nD τ sig (Elt F) Λ₀ .tc) α} :
    Held c M D
      ⊢ iprop((Held c M D -∗ Runs c (k (VecWindow.window (slotOf D o h) off size inb)) Q)
          -∗ Runs c (Prog.lift (.load ((M.slice (Rect.unit (s := S2x384x4096) o S1x384x4096.size h) hr).squeeze S384x4096 squeezes_S1x384x4096_S384x4096)
              (Rect.unit off size inb).toLoadRect hl) >>= k) Q) := by
  unfold Held owns
  iintro ⟨%f, %hf, H⟩ Hk
  subst hf
  iapply (wp_load_rect (m := (M.slice (Rect.unit (s := S2x384x4096) o S1x384x4096.size h) hr).squeeze S384x4096 squeezes_S1x384x4096_S384x4096)
    (r := Rect.unit off size inb) (S := M.view.set) (f := f) Variants.none (c : Thread nD τ) none Set.univ
    ((View.set_slice_subset _ _).trans (sub_set M _ _ _))) $$ H
  iintro H
  iapply Hk
  iexists f
  isplitr; · ipureintro; rfl
  iexact H

/-- A side condition that holds. -/
theorem asm {Q : α → sProp 𝕄} {P : Prop} {d : Decidable P} {k : PLift P → Prog (TpuEff nD τ sig (Elt F) Λ₀ .tc) α} (h : P) :
    Runs c (k ⟨h⟩) Q ⊢ Runs c (Prog.lift (.assume P d) >>= k) Q :=
  wp_assume Variants.none (c : Thread nD τ) none Set.univ h

end Rules

section Run

variable (c : Dev nD) (D : S2x384x4096.Idx → Elt F .bf16) (Y : S256x4096.Idx → Elt F .bf16) (S : S321.Idx → Elt F .i32) (H H' : S256x384.Idx → Elt F .bf16)
variable (i : grid0.Coords) (arg1 : Memref sig .tc .smem S321 .i32) (harg1 : arg1.IsWhole) (arg2 : Memref sig .tc .smem S321 .i32) (harg2 : arg2.IsWhole) (arg3 : Memref sig .tc .smem S321 .i32) (harg3 : arg3.IsWhole) (arg4 : Memref sig .tc .smem S321 .i32) (harg4 : arg4.IsWhole) (arg5 : Memref sig .tc .smem S321 .i32) (harg5 : arg5.IsWhole) (arg6 : Memref sig .tc .smem S321 .i32) (harg6 : arg6.IsWhole) (arg7 : Memref sig .tc .smem S321 .i32) (harg7 : arg7.IsWhole) (arg8 : Memref sig .tc .smem S1 .i32) (harg8 : arg8.IsWhole) (arg9 : Memref sig .tc .vmem S256x4096 .bf16) (harg9 : arg9.IsWhole) (arg10 : Memref sig .tc .hbm S2x64x4096x384 .f32) (harg10 : arg10.IsWhole) (arg11 : Memref sig .tc .hbm S2x64x4096x384 .f32) (harg11 : arg11.IsWhole) (arg12 : Memref sig .tc .hbm S2x64x384x4096 .f32) (harg12 : arg12.IsWhole) (arg13 : Memref sig .tc .vmem S256x4096 .bf16) (harg13 : arg13.IsWhole) (arg14 : Memref sig .tc .vmem S4096x384 .f32) (harg14 : arg14.IsWhole) (arg15 : Memref sig .tc .vmem S4096x384 .f32) (harg15 : arg15.IsWhole) (arg16 : Memref sig .tc .vmem S384x4096 .f32) (harg16 : arg16.IsWhole) (arg17 : Memref sig .tc .vmem S4096x768 .bf16) (harg17 : arg17.IsWhole) (arg18 : Memref sig .tc .vmem S2x384x4096 .bf16) (harg18 : arg18.IsWhole) (arg19 : Memref sig .tc .vmem S256x384 .bf16) (harg19 : arg19.IsWhole) (arg20 : Memref sig .tc .vmem S256x384 .bf16) (harg20 : arg20.IsWhole) (arg21 : Memref sig .tc .vmem S256x768 .f32) (harg21 : arg21.IsWhole) (arg22 : DmaSems sig S3)

/-- The hidden rows stored, and the first three chunks of the tile before. -/
theorem part6_run (arg0 : BitVec 32) (v0 : Elt F .i32) (h : k0_cond5 i v0 = 1#1) (hw : k0_chk5 i v0 (S (at321 i))) (a b d) :
    iprop(Held c arg19 H' ∗ Held c arg20 H ∗ Held c arg13 Y ∗ Held c arg18 D ∗ Held c arg7 S)
      ⊢ Runs c (k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 v0 h a b d)
        (fun r => iprop(⌜r = ⟨H, S (at321 i), hw⟩⌝ ∗ Held c arg19 (k0_pay48 a b d) ∗ Held c arg20 H
          ∗ Held c arg13 (VecWindow.put (VecWindow.put (VecWindow.put Y ![0, 0] S256x512.size (k0_pay19 H (VecWindow.window (slotOf D (k0_off14 (S (at321 i))) (hw h)) ![0, 0] S384x512.size inb_S384x4096_S384x512_0_0))) ![0, 2048] S256x512.size (k0_pay19 H (VecWindow.window (slotOf D (k0_off14 (S (at321 i))) (hw h)) ![0, 2048] S384x512.size inb_S384x4096_S384x512_0_2048))) ![0, 512] S256x512.size (k0_pay19 H (VecWindow.window (slotOf D (k0_off14 (S (at321 i))) (hw h)) ![0, 512] S384x512.size inb_S384x4096_S384x512_0_512))) ∗ Held c arg18 D ∗ Held c arg7 S)) := by
  rw [k0_part6_eq_skeleton]
  unfold k0_part6_skel
  iintro ⟨HA, HB, HY, HD, HS⟩
  iapply (ldw c) $$ HA
  iintro HA
  iapply (stw c) $$ HA
  iintro HA
  iapply (ldw c) $$ HB
  iintro HB
  iapply (word c (at321 i) (at321_off i)) $$ HS
  iintro HS
  iapply (asm c hw)
  iapply (lds c) $$ HD
  iintro HD
  iapply (ld c) $$ HY
  iintro HY
  iapply (st c) $$ HY
  iintro HY
  iapply (lds c) $$ HD
  iintro HD
  iapply (ld c) $$ HY
  iintro HY
  iapply (st c) $$ HY
  iintro HY
  iapply (lds c) $$ HD
  iintro HD
  iapply (ld c) $$ HY
  iintro HY
  iapply (st c) $$ HY
  iintro HY
  iapply (fin c)
  isplitr; · ipureintro; rfl
  isplitl [HA]; · iexact HA
  isplitl [HB]; · iexact HB
  isplitl [HY]; · iexact HY
  isplitl [HD]; · iexact HD
  iexact HS

theorem part7_run (v0 : Elt F .i32) (h : k0_cond5 i v0 = 1#1) (hw : k0_chk5 i v0 (S (at321 i))) :
    iprop(Held c arg13 (VecWindow.put (VecWindow.put (VecWindow.put Y ![0, 0] S256x512.size (k0_pay19 H (VecWindow.window (slotOf D (k0_off14 (S (at321 i))) (hw h)) ![0, 0] S384x512.size inb_S384x4096_S384x512_0_0))) ![0, 2048] S256x512.size (k0_pay19 H (VecWindow.window (slotOf D (k0_off14 (S (at321 i))) (hw h)) ![0, 2048] S384x512.size inb_S384x4096_S384x512_0_2048))) ![0, 512] S256x512.size (k0_pay19 H (VecWindow.window (slotOf D (k0_off14 (S (at321 i))) (hw h)) ![0, 512] S384x512.size inb_S384x4096_S384x512_0_512))) ∗ Held c arg18 D ∗ Held c arg7 S)
      ⊢ Runs c (k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v0 h H (S (at321 i)) hw)
        (fun r => iprop(⌜r = VecWindow.window (slotOf D (k0_off14 (S (at321 i))) (hw h)) ![0, 3584] S384x512.size inb_S384x4096_S384x512_0_3584⌝
          ∗ Held c arg13 (VecWindow.put (VecWindow.put (VecWindow.put (VecWindow.put (VecWindow.put (VecWindow.put (VecWindow.put Y ![0, 0] S256x512.size (k0_pay19 H (VecWindow.window (slotOf D (k0_off14 (S (at321 i))) (hw h)) ![0, 0] S384x512.size inb_S384x4096_S384x512_0_0))) ![0, 2048] S256x512.size (k0_pay19 H (VecWindow.window (slotOf D (k0_off14 (S (at321 i))) (hw h)) ![0, 2048] S384x512.size inb_S384x4096_S384x512_0_2048))) ![0, 512] S256x512.size (k0_pay19 H (VecWindow.window (slotOf D (k0_off14 (S (at321 i))) (hw h)) ![0, 512] S384x512.size inb_S384x4096_S384x512_0_512))) ![0, 2560] S256x512.size (k0_pay19 H (VecWindow.window (slotOf D (k0_off14 (S (at321 i))) (hw h)) ![0, 2560] S384x512.size inb_S384x4096_S384x512_0_2560))) ![0, 1024] S256x512.size (k0_pay19 H (VecWindow.window (slotOf D (k0_off14 (S (at321 i))) (hw h)) ![0, 1024] S384x512.size inb_S384x4096_S384x512_0_1024))) ![0, 3072] S256x512.size (k0_pay19 H (VecWindow.window (slotOf D (k0_off14 (S (at321 i))) (hw h)) ![0, 3072] S384x512.size inb_S384x4096_S384x512_0_3072))) ![0, 1536] S256x512.size (k0_pay19 H (VecWindow.window (slotOf D (k0_off14 (S (at321 i))) (hw h)) ![0, 1536] S384x512.size inb_S384x4096_S384x512_0_1536))) ∗ Held c arg18 D ∗ Held c arg7 S)) := by
  rw [k0_part7_eq_skeleton]
  unfold k0_part7_skel
  iintro ⟨HY, HD, HS⟩
  iapply (lds c) $$ HD
  iintro HD
  iapply (ld c) $$ HY
  iintro HY
  iapply (st c) $$ HY
  iintro HY
  iapply (lds c) $$ HD
  iintro HD
  iapply (ld c) $$ HY
  iintro HY
  iapply (st c) $$ HY
  iintro HY
  iapply (lds c) $$ HD
  iintro HD
  iapply (ld c) $$ HY
  iintro HY
  iapply (st c) $$ HY
  iintro HY
  iapply (lds c) $$ HD
  iintro HD
  iapply (ld c) $$ HY
  iintro HY
  iapply (st c) $$ HY
  iintro HY
  iapply (lds c) $$ HD
  iintro HD
  iapply (fin c)
  isplitr; · ipureintro; rfl
  isplitl [HY]; · iexact HY
  isplitl [HD]; · iexact HD
  iexact HS

/-- The hidden rows stored, and the first three chunks of the tile before. -/
theorem part11_run (arg0 : BitVec 32) (v0 : Elt F .i32) (h : k0_cond7 i v0 = 1#1) (hw : k0_chk7 i v0 (S (at321 i))) (a b d) :
    iprop(Held c arg20 H' ∗ Held c arg19 H ∗ Held c arg13 Y ∗ Held c arg18 D ∗ Held c arg7 S)
      ⊢ Runs c (k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 v0 h a b d)
        (fun r => iprop(⌜r = ⟨H, S (at321 i), hw⟩⌝ ∗ Held c arg20 (k0_pay48 a b d) ∗ Held c arg19 H
          ∗ Held c arg13 (VecWindow.put (VecWindow.put (VecWindow.put Y ![0, 0] S256x512.size (k0_pay19 H (VecWindow.window (slotOf D (k0_off18 (S (at321 i))) (hw h)) ![0, 0] S384x512.size inb_S384x4096_S384x512_0_0))) ![0, 2048] S256x512.size (k0_pay19 H (VecWindow.window (slotOf D (k0_off18 (S (at321 i))) (hw h)) ![0, 2048] S384x512.size inb_S384x4096_S384x512_0_2048))) ![0, 512] S256x512.size (k0_pay19 H (VecWindow.window (slotOf D (k0_off18 (S (at321 i))) (hw h)) ![0, 512] S384x512.size inb_S384x4096_S384x512_0_512))) ∗ Held c arg18 D ∗ Held c arg7 S)) := by
  rw [k0_part11_eq_skeleton]
  unfold k0_part11_skel
  iintro ⟨HA, HB, HY, HD, HS⟩
  iapply (ldw c) $$ HA
  iintro HA
  iapply (stw c) $$ HA
  iintro HA
  iapply (ldw c) $$ HB
  iintro HB
  iapply (word c (at321 i) (at321_off i)) $$ HS
  iintro HS
  iapply (asm c hw)
  iapply (lds c) $$ HD
  iintro HD
  iapply (ld c) $$ HY
  iintro HY
  iapply (st c) $$ HY
  iintro HY
  iapply (lds c) $$ HD
  iintro HD
  iapply (ld c) $$ HY
  iintro HY
  iapply (st c) $$ HY
  iintro HY
  iapply (lds c) $$ HD
  iintro HD
  iapply (ld c) $$ HY
  iintro HY
  iapply (st c) $$ HY
  iintro HY
  iapply (fin c)
  isplitr; · ipureintro; rfl
  isplitl [HA]; · iexact HA
  isplitl [HB]; · iexact HB
  isplitl [HY]; · iexact HY
  isplitl [HD]; · iexact HD
  iexact HS

theorem part12_run (v0 : Elt F .i32) (h : k0_cond7 i v0 = 1#1) (hw : k0_chk7 i v0 (S (at321 i))) :
    iprop(Held c arg13 (VecWindow.put (VecWindow.put (VecWindow.put Y ![0, 0] S256x512.size (k0_pay19 H (VecWindow.window (slotOf D (k0_off18 (S (at321 i))) (hw h)) ![0, 0] S384x512.size inb_S384x4096_S384x512_0_0))) ![0, 2048] S256x512.size (k0_pay19 H (VecWindow.window (slotOf D (k0_off18 (S (at321 i))) (hw h)) ![0, 2048] S384x512.size inb_S384x4096_S384x512_0_2048))) ![0, 512] S256x512.size (k0_pay19 H (VecWindow.window (slotOf D (k0_off18 (S (at321 i))) (hw h)) ![0, 512] S384x512.size inb_S384x4096_S384x512_0_512))) ∗ Held c arg18 D ∗ Held c arg7 S)
      ⊢ Runs c (k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v0 h H (S (at321 i)) hw)
        (fun r => iprop(⌜r = VecWindow.window (slotOf D (k0_off18 (S (at321 i))) (hw h)) ![0, 3584] S384x512.size inb_S384x4096_S384x512_0_3584⌝
          ∗ Held c arg13 (VecWindow.put (VecWindow.put (VecWindow.put (VecWindow.put (VecWindow.put (VecWindow.put (VecWindow.put Y ![0, 0] S256x512.size (k0_pay19 H (VecWindow.window (slotOf D (k0_off18 (S (at321 i))) (hw h)) ![0, 0] S384x512.size inb_S384x4096_S384x512_0_0))) ![0, 2048] S256x512.size (k0_pay19 H (VecWindow.window (slotOf D (k0_off18 (S (at321 i))) (hw h)) ![0, 2048] S384x512.size inb_S384x4096_S384x512_0_2048))) ![0, 512] S256x512.size (k0_pay19 H (VecWindow.window (slotOf D (k0_off18 (S (at321 i))) (hw h)) ![0, 512] S384x512.size inb_S384x4096_S384x512_0_512))) ![0, 2560] S256x512.size (k0_pay19 H (VecWindow.window (slotOf D (k0_off18 (S (at321 i))) (hw h)) ![0, 2560] S384x512.size inb_S384x4096_S384x512_0_2560))) ![0, 1024] S256x512.size (k0_pay19 H (VecWindow.window (slotOf D (k0_off18 (S (at321 i))) (hw h)) ![0, 1024] S384x512.size inb_S384x4096_S384x512_0_1024))) ![0, 3072] S256x512.size (k0_pay19 H (VecWindow.window (slotOf D (k0_off18 (S (at321 i))) (hw h)) ![0, 3072] S384x512.size inb_S384x4096_S384x512_0_3072))) ![0, 1536] S256x512.size (k0_pay19 H (VecWindow.window (slotOf D (k0_off18 (S (at321 i))) (hw h)) ![0, 1536] S384x512.size inb_S384x4096_S384x512_0_1536))) ∗ Held c arg18 D ∗ Held c arg7 S)) := by
  rw [k0_part12_eq_skeleton]
  unfold k0_part12_skel
  iintro ⟨HY, HD, HS⟩
  iapply (lds c) $$ HD
  iintro HD
  iapply (ld c) $$ HY
  iintro HY
  iapply (st c) $$ HY
  iintro HY
  iapply (lds c) $$ HD
  iintro HD
  iapply (ld c) $$ HY
  iintro HY
  iapply (st c) $$ HY
  iintro HY
  iapply (lds c) $$ HD
  iintro HD
  iapply (ld c) $$ HY
  iintro HY
  iapply (st c) $$ HY
  iintro HY
  iapply (lds c) $$ HD
  iintro HD
  iapply (ld c) $$ HY
  iintro HY
  iapply (st c) $$ HY
  iintro HY
  iapply (lds c) $$ HD
  iintro HD
  iapply (fin c)
  isplitr; · ipureintro; rfl
  isplitl [HY]; · iexact HY
  isplitl [HD]; · iexact HD
  iexact HS

theorem part8_run (arg0 : BitVec 32) (v0 : Elt F .i32) (h : k0_cond6 i v0 = 1#1) (hw : k0_chk6 i v0 (S (at321 i))) :
    iprop(Held c arg20 H ∗ Held c arg13 Y ∗ Held c arg18 D ∗ Held c arg7 S)
      ⊢ Runs c (k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 v0 h)
        (fun r => iprop(⌜r = ⟨H, S (at321 i), hw, (k0_pay19 H (VecWindow.window (slotOf D (k0_off16 (S (at321 i))) (hw h)) ![0, 2560] S384x512.size inb_S384x4096_S384x512_0_2560))⟩⌝ ∗ Held c arg20 H
          ∗ Held c arg13 (VecWindow.put (VecWindow.put (VecWindow.put Y ![0, 0] S256x512.size (k0_pay19 H (VecWindow.window (slotOf D (k0_off16 (S (at321 i))) (hw h)) ![0, 0] S384x512.size inb_S384x4096_S384x512_0_0))) ![0, 2048] S256x512.size (k0_pay19 H (VecWindow.window (slotOf D (k0_off16 (S (at321 i))) (hw h)) ![0, 2048] S384x512.size inb_S384x4096_S384x512_0_2048))) ![0, 512] S256x512.size (k0_pay19 H (VecWindow.window (slotOf D (k0_off16 (S (at321 i))) (hw h)) ![0, 512] S384x512.size inb_S384x4096_S384x512_0_512))) ∗ Held c arg18 D ∗ Held c arg7 S)) := by
  rw [k0_part8_eq_skeleton]
  unfold k0_part8_skel
  iintro ⟨HB, HY, HD, HS⟩
  iapply (ldw c) $$ HB
  iintro HB
  iapply (word c (at321 i) (at321_off i)) $$ HS
  iintro HS
  iapply (asm c hw)
  iapply (lds c) $$ HD
  iintro HD
  iapply (ld c) $$ HY
  iintro HY
  iapply (st c) $$ HY
  iintro HY
  iapply (lds c) $$ HD
  iintro HD
  iapply (ld c) $$ HY
  iintro HY
  iapply (st c) $$ HY
  iintro HY
  iapply (lds c) $$ HD
  iintro HD
  iapply (ld c) $$ HY
  iintro HY
  iapply (st c) $$ HY
  iintro HY
  iapply (lds c) $$ HD
  iintro HD
  iapply (fin c)
  isplitr; · ipureintro; rfl
  isplitl [HB]; · iexact HB
  isplitl [HY]; · iexact HY
  isplitl [HD]; · iexact HD
  iexact HS

theorem part13_run (arg0 : BitVec 32) (v0 : Elt F .i32) (h : k0_cond8 i v0 = 1#1) (hw : k0_chk8 i v0 (S (at321 i))) :
    iprop(Held c arg19 H ∗ Held c arg13 Y ∗ Held c arg18 D ∗ Held c arg7 S)
      ⊢ Runs c (k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 v0 h)
        (fun r => iprop(⌜r = ⟨H, S (at321 i), hw, (k0_pay19 H (VecWindow.window (slotOf D (k0_off20 (S (at321 i))) (hw h)) ![0, 2560] S384x512.size inb_S384x4096_S384x512_0_2560))⟩⌝ ∗ Held c arg19 H
          ∗ Held c arg13 (VecWindow.put (VecWindow.put (VecWindow.put Y ![0, 0] S256x512.size (k0_pay19 H (VecWindow.window (slotOf D (k0_off20 (S (at321 i))) (hw h)) ![0, 0] S384x512.size inb_S384x4096_S384x512_0_0))) ![0, 2048] S256x512.size (k0_pay19 H (VecWindow.window (slotOf D (k0_off20 (S (at321 i))) (hw h)) ![0, 2048] S384x512.size inb_S384x4096_S384x512_0_2048))) ![0, 512] S256x512.size (k0_pay19 H (VecWindow.window (slotOf D (k0_off20 (S (at321 i))) (hw h)) ![0, 512] S384x512.size inb_S384x4096_S384x512_0_512))) ∗ Held c arg18 D ∗ Held c arg7 S)) := by
  rw [k0_part13_eq_skeleton]
  unfold k0_part13_skel
  iintro ⟨HB, HY, HD, HS⟩
  iapply (ldw c) $$ HB
  iintro HB
  iapply (word c (at321 i) (at321_off i)) $$ HS
  iintro HS
  iapply (asm c hw)
  iapply (lds c) $$ HD
  iintro HD
  iapply (ld c) $$ HY
  iintro HY
  iapply (st c) $$ HY
  iintro HY
  iapply (lds c) $$ HD
  iintro HD
  iapply (ld c) $$ HY
  iintro HY
  iapply (st c) $$ HY
  iintro HY
  iapply (lds c) $$ HD
  iintro HD
  iapply (ld c) $$ HY
  iintro HY
  iapply (st c) $$ HY
  iintro HY
  iapply (lds c) $$ HD
  iintro HD
  iapply (fin c)
  isplitr; · ipureintro; rfl
  isplitl [HB]; · iexact HB
  isplitl [HY]; · iexact HY
  isplitl [HD]; · iexact HD
  iexact HS

end Run

end Cert.Proof.Experts

end
-- ==== Proof.Moves.lean ====
/-
  The copies of one expert's matrices: started on a semaphore the core holds at zero, waited for at a later grid point. While a
  copy is under way the core keeps the rest of the array it reads from.
-/
module

public import proofs.«01_k».proof.Proof.Down

@[expose] public section

set_option maxRecDepth 16384

noncomputable section

namespace Cert.Proof.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Moves

variable (c : Dev nD) {α : Type}
variable {s u t : Shape} {e : EltTy}

/-- What a slice without its unit axes reads. -/
def part (X : s.Idx → Elt F e) (r : Rect s) (hq : r.shape.Squeezes t) : t.Idx → Elt F e :=
  fun y => X (r.emb (Shape.reshapeEquiv hq.numel_eq y))

/-- No wait of the core's is owed for. -/
abbrev owesNone (c : Dev nD) : sProp 𝕄 := iprop(∃ W, owes (c : Thread nD τ) 0 W)

/-- A copy under way from the slice `r` of `M` to the whole of `G`. -/
def Moving (M : Memref sig .tc .hbm s e) (r : Rect s) (hr : ∀ a, r.stride a = 1) (hq : r.shape.Squeezes t) (G : Memref sig .tc .vmem t e) (X : s.Idx → Elt F e)
    (sm : DmaSem sig) : sProp 𝕄 :=
  iprop(∃ (fs : Buf (Elt F) (M.view.loc (c : Thread nD τ))) (fd : Buf (Elt F) (G.view.loc (c : Thread nD τ))), ⌜M.view.read (Elt F) fs = X⌝
    ∗ Transfers.Flight EC (c : Thread nD τ) (.dma sm) () G.view.dmaCredit
        iprop((G.view.loc (c : Thread nD τ) ↦[G.view.set]{fullShare} (G.view.write (Elt F) fd (((M.slice r hr).squeeze t hq).view.read (Elt F) fs) Finset.univ))
          ∗ (((M.slice r hr).squeeze t hq).view.loc (c : Thread nD τ) ↦[((M.slice r hr).squeeze t hq).view.set]{fullShare} fs))
    ∗ (M.view.loc (c : Thread nD τ) ↦[M.view.set \ ((M.slice r hr).squeeze t hq).view.set]{fullShare} fs))

/-- A copy started. -/
theorem snd {Q : α → sProp 𝕄} {M : Memref sig .tc .hbm s e} {r : Rect s} {hr : ∀ a, r.stride a = 1} {hq : r.shape.Squeezes t} {G : Memref sig .tc .vmem t e} {X : s.Idx → Elt F e}
    {Z : t.Idx → Elt F e} {sm : DmaSem sig} {h1 h2 h3} (hpos : 0 < t.numel)
    {k : PUnit → Prog (TpuEff nD τ sig (Elt F) Λ₀ .tc) α} :
    iprop(Held c M X ∗ Held c G Z ∗ semVal ((c : Thread nD τ), .dma sm) 0)
      ⊢ iprop((Moving c M r hr hq G X sm -∗ Runs c (k ⟨⟩) Q)
          -∗ Runs c (Prog.lift (.enqueueDma ((M.slice r hr).squeeze t hq) (.here G) (.dma sm) h1 h2 h3) >>= k) Q) := by
  unfold Held owns
  iintro ⟨⟨%fs, %hfs, HM⟩, ⟨%fd, %hfd, HG⟩, Hs⟩ Hk
  ihave HM := (pointsTo_split_subset (sub_set M r hr hq)).1 $$ HM
  icases HM with ⟨HM, HR⟩
  iapply (Transfers.wp_dmaLocal EC Variants.none (c : Thread nD τ) none (src := (M.slice r hr).squeeze t hq) (dst := G) (sm := .dma sm) (fs := fs) (fd := fd)
    (q := fullShare) () G.view.dmaCredit rfl (View.dmaCredit_pos _ hpos) (Finset.Subset.refl _)) $$ [HM HG Hs]
  · isplitl [HM]; · iexact HM
    isplitl [HG]; · iexact HG
    iexact Hs
  iintro HF
  iapply Hk
  unfold Moving
  iexists fs, fd
  isplitr; · ipureintro; exact hfs
  isplitl [HF]; · iexact HF
  iexact HR

/-- A copy waited for: the destination holds the slice. -/
theorem rcv {Q : α → sProp 𝕄} {M : Memref sig .tc .hbm s e} {r : Rect s} {hr : ∀ a, r.stride a = 1} {hq : r.shape.Squeezes t} {G : Memref sig .tc .vmem t e} {X : s.Idx → Elt F e}
    {sm : DmaSem sig} {t' : Shape} {sp' : Space} {N : Memref sig .tc sp' t' e} {h1 h2}
    {k : PUnit → Prog (TpuEff nD τ sig (Elt F) Λ₀ .tc) α} :
    iprop(Moving c M r hr hq G X sm ∗ owesNone c)
      ⊢ iprop((iprop(Held c M X ∗ Held c G (part X r hq) ∗ semVal ((c : Thread nD τ), .dma sm) 0 ∗ owesNone c) -∗ Runs c (k ⟨⟩) Q)
          -∗ Runs c (Prog.lift (.waitDma2 sm N G h1 h2) >>= k) Q) := by
  unfold Moving
  iintro ⟨⟨%fs, %fd, %hfs, HF, HR⟩, ⟨%W, HO⟩⟩ Hk
  subst hfs
  iapply (Transfers.wp_waitLocal EC Variants.none (c : Thread nD τ) none () (N := G.view.dmaCredit) rfl) $$ [HF HO]
  · isplitl [HF]; · iexact HF
    iexact HO
  iintro ⟨⟨HG, HM⟩, Hs, HO⟩
  iapply Hk
  isplitl [HM HR]
  · unfold Held owns
    iexists fs
    isplitr; · ipureintro; rfl
    iapply (pointsTo_split_subset (sub_set M r hr hq)).2
    isplitl [HM]; · iexact HM
    iexact HR
  isplitl [HG]
  · unfold Held owns
    iexists _
    isplitr
    swap; · iexact HG
    ipureintro
    rw [View.read_write_univ]
    rfl
  isplitl [Hs]; · iexact Hs
  iexists _
  iexact HO

end Moves

end Cert.Proof.Experts

end
-- ==== Proof.Parts.lean ====
/-
  A grid point of the experts' kernel as its parts in order.
-/
module

public import proofs.«01_k».proof.Proof.Moves

@[expose] public section

set_option maxRecDepth 16384

noncomputable section

namespace Cert.Proof.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- A grid point's part: the first matrices' copies started. -/
noncomputable def startP (i : grid0.Coords) (arg1 : Memref sig .tc .smem S321 .i32) (harg1 : arg1.IsWhole) (arg2 : Memref sig .tc .smem S321 .i32) (harg2 : arg2.IsWhole) (arg3 : Memref sig .tc .smem S321 .i32) (harg3 : arg3.IsWhole) (arg4 : Memref sig .tc .smem S321 .i32) (harg4 : arg4.IsWhole) (arg5 : Memref sig .tc .smem S321 .i32) (harg5 : arg5.IsWhole) (arg6 : Memref sig .tc .smem S321 .i32) (harg6 : arg6.IsWhole) (arg7 : Memref sig .tc .smem S321 .i32) (harg7 : arg7.IsWhole) (arg8 : Memref sig .tc .smem S1 .i32) (harg8 : arg8.IsWhole) (arg9 : Memref sig .tc .vmem S256x4096 .bf16) (harg9 : arg9.IsWhole) (arg10 : Memref sig .tc .hbm S2x64x4096x384 .f32) (harg10 : arg10.IsWhole) (arg11 : Memref sig .tc .hbm S2x64x4096x384 .f32) (harg11 : arg11.IsWhole) (arg12 : Memref sig .tc .hbm S2x64x384x4096 .f32) (harg12 : arg12.IsWhole) (arg13 : Memref sig .tc .vmem S256x4096 .bf16) (harg13 : arg13.IsWhole) (arg14 : Memref sig .tc .vmem S4096x384 .f32) (harg14 : arg14.IsWhole) (arg15 : Memref sig .tc .vmem S4096x384 .f32) (harg15 : arg15.IsWhole) (arg16 : Memref sig .tc .vmem S384x4096 .f32) (harg16 : arg16.IsWhole) (arg17 : Memref sig .tc .vmem S4096x768 .bf16) (harg17 : arg17.IsWhole) (arg18 : Memref sig .tc .vmem S2x384x4096 .bf16) (harg18 : arg18.IsWhole) (arg19 : Memref sig .tc .vmem S256x384 .bf16) (harg19 : arg19.IsWhole) (arg20 : Memref sig .tc .vmem S256x384 .bf16) (harg20 : arg20.IsWhole) (arg21 : Memref sig .tc .vmem S256x768 .f32) (harg21 : arg21.IsWhole) (arg22 : DmaSems sig S3) : Prog (TpuEff nD τ sig (Elt F) Λ₀ .tc) PUnit := do
  if k0_h1 : k0_cond1 i = 1#1 then do
    let v80 : Elt F .i32 ← smemLoad arg1 (Rect.unit (s := S321) ![0] S1.size inb_S321_S1_0) numel1_S1 rfl
    have k0_hw1 : k0_chk1 i v80 := (← Prog.lift (TpuEff.assume (k0_chk1 i v80) (k0_chk1.dec i v80))).down
    let v81 : DmaSems sig S1 := arg22.slice (Rect.unit (s := S3) ![0] S1.size inb_S3_S1_0)
    let v82 : DmaSems sig S_ := v81.squeeze S_ squeezes_S1_S_
    let v83 : Memref sig .tc .hbm S1x1x4096x384 .f32 := arg10.slice (Rect.unit (s := S2x64x4096x384) (k0_off2 v80) S1x1x4096x384.size (k0_off2_inb i v80 k0_hw1 k0_h1)) (fun _ => rfl)
    let v84 : Memref sig .tc .hbm S4096x384 .f32 := v83.squeeze S4096x384 squeezes_S1x1x4096x384_S4096x384
    Prog.lift (.enqueueDma v84 (.here arg14) (.dma v82.sem) ((View.wordExact_bits rfl).reshape _ _) harg14.wordExact ⟨Or.inl rfl, trivial⟩)
    let v85 : DmaSems sig S1 := arg22.slice (Rect.unit (s := S3) ![1] S1.size inb_S3_S1_1)
    let v86 : DmaSems sig S_ := v85.squeeze S_ squeezes_S1_S_
    let v87 : Memref sig .tc .hbm S1x1x4096x384 .f32 := arg11.slice (Rect.unit (s := S2x64x4096x384) (k0_off2 v80) S1x1x4096x384.size (k0_off2_inb i v80 k0_hw1 k0_h1)) (fun _ => rfl)
    let v88 : Memref sig .tc .hbm S4096x384 .f32 := v87.squeeze S4096x384 squeezes_S1x1x4096x384_S4096x384
    Prog.lift (.enqueueDma v88 (.here arg15) (.dma v86.sem) ((View.wordExact_bits rfl).reshape _ _) harg15.wordExact ⟨Or.inl rfl, trivial⟩)
    let v89 : DmaSems sig S1 := arg22.slice (Rect.unit (s := S3) ![2] S1.size inb_S3_S1_2)
    let v90 : DmaSems sig S_ := v89.squeeze S_ squeezes_S1_S_
    let v91 : Memref sig .tc .hbm S1x1x384x4096 .f32 := arg12.slice (Rect.unit (s := S2x64x384x4096) (k0_off3 v80) S1x1x384x4096.size (k0_off3_inb i v80 k0_hw1 k0_h1)) (fun _ => rfl)
    let v92 : Memref sig .tc .hbm S384x4096 .f32 := v91.squeeze S384x4096 squeezes_S1x1x384x4096_S384x4096
    Prog.lift (.enqueueDma v92 (.here arg16) (.dma v90.sem) ((View.wordExact_bits rfl).reshape _ _) harg16.wordExact ⟨Or.inl rfl, trivial⟩)
    pure ⟨⟩
  else do
    pure ⟨⟩

/-- A grid point's part: at a new expert: its matrices taken in, the next expert's copies started. -/
noncomputable def takeP (i : grid0.Coords) (arg1 : Memref sig .tc .smem S321 .i32) (harg1 : arg1.IsWhole) (arg2 : Memref sig .tc .smem S321 .i32) (harg2 : arg2.IsWhole) (arg3 : Memref sig .tc .smem S321 .i32) (harg3 : arg3.IsWhole) (arg4 : Memref sig .tc .smem S321 .i32) (harg4 : arg4.IsWhole) (arg5 : Memref sig .tc .smem S321 .i32) (harg5 : arg5.IsWhole) (arg6 : Memref sig .tc .smem S321 .i32) (harg6 : arg6.IsWhole) (arg7 : Memref sig .tc .smem S321 .i32) (harg7 : arg7.IsWhole) (arg8 : Memref sig .tc .smem S1 .i32) (harg8 : arg8.IsWhole) (arg9 : Memref sig .tc .vmem S256x4096 .bf16) (harg9 : arg9.IsWhole) (arg10 : Memref sig .tc .hbm S2x64x4096x384 .f32) (harg10 : arg10.IsWhole) (arg11 : Memref sig .tc .hbm S2x64x4096x384 .f32) (harg11 : arg11.IsWhole) (arg12 : Memref sig .tc .hbm S2x64x384x4096 .f32) (harg12 : arg12.IsWhole) (arg13 : Memref sig .tc .vmem S256x4096 .bf16) (harg13 : arg13.IsWhole) (arg14 : Memref sig .tc .vmem S4096x384 .f32) (harg14 : arg14.IsWhole) (arg15 : Memref sig .tc .vmem S4096x384 .f32) (harg15 : arg15.IsWhole) (arg16 : Memref sig .tc .vmem S384x4096 .f32) (harg16 : arg16.IsWhole) (arg17 : Memref sig .tc .vmem S4096x768 .bf16) (harg17 : arg17.IsWhole) (arg18 : Memref sig .tc .vmem S2x384x4096 .bf16) (harg18 : arg18.IsWhole) (arg19 : Memref sig .tc .vmem S256x384 .bf16) (harg19 : arg19.IsWhole) (arg20 : Memref sig .tc .vmem S256x384 .bf16) (harg20 : arg20.IsWhole) (arg21 : Memref sig .tc .vmem S256x768 .f32) (harg21 : arg21.IsWhole) (arg22 : DmaSems sig S3) (arg0 : BitVec 32) (v5 : Elt F .i32) : Prog (TpuEff nD τ sig (Elt F) Λ₀ .tc) PUnit := do
  if k0_h2 : k0_cond2 v5 = 1#1 then do
    let ⟨v105, v107, k0_hw3⟩ : Σ' (v105 : FVec F S384x4096 .bf16) (v107 : Elt F .i32), k0_chk3 v5 v107 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 v5 k0_h2
    let v109 : Vec F S1x384x4096 .bf16 ← Prog.lift (.load arg18 (Rect.unit (s := S2x384x4096) (k0_off8 v107) S1x384x4096.size (k0_off8_inb v5 v107 k0_hw3 k0_h2)).toLoadRect (View.loadsAt_vmem h_S1x384x4096))
    Prog.lift (.store arg18 (Rect.unit (s := S2x384x4096) (k0_off8 v107) S1x384x4096.size (k0_off8_inb v5 v107 k0_hw3 k0_h2)) (k0_pay47 v105) Finset.univ (View.stores_vmem h_S1x384x4096 (harg18.storeExact_slice rfl _ (k0_off8_packedbf16 v5 v107 k0_hw3 k0_h2)) (fun _ => rfl)) (.inl rfl))
    let v113 : Elt F .i32 ← smemLoad arg5 (Rect.unit (s := S321) (k0_off9 i) S1.size (k0_off9_inb i)) numel1_S1 rfl
    if k0_h3 : k0_cond3 v113 = 1#1 then do
      let v118 : Elt F .i32 ← smemLoad arg5 (Rect.unit (s := S321) (k0_off10 i) S1.size (k0_off10_inb i)) numel1_S1 rfl
      have k0_hw4 : k0_chk4 v5 v113 v118 := (← Prog.lift (TpuEff.assume (k0_chk4 v5 v113 v118) (k0_chk4.dec v5 v113 v118))).down
      let v119 : DmaSems sig S1 := arg22.slice (Rect.unit (s := S3) ![0] S1.size inb_S3_S1_0)
      let v120 : DmaSems sig S_ := v119.squeeze S_ squeezes_S1_S_
      let v121 : Memref sig .tc .hbm S1x1x4096x384 .f32 := arg10.slice (Rect.unit (s := S2x64x4096x384) (k0_off11 v118) S1x1x4096x384.size (k0_off11_inb v5 v113 v118 k0_hw4 k0_h2 k0_h3)) (fun _ => rfl)
      let v122 : Memref sig .tc .hbm S4096x384 .f32 := v121.squeeze S4096x384 squeezes_S1x1x4096x384_S4096x384
      Prog.lift (.enqueueDma v122 (.here arg14) (.dma v120.sem) ((View.wordExact_bits rfl).reshape _ _) harg14.wordExact ⟨Or.inl rfl, trivial⟩)
      let v123 : DmaSems sig S1 := arg22.slice (Rect.unit (s := S3) ![1] S1.size inb_S3_S1_1)
      let v124 : DmaSems sig S_ := v123.squeeze S_ squeezes_S1_S_
      let v125 : Memref sig .tc .hbm S1x1x4096x384 .f32 := arg11.slice (Rect.unit (s := S2x64x4096x384) (k0_off11 v118) S1x1x4096x384.size (k0_off11_inb v5 v113 v118 k0_hw4 k0_h2 k0_h3)) (fun _ => rfl)
      let v126 : Memref sig .tc .hbm S4096x384 .f32 := v125.squeeze S4096x384 squeezes_S1x1x4096x384_S4096x384
      Prog.lift (.enqueueDma v126 (.here arg15) (.dma v124.sem) ((View.wordExact_bits rfl).reshape _ _) harg15.wordExact ⟨Or.inl rfl, trivial⟩)
      let v127 : DmaSems sig S1 := arg22.slice (Rect.unit (s := S3) ![2] S1.size inb_S3_S1_2)
      let v128 : DmaSems sig S_ := v127.squeeze S_ squeezes_S1_S_
      let v129 : Memref sig .tc .hbm S1x1x384x4096 .f32 := arg12.slice (Rect.unit (s := S2x64x384x4096) (k0_off12 v118) S1x1x384x4096.size (k0_off12_inb v5 v113 v118 k0_hw4 k0_h2 k0_h3)) (fun _ => rfl)
      let v130 : Memref sig .tc .hbm S384x4096 .f32 := v129.squeeze S384x4096 squeezes_S1x1x384x4096_S384x4096
      Prog.lift (.enqueueDma v130 (.here arg16) (.dma v128.sem) ((View.wordExact_bits rfl).reshape _ _) harg16.wordExact ⟨Or.inl rfl, trivial⟩)
      pure ⟨⟩
    else do
      pure ⟨⟩
    pure ⟨⟩
  else do
    pure ⟨⟩

/-- A grid point's part: the first tile's hidden rows. -/
noncomputable def firstP (i : grid0.Coords) (arg1 : Memref sig .tc .smem S321 .i32) (harg1 : arg1.IsWhole) (arg2 : Memref sig .tc .smem S321 .i32) (harg2 : arg2.IsWhole) (arg3 : Memref sig .tc .smem S321 .i32) (harg3 : arg3.IsWhole) (arg4 : Memref sig .tc .smem S321 .i32) (harg4 : arg4.IsWhole) (arg5 : Memref sig .tc .smem S321 .i32) (harg5 : arg5.IsWhole) (arg6 : Memref sig .tc .smem S321 .i32) (harg6 : arg6.IsWhole) (arg7 : Memref sig .tc .smem S321 .i32) (harg7 : arg7.IsWhole) (arg8 : Memref sig .tc .smem S1 .i32) (harg8 : arg8.IsWhole) (arg9 : Memref sig .tc .vmem S256x4096 .bf16) (harg9 : arg9.IsWhole) (arg10 : Memref sig .tc .hbm S2x64x4096x384 .f32) (harg10 : arg10.IsWhole) (arg11 : Memref sig .tc .hbm S2x64x4096x384 .f32) (harg11 : arg11.IsWhole) (arg12 : Memref sig .tc .hbm S2x64x384x4096 .f32) (harg12 : arg12.IsWhole) (arg13 : Memref sig .tc .vmem S256x4096 .bf16) (harg13 : arg13.IsWhole) (arg14 : Memref sig .tc .vmem S4096x384 .f32) (harg14 : arg14.IsWhole) (arg15 : Memref sig .tc .vmem S4096x384 .f32) (harg15 : arg15.IsWhole) (arg16 : Memref sig .tc .vmem S384x4096 .f32) (harg16 : arg16.IsWhole) (arg17 : Memref sig .tc .vmem S4096x768 .bf16) (harg17 : arg17.IsWhole) (arg18 : Memref sig .tc .vmem S2x384x4096 .bf16) (harg18 : arg18.IsWhole) (arg19 : Memref sig .tc .vmem S256x384 .bf16) (harg19 : arg19.IsWhole) (arg20 : Memref sig .tc .vmem S256x384 .bf16) (harg20 : arg20.IsWhole) (arg21 : Memref sig .tc .vmem S256x768 .f32) (harg21 : arg21.IsWhole) (arg22 : DmaSems sig S3) (v11 : BitVec 1) : Prog (TpuEff nD τ sig (Elt F) Λ₀ .tc) PUnit := do
  if k0_h4 : v11 = 1#1 then do
    let ⟨v102, v103, v104, cst_65⟩ : Σ' (v102 : Vec F S256x512 .bf16) (v103 : Vec F S256x512 .bf16) (v104 : Vec F S512x768 .bf16), FVec F S256x768 .f32 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22
    let ⟨v126, v127, v134⟩ : Σ' (v126 : Vec F S256x384 .f32) (v127 : Vec F S256x384 .f32), FVec F S256x384 .f32 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v102 v103 v104 cst_65
    let v138 : Vec F S256x384 .bf16 ← Prog.lift (.load arg19 (Rect.unit (s := S256x384) ![0, 0] S256x384.size inb_S256x384_S256x384_0_0).toLoadRect (View.loadsAt_vmem h_S256x384))
    Prog.lift (.store arg19 (Rect.unit (s := S256x384) ![0, 0] S256x384.size inb_S256x384_S256x384_0_0) (k0_pay48 v126 v127 v134) Finset.univ (View.stores_vmem h_S256x384 (harg19.storeExact_slice rfl _ packedbf16_S256x384_S256x384_0_0) (fun _ => rfl)) (.inl rfl))
    pure ⟨⟩
  else do
    pure ⟨⟩

/-- A grid point's part: an even tile's hidden rows, and the output of the tile before. -/
noncomputable def evenP (i : grid0.Coords) (arg1 : Memref sig .tc .smem S321 .i32) (harg1 : arg1.IsWhole) (arg2 : Memref sig .tc .smem S321 .i32) (harg2 : arg2.IsWhole) (arg3 : Memref sig .tc .smem S321 .i32) (harg3 : arg3.IsWhole) (arg4 : Memref sig .tc .smem S321 .i32) (harg4 : arg4.IsWhole) (arg5 : Memref sig .tc .smem S321 .i32) (harg5 : arg5.IsWhole) (arg6 : Memref sig .tc .smem S321 .i32) (harg6 : arg6.IsWhole) (arg7 : Memref sig .tc .smem S321 .i32) (harg7 : arg7.IsWhole) (arg8 : Memref sig .tc .smem S1 .i32) (harg8 : arg8.IsWhole) (arg9 : Memref sig .tc .vmem S256x4096 .bf16) (harg9 : arg9.IsWhole) (arg10 : Memref sig .tc .hbm S2x64x4096x384 .f32) (harg10 : arg10.IsWhole) (arg11 : Memref sig .tc .hbm S2x64x4096x384 .f32) (harg11 : arg11.IsWhole) (arg12 : Memref sig .tc .hbm S2x64x384x4096 .f32) (harg12 : arg12.IsWhole) (arg13 : Memref sig .tc .vmem S256x4096 .bf16) (harg13 : arg13.IsWhole) (arg14 : Memref sig .tc .vmem S4096x384 .f32) (harg14 : arg14.IsWhole) (arg15 : Memref sig .tc .vmem S4096x384 .f32) (harg15 : arg15.IsWhole) (arg16 : Memref sig .tc .vmem S384x4096 .f32) (harg16 : arg16.IsWhole) (arg17 : Memref sig .tc .vmem S4096x768 .bf16) (harg17 : arg17.IsWhole) (arg18 : Memref sig .tc .vmem S2x384x4096 .bf16) (harg18 : arg18.IsWhole) (arg19 : Memref sig .tc .vmem S256x384 .bf16) (harg19 : arg19.IsWhole) (arg20 : Memref sig .tc .vmem S256x384 .bf16) (harg20 : arg20.IsWhole) (arg21 : Memref sig .tc .vmem S256x768 .f32) (harg21 : arg21.IsWhole) (arg22 : DmaSems sig S3) (arg0 : BitVec 32) (v0 : Elt F .i32) : Prog (TpuEff nD τ sig (Elt F) Λ₀ .tc) PUnit := do
  if k0_h5 : k0_cond5 i v0 = 1#1 then do
    let ⟨v102, v103, v104, cst_65⟩ : Σ' (v102 : Vec F S256x512 .bf16) (v103 : Vec F S256x512 .bf16) (v104 : Vec F S512x768 .bf16), FVec F S256x768 .f32 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22
    let ⟨v126, v127, v134⟩ : Σ' (v126 : Vec F S256x384 .f32) (v127 : Vec F S256x384 .f32), FVec F S256x384 .f32 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v102 v103 v104 cst_65
    let ⟨v141, v143, k0_hw5⟩ : Σ' (v141 : Vec F S256x384 .bf16) (v143 : Elt F .i32), k0_chk5 i v0 v143 ← k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 v0 k0_h5 v126 v127 v134
    let v188 : Vec F S384x512 .bf16 ← k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v0 k0_h5 v141 v143 k0_hw5
    let v191 : Vec F S256x512 .bf16 ← Prog.lift (.load arg13 (Rect.unit (s := S256x4096) ![0, 3584] S256x512.size inb_S256x4096_S256x512_0_3584).toLoadRect (View.loadsAt_vmem h_S256x512))
    Prog.lift (.store arg13 (Rect.unit (s := S256x4096) ![0, 3584] S256x512.size inb_S256x4096_S256x512_0_3584) (k0_pay49 v141 v188) Finset.univ (View.stores_vmem h_S256x512 (harg13.storeExact_slice rfl _ packedbf16_S256x4096_S256x512_0_3584) (fun _ => rfl)) (.inl rfl))
    pure ⟨⟩
  else do
    pure ⟨⟩

/-- A grid point's part: the last tile's output, at an even point. -/
noncomputable def evenLastP (i : grid0.Coords) (arg1 : Memref sig .tc .smem S321 .i32) (harg1 : arg1.IsWhole) (arg2 : Memref sig .tc .smem S321 .i32) (harg2 : arg2.IsWhole) (arg3 : Memref sig .tc .smem S321 .i32) (harg3 : arg3.IsWhole) (arg4 : Memref sig .tc .smem S321 .i32) (harg4 : arg4.IsWhole) (arg5 : Memref sig .tc .smem S321 .i32) (harg5 : arg5.IsWhole) (arg6 : Memref sig .tc .smem S321 .i32) (harg6 : arg6.IsWhole) (arg7 : Memref sig .tc .smem S321 .i32) (harg7 : arg7.IsWhole) (arg8 : Memref sig .tc .smem S1 .i32) (harg8 : arg8.IsWhole) (arg9 : Memref sig .tc .vmem S256x4096 .bf16) (harg9 : arg9.IsWhole) (arg10 : Memref sig .tc .hbm S2x64x4096x384 .f32) (harg10 : arg10.IsWhole) (arg11 : Memref sig .tc .hbm S2x64x4096x384 .f32) (harg11 : arg11.IsWhole) (arg12 : Memref sig .tc .hbm S2x64x384x4096 .f32) (harg12 : arg12.IsWhole) (arg13 : Memref sig .tc .vmem S256x4096 .bf16) (harg13 : arg13.IsWhole) (arg14 : Memref sig .tc .vmem S4096x384 .f32) (harg14 : arg14.IsWhole) (arg15 : Memref sig .tc .vmem S4096x384 .f32) (harg15 : arg15.IsWhole) (arg16 : Memref sig .tc .vmem S384x4096 .f32) (harg16 : arg16.IsWhole) (arg17 : Memref sig .tc .vmem S4096x768 .bf16) (harg17 : arg17.IsWhole) (arg18 : Memref sig .tc .vmem S2x384x4096 .bf16) (harg18 : arg18.IsWhole) (arg19 : Memref sig .tc .vmem S256x384 .bf16) (harg19 : arg19.IsWhole) (arg20 : Memref sig .tc .vmem S256x384 .bf16) (harg20 : arg20.IsWhole) (arg21 : Memref sig .tc .vmem S256x768 .f32) (harg21 : arg21.IsWhole) (arg22 : DmaSems sig S3) (arg0 : BitVec 32) (v0 : Elt F .i32) : Prog (TpuEff nD τ sig (Elt F) Λ₀ .tc) PUnit := do
  if k0_h6 : k0_cond6 i v0 = 1#1 then do
    let ⟨v80, v82, k0_hw6, v105⟩ : Σ' (v80 : Vec F S256x384 .bf16) (v82 : Elt F .i32) (k0_hw6 : k0_chk6 i v0 v82), FVec F S256x512 .bf16 ← k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 v0 k0_h6
    let v106 : Vec F S256x512 .bf16 ← Prog.lift (.load arg13 (Rect.unit (s := S256x4096) ![0, 2560] S256x512.size inb_S256x4096_S256x512_0_2560).toLoadRect (View.loadsAt_vmem h_S256x512))
    Prog.lift (.store arg13 (Rect.unit (s := S256x4096) ![0, 2560] S256x512.size inb_S256x4096_S256x512_0_2560) v105 Finset.univ (View.stores_vmem h_S256x512 (harg13.storeExact_slice rfl _ packedbf16_S256x4096_S256x512_0_2560) (fun _ => rfl)) (.inl rfl))
    let v107 : Memref sig .tc .vmem S1x384x4096 .bf16 := arg18.slice (Rect.unit (s := S2x384x4096) (k0_off16 v82) S1x384x4096.size (k0_off16_inb i v0 v82 k0_hw6 k0_h6)) (fun _ => rfl)
    let v108 : Memref sig .tc .vmem S384x4096 .bf16 := v107.squeeze S384x4096 squeezes_S1x384x4096_S384x4096
    let v109 : Vec F S384x512 .bf16 ← Prog.lift (.load v108 (Rect.unit (s := S384x4096) ![0, 1024] S384x512.size inb_S384x4096_S384x512_0_1024).toLoadRect (View.loadsAt_vmem h_S384x512))
    let v112 : Vec F S256x512 .bf16 ← Prog.lift (.load arg13 (Rect.unit (s := S256x4096) ![0, 1024] S256x512.size inb_S256x4096_S256x512_0_1024).toLoadRect (View.loadsAt_vmem h_S256x512))
    Prog.lift (.store arg13 (Rect.unit (s := S256x4096) ![0, 1024] S256x512.size inb_S256x4096_S256x512_0_1024) (k0_pay50 v80 v109) Finset.univ (View.stores_vmem h_S256x512 (harg13.storeExact_slice rfl _ packedbf16_S256x4096_S256x512_0_1024) (fun _ => rfl)) (.inl rfl))
    let v113 : Memref sig .tc .vmem S1x384x4096 .bf16 := arg18.slice (Rect.unit (s := S2x384x4096) (k0_off16 v82) S1x384x4096.size (k0_off16_inb i v0 v82 k0_hw6 k0_h6)) (fun _ => rfl)
    let v114 : Memref sig .tc .vmem S384x4096 .bf16 := v113.squeeze S384x4096 squeezes_S1x384x4096_S384x4096
    let v115 : Vec F S384x512 .bf16 ← Prog.lift (.load v114 (Rect.unit (s := S384x4096) ![0, 3072] S384x512.size inb_S384x4096_S384x512_0_3072).toLoadRect (View.loadsAt_vmem h_S384x512))
    let v118 : Vec F S256x512 .bf16 ← Prog.lift (.load arg13 (Rect.unit (s := S256x4096) ![0, 3072] S256x512.size inb_S256x4096_S256x512_0_3072).toLoadRect (View.loadsAt_vmem h_S256x512))
    Prog.lift (.store arg13 (Rect.unit (s := S256x4096) ![0, 3072] S256x512.size inb_S256x4096_S256x512_0_3072) (k0_pay51 v80 v115) Finset.univ (View.stores_vmem h_S256x512 (harg13.storeExact_slice rfl _ packedbf16_S256x4096_S256x512_0_3072) (fun _ => rfl)) (.inl rfl))
    let v119 : Memref sig .tc .vmem S1x384x4096 .bf16 := arg18.slice (Rect.unit (s := S2x384x4096) (k0_off16 v82) S1x384x4096.size (k0_off16_inb i v0 v82 k0_hw6 k0_h6)) (fun _ => rfl)
    let v120 : Memref sig .tc .vmem S384x4096 .bf16 := v119.squeeze S384x4096 squeezes_S1x384x4096_S384x4096
    let v121 : Vec F S384x512 .bf16 ← Prog.lift (.load v120 (Rect.unit (s := S384x4096) ![0, 1536] S384x512.size inb_S384x4096_S384x512_0_1536).toLoadRect (View.loadsAt_vmem h_S384x512))
    let v124 : Vec F S256x512 .bf16 ← Prog.lift (.load arg13 (Rect.unit (s := S256x4096) ![0, 1536] S256x512.size inb_S256x4096_S256x512_0_1536).toLoadRect (View.loadsAt_vmem h_S256x512))
    Prog.lift (.store arg13 (Rect.unit (s := S256x4096) ![0, 1536] S256x512.size inb_S256x4096_S256x512_0_1536) (k0_pay52 v80 v121) Finset.univ (View.stores_vmem h_S256x512 (harg13.storeExact_slice rfl _ packedbf16_S256x4096_S256x512_0_1536) (fun _ => rfl)) (.inl rfl))
    let v125 : Memref sig .tc .vmem S1x384x4096 .bf16 := arg18.slice (Rect.unit (s := S2x384x4096) (k0_off16 v82) S1x384x4096.size (k0_off16_inb i v0 v82 k0_hw6 k0_h6)) (fun _ => rfl)
    let v126 : Memref sig .tc .vmem S384x4096 .bf16 := v125.squeeze S384x4096 squeezes_S1x384x4096_S384x4096
    let v127 : Vec F S384x512 .bf16 ← Prog.lift (.load v126 (Rect.unit (s := S384x4096) ![0, 3584] S384x512.size inb_S384x4096_S384x512_0_3584).toLoadRect (View.loadsAt_vmem h_S384x512))
    let v130 : Vec F S256x512 .bf16 ← Prog.lift (.load arg13 (Rect.unit (s := S256x4096) ![0, 3584] S256x512.size inb_S256x4096_S256x512_0_3584).toLoadRect (View.loadsAt_vmem h_S256x512))
    Prog.lift (.store arg13 (Rect.unit (s := S256x4096) ![0, 3584] S256x512.size inb_S256x4096_S256x512_0_3584) (k0_pay53 v80 v127) Finset.univ (View.stores_vmem h_S256x512 (harg13.storeExact_slice rfl _ packedbf16_S256x4096_S256x512_0_3584) (fun _ => rfl)) (.inl rfl))
    pure ⟨⟩
  else do
    pure ⟨⟩

/-- A grid point's part: an odd tile's hidden rows, and the output of the tile before. -/
noncomputable def oddP (i : grid0.Coords) (arg1 : Memref sig .tc .smem S321 .i32) (harg1 : arg1.IsWhole) (arg2 : Memref sig .tc .smem S321 .i32) (harg2 : arg2.IsWhole) (arg3 : Memref sig .tc .smem S321 .i32) (harg3 : arg3.IsWhole) (arg4 : Memref sig .tc .smem S321 .i32) (harg4 : arg4.IsWhole) (arg5 : Memref sig .tc .smem S321 .i32) (harg5 : arg5.IsWhole) (arg6 : Memref sig .tc .smem S321 .i32) (harg6 : arg6.IsWhole) (arg7 : Memref sig .tc .smem S321 .i32) (harg7 : arg7.IsWhole) (arg8 : Memref sig .tc .smem S1 .i32) (harg8 : arg8.IsWhole) (arg9 : Memref sig .tc .vmem S256x4096 .bf16) (harg9 : arg9.IsWhole) (arg10 : Memref sig .tc .hbm S2x64x4096x384 .f32) (harg10 : arg10.IsWhole) (arg11 : Memref sig .tc .hbm S2x64x4096x384 .f32) (harg11 : arg11.IsWhole) (arg12 : Memref sig .tc .hbm S2x64x384x4096 .f32) (harg12 : arg12.IsWhole) (arg13 : Memref sig .tc .vmem S256x4096 .bf16) (harg13 : arg13.IsWhole) (arg14 : Memref sig .tc .vmem S4096x384 .f32) (harg14 : arg14.IsWhole) (arg15 : Memref sig .tc .vmem S4096x384 .f32) (harg15 : arg15.IsWhole) (arg16 : Memref sig .tc .vmem S384x4096 .f32) (harg16 : arg16.IsWhole) (arg17 : Memref sig .tc .vmem S4096x768 .bf16) (harg17 : arg17.IsWhole) (arg18 : Memref sig .tc .vmem S2x384x4096 .bf16) (harg18 : arg18.IsWhole) (arg19 : Memref sig .tc .vmem S256x384 .bf16) (harg19 : arg19.IsWhole) (arg20 : Memref sig .tc .vmem S256x384 .bf16) (harg20 : arg20.IsWhole) (arg21 : Memref sig .tc .vmem S256x768 .f32) (harg21 : arg21.IsWhole) (arg22 : DmaSems sig S3) (arg0 : BitVec 32) (v0 : Elt F .i32) : Prog (TpuEff nD τ sig (Elt F) Λ₀ .tc) PUnit := do
  if k0_h7 : k0_cond7 i v0 = 1#1 then do
    let ⟨v102, v103, v104, cst_65⟩ : Σ' (v102 : Vec F S256x512 .bf16) (v103 : Vec F S256x512 .bf16) (v104 : Vec F S512x768 .bf16), FVec F S256x768 .f32 ← k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22
    let ⟨v126, v127, v134⟩ : Σ' (v126 : Vec F S256x384 .f32) (v127 : Vec F S256x384 .f32), FVec F S256x384 .f32 ← k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v102 v103 v104 cst_65
    let ⟨v141, v143, k0_hw7⟩ : Σ' (v141 : Vec F S256x384 .bf16) (v143 : Elt F .i32), k0_chk7 i v0 v143 ← k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 v0 k0_h7 v126 v127 v134
    let v188 : Vec F S384x512 .bf16 ← k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v0 k0_h7 v141 v143 k0_hw7
    let v191 : Vec F S256x512 .bf16 ← Prog.lift (.load arg13 (Rect.unit (s := S256x4096) ![0, 3584] S256x512.size inb_S256x4096_S256x512_0_3584).toLoadRect (View.loadsAt_vmem h_S256x512))
    Prog.lift (.store arg13 (Rect.unit (s := S256x4096) ![0, 3584] S256x512.size inb_S256x4096_S256x512_0_3584) (k0_pay54 v141 v188) Finset.univ (View.stores_vmem h_S256x512 (harg13.storeExact_slice rfl _ packedbf16_S256x4096_S256x512_0_3584) (fun _ => rfl)) (.inl rfl))
    pure ⟨⟩
  else do
    pure ⟨⟩

/-- A grid point's part: the last tile's output, at an odd point. -/
noncomputable def oddLastP (i : grid0.Coords) (arg1 : Memref sig .tc .smem S321 .i32) (harg1 : arg1.IsWhole) (arg2 : Memref sig .tc .smem S321 .i32) (harg2 : arg2.IsWhole) (arg3 : Memref sig .tc .smem S321 .i32) (harg3 : arg3.IsWhole) (arg4 : Memref sig .tc .smem S321 .i32) (harg4 : arg4.IsWhole) (arg5 : Memref sig .tc .smem S321 .i32) (harg5 : arg5.IsWhole) (arg6 : Memref sig .tc .smem S321 .i32) (harg6 : arg6.IsWhole) (arg7 : Memref sig .tc .smem S321 .i32) (harg7 : arg7.IsWhole) (arg8 : Memref sig .tc .smem S1 .i32) (harg8 : arg8.IsWhole) (arg9 : Memref sig .tc .vmem S256x4096 .bf16) (harg9 : arg9.IsWhole) (arg10 : Memref sig .tc .hbm S2x64x4096x384 .f32) (harg10 : arg10.IsWhole) (arg11 : Memref sig .tc .hbm S2x64x4096x384 .f32) (harg11 : arg11.IsWhole) (arg12 : Memref sig .tc .hbm S2x64x384x4096 .f32) (harg12 : arg12.IsWhole) (arg13 : Memref sig .tc .vmem S256x4096 .bf16) (harg13 : arg13.IsWhole) (arg14 : Memref sig .tc .vmem S4096x384 .f32) (harg14 : arg14.IsWhole) (arg15 : Memref sig .tc .vmem S4096x384 .f32) (harg15 : arg15.IsWhole) (arg16 : Memref sig .tc .vmem S384x4096 .f32) (harg16 : arg16.IsWhole) (arg17 : Memref sig .tc .vmem S4096x768 .bf16) (harg17 : arg17.IsWhole) (arg18 : Memref sig .tc .vmem S2x384x4096 .bf16) (harg18 : arg18.IsWhole) (arg19 : Memref sig .tc .vmem S256x384 .bf16) (harg19 : arg19.IsWhole) (arg20 : Memref sig .tc .vmem S256x384 .bf16) (harg20 : arg20.IsWhole) (arg21 : Memref sig .tc .vmem S256x768 .f32) (harg21 : arg21.IsWhole) (arg22 : DmaSems sig S3) (arg0 : BitVec 32) (v0 : Elt F .i32) : Prog (TpuEff nD τ sig (Elt F) Λ₀ .tc) PUnit := do
  if k0_h8 : k0_cond8 i v0 = 1#1 then do
    let ⟨v80, v82, k0_hw8, v105⟩ : Σ' (v80 : Vec F S256x384 .bf16) (v82 : Elt F .i32) (k0_hw8 : k0_chk8 i v0 v82), FVec F S256x512 .bf16 ← k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 v0 k0_h8
    let v106 : Vec F S256x512 .bf16 ← Prog.lift (.load arg13 (Rect.unit (s := S256x4096) ![0, 2560] S256x512.size inb_S256x4096_S256x512_0_2560).toLoadRect (View.loadsAt_vmem h_S256x512))
    Prog.lift (.store arg13 (Rect.unit (s := S256x4096) ![0, 2560] S256x512.size inb_S256x4096_S256x512_0_2560) v105 Finset.univ (View.stores_vmem h_S256x512 (harg13.storeExact_slice rfl _ packedbf16_S256x4096_S256x512_0_2560) (fun _ => rfl)) (.inl rfl))
    let v107 : Memref sig .tc .vmem S1x384x4096 .bf16 := arg18.slice (Rect.unit (s := S2x384x4096) (k0_off20 v82) S1x384x4096.size (k0_off20_inb i v0 v82 k0_hw8 k0_h8)) (fun _ => rfl)
    let v108 : Memref sig .tc .vmem S384x4096 .bf16 := v107.squeeze S384x4096 squeezes_S1x384x4096_S384x4096
    let v109 : Vec F S384x512 .bf16 ← Prog.lift (.load v108 (Rect.unit (s := S384x4096) ![0, 1024] S384x512.size inb_S384x4096_S384x512_0_1024).toLoadRect (View.loadsAt_vmem h_S384x512))
    let v112 : Vec F S256x512 .bf16 ← Prog.lift (.load arg13 (Rect.unit (s := S256x4096) ![0, 1024] S256x512.size inb_S256x4096_S256x512_0_1024).toLoadRect (View.loadsAt_vmem h_S256x512))
    Prog.lift (.store arg13 (Rect.unit (s := S256x4096) ![0, 1024] S256x512.size inb_S256x4096_S256x512_0_1024) (k0_pay1 v80 v109) Finset.univ (View.stores_vmem h_S256x512 (harg13.storeExact_slice rfl _ packedbf16_S256x4096_S256x512_0_1024) (fun _ => rfl)) (.inl rfl))
    let v113 : Memref sig .tc .vmem S1x384x4096 .bf16 := arg18.slice (Rect.unit (s := S2x384x4096) (k0_off20 v82) S1x384x4096.size (k0_off20_inb i v0 v82 k0_hw8 k0_h8)) (fun _ => rfl)
    let v114 : Memref sig .tc .vmem S384x4096 .bf16 := v113.squeeze S384x4096 squeezes_S1x384x4096_S384x4096
    let v115 : Vec F S384x512 .bf16 ← Prog.lift (.load v114 (Rect.unit (s := S384x4096) ![0, 3072] S384x512.size inb_S384x4096_S384x512_0_3072).toLoadRect (View.loadsAt_vmem h_S384x512))
    let v118 : Vec F S256x512 .bf16 ← Prog.lift (.load arg13 (Rect.unit (s := S256x4096) ![0, 3072] S256x512.size inb_S256x4096_S256x512_0_3072).toLoadRect (View.loadsAt_vmem h_S256x512))
    Prog.lift (.store arg13 (Rect.unit (s := S256x4096) ![0, 3072] S256x512.size inb_S256x4096_S256x512_0_3072) (k0_pay2 v80 v115) Finset.univ (View.stores_vmem h_S256x512 (harg13.storeExact_slice rfl _ packedbf16_S256x4096_S256x512_0_3072) (fun _ => rfl)) (.inl rfl))
    let v119 : Memref sig .tc .vmem S1x384x4096 .bf16 := arg18.slice (Rect.unit (s := S2x384x4096) (k0_off20 v82) S1x384x4096.size (k0_off20_inb i v0 v82 k0_hw8 k0_h8)) (fun _ => rfl)
    let v120 : Memref sig .tc .vmem S384x4096 .bf16 := v119.squeeze S384x4096 squeezes_S1x384x4096_S384x4096
    let v121 : Vec F S384x512 .bf16 ← Prog.lift (.load v120 (Rect.unit (s := S384x4096) ![0, 1536] S384x512.size inb_S384x4096_S384x512_0_1536).toLoadRect (View.loadsAt_vmem h_S384x512))
    let v124 : Vec F S256x512 .bf16 ← Prog.lift (.load arg13 (Rect.unit (s := S256x4096) ![0, 1536] S256x512.size inb_S256x4096_S256x512_0_1536).toLoadRect (View.loadsAt_vmem h_S256x512))
    Prog.lift (.store arg13 (Rect.unit (s := S256x4096) ![0, 1536] S256x512.size inb_S256x4096_S256x512_0_1536) (k0_pay3 v80 v121) Finset.univ (View.stores_vmem h_S256x512 (harg13.storeExact_slice rfl _ packedbf16_S256x4096_S256x512_0_1536) (fun _ => rfl)) (.inl rfl))
    let v125 : Memref sig .tc .vmem S1x384x4096 .bf16 := arg18.slice (Rect.unit (s := S2x384x4096) (k0_off20 v82) S1x384x4096.size (k0_off20_inb i v0 v82 k0_hw8 k0_h8)) (fun _ => rfl)
    let v126 : Memref sig .tc .vmem S384x4096 .bf16 := v125.squeeze S384x4096 squeezes_S1x384x4096_S384x4096
    let v127 : Vec F S384x512 .bf16 ← Prog.lift (.load v126 (Rect.unit (s := S384x4096) ![0, 3584] S384x512.size inb_S384x4096_S384x512_0_3584).toLoadRect (View.loadsAt_vmem h_S384x512))
    let v130 : Vec F S256x512 .bf16 ← Prog.lift (.load arg13 (Rect.unit (s := S256x4096) ![0, 3584] S256x512.size inb_S256x4096_S256x512_0_3584).toLoadRect (View.loadsAt_vmem h_S256x512))
    Prog.lift (.store arg13 (Rect.unit (s := S256x4096) ![0, 3584] S256x512.size inb_S256x4096_S256x512_0_3584) (k0_pay4 v80 v127) Finset.univ (View.stores_vmem h_S256x512 (harg13.storeExact_slice rfl _ packedbf16_S256x4096_S256x512_0_3584) (fun _ => rfl)) (.inl rfl))
    pure ⟨⟩
  else do
    pure ⟨⟩

/-- What runs after a choice runs after each side. -/
theorem choice_then {P : Prop} [Decidable P] {α β : Type} (x : P → Prog (TpuEff nD τ sig (Elt F) Λ₀ .tc) α) (y : ¬P → Prog (TpuEff nD τ sig (Elt F) Λ₀ .tc) α)
    (k : α → Prog (TpuEff nD τ sig (Elt F) Λ₀ .tc) β) :
    (dite P x y >>= k) = dite P (fun h => x h >>= k) (fun h => y h >>= k) := by
  split <;> rfl

section Whole

variable (i : grid0.Coords) (arg1 : Memref sig .tc .smem S321 .i32) (harg1 : arg1.IsWhole) (arg2 : Memref sig .tc .smem S321 .i32) (harg2 : arg2.IsWhole) (arg3 : Memref sig .tc .smem S321 .i32) (harg3 : arg3.IsWhole) (arg4 : Memref sig .tc .smem S321 .i32) (harg4 : arg4.IsWhole) (arg5 : Memref sig .tc .smem S321 .i32) (harg5 : arg5.IsWhole) (arg6 : Memref sig .tc .smem S321 .i32) (harg6 : arg6.IsWhole) (arg7 : Memref sig .tc .smem S321 .i32) (harg7 : arg7.IsWhole) (arg8 : Memref sig .tc .smem S1 .i32) (harg8 : arg8.IsWhole) (arg9 : Memref sig .tc .vmem S256x4096 .bf16) (harg9 : arg9.IsWhole) (arg10 : Memref sig .tc .hbm S2x64x4096x384 .f32) (harg10 : arg10.IsWhole) (arg11 : Memref sig .tc .hbm S2x64x4096x384 .f32) (harg11 : arg11.IsWhole) (arg12 : Memref sig .tc .hbm S2x64x384x4096 .f32) (harg12 : arg12.IsWhole) (arg13 : Memref sig .tc .vmem S256x4096 .bf16) (harg13 : arg13.IsWhole) (arg14 : Memref sig .tc .vmem S4096x384 .f32) (harg14 : arg14.IsWhole) (arg15 : Memref sig .tc .vmem S4096x384 .f32) (harg15 : arg15.IsWhole) (arg16 : Memref sig .tc .vmem S384x4096 .f32) (harg16 : arg16.IsWhole) (arg17 : Memref sig .tc .vmem S4096x768 .bf16) (harg17 : arg17.IsWhole) (arg18 : Memref sig .tc .vmem S2x384x4096 .bf16) (harg18 : arg18.IsWhole) (arg19 : Memref sig .tc .vmem S256x384 .bf16) (harg19 : arg19.IsWhole) (arg20 : Memref sig .tc .vmem S256x384 .bf16) (harg20 : arg20.IsWhole) (arg21 : Memref sig .tc .vmem S256x768 .f32) (harg21 : arg21.IsWhole) (arg22 : DmaSems sig S3)

set_option maxRecDepth 65536 in
theorem part14_eq : k0_part14 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 = (do
    let arg0 : BitVec 32 := BitVec.ofNat 32 (i 0).val
    let v0 : Elt F .i32 ← smemLoad arg8 (Rect.unit (s := S1) ![0] S1.size inb_S1_S1_0) numel1_S1 rfl
    startP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22
    let v5 : Elt F .i32 ← smemLoad arg4 (Rect.unit (s := S321) (k0_off1 i) S1.size (k0_off1_inb i)) numel1_S1 rfl
    takeP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 v5
    let v9 : BitVec 1 := Scalar.cmpi .eq arg0 0#32
    let v10 : BitVec 32 := Scalar.extui v9
    let v11 : BitVec 1 := Scalar.cmpi .ne v10 0#32
    firstP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v11
    evenP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 v0
    let v29 : BitVec 1 := Scalar.cmpi .sge arg0 1#32
    let v30 : BitVec 1 := Scalar.cmpi .eq arg0 v0
    let v31 : BitVec 1 := Scalar.andi v29 v30
    let v32 : BitVec 1 := Scalar.cmpi .eq 2#32 0#32
    let v33 : BitVec 32 := Scalar.select v32 1#32 2#32
    let v34 : BitVec 32 := Scalar.remsi arg0 v33
    pure ⟨arg0, v0, v31, v33, v34⟩) := by
  rw [k0_part14_eq_skeleton]
  unfold k0_part14_skel startP takeP firstP evenP
  simp only [choice_then, bind_assoc, pure_bind]

set_option maxRecDepth 65536 in
theorem part15_eq (arg0 : BitVec 32) (v0 : Elt F .i32) (v31 : BitVec 1) (v33 v34 : BitVec 32) : k0_part15 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 v0 v31 v33 v34 = (do
    evenLastP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 v0
    oddP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 v0
    let v63 : BitVec 1 := Scalar.cmpi .sge arg0 1#32
    let v64 : BitVec 1 := Scalar.cmpi .eq arg0 v0
    let v65 : BitVec 1 := Scalar.andi v63 v64
    let v66 : BitVec 1 := Scalar.cmpi .eq 2#32 0#32
    let v67 : BitVec 32 := Scalar.select v66 1#32 2#32
    let v68 : BitVec 32 := Scalar.remsi arg0 v67
    let v69 : BitVec 1 := Scalar.cmpi .ne v68 0#32
    let v70 : BitVec 1 := Scalar.cmpi .slt v68 0#32
    let v71 : BitVec 1 := Scalar.cmpi .slt v67 0#32
    pure ⟨v65, v67, v68, v69, v70, v71⟩) := by
  rw [k0_part15_eq_skeleton]
  unfold k0_part15_skel evenLastP oddP
  by_cases h6 : k0_cond6 i v0 = 1#1 <;> by_cases h7 : k0_cond7 i v0 = 1#1 <;>
    simp only [h6, h7, ↓reduceDIte, bind_assoc, pure_bind]

set_option maxRecDepth 65536 in
theorem point_eq : cc0_experts (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 = (do
    let ⟨arg0, v0, v31, v33, v34⟩ : Σ' (arg0 : BitVec 32) (v0 : Elt F .i32) (v31 : BitVec 1) (v33 : BitVec 32), BitVec 32 ← k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22
    let ⟨v65, v67, v68, v69, v70, v71⟩ : Σ' (v65 : BitVec 1) (v67 : BitVec 32) (v68 : BitVec 32) (v69 : BitVec 1) (v70 : BitVec 1), BitVec 1 ← k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 v0 v31 v33 v34
    oddLastP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 v0
    pure ⟨⟩) := by
  rw [cc0_experts_eq_skeleton]
  unfold cc0_experts_skel oddLastP
  refine bind_congr fun ⟨arg0, v0, v31, v33, v34⟩ => bind_congr fun ⟨v65, v67, v68, v69, v70, v71⟩ => ?_
  by_cases h8 : k0_cond8 i v0 = 1#1 <;> simp only [h8, ↓reduceDIte, bind_assoc, pure_bind]

end Whole

end Cert.Proof.Experts

end
-- ==== Proof.Tiles.lean ====
/-
  What the stores of a grid point leave, as values: the two casts side by side, a slot of the down matrices, and a tile's output
  from its eight chunks, whatever lay there before.
-/
module

public import proofs.«01_k».proof.Proof.Parts

@[expose] public section

set_option maxRecDepth 16384

noncomputable section

namespace Cert.Proof.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- One expert's gate matrix in its array, word `v` naming the expert; likewise up, whose array is of the same shape. -/
def gmat (A : S2x64x4096x384.Idx → Elt F .f32) (v : BitVec 32) (h : ∀ a, k0_off2 v a + S1x1x4096x384.size a ≤ S2x64x4096x384.size a) : S4096x384.Idx → Elt F .f32 :=
  part A (Rect.unit (s := S2x64x4096x384) (k0_off2 v) S1x1x4096x384.size h) squeezes_S1x1x4096x384_S4096x384

/-- One expert's down matrix. -/
def dmat (A : S2x64x384x4096.Idx → Elt F .f32) (v : BitVec 32) (h : ∀ a, k0_off3 v a + S1x1x384x4096.size a ≤ S2x64x384x4096.size a) : S384x4096.Idx → Elt F .f32 :=
  part A (Rect.unit (s := S2x64x384x4096) (k0_off3 v) S1x1x384x4096.size h) squeezes_S1x1x384x4096_S384x4096

theorem gin {v : BitVec 32} (hv : v.toNat < 64) : ∀ a, k0_off2 v a + S1x1x4096x384.size a ≤ S2x64x4096x384.size a := by
  intro a
  fin_cases a
  · show 0 + 1 ≤ 2; omega
  · show v.toNat + 1 ≤ 64; omega
  · show 0 + 4096 ≤ 4096; omega
  · show 0 + 384 ≤ 384; omega

theorem din {v : BitVec 32} (hv : v.toNat < 64) : ∀ a, k0_off3 v a + S1x1x384x4096.size a ≤ S2x64x384x4096.size a := by
  intro a
  fin_cases a
  · show 0 + 1 ≤ 2; omega
  · show v.toNat + 1 ≤ 64; omega
  · show 0 + 384 ≤ 384; omega
  · show 0 + 4096 ≤ 4096; omega

theorem sin {v : BitVec 32} (hv : v.toNat < 2) : ∀ a, k0_off8 v a + S1x384x4096.size a ≤ S2x384x4096.size a := by
  intro a
  fin_cases a
  · show v.toNat + 1 ≤ 2; omega
  · show 0 + 384 ≤ 384; omega
  · show 0 + 4096 ≤ 4096; omega

/-- An index of the two matrices side by side. -/
abbrev at2 {a b : ℕ} (i : Fin a) (j : Fin b) : (⟨2, ![a, b]⟩ : Shape).Idx := fun | 0 => i | 1 => j

/-- Gate and up side by side, cast. -/
def wguOf (G U : S4096x384.Idx → Elt F .f32) : S4096x768.Idx → Elt F .bf16 := fun y =>
  if h : (y 1).val < 384 then k0_pay5 G (at2 (a := 4096) (b := 384) (y 0) ⟨(y 1).val, h⟩)
  else k0_pay6 U (at2 (a := 4096) (b := 384) (y 0) ⟨(y 1).val - 384, by have h1 : (y 1).val < 768 := (y 1).isLt; omega⟩)

theorem put_put_wgu (Z : S4096x768.Idx → Elt F .bf16) (G U : S4096x384.Idx → Elt F .f32) :
    VecWindow.put (VecWindow.put Z ![0, 0] S4096x384.size (k0_pay5 G)) ![0, 384] S4096x384.size (k0_pay6 U) = wguOf G U := by
  funext y
  have h0 : (y 0).val < 4096 := (y 0).isLt
  have h1 : (y 1).val < 768 := (y 1).isLt
  unfold VecWindow.put wguOf
  by_cases hb : (y 1).val < 384
  · have hn : ¬ ∀ a : Fin 2, (![0, 384] : Fin 2 → ℕ) a ≤ (y a).val ∧ (y a).val < (![0, 384] : Fin 2 → ℕ) a + S4096x384.size a := fun h => by
      have := (h 1).1
      have e : (![0, 384] : Fin 2 → ℕ) 1 = 384 := rfl
      omega
    have hp : ∀ a : Fin 2, (![0, 0] : Fin 2 → ℕ) a ≤ (y a).val ∧ (y a).val < (![0, 0] : Fin 2 → ℕ) a + S4096x384.size a := fun a => by
      fin_cases a
      · show 0 ≤ (y 0).val ∧ (y 0).val < 0 + 4096; omega
      · show 0 ≤ (y 1).val ∧ (y 1).val < 0 + 384; omega
    rw [dif_pos hb, dif_neg hn, dif_pos hp]
    refine congrArg (k0_pay5 G) (funext fun a => Fin.ext ?_)
    fin_cases a
    · show (y 0).val - 0 = (y 0).val; omega
    · show (y 1).val - 0 = (y 1).val; omega
  · have hp : ∀ a : Fin 2, (![0, 384] : Fin 2 → ℕ) a ≤ (y a).val ∧ (y a).val < (![0, 384] : Fin 2 → ℕ) a + S4096x384.size a := fun a => by
      fin_cases a
      · show 0 ≤ (y 0).val ∧ (y 0).val < 0 + 4096; omega
      · show 384 ≤ (y 1).val ∧ (y 1).val < 384 + 384; omega
    rw [dif_neg hb, dif_pos hp]
    refine congrArg (k0_pay6 U) (funext fun a => Fin.ext ?_)
    fin_cases a
    · show (y 0).val - 0 = (y 0).val; omega
    · show (y 1).val - 384 = (y 1).val - 384; omega

/-- The slots after a down matrix is put into one. -/
def putSlot (D : S2x384x4096.Idx → Elt F .bf16) (v : BitVec 32) (W : S384x4096.Idx → Elt F .f32) : S2x384x4096.Idx → Elt F .bf16 :=
  VecWindow.put D (k0_off8 v) S1x384x4096.size (k0_pay47 (k0_pay7 W))

theorem slot_put_same (D : S2x384x4096.Idx → Elt F .bf16) (v : BitVec 32) (W : S384x4096.Idx → Elt F .f32) (h) :
    slotOf (putSlot D v W) (k0_off8 v) h = k0_pay7 W := by
  have e := VecWindow.window_put_same D (k0_off8 v) S1x384x4096.size h (k0_pay47 (k0_pay7 W))
  funext y
  refine (congrFun e (Shape.reshapeEquiv squeezes_S1x384x4096_S384x4096.numel_eq y)).trans ?_
  show k0_pay7 W (Shape.reshapeEquiv _ (Shape.reshapeEquiv _ y)) = _
  rw [Shape.reshapeEquiv_reshapeEquiv, Shape.reshapeEquiv_self]

theorem slot_put_other (D : S2x384x4096.Idx → Elt F .bf16) (v u : BitVec 32) (hn : v.toNat ≠ u.toNat) (W : S384x4096.Idx → Elt F .f32) (h) :
    slotOf (putSlot D v W) (k0_off8 u) h = slotOf D (k0_off8 u) h := by
  have e := VecWindow.window_put_of_disjoint D (k0_off8 v) S1x384x4096.size (k0_off8 u) S1x384x4096.size h (k0_pay47 (k0_pay7 W)) 0
    (by show u.toNat + 1 ≤ v.toNat ∨ v.toNat + 1 ≤ u.toNat; omega)
  funext y
  exact congrFun e (Shape.reshapeEquiv squeezes_S1x384x4096_S384x4096.numel_eq y)

/-- The chunk of columns from `o` on of a down matrix. -/
abbrev chunk (V : S384x4096.Idx → Elt F .bf16) (o : ℕ) (h : ∀ a, (![0, o] : Fin 2 → ℕ) a + S384x512.size a ≤ S384x4096.size a) : Vec F S384x512 .bf16 :=
  VecWindow.window V ![0, o] S384x512.size h

theorem chunk_in {n : ℕ} (h : n < 4096) : ∀ a, (![0, 512 * (n / 512)] : Fin 2 → ℕ) a + S384x512.size a ≤ S384x4096.size a := by
  intro a
  fin_cases a
  · show 0 + 384 ≤ 384; omega
  · show 512 * (n / 512) + 512 ≤ 4096; omega

/-- A tile's output. -/
def outTile (H : S256x384.Idx → Elt F .bf16) (V : S384x4096.Idx → Elt F .bf16) : S256x4096.Idx → Elt F .bf16 := fun y =>
  k0_pay19 H (chunk V (512 * ((y 1).val / 512)) (chunk_in (y 1).isLt)) (at2 (a := 256) (b := 512) (y 0) ⟨(y 1).val % 512, Nat.mod_lt _ (by decide)⟩)

theorem in_chunk (y : S256x4096.Idx) (o : ℕ) :
    (∀ a : Fin 2, (![0, o] : Fin 2 → ℕ) a ≤ (y a).val ∧ (y a).val < (![0, o] : Fin 2 → ℕ) a + S256x512.size a) ↔ o ≤ (y 1).val ∧ (y 1).val < o + 512 := by
  have h0 : (y 0).val < 256 := (y 0).isLt
  constructor
  · intro h; exact h 1
  · intro h a
    fin_cases a
    · show 0 ≤ (y 0).val ∧ (y 0).val < 0 + 256; omega
    · exact h

theorem out_at (H : S256x384.Idx → Elt F .bf16) (V : S384x4096.Idx → Elt F .bf16) (y : S256x4096.Idx) (o : ℕ) (inb)
    (h : ∀ a : Fin 2, (![0, o] : Fin 2 → ℕ) a ≤ (y a).val ∧ (y a).val < (![0, o] : Fin 2 → ℕ) a + S256x512.size a) (k : ℕ) (ho : o = 512 * k) :
    k0_pay19 H (VecWindow.window V ![0, o] S384x512.size inb) (Rect.unitLocal (s := S256x4096) (off := ![0, o]) (size := S256x512.size) y h) = outTile H V y := by
  have h1 := (in_chunk y o).1 h
  have e : o = 512 * ((y 1).val / 512) := by omega
  subst e
  unfold outTile
  refine congrArg (k0_pay19 H _) (funext fun a => Fin.ext ?_)
  fin_cases a
  · show (y 0).val - 0 = (y 0).val; omega
  · show (y 1).val - 512 * ((y 1).val / 512) = (y 1).val % 512; omega

theorem put_out (H : S256x384.Idx → Elt F .bf16) (V : S384x4096.Idx → Elt F .bf16) (Z : S256x4096.Idx → Elt F .bf16) (y : S256x4096.Idx) (o : ℕ) (inb) (k : ℕ)
    (ho : o = 512 * k) (hz : ¬ (o ≤ (y 1).val ∧ (y 1).val < o + 512) → Z y = outTile H V y) :
    VecWindow.put Z ![0, o] S256x512.size (k0_pay19 H (VecWindow.window V ![0, o] S384x512.size inb)) y = outTile H V y := by
  unfold VecWindow.put
  by_cases h : ∀ a : Fin 2, (![0, o] : Fin 2 → ℕ) a ≤ (y a).val ∧ (y a).val < (![0, o] : Fin 2 → ℕ) a + S256x512.size a
  · exact (dif_pos h).trans (out_at H V y o inb h k ho)
  · exact (dif_neg h).trans (hz fun hh => h ((in_chunk y o).2 hh))

theorem downOver_eq (H : S256x384.Idx → Elt F .bf16) (V : S384x4096.Idx → Elt F .bf16) (Y : S256x4096.Idx → Elt F .bf16) : downOver H V Y = outTile H V := by
  funext y
  have hy : (y 1).val < 4096 := (y 1).isLt
  unfold downOver
  refine put_out H V _ y 3584 _ 7 rfl fun h3584 => ?_
  refine put_out H V _ y 1536 _ 3 rfl fun h1536 => ?_
  refine put_out H V _ y 3072 _ 6 rfl fun h3072 => ?_
  refine put_out H V _ y 1024 _ 2 rfl fun h1024 => ?_
  refine put_out H V _ y 2560 _ 5 rfl fun h2560 => ?_
  refine put_out H V _ y 512 _ 1 rfl fun h512 => ?_
  refine put_out H V _ y 2048 _ 4 rfl fun h2048 => ?_
  refine put_out H V _ y 0 _ 0 rfl fun h0 => ?_
  exfalso
  omega

end Cert.Proof.Experts

end
-- ==== Proof.Points.lean ====
/-
  The parts of a grid point, run: which matrices come, which are taken in, and what the tiles' buffers hold afterwards.
-/
module

public import proofs.«01_k».proof.Proof.Tiles

@[expose] public section

set_option maxRecDepth 16384

noncomputable section

namespace Cert.Proof.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

abbrev sm0 (sems : DmaSems sig S3) : DmaSem sig := ((sems.slice (Rect.unit (s := S3) ![0] S1.size inb_S3_S1_0)).squeeze S_ squeezes_S1_S_).sem
abbrev sm1 (sems : DmaSems sig S3) : DmaSem sig := ((sems.slice (Rect.unit (s := S3) ![1] S1.size inb_S3_S1_1)).squeeze S_ squeezes_S1_S_).sem
abbrev sm2 (sems : DmaSems sig S3) : DmaSem sig := ((sems.slice (Rect.unit (s := S3) ![2] S1.size inb_S3_S1_2)).squeeze S_ squeezes_S1_S_).sem

section Run

variable (c : Dev nD) (MA MB : S2x64x4096x384.Idx → Elt F .f32) (MC : S2x64x384x4096.Idx → Elt F .f32)

/-- No matrices on the way. -/
def Ready (arg10 arg11 : Memref sig .tc .hbm S2x64x4096x384 .f32) (arg12 : Memref sig .tc .hbm S2x64x384x4096 .f32)
    (arg14 arg15 : Memref sig .tc .vmem S4096x384 .f32) (arg16 : Memref sig .tc .vmem S384x4096 .f32) (sems : DmaSems sig S3) : sProp 𝕄 :=
  iprop(Held c arg10 MA ∗ Held c arg11 MB ∗ Held c arg12 MC ∗ (∃ Z, Held c arg14 Z) ∗ (∃ Z, Held c arg15 Z) ∗ (∃ Z, Held c arg16 Z)
    ∗ semVal ((c : Thread nD τ), .dma (sm0 sems)) 0 ∗ semVal ((c : Thread nD τ), .dma (sm1 sems)) 0 ∗ semVal ((c : Thread nD τ), .dma (sm2 sems)) 0)

/-- The matrices of expert `v` on the way. -/
def Bringing (arg10 arg11 : Memref sig .tc .hbm S2x64x4096x384 .f32) (arg12 : Memref sig .tc .hbm S2x64x384x4096 .f32)
    (arg14 arg15 : Memref sig .tc .vmem S4096x384 .f32) (arg16 : Memref sig .tc .vmem S384x4096 .f32) (sems : DmaSems sig S3) (v : BitVec 32) (hv : v.toNat < 64) : sProp 𝕄 :=
  iprop(Moving c arg10 (Rect.unit (s := S2x64x4096x384) (k0_off2 v) S1x1x4096x384.size (gin hv)) (fun _ => rfl) squeezes_S1x1x4096x384_S4096x384 arg14 MA (sm0 sems)
    ∗ Moving c arg11 (Rect.unit (s := S2x64x4096x384) (k0_off2 v) S1x1x4096x384.size (gin hv)) (fun _ => rfl) squeezes_S1x1x4096x384_S4096x384 arg15 MB (sm1 sems)
    ∗ Moving c arg12 (Rect.unit (s := S2x64x384x4096) (k0_off3 v) S1x1x384x4096.size (din hv)) (fun _ => rfl) squeezes_S1x1x384x4096_S384x4096 arg16 MC (sm2 sems))

/-- The next expert's matrices on the way, where word `v` names one; none where it does not. -/
def Coming (arg10 arg11 : Memref sig .tc .hbm S2x64x4096x384 .f32) (arg12 : Memref sig .tc .hbm S2x64x384x4096 .f32)
    (arg14 arg15 : Memref sig .tc .vmem S4096x384 .f32) (arg16 : Memref sig .tc .vmem S384x4096 .f32) (sems : DmaSems sig S3) (v : BitVec 32) : sProp 𝕄 :=
  if h : k0_cond3 v = 1#1 ∧ v.toNat < 64 then Bringing c MA MB MC arg10 arg11 arg12 arg14 arg15 arg16 sems v h.2 else Ready c MA MB MC arg10 arg11 arg12 arg14 arg15 arg16 sems

theorem chk2_of {v5 v : BitVec 32} (hv : v.toNat < 64) : k0_chk2 v5 v := by
  first
    | exact ⟨fun _ => gin hv, fun _ => din hv⟩
    | exact ⟨fun _ => din hv, fun _ => gin hv⟩
theorem chk1_of {i : grid0.Coords} {v : BitVec 32} (hv : v.toNat < 64) : k0_chk1 i v := ⟨fun _ => gin hv, fun _ => din hv⟩
theorem chk4_of {v5 u v : BitVec 32} (hv : v.toNat < 64) : k0_chk4 v5 u v := ⟨fun _ _ => gin hv, fun _ _ => din hv⟩
theorem packed_of {v : BitVec 32} (h : ∀ a, k0_off8 v a + S1x384x4096.size a ≤ S2x384x4096.size a) :
    (Rect.unit (s := S2x384x4096) (k0_off8 v) S1x384x4096.size h).PackedRows (EltTy.packing .bf16) := by
  have h0 : v.toNat + 1 ≤ 2 := h 0
  have e : v = 0#32 ∨ v = 1#32 := by
    rcases (by omega : v.toNat = 0 ∨ v.toNat = 1) with e | e
    · left; exact BitVec.eq_of_toNat_eq e
    · right; exact BitVec.eq_of_toNat_eq e
  rcases e with e | e <;> subst e
  · exact (by decide : (Rect.unit (s := S2x384x4096) (k0_off8 0#32) S1x384x4096.size (sin (by decide))).PackedRows (EltTy.packing .bf16))
  · exact (by decide : (Rect.unit (s := S2x384x4096) (k0_off8 1#32) S1x384x4096.size (sin (by decide))).PackedRows (EltTy.packing .bf16))
theorem chk3_of {v5 v : BitVec 32} (hv : v.toNat < 2) : k0_chk3 v5 v := ⟨fun _ => sin hv, fun _ h => packed_of h⟩

variable (i : grid0.Coords) (arg1 : Memref sig .tc .smem S321 .i32) (harg1 : arg1.IsWhole) (arg2 : Memref sig .tc .smem S321 .i32) (harg2 : arg2.IsWhole) (arg3 : Memref sig .tc .smem S321 .i32) (harg3 : arg3.IsWhole) (arg4 : Memref sig .tc .smem S321 .i32) (harg4 : arg4.IsWhole) (arg5 : Memref sig .tc .smem S321 .i32) (harg5 : arg5.IsWhole) (arg6 : Memref sig .tc .smem S321 .i32) (harg6 : arg6.IsWhole) (arg7 : Memref sig .tc .smem S321 .i32) (harg7 : arg7.IsWhole) (arg8 : Memref sig .tc .smem S1 .i32) (harg8 : arg8.IsWhole) (arg9 : Memref sig .tc .vmem S256x4096 .bf16) (harg9 : arg9.IsWhole) (arg10 : Memref sig .tc .hbm S2x64x4096x384 .f32) (harg10 : arg10.IsWhole) (arg11 : Memref sig .tc .hbm S2x64x4096x384 .f32) (harg11 : arg11.IsWhole) (arg12 : Memref sig .tc .hbm S2x64x384x4096 .f32) (harg12 : arg12.IsWhole) (arg13 : Memref sig .tc .vmem S256x4096 .bf16) (harg13 : arg13.IsWhole) (arg14 : Memref sig .tc .vmem S4096x384 .f32) (harg14 : arg14.IsWhole) (arg15 : Memref sig .tc .vmem S4096x384 .f32) (harg15 : arg15.IsWhole) (arg16 : Memref sig .tc .vmem S384x4096 .f32) (harg16 : arg16.IsWhole) (arg17 : Memref sig .tc .vmem S4096x768 .bf16) (harg17 : arg17.IsWhole) (arg18 : Memref sig .tc .vmem S2x384x4096 .bf16) (harg18 : arg18.IsWhole) (arg19 : Memref sig .tc .vmem S256x384 .bf16) (harg19 : arg19.IsWhole) (arg20 : Memref sig .tc .vmem S256x384 .bf16) (harg20 : arg20.IsWhole) (arg21 : Memref sig .tc .vmem S256x768 .f32) (harg21 : arg21.IsWhole) (arg22 : DmaSems sig S3)

theorem skip_start {Q : PUnit → sProp 𝕄} (h : ¬ k0_cond1 i = 1#1) : Q ⟨⟩ ⊢ Runs c (startP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22) Q := by
  unfold startP
  rw [dif_neg h]
  exact fin c _
theorem skip_take {Q : PUnit → sProp 𝕄} (arg0 : BitVec 32) (v5 : Elt F .i32) (h : ¬ k0_cond2 v5 = 1#1) : Q ⟨⟩ ⊢ Runs c (takeP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 v5) Q := by
  unfold takeP
  rw [dif_neg h]
  exact fin c _
theorem skip_first {Q : PUnit → sProp 𝕄} (v11 : BitVec 1) (h : ¬ v11 = 1#1) : Q ⟨⟩ ⊢ Runs c (firstP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v11) Q := by
  unfold firstP
  rw [dif_neg h]
  exact fin c _
theorem skip_even {Q : PUnit → sProp 𝕄} (arg0 : BitVec 32) (v0 : Elt F .i32) (h : ¬ k0_cond5 i v0 = 1#1) : Q ⟨⟩ ⊢ Runs c (evenP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 v0) Q := by
  unfold evenP
  rw [dif_neg h]
  exact fin c _
theorem skip_evenLast {Q : PUnit → sProp 𝕄} (arg0 : BitVec 32) (v0 : Elt F .i32) (h : ¬ k0_cond6 i v0 = 1#1) : Q ⟨⟩ ⊢ Runs c (evenLastP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 v0) Q := by
  unfold evenLastP
  rw [dif_neg h]
  exact fin c _
theorem skip_odd {Q : PUnit → sProp 𝕄} (arg0 : BitVec 32) (v0 : Elt F .i32) (h : ¬ k0_cond7 i v0 = 1#1) : Q ⟨⟩ ⊢ Runs c (oddP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 v0) Q := by
  unfold oddP
  rw [dif_neg h]
  exact fin c _
theorem skip_oddLast {Q : PUnit → sProp 𝕄} (arg0 : BitVec 32) (v0 : Elt F .i32) (h : ¬ k0_cond8 i v0 = 1#1) : Q ⟨⟩ ⊢ Runs c (oddLastP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 v0) Q := by
  unfold oddLastP
  rw [dif_neg h]
  exact fin c _

variable (T N S P : S321.Idx → Elt F .i32)

/-- The first table index. -/
abbrev at0 : S321.Idx := fun | 0 => ⟨0, by decide⟩

/-- The first expert's matrices set on their way. -/
theorem start_run (h : k0_cond1 i = 1#1) (hv : (T at0).toNat < 64) :
    iprop(Held c arg1 T ∗ Ready c MA MB MC arg10 arg11 arg12 arg14 arg15 arg16 arg22)
      ⊢ Runs c (startP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22) (fun _ => iprop(Held c arg1 T ∗ Bringing c MA MB MC arg10 arg11 arg12 arg14 arg15 arg16 arg22 (T at0) hv)) := by
  unfold startP
  rw [dif_pos h]
  unfold Ready
  iintro ⟨HT, HA, HB, HC, ⟨%Z1, H14⟩, ⟨%Z2, H15⟩, ⟨%Z3, H16⟩, Hs0, Hs1, Hs2⟩
  iapply (word c at0 (fun a => by fin_cases a; rfl)) $$ HT
  iintro HT
  iapply (asm c (chk1_of hv))
  iapply (snd c (by decide)) $$ [HA H14 Hs0]
  · isplitl [HA]; · iexact HA
    isplitl [H14]; · iexact H14
    iexact Hs0
  iintro M0
  iapply (snd c (by decide)) $$ [HB H15 Hs1]
  · isplitl [HB]; · iexact HB
    isplitl [H15]; · iexact H15
    iexact Hs1
  iintro M1
  iapply (snd c (by decide)) $$ [HC H16 Hs2]
  · isplitl [HC]; · iexact HC
    isplitl [H16]; · iexact H16
    iexact Hs2
  iintro M2
  iapply (fin c)
  isplitl [HT]; · iexact HT
  unfold Bringing
  isplitl [M0]; · iexact M0
  isplitl [M1]; · iexact M1
  iexact M2

/-- The matrices waited for and cast. -/
theorem part1_run (arg0 : BitVec 32) (v5 : Elt F .i32) (h : k0_cond2 v5 = 1#1) (hv : (T (at321 i)).toNat < 64) (hs : (S (at321 i)).toNat < 2) (Z : S4096x768.Idx → Elt F .bf16) :
    iprop(Held c arg1 T ∗ Held c arg6 S ∗ Bringing c MA MB MC arg10 arg11 arg12 arg14 arg15 arg16 arg22 (T (at321 i)) hv ∗ owesNone c ∗ Held c arg17 Z)
      ⊢ Runs c (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 v5 h)
        (fun r => iprop(⌜r = ⟨k0_pay7 (dmat MC (T (at321 i)) (din hv)), S (at321 i), chk3_of hs⟩⌝ ∗ Held c arg1 T ∗ Held c arg6 S
          ∗ Ready c MA MB MC arg10 arg11 arg12 arg14 arg15 arg16 arg22 ∗ owesNone c ∗ Held c arg17 (wguOf (gmat MA (T (at321 i)) (gin hv)) (gmat MB (T (at321 i)) (gin hv))))) := by
  rw [k0_part1_eq_skeleton]
  unfold k0_part1_skel Bringing
  iintro ⟨HT, HS, ⟨M0, M1, M2⟩, HO, HW⟩
  iapply (word c (at321 i) (at321_off i)) $$ HT
  iintro HT
  iapply (asm c (chk2_of hv))
  iapply (rcv c) $$ [M0 HO]
  · isplitl [M0]; · iexact M0
    iexact HO
  iintro ⟨HA, H14, Hs0, HO⟩
  iapply (rcv c) $$ [M1 HO]
  · isplitl [M1]; · iexact M1
    iexact HO
  iintro ⟨HB, H15, Hs1, HO⟩
  iapply (rcv c) $$ [M2 HO]
  · isplitl [M2]; · iexact M2
    iexact HO
  iintro ⟨HC, H16, Hs2, HO⟩
  iapply (ldw c) $$ H14
  iintro H14
  iapply (ld c) $$ HW
  iintro HW
  iapply (st c) $$ HW
  iintro HW
  iapply (ldw c) $$ H15
  iintro H15
  iapply (ld c) $$ HW
  iintro HW
  iapply (st c) $$ HW
  iintro HW
  iapply (ldw c) $$ H16
  iintro H16
  iapply (word c (at321 i) (at321_off i)) $$ HS
  iintro HS
  iapply (asm c (chk3_of hs))
  iapply (fin c)
  isplitr; · ipureintro; rfl
  isplitl [HT]; · iexact HT
  isplitl [HS]; · iexact HS
  isplitl [HA HB HC H14 H15 H16 Hs0 Hs1 Hs2]
  · unfold Ready
    isplitl [HA]; · iexact HA
    isplitl [HB]; · iexact HB
    isplitl [HC]; · iexact HC
    isplitl [H14]; · iexists _; iexact H14
    isplitl [H15]; · iexists _; iexact H15
    isplitl [H16]; · iexists _; iexact H16
    isplitl [Hs0]; · iexact Hs0
    isplitl [Hs1]; · iexact Hs1
    iexact Hs2
  isplitl [HO]; · iexact HO
  rw [← put_put_wgu Z]
  iexact HW

/-- At a new expert: the matrices taken in, the next ones set on their way. -/
theorem take_run (arg0 : BitVec 32) (v5 : Elt F .i32) (h : k0_cond2 v5 = 1#1) (hv : (T (at321 i)).toNat < 64) (hs : (S (at321 i)).toNat < 2)
    (hn : k0_cond3 (N (at321 i)) = 1#1 → (N (at321 i)).toNat < 64) (Z : S4096x768.Idx → Elt F .bf16) (D : S2x384x4096.Idx → Elt F .bf16) :
    iprop(Held c arg1 T ∗ Held c arg5 N ∗ Held c arg6 S ∗ Bringing c MA MB MC arg10 arg11 arg12 arg14 arg15 arg16 arg22 (T (at321 i)) hv ∗ owesNone c ∗ Held c arg17 Z ∗ Held c arg18 D)
      ⊢ Runs c (takeP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 v5)
        (fun _ => iprop(Held c arg1 T ∗ Held c arg5 N ∗ Held c arg6 S ∗ Coming c MA MB MC arg10 arg11 arg12 arg14 arg15 arg16 arg22 (N (at321 i)) ∗ owesNone c
          ∗ Held c arg17 (wguOf (gmat MA (T (at321 i)) (gin hv)) (gmat MB (T (at321 i)) (gin hv)))
          ∗ Held c arg18 (putSlot D (S (at321 i)) (dmat MC (T (at321 i)) (din hv))))) := by
  unfold takeP
  rw [dif_pos h]
  iintro ⟨HT, HN, HS, HM, HO, HW, HD⟩
  ihave H1 := (part1_run c MA MB MC i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 T S arg0 v5 h hv hs Z) $$ [HT HS HM HO HW]
  · isplitl [HT]; · iexact HT
    isplitl [HS]; · iexact HS
    isplitl [HM]; · iexact HM
    isplitl [HO]; · iexact HO
    iexact HW
  iapply (seq c) $$ H1
  iintro %r ⟨%e, HT, HS, HR, HO, HW⟩
  subst e
  iapply (ld c) $$ HD
  iintro HD
  iapply (st c) $$ HD
  iintro HD
  iapply (word c (at321 i) (at321_off i)) $$ HN
  iintro HN
  by_cases h3 : k0_cond3 (N (at321 i)) = 1#1
  · rw [dif_pos h3]
    unfold Ready
    icases HR with ⟨HA, HB, HC, ⟨%Z1, H14⟩, ⟨%Z2, H15⟩, ⟨%Z3, H16⟩, Hs0, Hs1, Hs2⟩
    iapply (word c (at321 i) (at321_off i)) $$ HN
    iintro HN
    iapply (asm c (chk4_of (hn h3)))
    iapply (snd c (by decide)) $$ [HA H14 Hs0]
    · isplitl [HA]; · iexact HA
      isplitl [H14]; · iexact H14
      iexact Hs0
    iintro M0
    iapply (snd c (by decide)) $$ [HB H15 Hs1]
    · isplitl [HB]; · iexact HB
      isplitl [H15]; · iexact H15
      iexact Hs1
    iintro M1
    iapply (snd c (by decide)) $$ [HC H16 Hs2]
    · isplitl [HC]; · iexact HC
      isplitl [H16]; · iexact H16
      iexact Hs2
    iintro M2
    iapply (fin c)
    isplitl [HT]; · iexact HT
    isplitl [HN]; · iexact HN
    isplitl [HS]; · iexact HS
    isplitl [M0 M1 M2]
    · unfold Coming
      rw [dif_pos ⟨h3, hn h3⟩]
      unfold Bringing
      isplitl [M0]; · iexact M0
      isplitl [M1]; · iexact M1
      iexact M2
    isplitl [HO]; · iexact HO
    isplitl [HW]; · iexact HW
    iexact HD
  · rw [dif_neg h3]
    iapply (fin c)
    isplitl [HT]; · iexact HT
    isplitl [HN]; · iexact HN
    isplitl [HS]; · iexact HS
    isplitl [HR]
    · unfold Coming
      rw [dif_neg fun hh => h3 hh.1]
      iexact HR
    isplitl [HO]; · iexact HO
    isplitl [HW]; · iexact HW
    iexact HD

variable (X : S256x4096.Idx → Elt F .bf16) (W : S4096x768.Idx → Elt F .bf16) (G : S256x768.Idx → Elt F .f32)
variable (D : S2x384x4096.Idx → Elt F .bf16) (Y : S256x4096.Idx → Elt F .bf16) (H H' : S256x384.Idx → Elt F .bf16)

/-- The first tile's hidden rows. -/
theorem first_run (v11 : BitVec 1) (h : v11 = 1#1) :
    iprop(Held c arg9 X ∗ Held c arg17 W ∗ Held c arg21 G ∗ Held c arg19 H')
      ⊢ Runs c (firstP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v11) (fun _ => iprop(Held c arg9 X ∗ Held c arg17 W ∗ (∃ G, Held c arg21 G) ∗ Held c arg19 (hidden X W))) := by
  unfold firstP
  rw [dif_pos h]
  iintro ⟨HX, HW, HG, HA⟩
  ihave H1 := (first_half_run c X W G i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22) $$ [HX HW HG]
  · isplitl [HX]; · iexact HX
    isplitl [HW]; · iexact HW
    iexact HG
  iapply (seq c) $$ H1
  iintro %r ⟨%e, HX, HW, HG⟩
  subst e
  ihave H1 := (second_half_run c X W i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22) $$ [HX HW HG]
  · isplitl [HX]; · iexact HX
    isplitl [HW]; · iexact HW
    iexact HG
  iapply (seq c) $$ H1
  iintro %r ⟨%e, HX, HW, HG⟩
  subst e
  iapply (ldw c) $$ HA
  iintro HA
  iapply (stw c) $$ HA
  iintro HA
  iapply (fin c)
  isplitl [HX]; · iexact HX
  isplitl [HW]; · iexact HW
  isplitl [HG]; · iexists _; iexact HG
  iexact HA

/-- An even tile's hidden rows, and the output of the tile before. -/
theorem even_run (arg0 : BitVec 32) (v0 : Elt F .i32) (h : k0_cond5 i v0 = 1#1) (hs : (P (at321 i)).toNat < 2) :
    iprop(Held c arg7 P ∗ Held c arg9 X ∗ Held c arg17 W ∗ Held c arg18 D ∗ Held c arg21 G ∗ Held c arg19 H' ∗ Held c arg20 H ∗ Held c arg13 Y)
      ⊢ Runs c (evenP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 v0)
        (fun _ => iprop(Held c arg7 P ∗ Held c arg9 X ∗ Held c arg17 W ∗ Held c arg18 D ∗ (∃ G, Held c arg21 G) ∗ Held c arg19 (hidden X W) ∗ Held c arg20 H
          ∗ Held c arg13 (outTile H (slotOf D (k0_off8 (P (at321 i))) (sin hs))))) := by
  unfold evenP
  rw [dif_pos h]
  iintro ⟨HP, HX, HW, HD, HG, HA, HB, HY⟩
  ihave H1 := (first_half_run c X W G i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22) $$ [HX HW HG]
  · isplitl [HX]; · iexact HX
    isplitl [HW]; · iexact HW
    iexact HG
  rw [part4_eq]
  iapply (seq c) $$ H1
  iintro %r ⟨%e, HX, HW, HG⟩
  subst e
  ihave H1 := (second_half_run c X W i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22) $$ [HX HW HG]
  · isplitl [HX]; · iexact HX
    isplitl [HW]; · iexact HW
    iexact HG
  dsimp only
  rw [part5_eq]
  iapply (seq c) $$ H1
  iintro %r ⟨%e, HX, HW, HG⟩
  subst e
  ihave H1 := (part6_run c D Y P H H' i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 v0 h (fun _ => sin hs) _ _ _) $$ [HA HB HY HD HP]
  · isplitl [HA]; · iexact HA
    isplitl [HB]; · iexact HB
    isplitl [HY]; · iexact HY
    isplitl [HD]; · iexact HD
    iexact HP
  iapply (seq c) $$ H1
  iintro %r ⟨%e, HA, HB, HY, HD, HP⟩
  subst e
  ihave H1 := (part7_run c D Y P H i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v0 h (fun _ => sin hs)) $$ [HY HD HP]
  · isplitl [HY]; · iexact HY
    isplitl [HD]; · iexact HD
    iexact HP
  iapply (seq c) $$ H1
  iintro %r ⟨%e, HY, HD, HP⟩
  subst e
  iapply (ld c) $$ HY
  iintro HY
  iapply (st c) $$ HY
  iintro HY
  iapply (fin c)
  isplitl [HP]; · iexact HP
  isplitl [HX]; · iexact HX
  isplitl [HW]; · iexact HW
  isplitl [HD]; · iexact HD
  isplitl [HG]; · iexists _; iexact HG
  isplitl [HA]; · iexact HA
  isplitl [HB]; · iexact HB
  rw [← downOver_eq H _ Y]
  iexact HY

/-- The last tile's output, at an even point. -/
theorem evenLast_run (arg0 : BitVec 32) (v0 : Elt F .i32) (h : k0_cond6 i v0 = 1#1) (hs : (P (at321 i)).toNat < 2) :
    iprop(Held c arg7 P ∗ Held c arg18 D ∗ Held c arg20 H ∗ Held c arg13 Y)
      ⊢ Runs c (evenLastP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 v0)
        (fun _ => iprop(Held c arg7 P ∗ Held c arg18 D ∗ Held c arg20 H ∗ Held c arg13 (outTile H (slotOf D (k0_off8 (P (at321 i))) (sin hs))))) := by
  unfold evenLastP
  rw [dif_pos h]
  iintro ⟨HP, HD, HB, HY⟩
  ihave H1 := (part8_run c D Y P H i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 v0 h (fun _ => sin hs)) $$ [HB HY HD HP]
  · isplitl [HB]; · iexact HB
    isplitl [HY]; · iexact HY
    isplitl [HD]; · iexact HD
    iexact HP
  iapply (seq c) $$ H1
  iintro %r ⟨%e, HB, HY, HD, HP⟩
  subst e
  iapply (ld c) $$ HY
  iintro HY
  iapply (st c) $$ HY
  iintro HY
  iapply (lds c) $$ HD
  iintro HD
  iapply (ld c) $$ HY
  iintro HY
  iapply (st c) $$ HY
  iintro HY
  iapply (lds c) $$ HD
  iintro HD
  iapply (ld c) $$ HY
  iintro HY
  iapply (st c) $$ HY
  iintro HY
  iapply (lds c) $$ HD
  iintro HD
  iapply (ld c) $$ HY
  iintro HY
  iapply (st c) $$ HY
  iintro HY
  iapply (lds c) $$ HD
  iintro HD
  iapply (ld c) $$ HY
  iintro HY
  iapply (st c) $$ HY
  iintro HY
  iapply (fin c)
  isplitl [HP]; · iexact HP
  isplitl [HD]; · iexact HD
  isplitl [HB]; · iexact HB
  rw [← downOver_eq H _ Y]
  iexact HY

/-- An odd tile's hidden rows, and the output of the tile before. -/
theorem odd_run (arg0 : BitVec 32) (v0 : Elt F .i32) (h : k0_cond7 i v0 = 1#1) (hs : (P (at321 i)).toNat < 2) :
    iprop(Held c arg7 P ∗ Held c arg9 X ∗ Held c arg17 W ∗ Held c arg18 D ∗ Held c arg21 G ∗ Held c arg20 H' ∗ Held c arg19 H ∗ Held c arg13 Y)
      ⊢ Runs c (oddP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 v0)
        (fun _ => iprop(Held c arg7 P ∗ Held c arg9 X ∗ Held c arg17 W ∗ Held c arg18 D ∗ (∃ G, Held c arg21 G) ∗ Held c arg20 (hidden X W) ∗ Held c arg19 H
          ∗ Held c arg13 (outTile H (slotOf D (k0_off8 (P (at321 i))) (sin hs))))) := by
  unfold oddP
  rw [dif_pos h]
  iintro ⟨HP, HX, HW, HD, HG, HA, HB, HY⟩
  ihave H1 := (first_half_run c X W G i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22) $$ [HX HW HG]
  · isplitl [HX]; · iexact HX
    isplitl [HW]; · iexact HW
    iexact HG
  rw [part9_eq]
  iapply (seq c) $$ H1
  iintro %r ⟨%e, HX, HW, HG⟩
  subst e
  ihave H1 := (second_half_run c X W i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22) $$ [HX HW HG]
  · isplitl [HX]; · iexact HX
    isplitl [HW]; · iexact HW
    iexact HG
  dsimp only
  rw [part10_eq]
  iapply (seq c) $$ H1
  iintro %r ⟨%e, HX, HW, HG⟩
  subst e
  ihave H1 := (part11_run c D Y P H H' i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 v0 h (fun _ => sin hs) _ _ _) $$ [HA HB HY HD HP]
  · isplitl [HA]; · iexact HA
    isplitl [HB]; · iexact HB
    isplitl [HY]; · iexact HY
    isplitl [HD]; · iexact HD
    iexact HP
  iapply (seq c) $$ H1
  iintro %r ⟨%e, HA, HB, HY, HD, HP⟩
  subst e
  ihave H1 := (part12_run c D Y P H i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 v0 h (fun _ => sin hs)) $$ [HY HD HP]
  · isplitl [HY]; · iexact HY
    isplitl [HD]; · iexact HD
    iexact HP
  iapply (seq c) $$ H1
  iintro %r ⟨%e, HY, HD, HP⟩
  subst e
  iapply (ld c) $$ HY
  iintro HY
  iapply (st c) $$ HY
  iintro HY
  iapply (fin c)
  isplitl [HP]; · iexact HP
  isplitl [HX]; · iexact HX
  isplitl [HW]; · iexact HW
  isplitl [HD]; · iexact HD
  isplitl [HG]; · iexists _; iexact HG
  isplitl [HA]; · iexact HA
  isplitl [HB]; · iexact HB
  rw [← downOver_eq H _ Y]
  iexact HY

/-- The last tile's output, at an odd point. -/
theorem oddLast_run (arg0 : BitVec 32) (v0 : Elt F .i32) (h : k0_cond8 i v0 = 1#1) (hs : (P (at321 i)).toNat < 2) :
    iprop(Held c arg7 P ∗ Held c arg18 D ∗ Held c arg19 H ∗ Held c arg13 Y)
      ⊢ Runs c (oddLastP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 v0)
        (fun _ => iprop(Held c arg7 P ∗ Held c arg18 D ∗ Held c arg19 H ∗ Held c arg13 (outTile H (slotOf D (k0_off8 (P (at321 i))) (sin hs))))) := by
  unfold oddLastP
  rw [dif_pos h]
  iintro ⟨HP, HD, HB, HY⟩
  ihave H1 := (part13_run c D Y P H i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 v0 h (fun _ => sin hs)) $$ [HB HY HD HP]
  · isplitl [HB]; · iexact HB
    isplitl [HY]; · iexact HY
    isplitl [HD]; · iexact HD
    iexact HP
  iapply (seq c) $$ H1
  iintro %r ⟨%e, HB, HY, HD, HP⟩
  subst e
  iapply (ld c) $$ HY
  iintro HY
  iapply (st c) $$ HY
  iintro HY
  iapply (lds c) $$ HD
  iintro HD
  iapply (ld c) $$ HY
  iintro HY
  iapply (st c) $$ HY
  iintro HY
  iapply (lds c) $$ HD
  iintro HD
  iapply (ld c) $$ HY
  iintro HY
  iapply (st c) $$ HY
  iintro HY
  iapply (lds c) $$ HD
  iintro HD
  iapply (ld c) $$ HY
  iintro HY
  iapply (st c) $$ HY
  iintro HY
  iapply (lds c) $$ HD
  iintro HD
  iapply (ld c) $$ HY
  iintro HY
  iapply (st c) $$ HY
  iintro HY
  iapply (fin c)
  isplitl [HP]; · iexact HP
  isplitl [HD]; · iexact HD
  isplitl [HB]; · iexact HB
  rw [← downOver_eq H _ Y]
  iexact HY

end Run

end Cert.Proof.Experts

end
-- ==== Proof.Sched.lean ====
/-
  The schedule the tables hold, and the conditions of a grid point as statements on its number.
-/
module

public import proofs.«01_k».proof.Proof.Points

@[expose] public section

set_option maxRecDepth 16384

noncomputable section

namespace Cert.Proof.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- The index of grid point `j`'s entry in a table. -/
def k321 (j : ℕ) : S321.Idx := fun | 0 => ⟨min j 320, by show min j 320 < 321; omega⟩

theorem at321_k (i : grid0.Coords) : at321 i = k321 (i 0).val := by
  have h : (i 0).val < 321 := (i 0).isLt
  funext a
  fin_cases a
  exact Fin.ext (by show (i 0).val = min (i 0).val 320; omega)

theorem at0_k : at0 = k321 0 := by
  funext a
  fin_cases a
  rfl

/-- What a schedule of `n` tiles is: the tiles' experts in range, the next expert named where an expert's run of tiles starts, its
    slot the other one, nothing changed within a run, and the tiles read and written at each grid point. -/
structure Sched (T TI TO Fst N S P : S321.Idx → BitVec 32) (n : ℕ) : Prop where
  pos : 1 ≤ n
  le : n ≤ 320
  te : ∀ j, (T (k321 j)).toNat < 64
  nxt : ∀ j, k0_cond3 (N (k321 j)) = 1#1 → (N (k321 j)).toNat < 64
  slot : ∀ j, (S (k321 j)).toNat < 2
  first : Fst (k321 0) = 1#32
  next : ∀ j, j < 320 → Fst (k321 (j + 1)) = 1#32 → N (k321 j) = T (k321 (j + 1)) ∧ (S (k321 (j + 1))).toNat ≠ (S (k321 j)).toNat
  same : ∀ j, j < 320 → Fst (k321 (j + 1)) ≠ 1#32 → T (k321 (j + 1)) = T (k321 j) ∧ N (k321 (j + 1)) = N (k321 j) ∧ S (k321 (j + 1)) = S (k321 j)
  prev : ∀ j, j < 320 → P (k321 (j + 1)) = S (k321 j)
  last : ¬ k0_cond3 (N (k321 320)) = 1#1
  read : ∀ j, j ≤ 320 → (TI (k321 j)).toNat = min j (n - 1)
  write : ∀ j, j ≤ 320 → (TO (k321 j)).toNat = min (j - 1) (n - 1)

theorem bit_cases : ∀ b : BitVec 1, b = 0#1 ∨ b = 1#1 := by decide

theorem cond1_iff (i : grid0.Coords) : k0_cond1 i = 1#1 ↔ (i 0).val = 0 := by
  obtain ⟨t, rfl⟩ : ∃ t : Fin 321, i = fun | 0 => t := ⟨i 0, by funext a; fin_cases a; rfl⟩
  revert t
  decide +kernel

theorem first_iff (i : grid0.Coords) :
    (Scalar.cmpi .ne (Scalar.extui (Scalar.cmpi .eq (BitVec.ofNat 32 (i 0).val) 0#32) : BitVec 32) 0#32 = 1#1) ↔ (i 0).val = 0 := cond1_iff i

theorem cond2_iff (v : BitVec 32) : k0_cond2 v = 1#1 ↔ v = 1#32 := by
  unfold k0_cond2
  show Scalar.cmpi .ne (Scalar.extui (Scalar.cmpi .eq v 1#32) : BitVec 32) 0#32 = 1#1 ↔ _
  have e : Scalar.cmpi .eq v 1#32 = BitVec.ofBool (v == 1#32) := rfl
  rw [e]
  by_cases h : v = 1#32
  · subst h; decide
  · have : (v == 1#32) = false := by simpa using h
    rw [this]
    exact ⟨fun x => absurd x (by decide), fun x => absurd x h⟩

theorem cond3_of {v : BitVec 32} (h : v.toNat < 64) : k0_cond3 v = 1#1 := by
  unfold k0_cond3
  show Scalar.cmpi .ne (Scalar.extui (Scalar.cmpi .sge v 0#32) : BitVec 32) 0#32 = 1#1
  have e : Scalar.cmpi .sge v 0#32 = BitVec.ofBool ((0#32).sle v) := rfl
  have : (0#32).sle v = true := by
    rw [BitVec.sle_eq_decide, decide_eq_true_iff, BitVec.toInt_eq_toNat_cond, BitVec.toInt_eq_toNat_cond]
    simp
    omega
  rw [e, this]
  decide

theorem cond3_neg {v : BitVec 32} (h : v.toInt < 0) : ¬ k0_cond3 v = 1#1 := by
  unfold k0_cond3
  show ¬ Scalar.cmpi .ne (Scalar.extui (Scalar.cmpi .sge v 0#32) : BitVec 32) 0#32 = 1#1
  have e : Scalar.cmpi .sge v 0#32 = BitVec.ofBool ((0#32).sle v) := rfl
  have : (0#32).sle v = false := by
    rw [BitVec.sle_eq_decide, decide_eq_false_iff_not]
    simpa using h
  rw [e, this]
  decide

theorem slt_small (j : ℕ) (v : BitVec 32) (hj : j < 321) (hv : v.toNat ≤ 320) :
    Scalar.cmpi .slt (BitVec.ofNat 32 j) v = 1#1 ↔ j < v.toNat := by
  have e : Scalar.cmpi .slt (BitVec.ofNat 32 j) v = BitVec.ofBool ((BitVec.ofNat 32 j).slt v) := rfl
  have hm : (BitVec.ofNat 32 j).toNat = j := by rw [BitVec.toNat_ofNat]; exact Nat.mod_eq_of_lt (by omega)
  rw [e]
  by_cases h : j < v.toNat
  · have : (BitVec.ofNat 32 j).slt v = true := by
      rw [BitVec.slt_eq_decide, decide_eq_true_iff, BitVec.toInt_eq_toNat_cond, BitVec.toInt_eq_toNat_cond, hm]
      rw [if_pos (by omega), if_pos (by omega)]; omega
    rw [this]; exact ⟨fun _ => h, fun _ => rfl⟩
  · have : (BitVec.ofNat 32 j).slt v = false := by
      rw [BitVec.slt_eq_decide, decide_eq_false_iff_not, BitVec.toInt_eq_toNat_cond, BitVec.toInt_eq_toNat_cond, hm]
      rw [if_pos (by omega), if_pos (by omega)]; omega
    rw [this]; exact ⟨fun x => absurd x (by decide), fun x => absurd x h⟩

theorem eq_small (j : ℕ) (v : BitVec 32) (hj : j < 321) :
    Scalar.cmpi .eq (BitVec.ofNat 32 j) v = 1#1 ↔ j = v.toNat := by
  have e : Scalar.cmpi .eq (BitVec.ofNat 32 j) v = BitVec.ofBool (BitVec.ofNat 32 j == v) := rfl
  have hm : (BitVec.ofNat 32 j).toNat = j := by rw [BitVec.toNat_ofNat]; exact Nat.mod_eq_of_lt (by omega)
  rw [e]
  by_cases h : j = v.toNat
  · have : (BitVec.ofNat 32 j == v) = true := by
      rw [beq_iff_eq]; exact BitVec.eq_of_toNat_eq (hm.trans h)
    rw [this]; exact ⟨fun _ => h, fun _ => rfl⟩
  · have : (BitVec.ofNat 32 j == v) = false := by
      rw [beq_eq_false_iff_ne]; exact fun x => h (by rw [← hm, x])
    rw [this]; exact ⟨fun x => absurd x (by decide), fun x => absurd x h⟩

/-- Condition 5 of a grid point, the comparison with the number of tiles given. -/
def over5 (t : Fin 321) (b : BitVec 1) : BitVec 1 :=
  let arg0 : BitVec 32 := BitVec.ofNat 32 t.val
  let c1_i32_4 : BitVec 32 := 1#32
  let v12 : BitVec 1 := Scalar.cmpi .sge arg0 c1_i32_4
  let v13 : BitVec 1 := b
  let v14 : BitVec 1 := Scalar.andi v12 v13
  let c2_i32 : BitVec 32 := 2#32
  let c0_i32_5 : BitVec 32 := 0#32
  let v15 : BitVec 1 := Scalar.cmpi .eq c2_i32 c0_i32_5
  let c1_i32_6 : BitVec 32 := 1#32
  let v16 : BitVec 32 := Scalar.select v15 c1_i32_6 c2_i32
  let v17 : BitVec 32 := Scalar.remsi arg0 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c0_i32_10 : BitVec 32 := 0#32
  let v25 : BitVec 1 := Scalar.cmpi .eq v24 c0_i32_10
  let v26 : BitVec 1 := Scalar.andi v14 v25
  let v27 : BitVec 32 := Scalar.extui v26
  let c0_i32_11 : BitVec 32 := 0#32
  let v28 : BitVec 1 := Scalar.cmpi .ne v27 c0_i32_11
  v28

theorem over5_iff : ∀ (t : Fin 321) (b : BitVec 1), over5 t b = 1#1 ↔ (1 ≤ t.val ∧ b = 1#1 ∧ t.val % 2 = 0) := by decide +kernel

theorem cond5_iff (i : grid0.Coords) (v0 : BitVec 32) (hn : v0.toNat ≤ 320) : k0_cond5 i v0 = 1#1 ↔ (1 ≤ (i 0).val ∧ (i 0).val < v0.toNat ∧ (i 0).val % 2 = 0) := by
  have e : k0_cond5 i v0 = over5 (i 0) (Scalar.cmpi .slt (BitVec.ofNat 32 (i 0).val) v0) := rfl
  rw [e]
  exact (over5_iff (i 0) _).trans (and_congr Iff.rfl (and_congr (slt_small (i 0).val v0 (i 0).isLt hn) Iff.rfl))

/-- Condition 6 of a grid point, the comparison with the number of tiles given. -/
def over6 (t : Fin 321) (b : BitVec 1) : BitVec 1 :=
  let arg0 : BitVec 32 := BitVec.ofNat 32 t.val
  let c1_i32_12 : BitVec 32 := 1#32
  let v29 : BitVec 1 := Scalar.cmpi .sge arg0 c1_i32_12
  let v30 : BitVec 1 := b
  let v31 : BitVec 1 := Scalar.andi v29 v30
  let c2_i32_13 : BitVec 32 := 2#32
  let c0_i32_14 : BitVec 32 := 0#32
  let v32 : BitVec 1 := Scalar.cmpi .eq c2_i32_13 c0_i32_14
  let c1_i32_15 : BitVec 32 := 1#32
  let v33 : BitVec 32 := Scalar.select v32 c1_i32_15 c2_i32_13
  let v34 : BitVec 32 := Scalar.remsi arg0 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let c0_i32_19 : BitVec 32 := 0#32
  let v42 : BitVec 1 := Scalar.cmpi .eq v41 c0_i32_19
  let v43 : BitVec 1 := Scalar.andi v31 v42
  let v44 : BitVec 32 := Scalar.extui v43
  let c0_i32_20 : BitVec 32 := 0#32
  let v45 : BitVec 1 := Scalar.cmpi .ne v44 c0_i32_20
  v45

theorem over6_iff : ∀ (t : Fin 321) (b : BitVec 1), over6 t b = 1#1 ↔ (1 ≤ t.val ∧ b = 1#1 ∧ t.val % 2 = 0) := by decide +kernel

theorem cond6_iff (i : grid0.Coords) (v0 : BitVec 32) : k0_cond6 i v0 = 1#1 ↔ (1 ≤ (i 0).val ∧ (i 0).val = v0.toNat ∧ (i 0).val % 2 = 0) := by
  have e : k0_cond6 i v0 = over6 (i 0) (Scalar.cmpi .eq (BitVec.ofNat 32 (i 0).val) v0) := rfl
  rw [e]
  exact (over6_iff (i 0) _).trans (and_congr Iff.rfl (and_congr (eq_small (i 0).val v0 (i 0).isLt) Iff.rfl))

/-- Condition 7 of a grid point, the comparison with the number of tiles given. -/
def over7 (t : Fin 321) (b : BitVec 1) : BitVec 1 :=
  let arg0 : BitVec 32 := BitVec.ofNat 32 t.val
  let c1_i32_21 : BitVec 32 := 1#32
  let v46 : BitVec 1 := Scalar.cmpi .sge arg0 c1_i32_21
  let v47 : BitVec 1 := b
  let v48 : BitVec 1 := Scalar.andi v46 v47
  let c2_i32_22 : BitVec 32 := 2#32
  let c0_i32_23 : BitVec 32 := 0#32
  let v49 : BitVec 1 := Scalar.cmpi .eq c2_i32_22 c0_i32_23
  let c1_i32_24 : BitVec 32 := 1#32
  let v50 : BitVec 32 := Scalar.select v49 c1_i32_24 c2_i32_22
  let v51 : BitVec 32 := Scalar.remsi arg0 v50
  let c0_i32_26 : BitVec 32 := 0#32
  let v53 : BitVec 1 := Scalar.cmpi .slt v51 c0_i32_26
  let c0_i32_27 : BitVec 32 := 0#32
  let v54 : BitVec 1 := Scalar.cmpi .slt v50 c0_i32_27
  let v55 : BitVec 1 := Scalar.xori v53 v54
  let c0_i32_25 : BitVec 32 := 0#32
  let v52 : BitVec 1 := Scalar.cmpi .ne v51 c0_i32_25
  let v56 : BitVec 1 := Scalar.andi v55 v52
  let v57 : BitVec 32 := Scalar.addi v51 v50
  let v58 : BitVec 32 := Scalar.select v56 v57 v51
  let c1_i32_28 : BitVec 32 := 1#32
  let v59 : BitVec 1 := Scalar.cmpi .eq v58 c1_i32_28
  let v60 : BitVec 1 := Scalar.andi v48 v59
  let v61 : BitVec 32 := Scalar.extui v60
  let c0_i32_29 : BitVec 32 := 0#32
  let v62 : BitVec 1 := Scalar.cmpi .ne v61 c0_i32_29
  v62

theorem over7_iff : ∀ (t : Fin 321) (b : BitVec 1), over7 t b = 1#1 ↔ (1 ≤ t.val ∧ b = 1#1 ∧ t.val % 2 = 1) := by decide +kernel

theorem cond7_iff (i : grid0.Coords) (v0 : BitVec 32) (hn : v0.toNat ≤ 320) : k0_cond7 i v0 = 1#1 ↔ (1 ≤ (i 0).val ∧ (i 0).val < v0.toNat ∧ (i 0).val % 2 = 1) := by
  have e : k0_cond7 i v0 = over7 (i 0) (Scalar.cmpi .slt (BitVec.ofNat 32 (i 0).val) v0) := rfl
  rw [e]
  exact (over7_iff (i 0) _).trans (and_congr Iff.rfl (and_congr (slt_small (i 0).val v0 (i 0).isLt hn) Iff.rfl))

/-- Condition 8 of a grid point, the comparison with the number of tiles given. -/
def over8 (t : Fin 321) (b : BitVec 1) : BitVec 1 :=
  let arg0 : BitVec 32 := BitVec.ofNat 32 t.val
  let c1_i32_30 : BitVec 32 := 1#32
  let v63 : BitVec 1 := Scalar.cmpi .sge arg0 c1_i32_30
  let v64 : BitVec 1 := b
  let v65 : BitVec 1 := Scalar.andi v63 v64
  let c2_i32_31 : BitVec 32 := 2#32
  let c0_i32_32 : BitVec 32 := 0#32
  let v66 : BitVec 1 := Scalar.cmpi .eq c2_i32_31 c0_i32_32
  let c1_i32_33 : BitVec 32 := 1#32
  let v67 : BitVec 32 := Scalar.select v66 c1_i32_33 c2_i32_31
  let v68 : BitVec 32 := Scalar.remsi arg0 v67
  let c0_i32_35 : BitVec 32 := 0#32
  let v70 : BitVec 1 := Scalar.cmpi .slt v68 c0_i32_35
  let c0_i32_36 : BitVec 32 := 0#32
  let v71 : BitVec 1 := Scalar.cmpi .slt v67 c0_i32_36
  let v72 : BitVec 1 := Scalar.xori v70 v71
  let c0_i32_34 : BitVec 32 := 0#32
  let v69 : BitVec 1 := Scalar.cmpi .ne v68 c0_i32_34
  let v73 : BitVec 1 := Scalar.andi v72 v69
  let v74 : BitVec 32 := Scalar.addi v68 v67
  let v75 : BitVec 32 := Scalar.select v73 v74 v68
  let c1_i32_37 : BitVec 32 := 1#32
  let v76 : BitVec 1 := Scalar.cmpi .eq v75 c1_i32_37
  let v77 : BitVec 1 := Scalar.andi v65 v76
  let v78 : BitVec 32 := Scalar.extui v77
  let c0_i32_38 : BitVec 32 := 0#32
  let v79 : BitVec 1 := Scalar.cmpi .ne v78 c0_i32_38
  v79

theorem over8_iff : ∀ (t : Fin 321) (b : BitVec 1), over8 t b = 1#1 ↔ (1 ≤ t.val ∧ b = 1#1 ∧ t.val % 2 = 1) := by decide +kernel

theorem cond8_iff (i : grid0.Coords) (v0 : BitVec 32) : k0_cond8 i v0 = 1#1 ↔ (1 ≤ (i 0).val ∧ (i 0).val = v0.toNat ∧ (i 0).val % 2 = 1) := by
  have e : k0_cond8 i v0 = over8 (i 0) (Scalar.cmpi .eq (BitVec.ofNat 32 (i 0).val) v0) := rfl
  rw [e]
  exact (over8_iff (i 0) _).trans (and_congr Iff.rfl (and_congr (eq_small (i 0).val v0 (i 0).isLt) Iff.rfl))

end Cert.Proof.Experts
-- ==== Proof.Step.lean ====
/-
  A grid point, run: what is held before it and after it, by the point's number.
-/
module

public import proofs.«01_k».proof.Proof.Sched

@[expose] public section

set_option maxRecDepth 16384

noncomputable section

namespace Cert.Proof.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Rules

variable (c : Dev nD) {α β : Type}

/-- A part skipped, before the rest. -/
theorem over {Q : β → sProp 𝕄} {p : Prog (TpuEff nD τ sig (Elt F) Λ₀ .tc) PUnit} {k : PUnit → Prog (TpuEff nD τ sig (Elt F) Λ₀ .tc) β}
    (hp : ∀ R : PUnit → sProp 𝕄, R ⟨⟩ ⊢ Runs c p R) : Runs c (k ⟨⟩) Q ⊢ Runs c (p >>= k) Q := by
  iintro H
  ihave H1 := (hp (fun a => Runs c (k a) Q)) $$ H
  iapply (seq c) $$ H1
  iintro %r H
  iexact H

end Rules

section Flat

variable (i : grid0.Coords) (arg1 : Memref sig .tc .smem S321 .i32) (harg1 : arg1.IsWhole) (arg2 : Memref sig .tc .smem S321 .i32) (harg2 : arg2.IsWhole) (arg3 : Memref sig .tc .smem S321 .i32) (harg3 : arg3.IsWhole) (arg4 : Memref sig .tc .smem S321 .i32) (harg4 : arg4.IsWhole) (arg5 : Memref sig .tc .smem S321 .i32) (harg5 : arg5.IsWhole) (arg6 : Memref sig .tc .smem S321 .i32) (harg6 : arg6.IsWhole) (arg7 : Memref sig .tc .smem S321 .i32) (harg7 : arg7.IsWhole) (arg8 : Memref sig .tc .smem S1 .i32) (harg8 : arg8.IsWhole) (arg9 : Memref sig .tc .vmem S256x4096 .bf16) (harg9 : arg9.IsWhole) (arg10 : Memref sig .tc .hbm S2x64x4096x384 .f32) (harg10 : arg10.IsWhole) (arg11 : Memref sig .tc .hbm S2x64x4096x384 .f32) (harg11 : arg11.IsWhole) (arg12 : Memref sig .tc .hbm S2x64x384x4096 .f32) (harg12 : arg12.IsWhole) (arg13 : Memref sig .tc .vmem S256x4096 .bf16) (harg13 : arg13.IsWhole) (arg14 : Memref sig .tc .vmem S4096x384 .f32) (harg14 : arg14.IsWhole) (arg15 : Memref sig .tc .vmem S4096x384 .f32) (harg15 : arg15.IsWhole) (arg16 : Memref sig .tc .vmem S384x4096 .f32) (harg16 : arg16.IsWhole) (arg17 : Memref sig .tc .vmem S4096x768 .bf16) (harg17 : arg17.IsWhole) (arg18 : Memref sig .tc .vmem S2x384x4096 .bf16) (harg18 : arg18.IsWhole) (arg19 : Memref sig .tc .vmem S256x384 .bf16) (harg19 : arg19.IsWhole) (arg20 : Memref sig .tc .vmem S256x384 .bf16) (harg20 : arg20.IsWhole) (arg21 : Memref sig .tc .vmem S256x768 .f32) (harg21 : arg21.IsWhole) (arg22 : DmaSems sig S3)

/-- The parts of a grid point after the matrices are taken in. -/
def restP (arg0 : BitVec 32) (v0 : Elt F .i32) : Prog (TpuEff nD τ sig (Elt F) Λ₀ .tc) PUnit := do
  firstP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (Scalar.cmpi .ne (Scalar.extui (Scalar.cmpi .eq arg0 0#32) : BitVec 32) 0#32)
  evenP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 v0
  evenLastP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 v0
  oddP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 v0
  oddLastP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 v0
  pure ⟨⟩

theorem flat_eq : cc0_experts (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 = (do
    let v0 : Elt F .i32 ← smemLoad arg8 (Rect.unit (s := S1) ![0] S1.size inb_S1_S1_0) numel1_S1 rfl
    startP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22
    let v5 : Elt F .i32 ← smemLoad arg4 (Rect.unit (s := S321) (k0_off1 i) S1.size (k0_off1_inb i)) numel1_S1 rfl
    takeP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (BitVec.ofNat 32 (i 0).val) v5
    restP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (BitVec.ofNat 32 (i 0).val) v0) := by
  rw [point_eq, part14_eq]
  simp only [part15_eq, bind_assoc, pure_bind]
  rfl

end Flat

section Step

variable (c : Dev nD) (MA MB : S2x64x4096x384.Idx → Elt F .f32) (MC : S2x64x384x4096.Idx → Elt F .f32)

theorem slot_word (D : S2x384x4096.Idx → Elt F .bf16) {u v : BitVec 32} (e : u = v) (h h') : slotOf D (k0_off8 u) h = slotOf D (k0_off8 v) h' := by
  subst e; rfl
theorem gmat_word (M : S2x64x4096x384.Idx → Elt F .f32) {u v : BitVec 32} (e : u = v) (h h') : gmat M u h = gmat M v h' := by
  subst e; rfl
theorem dmat_word (M : S2x64x384x4096.Idx → Elt F .f32) {u v : BitVec 32} (e : u = v) (h h') : dmat M u h = dmat M v h' := by
  subst e; rfl

section Values

variable {T TI TO Fst N S P : S321.Idx → BitVec 32} {n : ℕ} (s : Sched T TI TO Fst N S P n) (xb : ℕ → S256x4096.Idx → Elt F .bf16)

/-- The gate and up matrices of grid point `j`'s expert, cast; its down matrix, cast; its hidden rows; the tile's output. -/
def wT (j : ℕ) : S4096x768.Idx → Elt F .bf16 := wguOf (gmat MA (T (k321 j)) (gin (s.te j))) (gmat MB (T (k321 j)) (gin (s.te j)))
def vT (j : ℕ) : S384x4096.Idx → Elt F .bf16 := k0_pay7 (dmat MC (T (k321 j)) (din (s.te j)))
def hid (j : ℕ) : S256x384.Idx → Elt F .bf16 := hidden (xb j) (wT MA MB s j)
def yT (j : ℕ) : S256x4096.Idx → Elt F .bf16 := outTile (hid MA MB s xb j) (vT MC s j)

variable (arg1 : Memref sig .tc .smem S321 .i32) (arg2 : Memref sig .tc .smem S321 .i32) (arg3 : Memref sig .tc .smem S321 .i32) (arg4 : Memref sig .tc .smem S321 .i32) (arg5 : Memref sig .tc .smem S321 .i32) (arg6 : Memref sig .tc .smem S321 .i32) (arg7 : Memref sig .tc .smem S321 .i32) (arg8 : Memref sig .tc .smem S1 .i32) (arg9 : Memref sig .tc .vmem S256x4096 .bf16) (arg10 : Memref sig .tc .hbm S2x64x4096x384 .f32) (arg11 : Memref sig .tc .hbm S2x64x4096x384 .f32) (arg12 : Memref sig .tc .hbm S2x64x384x4096 .f32) (arg13 : Memref sig .tc .vmem S256x4096 .bf16) (arg14 : Memref sig .tc .vmem S4096x384 .f32) (arg15 : Memref sig .tc .vmem S4096x384 .f32) (arg16 : Memref sig .tc .vmem S384x4096 .f32) (arg17 : Memref sig .tc .vmem S4096x768 .bf16) (arg18 : Memref sig .tc .vmem S2x384x4096 .bf16) (arg19 : Memref sig .tc .vmem S256x384 .bf16) (arg20 : Memref sig .tc .vmem S256x384 .bf16) (arg21 : Memref sig .tc .vmem S256x768 .f32) (arg22 : DmaSems sig S3)

/-- The matrices' part of what is held before point `j`. -/
def Way (j : ℕ) : sProp 𝕄 := match j with
  | 0 => Ready c MA MB MC arg10 arg11 arg12 arg14 arg15 arg16 arg22
  | p + 1 => Coming c MA MB MC arg10 arg11 arg12 arg14 arg15 arg16 arg22 (N (k321 p))

/-- What is held before grid point `j`. -/
def Inv (NU : S1.Idx → BitVec 32) (j : ℕ) : sProp 𝕄 :=
  iprop(Held c arg1 T ∗ Held c arg2 TI ∗ Held c arg3 TO ∗ Held c arg4 Fst ∗ Held c arg5 N ∗ Held c arg6 S ∗ Held c arg7 P ∗ Held c arg8 NU
    ∗ Way c MA MB MC (N := N) arg10 arg11 arg12 arg14 arg15 arg16 arg22 j
    ∗ (∃ W, ⌜∀ p, p + 1 = j → W = wT MA MB s p⌝ ∗ Held c arg17 W)
    ∗ (∃ D, ⌜∀ p, p + 1 = j → slotOf D (k0_off8 (S (k321 p))) (sin (s.slot p)) = vT MC s p⌝ ∗ Held c arg18 D)
    ∗ (∃ H, ⌜∀ p, p + 1 = j → p < n → p % 2 = 0 → H = hid MA MB s xb p⌝ ∗ Held c arg19 H)
    ∗ (∃ H, ⌜∀ p, p + 1 = j → p < n → p % 2 = 1 → H = hid MA MB s xb p⌝ ∗ Held c arg20 H)
    ∗ (∃ G, Held c arg21 G))

end Values

variable (i : grid0.Coords) (arg1 : Memref sig .tc .smem S321 .i32) (harg1 : arg1.IsWhole) (arg2 : Memref sig .tc .smem S321 .i32) (harg2 : arg2.IsWhole) (arg3 : Memref sig .tc .smem S321 .i32) (harg3 : arg3.IsWhole) (arg4 : Memref sig .tc .smem S321 .i32) (harg4 : arg4.IsWhole) (arg5 : Memref sig .tc .smem S321 .i32) (harg5 : arg5.IsWhole) (arg6 : Memref sig .tc .smem S321 .i32) (harg6 : arg6.IsWhole) (arg7 : Memref sig .tc .smem S321 .i32) (harg7 : arg7.IsWhole) (arg8 : Memref sig .tc .smem S1 .i32) (harg8 : arg8.IsWhole) (arg9 : Memref sig .tc .vmem S256x4096 .bf16) (harg9 : arg9.IsWhole) (arg10 : Memref sig .tc .hbm S2x64x4096x384 .f32) (harg10 : arg10.IsWhole) (arg11 : Memref sig .tc .hbm S2x64x4096x384 .f32) (harg11 : arg11.IsWhole) (arg12 : Memref sig .tc .hbm S2x64x384x4096 .f32) (harg12 : arg12.IsWhole) (arg13 : Memref sig .tc .vmem S256x4096 .bf16) (harg13 : arg13.IsWhole) (arg14 : Memref sig .tc .vmem S4096x384 .f32) (harg14 : arg14.IsWhole) (arg15 : Memref sig .tc .vmem S4096x384 .f32) (harg15 : arg15.IsWhole) (arg16 : Memref sig .tc .vmem S384x4096 .f32) (harg16 : arg16.IsWhole) (arg17 : Memref sig .tc .vmem S4096x768 .bf16) (harg17 : arg17.IsWhole) (arg18 : Memref sig .tc .vmem S2x384x4096 .bf16) (harg18 : arg18.IsWhole) (arg19 : Memref sig .tc .vmem S256x384 .bf16) (harg19 : arg19.IsWhole) (arg20 : Memref sig .tc .vmem S256x384 .bf16) (harg20 : arg20.IsWhole) (arg21 : Memref sig .tc .vmem S256x768 .f32) (harg21 : arg21.IsWhole) (arg22 : DmaSems sig S3)

/-- After the matrices are taken in, or kept. -/
theorem take_step {T TI TO Fst N S P : S321.Idx → BitVec 32} {n : ℕ} (s : Sched T TI TO Fst N S P n) (arg0 : BitVec 32) (W : S4096x768.Idx → Elt F .bf16) (D : S2x384x4096.Idx → Elt F .bf16)
    (hW : ∀ p, p + 1 = (i 0).val → W = wT MA MB s p) (hD : ∀ p, p + 1 = (i 0).val → slotOf D (k0_off8 (S (k321 p))) (sin (s.slot p)) = vT MC s p) :
    iprop(Held c arg1 T ∗ Held c arg5 N ∗ Held c arg6 S
        ∗ (match (i 0).val with
          | 0 => Bringing c MA MB MC arg10 arg11 arg12 arg14 arg15 arg16 arg22 (T (k321 0)) (s.te 0)
          | p + 1 => Coming c MA MB MC arg10 arg11 arg12 arg14 arg15 arg16 arg22 (N (k321 p)))
        ∗ owesNone c ∗ Held c arg17 W ∗ Held c arg18 D)
      ⊢ Runs c (takeP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 (Fst (at321 i)))
        (fun _ => iprop(Held c arg1 T ∗ Held c arg5 N ∗ Held c arg6 S ∗ Coming c MA MB MC arg10 arg11 arg12 arg14 arg15 arg16 arg22 (N (k321 (i 0).val)) ∗ owesNone c
          ∗ Held c arg17 (wT MA MB s (i 0).val)
          ∗ ∃ D', ⌜slotOf D' (k0_off8 (S (k321 (i 0).val))) (sin (s.slot _)) = vT MC s (i 0).val
              ∧ ∀ p, p + 1 = (i 0).val → slotOf D' (k0_off8 (S (k321 p))) (sin (s.slot p)) = vT MC s p⌝ ∗ Held c arg18 D')) := by
  have hk : at321 i = k321 (i 0).val := at321_k i
  have hj : (i 0).val < 321 := (i 0).isLt
  have run : Fst (k321 (i 0).val) = 1#32 → iprop(Held c arg1 T ∗ Held c arg5 N ∗ Held c arg6 S
        ∗ Bringing c MA MB MC arg10 arg11 arg12 arg14 arg15 arg16 arg22 (T (k321 (i 0).val)) (s.te _)
        ∗ owesNone c ∗ Held c arg17 W ∗ Held c arg18 D)
      ⊢ Runs c (takeP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 (Fst (at321 i)))
        (fun _ => iprop(Held c arg1 T ∗ Held c arg5 N ∗ Held c arg6 S ∗ Coming c MA MB MC arg10 arg11 arg12 arg14 arg15 arg16 arg22 (N (k321 (i 0).val)) ∗ owesNone c
          ∗ Held c arg17 (wT MA MB s (i 0).val)
          ∗ ∃ D', ⌜slotOf D' (k0_off8 (S (k321 (i 0).val))) (sin (s.slot _)) = vT MC s (i 0).val
              ∧ ∀ p, p + 1 = (i 0).val → slotOf D' (k0_off8 (S (k321 p))) (sin (s.slot p)) = vT MC s p⌝ ∗ Held c arg18 D')) := by
    intro hf
    have t := take_run c MA MB MC i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 T N S arg0 (Fst (at321 i)) ((cond2_iff _).2 (by rw [hk]; exact hf)) (by rw [hk]; exact s.te _) (by rw [hk]; exact s.slot _) (by rw [hk]; exact s.nxt _) W D
    have ew : wguOf (gmat MA (T (at321 i)) (gin (by rw [hk]; exact s.te _))) (gmat MB (T (at321 i)) (gin (by rw [hk]; exact s.te _))) = wT MA MB s (i 0).val := by
      unfold wT
      rw [gmat_word MA (congrArg T hk) _ (gin (s.te _)), gmat_word MB (congrArg T hk) _ (gin (s.te _))]
    rw [ew, dmat_word MC (congrArg T hk) _ (din (s.te _))] at t
    simp only [hk] at t ⊢
    refine t.trans (wp_mono _ _ _ fun _ => ?_)
    iintro ⟨H1, H2, H3, H4, H5, H6, H7⟩
    isplitl [H1]; · iexact H1
    isplitl [H2]; · iexact H2
    isplitl [H3]; · iexact H3
    isplitl [H4]; · iexact H4
    isplitl [H5]; · iexact H5
    isplitl [H6]; · iexact H6
    iexists _
    isplitr; swap
    · iexact H7
    · ipureintro
      refine ⟨slot_put_same _ _ _ _, fun p hp => ?_⟩
      rw [← hp] at hf ⊢
      rw [slot_put_other _ _ _ (s.next p (by omega) hf).2]
      exact hD p hp
  by_cases hf : Fst (k321 (i 0).val) = 1#32
  · refine BIBase.Entails.trans ?_ (run hf)
    iintro ⟨H1, H2, H3, H4, H5⟩
    isplitl [H1]; · iexact H1
    isplitl [H2]; · iexact H2
    isplitl [H3]; · iexact H3
    isplitr [H5]; swap
    · iexact H5
    · cases e : (i 0).val with
      | zero => iexact H4
      | succ p =>
        rw [e] at hf hj
        have hN := (s.next p (by omega) hf).1
        have q : Coming c MA MB MC arg10 arg11 arg12 arg14 arg15 arg16 arg22 (N (k321 p)) ⊢ Bringing c MA MB MC arg10 arg11 arg12 arg14 arg15 arg16 arg22 (T (k321 (p + 1))) (s.te _) := by
          unfold Coming
          rw [dif_pos ⟨cond3_of (by rw [hN]; exact s.te _), by rw [hN]; exact s.te _⟩]
          simp only [hN]
          exact BIBase.Entails.refl
        iapply q $$ H4
  · have h0 : (i 0).val ≠ 0 := fun e => hf (by rw [e]; exact s.first)
    obtain ⟨p, hp⟩ : ∃ p, (i 0).val = p + 1 := ⟨(i 0).val - 1, by omega⟩
    have hs := s.same p (by omega) (by rw [← hp]; exact hf)
    have ew : W = wT MA MB s (p + 1) := by
      rw [hW p hp.symm]
      unfold wT
      rw [gmat_word MA hs.1 (gin (s.te _)) (gin (s.te _)), gmat_word MB hs.1 (gin (s.te _)) (gin (s.te _))]
    have ed : slotOf D (k0_off8 (S (k321 (p + 1)))) (sin (s.slot _)) = vT MC s (p + 1) := by
      rw [slot_word D hs.2.2 _ (sin (s.slot _)), hD p hp.symm]
      unfold vT
      rw [dmat_word MC hs.1 (din (s.te _)) (din (s.te _))]
    refine BIBase.Entails.trans ?_ (skip_take c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 arg0 (Fst (at321 i)) (fun h => hf (by rw [← hk]; exact (cond2_iff _).1 h)))
    simp only [hp] at hD ⊢
    rw [ew, hs.2.1]
    iintro ⟨H1, H2, H3, H4, H5, H6, H7⟩
    isplitl [H1]; · iexact H1
    isplitl [H2]; · iexact H2
    isplitl [H3]; · iexact H3
    isplitl [H4]; · iexact H4
    isplitl [H5]; · iexact H5
    isplitl [H6]; · iexact H6
    iexists _
    isplitr; swap
    · iexact H7
    · ipureintro
      exact ⟨(slot_word D (by rw [hp]) _ _).trans ed, hD⟩

/-- The parts after the matrices, by the point's number. -/
theorem rest_run (P : S321.Idx → BitVec 32) (n : ℕ) (v0 : Elt F .i32) (hv : BitVec.toNat (w := 32) v0 = n) (hp : 1 ≤ n) (hn' : n ≤ 320)
    (hs : 1 ≤ (i 0).val → (P (at321 i)).toNat < 2) (X : S256x4096.Idx → Elt F .bf16) (W : S4096x768.Idx → Elt F .bf16) (D : S2x384x4096.Idx → Elt F .bf16)
    (Y : S256x4096.Idx → Elt F .bf16) (H19 H20 : S256x384.Idx → Elt F .bf16) :
    iprop(Held c arg7 P ∗ Held c arg9 X ∗ Held c arg17 W ∗ Held c arg18 D ∗ Held c arg19 H19 ∗ Held c arg20 H20 ∗ (∃ G, Held c arg21 G) ∗ Held c arg13 Y)
      ⊢ Runs c (restP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (BitVec.ofNat 32 (i 0).val) v0)
        (fun _ => iprop(Held c arg7 P ∗ Held c arg9 X ∗ Held c arg17 W ∗ Held c arg18 D
          ∗ Held c arg19 (if (i 0).val < n ∧ (i 0).val % 2 = 0 then hidden X W else H19)
          ∗ Held c arg20 (if (i 0).val < n ∧ (i 0).val % 2 = 1 then hidden X W else H20) ∗ (∃ G, Held c arg21 G)
          ∗ Held c arg13 (if h : 1 ≤ (i 0).val ∧ (i 0).val ≤ n then outTile (if (i 0).val % 2 = 0 then H20 else H19) (slotOf D (k0_off8 (P (at321 i))) (sin (hs h.1))) else Y))) := by
  have hn : BitVec.toNat (w := 32) v0 ≤ 320 := by omega
  rcases (by omega : (i 0).val = 0 ∨ (1 ≤ (i 0).val ∧ (i 0).val < n ∧ (i 0).val % 2 = 0) ∨ (1 ≤ (i 0).val ∧ (i 0).val < n ∧ (i 0).val % 2 = 1)
      ∨ (1 ≤ (i 0).val ∧ (i 0).val = n ∧ (i 0).val % 2 = 0) ∨ (1 ≤ (i 0).val ∧ (i 0).val = n ∧ (i 0).val % 2 = 1) ∨ n < (i 0).val) with hc | hc | hc | hc | hc | hc
  · -- the first point
    rw [if_pos (by omega), if_neg (by omega), dif_neg (by omega)]
    unfold restP
    iintro ⟨HP, HX, HW, HD, H19, H20, ⟨%G, HG⟩, HY⟩
    ihave H1 := (first_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 X W G H19 _ ((first_iff i).2 (by omega))) $$ [HX HW HG H19]
    · isplitl [HX]; · iexact HX
      isplitl [HW]; · iexact HW
      isplitl [HG]; · iexact HG
      iexact H19
    iapply (seq c) $$ H1
    iintro %r ⟨HX, HW, HG, H19⟩
    iapply (over c (fun _ => skip_even c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (BitVec.ofNat 32 (i 0).val) v0 (fun h => by have := (cond5_iff i v0 hn).1 h; omega)))
    iapply (over c (fun _ => skip_evenLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (BitVec.ofNat 32 (i 0).val) v0 (fun h => by have := (cond6_iff i v0).1 h; omega)))
    iapply (over c (fun _ => skip_odd c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (BitVec.ofNat 32 (i 0).val) v0 (fun h => by have := (cond7_iff i v0 hn).1 h; omega)))
    iapply (over c (fun _ => skip_oddLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (BitVec.ofNat 32 (i 0).val) v0 (fun h => by have := (cond8_iff i v0).1 h; omega)))
    iapply (fin c)
    isplitl [HP]; · iexact HP
    isplitl [HX]; · iexact HX
    isplitl [HW]; · iexact HW
    isplitl [HD]; · iexact HD
    isplitl [H19]; · iexact H19
    isplitl [H20]; · iexact H20
    isplitl [HG]; · iexact HG
    iexact HY
  · -- an even tile
    have hs' := hs (by omega)
    rw [if_pos (by omega), if_neg (by omega), dif_pos (by omega), if_pos (by omega)]
    unfold restP
    iintro ⟨HP, HX, HW, HD, H19, H20, ⟨%G, HG⟩, HY⟩
    iapply (over c (fun _ => skip_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 _ (fun h => by have := (first_iff i).1 h; omega)))
    ihave H1 := (even_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 P X W G D Y H20 H19 (BitVec.ofNat 32 (i 0).val) v0 ((cond5_iff i v0 hn).2 (by omega)) hs') $$ [HP HX HW HD HG H19 H20 HY]
    · isplitl [HP]; · iexact HP
      isplitl [HX]; · iexact HX
      isplitl [HW]; · iexact HW
      isplitl [HD]; · iexact HD
      isplitl [HG]; · iexact HG
      isplitl [H19]; · iexact H19
      isplitl [H20]; · iexact H20
      iexact HY
    iapply (seq c) $$ H1
    iintro %r ⟨HP, HX, HW, HD, HG, H19, H20, HY⟩
    iapply (over c (fun _ => skip_evenLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (BitVec.ofNat 32 (i 0).val) v0 (fun h => by have := (cond6_iff i v0).1 h; omega)))
    iapply (over c (fun _ => skip_odd c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (BitVec.ofNat 32 (i 0).val) v0 (fun h => by have := (cond7_iff i v0 hn).1 h; omega)))
    iapply (over c (fun _ => skip_oddLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (BitVec.ofNat 32 (i 0).val) v0 (fun h => by have := (cond8_iff i v0).1 h; omega)))
    iapply (fin c)
    isplitl [HP]; · iexact HP
    isplitl [HX]; · iexact HX
    isplitl [HW]; · iexact HW
    isplitl [HD]; · iexact HD
    isplitl [H19]; · iexact H19
    isplitl [H20]; · iexact H20
    isplitl [HG]; · iexact HG
    iexact HY
  · -- an odd tile
    have hs' := hs (by omega)
    rw [if_neg (by omega), if_pos (by omega), dif_pos (by omega), if_neg (by omega)]
    unfold restP
    iintro ⟨HP, HX, HW, HD, H19, H20, ⟨%G, HG⟩, HY⟩
    iapply (over c (fun _ => skip_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 _ (fun h => by have := (first_iff i).1 h; omega)))
    iapply (over c (fun _ => skip_even c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (BitVec.ofNat 32 (i 0).val) v0 (fun h => by have := (cond5_iff i v0 hn).1 h; omega)))
    iapply (over c (fun _ => skip_evenLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (BitVec.ofNat 32 (i 0).val) v0 (fun h => by have := (cond6_iff i v0).1 h; omega)))
    ihave H1 := (odd_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 P X W G D Y H19 H20 (BitVec.ofNat 32 (i 0).val) v0 ((cond7_iff i v0 hn).2 (by omega)) hs') $$ [HP HX HW HD HG H20 H19 HY]
    · isplitl [HP]; · iexact HP
      isplitl [HX]; · iexact HX
      isplitl [HW]; · iexact HW
      isplitl [HD]; · iexact HD
      isplitl [HG]; · iexact HG
      isplitl [H20]; · iexact H20
      isplitl [H19]; · iexact H19
      iexact HY
    iapply (seq c) $$ H1
    iintro %r ⟨HP, HX, HW, HD, HG, H20, H19, HY⟩
    iapply (over c (fun _ => skip_oddLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (BitVec.ofNat 32 (i 0).val) v0 (fun h => by have := (cond8_iff i v0).1 h; omega)))
    iapply (fin c)
    isplitl [HP]; · iexact HP
    isplitl [HX]; · iexact HX
    isplitl [HW]; · iexact HW
    isplitl [HD]; · iexact HD
    isplitl [H19]; · iexact H19
    isplitl [H20]; · iexact H20
    isplitl [HG]; · iexact HG
    iexact HY
  · -- the last output, even
    have hs' := hs (by omega)
    rw [if_neg (by omega), if_neg (by omega), dif_pos (by omega), if_pos (by omega)]
    unfold restP
    iintro ⟨HP, HX, HW, HD, H19, H20, ⟨%G, HG⟩, HY⟩
    iapply (over c (fun _ => skip_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 _ (fun h => by have := (first_iff i).1 h; omega)))
    iapply (over c (fun _ => skip_even c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (BitVec.ofNat 32 (i 0).val) v0 (fun h => by have := (cond5_iff i v0 hn).1 h; omega)))
    ihave H1 := (evenLast_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 P D Y H20 (BitVec.ofNat 32 (i 0).val) v0 ((cond6_iff i v0).2 (by omega)) hs') $$ [HP HD H20 HY]
    · isplitl [HP]; · iexact HP
      isplitl [HD]; · iexact HD
      isplitl [H20]; · iexact H20
      iexact HY
    iapply (seq c) $$ H1
    iintro %r ⟨HP, HD, H20, HY⟩
    iapply (over c (fun _ => skip_odd c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (BitVec.ofNat 32 (i 0).val) v0 (fun h => by have := (cond7_iff i v0 hn).1 h; omega)))
    iapply (over c (fun _ => skip_oddLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (BitVec.ofNat 32 (i 0).val) v0 (fun h => by have := (cond8_iff i v0).1 h; omega)))
    iapply (fin c)
    isplitl [HP]; · iexact HP
    isplitl [HX]; · iexact HX
    isplitl [HW]; · iexact HW
    isplitl [HD]; · iexact HD
    isplitl [H19]; · iexact H19
    isplitl [H20]; · iexact H20
    isplitl [HG]; · (iexists _; iexact HG)
    iexact HY
  · -- the last output, odd
    have hs' := hs (by omega)
    rw [if_neg (by omega), if_neg (by omega), dif_pos (by omega), if_neg (by omega)]
    unfold restP
    iintro ⟨HP, HX, HW, HD, H19, H20, ⟨%G, HG⟩, HY⟩
    iapply (over c (fun _ => skip_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 _ (fun h => by have := (first_iff i).1 h; omega)))
    iapply (over c (fun _ => skip_even c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (BitVec.ofNat 32 (i 0).val) v0 (fun h => by have := (cond5_iff i v0 hn).1 h; omega)))
    iapply (over c (fun _ => skip_evenLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (BitVec.ofNat 32 (i 0).val) v0 (fun h => by have := (cond6_iff i v0).1 h; omega)))
    iapply (over c (fun _ => skip_odd c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (BitVec.ofNat 32 (i 0).val) v0 (fun h => by have := (cond7_iff i v0 hn).1 h; omega)))
    ihave H1 := (oddLast_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 P D Y H19 (BitVec.ofNat 32 (i 0).val) v0 ((cond8_iff i v0).2 (by omega)) hs') $$ [HP HD H19 HY]
    · isplitl [HP]; · iexact HP
      isplitl [HD]; · iexact HD
      isplitl [H19]; · iexact H19
      iexact HY
    iapply (seq c) $$ H1
    iintro %r ⟨HP, HD, H19, HY⟩
    iapply (fin c)
    isplitl [HP]; · iexact HP
    isplitl [HX]; · iexact HX
    isplitl [HW]; · iexact HW
    isplitl [HD]; · iexact HD
    isplitl [H19]; · iexact H19
    isplitl [H20]; · iexact H20
    isplitl [HG]; · (iexists _; iexact HG)
    iexact HY
  · -- past the tiles
    rw [if_neg (by omega), if_neg (by omega), dif_neg (by omega)]
    unfold restP
    iintro ⟨HP, HX, HW, HD, H19, H20, ⟨%G, HG⟩, HY⟩
    iapply (over c (fun _ => skip_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 _ (fun h => by have := (first_iff i).1 h; omega)))
    iapply (over c (fun _ => skip_even c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (BitVec.ofNat 32 (i 0).val) v0 (fun h => by have := (cond5_iff i v0 hn).1 h; omega)))
    iapply (over c (fun _ => skip_evenLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (BitVec.ofNat 32 (i 0).val) v0 (fun h => by have := (cond6_iff i v0).1 h; omega)))
    iapply (over c (fun _ => skip_odd c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (BitVec.ofNat 32 (i 0).val) v0 (fun h => by have := (cond7_iff i v0 hn).1 h; omega)))
    iapply (over c (fun _ => skip_oddLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (BitVec.ofNat 32 (i 0).val) v0 (fun h => by have := (cond8_iff i v0).1 h; omega)))
    iapply (fin c)
    isplitl [HP]; · iexact HP
    isplitl [HX]; · iexact HX
    isplitl [HW]; · iexact HW
    isplitl [HD]; · iexact HD
    isplitl [H19]; · iexact H19
    isplitl [H20]; · iexact H20
    isplitl [HG]; · (iexists _; iexact HG)
    iexact HY

/-- The index of the number of tiles in its table. -/
abbrev at1 : S1.Idx := fun | 0 => ⟨0, by decide⟩

/-- At the first point the first expert's matrices are set on their way. -/
theorem start_step {T TI TO Fst N S P : S321.Idx → BitVec 32} {n : ℕ} (s : Sched T TI TO Fst N S P n) :
    iprop(Held c arg1 T ∗ Way c MA MB MC (N := N) arg10 arg11 arg12 arg14 arg15 arg16 arg22 (i 0).val)
      ⊢ Runs c (startP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22) (fun _ => iprop(Held c arg1 T ∗ (match (i 0).val with
          | 0 => Bringing c MA MB MC arg10 arg11 arg12 arg14 arg15 arg16 arg22 (T (k321 0)) (s.te 0)
          | p + 1 => Coming c MA MB MC arg10 arg11 arg12 arg14 arg15 arg16 arg22 (N (k321 p))))) := by
  by_cases h : (i 0).val = 0
  · have t := start_run c MA MB MC i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 T ((cond1_iff i).2 h) (by rw [at0_k]; exact s.te 0)
    simp only [at0_k] at t
    simp only [h]
    exact t
  · obtain ⟨p, hp⟩ : ∃ p, (i 0).val = p + 1 := ⟨(i 0).val - 1, by omega⟩
    refine BIBase.Entails.trans ?_ (skip_start c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 (fun e => h ((cond1_iff i).1 e)))
    simp only [hp]
    exact BIBase.Entails.refl

/-- A grid point. -/
theorem point_run {T TI TO Fst N S P : S321.Idx → BitVec 32} {n : ℕ} (s : Sched T TI TO Fst N S P n) (xb : ℕ → S256x4096.Idx → Elt F .bf16) (NU : S1.Idx → BitVec 32)
    (hNU : (NU at1).toNat = n) (Y : S256x4096.Idx → Elt F .bf16) :
    iprop(Inv c MA MB MC s xb arg1 arg2 arg3 arg4 arg5 arg6 arg7 arg8 arg10 arg11 arg12 arg14 arg15 arg16 arg17 arg18 arg19 arg20 arg21 arg22 NU (i 0).val ∗ owesNone c ∗ Held c arg9 (xb (i 0).val) ∗ Held c arg13 Y)
      ⊢ Runs c (cc0_experts i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22)
        (fun _ => iprop(Inv c MA MB MC s xb arg1 arg2 arg3 arg4 arg5 arg6 arg7 arg8 arg10 arg11 arg12 arg14 arg15 arg16 arg17 arg18 arg19 arg20 arg21 arg22 NU ((i 0).val + 1) ∗ owesNone c ∗ Held c arg9 (xb (i 0).val)
          ∗ Held c arg13 (if 1 ≤ (i 0).val ∧ (i 0).val ≤ n then yT MA MB MC s xb ((i 0).val - 1) else Y))) := by
  have hj : (i 0).val < 321 := (i 0).isLt
  have hk : at321 i = k321 (i 0).val := at321_k i
  have hs : 1 ≤ (i 0).val → (P (at321 i)).toNat < 2 := fun h => by
    obtain ⟨p, hp⟩ : ∃ p, (i 0).val = p + 1 := ⟨(i 0).val - 1, by omega⟩
    rw [hk, hp, s.prev p (by omega)]; exact s.slot _
  rw [flat_eq]
  unfold Inv
  iintro ⟨⟨HT, HTI, HTO, HF, HN, HS, HP, HU, Hway, ⟨%W, %hW, HW⟩, ⟨%D, %hD, HD⟩, ⟨%H19, %h19, HA⟩, ⟨%H20, %h20, HB⟩, HG⟩, HO, HX, HY⟩
  iapply (word c at1 (fun a => by fin_cases a; rfl)) $$ HU
  iintro HU
  ihave H1 : Runs c (startP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22) (fun _ => iprop(Held c arg1 T ∗ (match (i 0).val with
          | 0 => Bringing c MA MB MC arg10 arg11 arg12 arg14 arg15 arg16 arg22 (T (k321 0)) (s.te 0)
          | p + 1 => Coming c MA MB MC arg10 arg11 arg12 arg14 arg15 arg16 arg22 (N (k321 p))))) $$ [HT Hway]
  · iapply (start_step c MA MB MC i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 s)
    isplitl [HT]; · iexact HT
    iexact Hway
  iapply (seq c) $$ H1
  iintro %r ⟨HT, Hway⟩
  iapply (word c (at321 i) (at321_off i)) $$ HF
  iintro HF
  ihave H1 := (take_step c MA MB MC i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 s (BitVec.ofNat 32 (i 0).val) W D hW hD) $$ [HT HN HS Hway HO HW HD]
  · isplitl [HT]; · iexact HT
    isplitl [HN]; · iexact HN
    isplitl [HS]; · iexact HS
    isplitl [Hway]; · iexact Hway
    isplitl [HO]; · iexact HO
    isplitl [HW]; · iexact HW
    iexact HD
  iapply (seq c) $$ H1
  iintro %r ⟨HT, HN, HS, Hway, HO, HW, ⟨%D', %hD', HD⟩⟩
  ihave H1 := (rest_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 P n (NU at1) hNU s.pos s.le hs (xb (i 0).val) (wT MA MB s (i 0).val) D' Y H19 H20) $$ [HP HX HW HD HA HB HG HY]
  · isplitl [HP]; · iexact HP
    isplitl [HX]; · iexact HX
    isplitl [HW]; · iexact HW
    isplitl [HD]; · iexact HD
    isplitl [HA]; · iexact HA
    isplitl [HB]; · iexact HB
    isplitl [HG]; · iexact HG
    iexact HY
  iapply (wp_wand _ _ _) $$ H1
  iintro %r ⟨HP, HX, HW, HD, HA, HB, HG, HY⟩
  isplitr [HO HX HY]
  · isplitl [HT]; · iexact HT
    isplitl [HTI]; · iexact HTI
    isplitl [HTO]; · iexact HTO
    isplitl [HF]; · iexact HF
    isplitl [HN]; · iexact HN
    isplitl [HS]; · iexact HS
    isplitl [HP]; · iexact HP
    isplitl [HU]; · iexact HU
    isplitl [Hway]; · iapply (Entails.of_eq (show Coming c MA MB MC arg10 arg11 arg12 arg14 arg15 arg16 arg22 (N (k321 (i 0).val)) = Way c MA MB MC (N := N) arg10 arg11 arg12 arg14 arg15 arg16 arg22 ((i 0).val + 1) from rfl)) $$ Hway
    isplitl [HW]
    · iexists _
      isplitr; swap
      · iexact HW
      · ipureintro
        intro p hp
        rw [Nat.add_right_cancel hp]
    isplitl [HD]
    · iexists _
      isplitr; swap
      · iexact HD
      · ipureintro
        intro p hp
        cases Nat.add_right_cancel hp
        exact hD'.1
    isplitl [HA]
    · iexists _
      isplitr; swap
      · iexact HA
      · ipureintro
        intro p hp hl h2
        cases Nat.add_right_cancel hp
        exact if_pos ⟨hl, h2⟩
    isplitl [HB]
    · iexists _
      isplitr; swap
      · iexact HB
      · ipureintro
        intro p hp hl h2
        cases Nat.add_right_cancel hp
        exact if_pos ⟨hl, h2⟩
    iexact HG
  isplitl [HO]; · iexact HO
  isplitl [HX]; · iexact HX
  by_cases h : 1 ≤ (i 0).val ∧ (i 0).val ≤ n
  · have e : outTile (if (i 0).val % 2 = 0 then H20 else H19) (slotOf D' (k0_off8 (P (at321 i))) (sin (hs h.1))) = yT MA MB MC s xb ((i 0).val - 1) := by
      obtain ⟨p, hp⟩ : ∃ p, (i 0).val = p + 1 := ⟨(i 0).val - 1, by omega⟩
      have e1 : P (at321 i) = S (k321 p) := by rw [hk, hp, s.prev p (by omega)]
      rw [slot_word D' e1 _ (sin (s.slot p)), hD'.2 p hp.symm]
      have e2 : (if (i 0).val % 2 = 0 then H20 else H19) = hid MA MB s xb p := by
        by_cases h2 : (i 0).val % 2 = 0
        · rw [if_pos h2]; exact h20 p hp.symm (by omega) (by omega)
        · rw [if_neg h2]; exact h19 p hp.symm (by omega) (by omega)
      rw [e2, hp]
      rfl
    rw [dif_pos h, if_pos h, e]
    iexact HY
  · rw [dif_neg h, if_neg h]
    iexact HY

end Step

end Cert.Proof.Experts
-- ==== Proof.Grid.lean ====
/-
  The experts' call as launched: the grid's 321 points, each by `point_run`; every execution ends with the output's blocks the
  tiles' outputs, and with the tables and the weights as given.
-/
module

public import proofs.«01_k».proof.Proof.Step
public import proofs.«01_k».proof.Proof.Gen.Kernel2Ideal.Launch
public import Idealize.ShloMosaic.Lib.Pipeline.Regions
public import Idealize.ShloMosaic.Lib.Pipeline.FrameBody
public import Idealize.ShloMosaic.Lib.Pipeline.TableIdle

@[expose] public section

set_option maxRecDepth 16384

noncomputable section

namespace Cert.Proof.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F]

local notation "𝕄" => MT nD τ sig Unit (Elt F) ℕ (UU nD τ) ℕ

abbrev EP : Emb (UR sig nD τ) (MT nD τ sig Unit (Elt F) ℕ (UU nD τ) ℕ) := embL

variable (m : (ℓ : Loc nD τ sig) → Buf (Elt F) ℓ) (ρ : Dev nD → PrngReg)

/-- The tables, the rows and the weights as given. -/
abbrev tT (c : Dev nD) : S321.Idx → BitVec 32 := m ((c : Thread nD τ).loc main_arg0)
abbrev tTI (c : Dev nD) : S321.Idx → BitVec 32 := m ((c : Thread nD τ).loc main_arg1)
abbrev tTO (c : Dev nD) : S321.Idx → BitVec 32 := m ((c : Thread nD τ).loc main_arg2)
abbrev tFst (c : Dev nD) : S321.Idx → BitVec 32 := m ((c : Thread nD τ).loc main_arg3)
abbrev tN (c : Dev nD) : S321.Idx → BitVec 32 := m ((c : Thread nD τ).loc main_arg4)
abbrev tS (c : Dev nD) : S321.Idx → BitVec 32 := m ((c : Thread nD τ).loc main_arg5)
abbrev tP (c : Dev nD) : S321.Idx → BitVec 32 := m ((c : Thread nD τ).loc main_arg6)
abbrev tNU (c : Dev nD) : S1.Idx → BitVec 32 := m ((c : Thread nD τ).loc main_arg7)
abbrev tX (c : Dev nD) : S81920x4096.Idx → Elt F .bf16 := m ((c : Thread nD τ).loc main_arg8)
abbrev tG (c : Dev nD) : S2x64x4096x384.Idx → Elt F .f32 := m ((c : Thread nD τ).loc main_arg9)
abbrev tU (c : Dev nD) : S2x64x4096x384.Idx → Elt F .f32 := m ((c : Thread nD τ).loc main_arg10)
abbrev tD (c : Dev nD) : S2x64x384x4096.Idx → Elt F .f32 := m ((c : Thread nD τ).loc main_arg11)
/-- The number of tiles. -/
abbrev nT (c : Dev nD) : ℕ := (tNU m c at1).toNat

/-- The tables hold a schedule. -/
abbrev Planned (c : Dev nD) : Prop := Sched (tT m c) (tTI m c) (tTO m c) (tFst m c) (tN m c) (tS m c) (tP m c) (nT m c)

/-- The rows' block at point `j`. -/
def xb (c : Dev nD) (j : ℕ) : S256x4096.Idx → Elt F .bf16 := fun y =>
  tX m c (at2 (a := 81920) (b := 4096) ⟨(256 * min j (nT m c - 1) + (y 0).val) % 81920, Nat.mod_lt _ (by decide)⟩ (y 1))

/-- The tables' contents. -/
def pf : pre0.Contents (Elt F) := fun
  | 0 => tT m 0 | 1 => tTI m 0 | 2 => tTO m 0 | 3 => tFst m 0 | 4 => tN m 0 | 5 => tS m 0 | 6 => tP m 0 | 7 => tNU m 0
  | ⟨_ + 8, h⟩ => absurd h (Nat.not_lt.2 (Nat.le_add_left _ _))

theorem wd_of {n : ℕ} (h : n < 321) : (BitVec.ofNat 32 n).toNat = n := by
  rw [BitVec.toNat_ofNat]; exact Nat.mod_eq_of_lt (by omega)

theorem ix_in (i : grid0.Coords) : cc0_transform_0 k0_off1_inb numel1_S1 (pf m) i = ![(tTI m 0 (k321 (i 0).val)).toNat, 0] := by
  have e : cc0_transform_0 k0_off1_inb numel1_S1 (pf m) i = ![(tTI m 0 (at321 i)).toNat, 0] := by
    unfold cc0_transform_0
    refine congrArg (fun v : BitVec 32 => (![v.toNat, 0] : Fin 2 → ℕ)) (congrArg (tTI m 0) (funext fun a => Fin.ext ?_))
    fin_cases a
    show (BitVec.ofNat 32 (i 0).val).toNat + 1 * 0 = (i 0).val
    rw [wd_of (i 0).isLt]; omega
  rw [e, at321_k]

theorem ix_out (i : grid0.Coords) : cc0_transform_4 k0_off1_inb numel1_S1 (pf m) i = ![(tTO m 0 (k321 (i 0).val)).toNat, 0] := by
  have e : cc0_transform_4 k0_off1_inb numel1_S1 (pf m) i = ![(tTO m 0 (at321 i)).toNat, 0] := by
    unfold cc0_transform_4
    refine congrArg (fun v : BitVec 32 => (![v.toNat, 0] : Fin 2 → ℕ)) (congrArg (tTO m 0) (funext fun a => Fin.ext ?_))
    fin_cases a
    show (BitVec.ofNat 32 (i 0).val).toNat + 1 * 0 = (i 0).val
    rw [wd_of (i 0).isLt]; omega
  rw [e, at321_k]

theorem wide (f : Fin 2 → ℕ) (t : ℕ) (hf : f = ![t, 0]) (ht : t ≤ 319) : ∃ h : (∀ a, (f a + 1) * S256x4096.size a ≤ S81920x4096.size a),
    EltTy.bits .bf16 = 32 ∨ (Rect.block (s := S81920x4096) S256x4096.size f h).WholeWords (EltTy.packing .bf16) := by
  subst hf
  have h : ∀ a, ((![t, 0] : Fin 2 → ℕ) a + 1) * S256x4096.size a ≤ S81920x4096.size a := by
    intro a
    fin_cases a
    · show (t + 1) * 256 ≤ 81920; omega
    · show (0 + 1) * 4096 ≤ 4096; omega
  refine ⟨h, .inr (.inl ?_)⟩
  show Shape.PackedRowsAt S81920x4096 2 (fun a => (![t, 0] : Fin 2 → ℕ) a * S256x4096.size a) S256x4096.size (fun _ => 1)
  right
  refine ⟨by decide, rfl, .inl ⟨?_, by decide⟩⟩
  show 2 ∣ t * 256
  omega

theorem ok (H : ∀ c, Planned m c) : ok0 (pf m) := by
  have H := H 0
  have h1 := H.pos
  have h2 := H.le
  refine ⟨fun i => wide _ _ (ix_in m i) ?_, fun i => wide _ _ (ix_out m i) ?_⟩
  · have h3 : (i 0).val < 321 := (i 0).isLt
    rw [H.read _ (by omega)]; omega
  · have h3 : (i 0).val < 321 := (i 0).isLt
    rw [H.write _ (by omega)]; omega

variable (H : ∀ c, Planned m c)

def adm (_ : Fin 1) : (pcfg0 (F := F)).Adm := ⟨pf m, ok m H⟩

abbrev cfgA : Cfg sig Λ₀ := cfg0 (adm m H 0)

/-- What is held before point `j`. -/
abbrev Held0 (c : Dev nD) (j : ℕ) : sProp 𝕄 := Inv c (tG m c) (tU m c) (tD m c) (H c) (xb m c) (Memref.whole main_arg0) (Memref.whole main_arg1) (Memref.whole main_arg2) (Memref.whole main_arg3) (Memref.whole main_arg4) (Memref.whole main_arg5) (Memref.whole main_arg6) (Memref.whole main_arg7) (Memref.whole main_arg9) (Memref.whole main_arg10) (Memref.whole main_arg11) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) cc0_scratch8 (tNU m c) j

include H in
theorem way_end (c : Dev nD) : (Way c (tG m c) (tU m c) (tD m c) (N := tN m c) (Memref.whole main_arg9) (Memref.whole main_arg10) (Memref.whole main_arg11) (Memref.whole cc0_scratch0) (Memref.whole cc0_scratch1)
      (Memref.whole cc0_scratch2) cc0_scratch8 321 : sProp 𝕄)
    = Ready c (tG m c) (tU m c) (tD m c) (Memref.whole main_arg9) (Memref.whole main_arg10) (Memref.whole main_arg11) (Memref.whole cc0_scratch0) (Memref.whole cc0_scratch1) (Memref.whole cc0_scratch2) cc0_scratch8 := by
  show (Coming c (tG m c) (tU m c) (tD m c) (Memref.whole main_arg9) (Memref.whole main_arg10) (Memref.whole main_arg11) (Memref.whole cc0_scratch0) (Memref.whole cc0_scratch1) (Memref.whole cc0_scratch2) cc0_scratch8 (tN m c (k321 320)) : sProp 𝕄) = _
  unfold Coming
  exact dif_neg (fun h => (H c).last h.1)

def dats (_ : Fin 1) (c : Dev nD) : Dat τ (Elt F) Unit ℕ (UU nD τ) ℕ (cfgA m H) c where
  A w := m ((c : Thread nD τ).loc (Pipeline.arrRef spec0 w))
  after w t := match w with
    | ⟨0, _⟩ => xb m c t.val
    | ⟨1, _⟩ => yT (tG m c) (tU m c) (tD m c) (H c) (xb m c) (min (t.val - 1) (nT m c - 1))
    | ⟨_ + 2, h⟩ => absurd h (Nat.not_lt.2 (Nat.le_add_left _ _))
  Φ t := Held0 m H c t.val
  q _ := fullShare
  owed _ := 0

theorem A_eq (c : Dev nD) (w : Fin (cfgA m H).W) : (dats m H 0 c).A w = m ((c : Thread nD τ).loc (Pipeline.arrRef spec0 w)) := by
  dsimp only [dats]

abbrev 𝒱₀ : Variants := Variants.none

theorem idx_of (t : Fin (cfgA m H).N) : ((cfgA m H).grid.coords t 0).val = t.val := by
  revert t
  exact (by decide +kernel : ∀ t : Fin grid0.N, (grid0.coords t 0).val = t.val)

theorem lt_N (t : Fin (cfgA m H).N) : t.val < 321 := Nat.lt_of_lt_of_eq t.isLt N_0

theorem blk0 (c : Dev nD) (t : Fin (cfgA m H).N) : (dats m H 0 c).blockOf 0 t = xb m c t.val := by
  obtain rfl : c = 0 := Subsingleton.elim _ _
  have h1 := (H 0).pos
  have h2 := (H 0).le
  have ht := lt_N m H t
  refine funext fun x : S256x4096.Idx => ?_
  have hx : (x 0).val < 256 := (x 0).isLt
  have ei := ix_in m ((cfgA m H).grid.coords t)
  refine congrArg (tX m 0) (funext fun a => Fin.ext ?_)
  fin_cases a
  · show cc0_transform_0 k0_off1_inb numel1_S1 (pf m) ((cfgA m H).grid.coords t) 0 * 256 + 1 * (x 0).val = (256 * min t.val (nT m 0 - 1) + (x 0).val) % 81920
    rw [ei]
    show (tTI m 0 (k321 ((cfgA m H).grid.coords t 0).val)).toNat * 256 + 1 * (x 0).val = _
    rw [idx_of m H t, (H 0).read _ (by omega)]
    omega
  · show cc0_transform_0 k0_off1_inb numel1_S1 (pf m) ((cfgA m H).grid.coords t) 1 * 4096 + 1 * (x 1).val = (x 1).val
    rw [ei]
    show 0 * 4096 + 1 * (x 1).val = _
    omega

/-- A fetched window holds its block at every point. -/
theorem before_in (c : Dev nD) (w : Fin (cfgA m H).W) (hw : ((cfgA m H).win w).isOut = false) (hl : ∀ i, (cfgA m H).idle w i = false)
    (hc : ∀ i a, ((cfgA m H).win w).clip i a = none)
    (hk : ∀ t, ((cfgA m H).win w).cut ((cfgA m H).grid.coords t) ((dats m H 0 c).after w t) = (dats m H 0 c).blockOf w t)
    (t : Fin (cfgA m H).N) (d) : (dats m H 0 c).before w t d = (dats m H 0 c).after w t := by
  rw [Dat.before_in_eq_fetched (dats m H 0 c) w hw hl (fun t t' _ => funext fun a => (hc _ a).trans (hc _ a).symm) hk]
  unfold Dat.fetched
  rw [← hk, Pipeline.fill_of_clip_none w _ (hc _) d ((dats m H 0 c).after w t), Window.fill_cut]

theorem before0 (c : Dev nD) (t : Fin (cfgA m H).N) (d) : (dats m H 0 c).before 0 t d = xb m c t.val :=
  before_in m H c 0 rfl (fun _ => rfl) (fun _ _ => rfl) (fun t => (blk0 m H c t).symm) t d

theorem dat_one (p : pre0.Contents (Elt F)) (X : S1.Idx → BitVec 32) (h : p 7 = X) : p.atD 7 ![0] = X at1 := by
  subst h
  have hh : ∀ a, (![0] : Fin 1 → ℕ) a + 1 ≤ S1.size a := by decide
  refine (dif_pos hh).trans (congrArg (p 7) (funext fun a => Fin.ext ?_))
  fin_cases a
  rfl

/-- The output's window is idle where no tile's output is due. -/
theorem idle_iff (t : Fin (cfgA m H).N) : (cfgA m H).idle 1 ((cfgA m H).grid.coords t) = true ↔ ¬ (1 ≤ t.val ∧ t.val ≤ nT m 0) := by
  have hn := (H 0).le
  have e := idx_of m H t
  have ed : (pf m).atD 7 ![0] = tNU m 0 at1 := dat_one (pf m) (tNU m 0) rfl
  show (!(k0_cond5 ((cfgA m H).grid.coords t) ((pf m).atD 7 ![0]) == 1#1) && !(k0_cond6 ((cfgA m H).grid.coords t) ((pf m).atD 7 ![0]) == 1#1)
    && !(k0_cond7 ((cfgA m H).grid.coords t) ((pf m).atD 7 ![0]) == 1#1) && !(k0_cond8 ((cfgA m H).grid.coords t) ((pf m).atD 7 ![0]) == 1#1)) = true ↔ _
  rw [ed]
  show (!(k0_cond5 ((cfgA m H).grid.coords t) (tNU m 0 at1) == 1#1) && !(k0_cond6 ((cfgA m H).grid.coords t) (tNU m 0 at1) == 1#1)
    && !(k0_cond7 ((cfgA m H).grid.coords t) (tNU m 0 at1) == 1#1) && !(k0_cond8 ((cfgA m H).grid.coords t) (tNU m 0 at1) == 1#1)) = true ↔ _
  simp only [Bool.and_eq_true, Bool.not_eq_true', beq_eq_false_iff_ne, ne_eq, cond5_iff _ _ hn, cond6_iff, cond7_iff _ _ hn, cond8_iff, e]
  have hnu : (tNU m 0 at1).toNat = nT m 0 := rfl
  rw [hnu]
  have ht := lt_N m H t
  generalize nT m 0 = n at hn ⊢
  omega

theorem index_out (t : Fin (cfgA m H).N) : ((cfgA m H).win 1).index t = ![min (t.val - 1) (nT m 0 - 1), 0] := by
  have ht := lt_N m H t
  have e : ((cfgA m H).win 1).index t = ![(tTO m 0 (k321 ((cfgA m H).grid.coords t 0).val)).toNat, 0] := ix_out m _
  rw [e, idx_of m H t, (H 0).write _ (by omega)]

/-- Nothing is written back where the next point's output is the same tile's. -/
theorem flush_false (t : Fin (cfgA m H).N) (ht : t.val < 320) (h : t.val = 0 ∨ nT m 0 ≤ t.val) : ((cfgA m H).win 1).flush t = false := by
  have h1 := (H 0).pos
  have hN : (cfgA m H).N = 321 := N_0
  unfold Pipeline.Window.flush
  rw [Bool.and_eq_false_iff]
  right
  rw [Bool.or_eq_false_iff]
  refine ⟨by rw [decide_eq_false_iff_not]; show ¬ t.val + 1 = (cfgA m H).N; omega, ?_⟩
  rw [decide_eq_false_iff_not]
  rintro ⟨hl, hne⟩
  refine hne ?_
  rw [index_out, index_out]
  have : min (t.val + 1 - 1) (nT m 0 - 1) = min (t.val - 1) (nT m 0 - 1) := by omega
  show (![min (t.val + 1 - 1) (nT m 0 - 1), 0] : Fin 2 → ℕ) = _
  rw [this]

/-- The last point's output, where the point is past the tiles, is the last tile's, kept. -/
theorem before_last (c : Dev nD) (t : Fin (cfgA m H).N) (ht : t.val = 320) (hn : nT m 0 < 320) (d) :
    (dats m H 0 c).before 1 t d = (dats m H 0 c).after 1 t := by
  obtain rfl : c = 0 := Subsingleton.elim _ _
  have h1 := (H 0).pos
  have hN : (cfgA m H).N = 321 := N_0
  have hf : ∀ t, ((cfgA m H).win 1).fetch t = false := ((cfgA m H).win 1).fetch_out rfl
  rw [(dats m H 0 0).before_idle_run 1 hf d (320 - (nT m 0 + 1)) t (by omega) (fun j h2 h3 => ⟨(idle_iff m H j).2 (by omega), flush_false m H j (by omega) (.inr (by omega))⟩)]
  rw [(dats m H 0 0).before_of_pos 1 _ (by show t.val - (320 - (nT m 0 + 1)) ≠ 0; omega) (hf _) d]
  have hnN' : nT m 0 < (cfgA m H).N := by omega
  have ep : (⟨(⟨t.val - (320 - (nT m 0 + 1)), by omega⟩ : Fin (cfgA m H).N).val - 1, Nat.lt_of_le_of_lt (Nat.sub_le _ _) (by show t.val - _ < _; omega)⟩ : Fin (cfgA m H).N) = ⟨nT m 0, hnN'⟩ :=
    Fin.ext (by show t.val - (320 - (nT m 0 + 1)) - 1 = nT m 0; omega)
  rw [ep, flush_false m H ⟨nT m 0, hnN'⟩ hn (.inr (Nat.le_refl _)), if_neg Bool.false_ne_true]
  have hnN : nT m 0 < (cfgA m H).N := by omega
  have hi : (cfgA m H).idle 1 ((cfgA m H).grid.coords ⟨nT m 0, hnN⟩) = false := by
    rw [← Bool.not_eq_true, idle_iff]
    simp only [not_not]
    exact ⟨h1, Nat.le_refl _⟩
  unfold Dat.left
  rw [hi]
  show (dats m H 0 0).kept 1 _ d = _
  unfold Dat.kept
  rw [Pipeline.fill_of_clip_none 1 _ (fun _ => rfl) d ((dats m H 0 0).after 1 _), Window.fill_cut]
  show yT _ _ _ _ _ (min (nT m 0 - 1) (nT m 0 - 1)) = yT _ _ _ _ _ (min (t.val - 1) (nT m 0 - 1))
  congr 1
  omega

abbrev stIn (t : Fin (cfgA m H).N) : Memref sig .tc .vmem S256x4096 .bf16 := spec0_0.stage ((cfgA m H).slots t 0)
abbrev stOut (t : Fin (cfgA m H).N) : Memref sig .tc .vmem S256x4096 .bf16 := spec0_1.stage ((cfgA m H).slots t 1)

omit [FloatOps F] in
/-- What is due of a window at a point: the block as it was where the point leaves it and nothing is written back, else what the point leaves. -/
theorem pick (i f : Bool) {A B X : sProp 𝕄} (h : (i = true ∧ f = false ∧ (X ⊢ B)) ∨ ((i = false ∨ f = true) ∧ (X ⊢ A))) :
    X ⊢ (match (generalizing := false) i with | true => (match (generalizing := false) f with | false => B | true => A) | false => A) := by
  rcases h with ⟨rfl, rfl, h⟩ | ⟨rfl | rfl, h⟩
  · exact h
  · exact h
  · cases i <;> exact h

/-- The output's window as a point finds it. -/
def bef (c : Dev nD) (t : Fin (cfgA m H).N) (d : S256x4096.Idx → Elt F .bf16) : S256x4096.Idx → Elt F .bf16 := (dats m H 0 c).before 1 t d

theorem out_due (c : Dev nD) (t : Fin (cfgA m H).N) (d : S256x4096.Idx → Elt F .bf16) :
    ((cfgA m H).idle 1 ((cfgA m H).grid.coords t) = true ∧ ((cfgA m H).win 1).flush t = false
      ∧ ((Held c (stOut m H t) (if 1 ≤ t.val ∧ t.val ≤ nT m c then yT (tG m c) (tU m c) (tD m c) (H c) (xb m c) (t.val - 1) else bef m H c t d) : sProp 𝕄)
        ⊢ iprop(∃ d, Held c (stOut m H t) (bef m H c t d))))
    ∨ (((cfgA m H).idle 1 ((cfgA m H).grid.coords t) = false ∨ ((cfgA m H).win 1).flush t = true)
      ∧ ((Held c (stOut m H t) (if 1 ≤ t.val ∧ t.val ≤ nT m c then yT (tG m c) (tU m c) (tD m c) (H c) (xb m c) (t.val - 1) else bef m H c t d) : sProp 𝕄)
        ⊢ Held c (stOut m H t) ((dats m H 0 c).after 1 t))) := by
  have ht := lt_N m H t
  have h1 := (H 0).pos
  have hc0 : c = 0 := Subsingleton.elim _ _
  by_cases hj : 1 ≤ t.val ∧ t.val ≤ nT m c
  · right
    have hi : (cfgA m H).idle 1 ((cfgA m H).grid.coords t) = false := by
      rw [← Bool.not_eq_true, idle_iff, not_not, ← hc0]
      exact hj
    rw [if_pos hj]
    have e : yT (tG m c) (tU m c) (tD m c) (H c) (xb m c) (t.val - 1) = (dats m H 0 c).after 1 t := by
      show _ = yT (tG m c) (tU m c) (tD m c) (H c) (xb m c) (min (t.val - 1) (nT m c - 1))
      congr 1
      omega
    exact ⟨.inl hi, Entails.of_eq (congrArg (fun X => (Held c (stOut m H t) X : sProp 𝕄)) e)⟩
  · have hi : (cfgA m H).idle 1 ((cfgA m H).grid.coords t) = true := (idle_iff m H t).2 (by rw [← hc0]; exact hj)
    rw [if_neg hj]
    by_cases hl : t.val = 320
    · right
      have hn : nT m 0 < 320 := by rw [← hc0]; omega
      have hf : ((cfgA m H).win 1).flush t = true := by
        have hN : (cfgA m H).N = 321 := N_0
        unfold Pipeline.Window.flush
        rw [Bool.and_eq_true]
        refine ⟨rfl, ?_⟩
        rw [Bool.or_eq_true]
        left
        rw [decide_eq_true_iff]
        show t.val + 1 = (cfgA m H).N
        omega
      exact ⟨.inr hf, Entails.of_eq (congrArg (fun X => (Held c (stOut m H t) X : sProp 𝕄)) (before_last m H c t hl hn d))⟩
    · left
      refine ⟨hi, flush_false m H t (by omega) (by rw [← hc0]; omega), ?_⟩
      iintro H1
      iexists d
      iexact H1

theorem body_obligation (c : Dev nD) : BodyObligation (dats m H 0 c) (defs₀ (F := F)) 𝒱₀ () Set.univ := fun t => by
  rw [bigSep_W0, bigSep_W0]
  have ht := lt_N m H t
  have h1 := (H 0).pos
  have hc0 : c = 0 := Subsingleton.elim _ _
  rw [show (dats m H 0 c).Φ t.castSucc = Held0 m H c t.val from rfl, show (dats m H 0 c).Φ t.succ = Held0 m H c (t.val + 1) from rfl]
  refine BIBase.Entails.trans ?_ (wp_mono frame (wpE (defs₀ (F := F)) 𝒱₀ c none) Set.univ
    (Q := fun _ => iprop(∃ d1, Held0 m H c (t.val + 1) ∗ (dats m H 0 c).owesAt () t.succ ∗ Held c (stIn m H t) (xb m c t.val)
      ∗ Held c (stOut m H t) (if 1 ≤ t.val ∧ t.val ≤ nT m c then yT (tG m c) (tU m c) (tD m c) (H c) (xb m c) (t.val - 1) else bef m H c t d1)))
    (fun _ => sProp.exists_elim fun d1 => sep_mono .rfl (sep_mono .rfl (sep_mono .rfl
      (pick ((cfgA m H).idle 1 ((cfgA m H).grid.coords t)) (((cfgA m H).win 1).flush t) (out_due m H c t d1))))))
  unfold Dat.owesAt Pipeline.owesWithin
  rw [show (dats m H 0 c).owed t.castSucc = 0 from rfl, show (dats m H 0 c).owed t.succ = 0 from rfl]
  iintro ⟨HI, ⟨%W, %hW, HO⟩, ⟨%d0, H0⟩, ⟨%d1, H1⟩⟩
  ihave H0 := (Entails.of_eq (congrArg (fun X => (Held c (stIn m H t) X : sProp 𝕄)) (before0 m H c t d0))) $$ H0
  have R := point_run c (tG m c) (tU m c) (tD m c) ((cfgA m H).grid.coords t) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (stIn m H t) (hstage0_0 _) (Memref.whole main_arg9) (Memref.isWhole_whole _) (Memref.whole main_arg10) (Memref.isWhole_whole _) (Memref.whole main_arg11) (Memref.isWhole_whole _) (stOut m H t) (hstage0_1 _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 (H c) (xb m c) (tNU m c) rfl (bef m H c t d1)
  rw [idx_of m H t] at R
  ihave HR := R $$ [HI HO H0 H1]
  · isplitl [HI]; · iexact HI
    isplitl [HO]; · (iexists W; iexact HO)
    isplitl [H0]; · iexact H0
    iexact H1
  iapply (wp_wand frame (wpE (defs₀ (F := F)) 𝒱₀ c none) Set.univ) $$ HR
  iintro %_ ⟨HI, ⟨%W', HO⟩, H0, H1⟩
  iexists d1
  isplitl [HI]; · iexact HI
  isplitl [HO]
  · iexists W'; isplitr; · ipureintro; exact fun _ _ => Or.inl trivial
    iexact HO
  isplitl [H0]; · iexact H0
  iexact H1

/-! ## The launch -/

abbrev osem : Fin 3 → SemLoc sig := fun | 0 => .dma 4 | 1 => .dma 5 | 2 => .dma 6 | ⟨_ + 3, h⟩ => absurd h (Nat.not_lt.2 (Nat.le_add_left _ _))

theorem ownSemFacts : Pipeline.OwnSemFacts spec0 osem := by decide

abbrev admF : (p : Fin 1) → (pcfgs (F := F) p).Adm := adm m H

/-- The launch element: the pipeline's own part; no counter yet. -/
def u₀ : UU nD τ := (initOf (Pipeline.cells (Pipeline.pin pcfgs (admF m H)) (cellOf_inj (admF m H))) (Pipeline.launchToks (Pipeline.pin pcfgs (admF m H)) (cellOf_inj (admF m H))), 1)

abbrev sems (c : Dev nD) : sProp 𝕄 := iprop(semVal ((c : Thread nD τ), .dma 4) 0 ∗ semVal ((c : Thread nD τ), .dma 5) 0 ∗ semVal ((c : Thread nD τ), .dma 6) 0)

omit [FloatOps F] in
theorem ownSems0_eq (c : Dev nD) :
    (Pipeline.ownSems0 (Ix := Unit) (Name := ℕ) (U := UU nD τ) (Lvl := ℕ) (Val := Elt F) (τ := τ) osem c : sProp 𝕄) = sems c :=
  Pipeline.ownSems0_eq_of_list c osem [0, 1, 2] (by decide) (by decide)

abbrev L : GSem nD τ sig → Finset Unit := fun _ => ∅
abbrev lv : GSem nD τ sig → Unit → ℕ := fun _ _ => 0
abbrev R (c : Dev nD) : sProp 𝕄 := iprop(∃ W, owes (c : Thread nD τ) (0 : CellTallies nD τ sig Unit) W)

/-- The tables as given. -/
abbrev tables (c : Dev nD) : sProp 𝕄 :=
  iprop((((c : Thread nD τ).loc main_arg0) ↦{fullShare} m ((c : Thread nD τ).loc main_arg0)) ∗ (((c : Thread nD τ).loc main_arg1) ↦{fullShare} m ((c : Thread nD τ).loc main_arg1)) ∗ (((c : Thread nD τ).loc main_arg2) ↦{fullShare} m ((c : Thread nD τ).loc main_arg2)) ∗ (((c : Thread nD τ).loc main_arg3) ↦{fullShare} m ((c : Thread nD τ).loc main_arg3)) ∗ (((c : Thread nD τ).loc main_arg4) ↦{fullShare} m ((c : Thread nD τ).loc main_arg4)) ∗ (((c : Thread nD τ).loc main_arg5) ↦{fullShare} m ((c : Thread nD τ).loc main_arg5)) ∗ (((c : Thread nD τ).loc main_arg6) ↦{fullShare} m ((c : Thread nD τ).loc main_arg6)) ∗ (((c : Thread nD τ).loc main_arg7) ↦{fullShare} m ((c : Thread nD τ).loc main_arg7)))

/-- The weights as given. -/
abbrev weights (c : Dev nD) : sProp 𝕄 :=
  iprop((((c : Thread nD τ).loc main_arg9) ↦{fullShare} m ((c : Thread nD τ).loc main_arg9)) ∗ (((c : Thread nD τ).loc main_arg10) ↦{fullShare} m ((c : Thread nD τ).loc main_arg10)) ∗ (((c : Thread nD τ).loc main_arg11) ↦{fullShare} m ((c : Thread nD τ).loc main_arg11)))

/-- The tables held, one by one. -/
theorem tables_eq (c : Dev nD) : (Pipeline.prefHeld pre0 c (fun _ => fullShare) (adm m H 0).1 : sProp 𝕄) = tables m c := by
  obtain rfl : c = 0 := Subsingleton.elim _ _
  unfold Pipeline.prefHeld
  exact bigSep_univ_eq_bigSepL [(0 : Fin 8), 1, 2, 3, 4, 5, 6, 7] (by decide) (by decide) _

theorem tables_kept (c : Dev nD) : (fun k => m ((c : Thread nD τ).loc (pre0.ref k))) = (adm m H 0).1 := by
  obtain rfl : c = 0 := Subsingleton.elim _ _
  funext k
  fin_cases k <;> rfl

/-- What the call leaves: its windows' arrays, the tables and the weights as given. -/
abbrev Tₙ (c : Dev nD) : sProp 𝕄 :=
  iprop((dats m H 0 c).arrays ((dats m H 0 c).arrAt · (cfgA m H).N) ∗ tables m c ∗ weights m c)

set_option backward.isDefEq.respectTransparency.types false in
def reg0 : Pipeline.RegionSeg (pcfgs (F := F)) (admF m H) (dats m H) () defs₀ 𝒱₀ L lv 0 where
  win := (launch0 (F := F)).win.to₀
  block_pos := (launch0 (F := F)).block_pos
  stage_whole := (launch0 (F := F)).stage_whole
  K := Fin 3
  osem := osem
  ho := ownSemFacts
  hbody c := (body_obligation m H c).loose
  hwaits := Pipeline.hwaits_of_owed_zero _ _ _ _ L lv 0 fun _ _ => rfl
  pre c := iprop(unscopedBufs c (fun b => m ((c : Thread nD τ).loc b)) ∗ R c)
  post c := iprop(Tₙ m H c ∗ R c)
  X c := iprop(weights m c ∗ sems c)
  Y c := iprop(tables m c ∗ weights m c)
  Z c := iprop(emp)
  hentry c := by
    rw [ownSems0_eq]
    have hsplit := (Pipeline.arrays_of_unscopedBufs (pcfgs (F := F)) (admF m H) (dats m H) (launch0 (F := F)).win (launch0 (F := F)).arr_whole c
      ((dats m H 0 c).share_full fun _ => rfl) (fun b => m ((c : Thread nD τ).loc b)) (A_eq m H c)).trans
        (sep_mono .rfl (Entails.of_eq ((Pipeline.unscopedRest_split preFacts0 c (fun b => m ((c : Thread nD τ).loc b))).trans
          (congrArg₂ _ rfl (unscopedRestP0_eq c (fun b => m ((c : Thread nD τ).loc b)))))))
    iintro ⟨⟨Hub, HO⟩, Hos, -⟩
    ihave H := hsplit $$ Hub
    icases H with ⟨Ha, Hp, Hw⟩
    imodintro
    isplitl [Ha]; · iexact Ha
    isplitl [Hp]; · iapply (Entails.of_eq (congrArg (fun v => (Pipeline.prefHeld pre0 c (fun _ => fullShare) v : sProp 𝕄)) (tables_kept m H c))); iexact Hp
    isplitl [HO]
    · unfold Pipeline.Dat.owesAt Pipeline.owesWithin
      icases HO with ⟨%W, HO⟩; iexists W; isplitr; · ipureintro; exact fun _ _ => Or.inl trivial
      iexact HO
    isplitl [Hw Hos]
    · isplitl [Hw] <;> iassumption
    iempintro
  hin c := by
    rw [show (dats m H 0 c).Φ 0 = Held0 m H c 0 from rfl]
    unfold Held0 Inv Way Ready
    simp only [Held, owns_whole]
    iintro ⟨⟨⟨H9, H10, H11⟩, Hs0, Hs1, Hs2⟩, Hp, Hr⟩
    ihave Hp := (Entails.of_eq (tables_eq m H c)) $$ Hp
    icases Hp with ⟨Ht0, Ht1, Ht2, Ht3, Ht4, Ht5, Ht6, Ht7⟩
    ihave Hr := (Entails.of_eq (scopedRest0_eq c)) $$ Hr
    icases Hr with ⟨⟨%f0, S0⟩, ⟨%f1, S1⟩, ⟨%f2, S2⟩, ⟨%f3, S3⟩, ⟨%f4, S4⟩, ⟨%f5, S5⟩, ⟨%f6, S6⟩, ⟨%f7, S7⟩⟩
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [H9 H10 H11 S0 S1 S2 Hs0 Hs1 Hs2]
    · isplitl [H9]; · iexact H9
      isplitl [H10]; · iexact H10
      isplitl [H11]; · iexact H11
      isplitl [S0]; · (iexists f0; iexact S0)
      isplitl [S1]; · (iexists f1; iexact S1)
      isplitl [S2]; · (iexists f2; iexact S2)
      isplitl [Hs0]; · iexact Hs0
      isplitl [Hs1]; · iexact Hs1
      iexact Hs2
    isplitl [S3]; · (iexists f3; isplitr; · (ipureintro; intro p hp; omega)
                     iexact S3)
    isplitl [S4]; · (iexists f4; isplitr; · (ipureintro; intro p hp; omega)
                     iexact S4)
    isplitl [S5]; · (iexists f5; isplitr; · (ipureintro; intro p hp; omega)
                     iexact S5)
    isplitl [S6]; · (iexists f6; isplitr; · (ipureintro; intro p hp; omega)
                     iexact S6)
    iexists f7; iexact S7
  hout c := by
    rw [ownSems0_eq, show (dats m H 0 c).Φ (Fin.last (cfgA m H).N) = Held0 m H c 321 from congrArg (Held0 m H c) N_0]
    unfold Held0 Inv
    rw [way_end m H c]
    unfold Ready
    simp only [Held, owns_whole]
    iintro ⟨Ht0, Ht1, Ht2, Ht3, Ht4, Ht5, Ht6, Ht7, ⟨H9, H10, H11, S0, S1, S2, Hs0, Hs1, Hs2⟩, ⟨%f3, -, S3⟩, ⟨%f4, -, S4⟩, ⟨%f5, -, S5⟩, ⟨%f6, -, S6⟩, S7⟩
    isplitl [Ht0 Ht1 Ht2 Ht3 Ht4 Ht5 Ht6 Ht7 H9 H10 H11]
    · isplitl [Ht0 Ht1 Ht2 Ht3 Ht4 Ht5 Ht6 Ht7]
      · isplitl [Ht0]; · iexact Ht0
        isplitl [Ht1]; · iexact Ht1
        isplitl [Ht2]; · iexact Ht2
        isplitl [Ht3]; · iexact Ht3
        isplitl [Ht4]; · iexact Ht4
        isplitl [Ht5]; · iexact Ht5
        isplitl [Ht6] <;> iassumption
      isplitl [H9]; · iexact H9
      isplitl [H10] <;> iassumption
    isplitl [Hs0 Hs1 Hs2]
    · isplitl [Hs0]; · iexact Hs0
      isplitl [Hs1]; · iexact Hs1
      iexact Hs2
    iapply (Entails.of_eq (scopedRest0_eq c).symm)
    isplitl [S0]; · iexact S0
    isplitl [S1]; · iexact S1
    isplitl [S2]; · iexact S2
    isplitl [S3]; · (iexists f3; iexact S3)
    isplitl [S4]; · (iexists f4; iexact S4)
    isplitl [S5]; · (iexists f5; iexact S5)
    isplitl [S6]; · (iexists f6; iexact S6)
    iexact S7
  hexit c := by
    iintro ⟨Ha, HO, HY, -⟩
    imodintro
    isplitr [HO]
    · isplitl [Ha] <;> iassumption
    · unfold Pipeline.Dat.owesAt Pipeline.owesWithin
      icases HO with ⟨%W, -, HO⟩; iexists W; iexact HO

/-- What every execution ends with. -/
def QC : PUnit × MemSt nD τ sig (Elt F) → Prop := fun r =>
  ∀ c : Dev nD, (∀ w : Fin (cfgA m H).W, r.2.mem (((cfgA m H).win w).arr.view.loc (c : Thread nD τ)) = (dats m H 0 c).arrAt w (cfgA m H).N)
    ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7) ∧ r.2.mem ((c : Thread nD τ).loc main_arg9) = m ((c : Thread nD τ).loc main_arg9) ∧ r.2.mem ((c : Thread nD τ).loc main_arg10) = m ((c : Thread nD τ).loc main_arg10) ∧ r.2.mem ((c : Thread nD τ).loc main_arg11) = m ((c : Thread nD τ).loc main_arg11)

set_option backward.isDefEq.respectTransparency.types false in
theorem run_main : θ_run defs (onTc (τ := τ) (main (F := F))) (s₀ m ρ) (fun r => QC m H r ∧ r.2.sem = fun _ => 0) :=
  Pipeline.θ_run_regions_kit_sems (pcfgs (F := F)) (admF m H) (dats m H) () (cellOf_inj (admF m H)) EP defs₀ 𝒱₀ L lv m ρ main [.region (reg0 m H)]
    (fun c Q => by rw [main_segs (admF m H) (dats m H) () 𝒱₀ L lv (reg0 m H) c])
    (by simp only [Pipeline.Seg.pipes_region, Pipeline.Seg.pipes_nil]; decide) (O₀ := 0) (hL := fun _ _ => rfl) (G := fun _ => iprop(emp)) (u₀ := u₀ m H)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(unscopedBufs c (fun b => m ((c : Thread nD τ).loc b)) ∗ R c)) (Tₙ := Tₙ m H)
    (hch := ⟨fun _ => .rfl, fun _ => .rfl⟩)
    (hinit := by
      refine Pipeline.initEach L lv fun c => ?_
      iintro ⟨⟨Hh, -, HO, -, -, -⟩, -⟩
      imodintro
      isplitl [Hh]; · iexact Hh
      iexists ∅; iexact HO)
    (QY := fun c s => (∀ w : Fin (cfgA m H).W, s.mem (((cfgA m H).win w).arr.view.loc (c : Thread nD τ)) = (dats m H 0 c).arrAt w (cfgA m H).N)
      ∧ s.mem ((c : Thread nD τ).loc main_arg0) = m ((c : Thread nD τ).loc main_arg0) ∧ s.mem ((c : Thread nD τ).loc main_arg1) = m ((c : Thread nD τ).loc main_arg1) ∧ s.mem ((c : Thread nD τ).loc main_arg2) = m ((c : Thread nD τ).loc main_arg2) ∧ s.mem ((c : Thread nD τ).loc main_arg3) = m ((c : Thread nD τ).loc main_arg3) ∧ s.mem ((c : Thread nD τ).loc main_arg4) = m ((c : Thread nD τ).loc main_arg4) ∧ s.mem ((c : Thread nD τ).loc main_arg5) = m ((c : Thread nD τ).loc main_arg5) ∧ s.mem ((c : Thread nD τ).loc main_arg6) = m ((c : Thread nD τ).loc main_arg6) ∧ s.mem ((c : Thread nD τ).loc main_arg7) = m ((c : Thread nD τ).loc main_arg7) ∧ s.mem ((c : Thread nD τ).loc main_arg9) = m ((c : Thread nD τ).loc main_arg9) ∧ s.mem ((c : Thread nD τ).loc main_arg10) = m ((c : Thread nD τ).loc main_arg10) ∧ s.mem ((c : Thread nD τ).loc main_arg11) = m ((c : Thread nD τ).loc main_arg11))
    (hfin := fun c s' => by
      dsimp only [Tₙ, weights, tables]
      iintro ⟨⟨Ha, ⟨Ht0, Ht1, Ht2, Ht3, Ht4, Ht5, Ht6, Ht7⟩, H9, H10, H11⟩, HSI⟩
      icombine HSI Ht0 gives %et0
      icombine HSI Ht1 gives %et1
      icombine HSI Ht2 gives %et2
      icombine HSI Ht3 gives %et3
      icombine HSI Ht4 gives %et4
      icombine HSI Ht5 gives %et5
      icombine HSI Ht6 gives %et6
      icombine HSI Ht7 gives %et7
      icombine HSI H9 gives %e9
      icombine HSI H10 gives %e10
      icombine HSI H11 gives %e11
      ihave Hr := (Pipeline.arrays_read (pcfgs (F := F)) (admF m H) (dats m H) (launch0 (F := F)).arr_whole c ((dats m H 0 c).share_full fun _ => rfl) _ s') $$ [Ha HSI]
      · isplitl [Ha] <;> iassumption
      icases Hr with ⟨%ha, HSI⟩
      imodintro
      isplitr
      · ipureintro
        exact ⟨ha, Buf.eq_of_forall_mem_univ et0, Buf.eq_of_forall_mem_univ et1, Buf.eq_of_forall_mem_univ et2, Buf.eq_of_forall_mem_univ et3, Buf.eq_of_forall_mem_univ et4, Buf.eq_of_forall_mem_univ et5, Buf.eq_of_forall_mem_univ et6, Buf.eq_of_forall_mem_univ et7, Buf.eq_of_forall_mem_univ e9, Buf.eq_of_forall_mem_univ e10, Buf.eq_of_forall_mem_univ e11⟩
      iexact HSI)
    (hQ := fun _ h hz => ⟨h, funext fun g => hz g (.inr (by revert g; decide))⟩)

end Cert.Proof.Experts

end
-- ==== Proof.Plan.lean ====
/-
  What the experts' precondition says: its seven conjunctions read off its one bit, as the schedule the run takes.
-/
module

public import proofs.«01_k».proof.Pre_tiles_scheduled
public import proofs.«01_k».proof.Proof.Step
public import Idealize.ShloMosaic.Lib.ReduceAll

@[expose] public section

set_option maxRecDepth 16384

noncomputable section

namespace Cert.Proof.Experts

open Cert.Pre_tiles_scheduled Cert.Pre_tiles_scheduled.Facts
open Idealize.ShloMosaic

variable {F : FTy → Type} [FloatOps F] [Cert.Pre_tiles_scheduled.Facts]

theorem bit_of (p : Bool) : BitVec.ofBool p = 1#1 ↔ p = true := by cases p <;> decide
theorem bit_or {a b : BitVec 1} : IntOp.ori a b = 1#1 ↔ a = 1#1 ∨ b = 1#1 := by revert a b; decide

theorem ge_word {v w : BitVec 32} : IntOp.cmpi .sge v w = 1#1 ↔ w.toInt ≤ v.toInt := by
  show BitVec.ofBool (BitVec.sle w v) = 1#1 ↔ _
  rw [bit_of, BitVec.sle, decide_eq_true_eq]
theorem le_word {v w : BitVec 32} : IntOp.cmpi .sle v w = 1#1 ↔ v.toInt ≤ w.toInt := by
  show BitVec.ofBool (BitVec.sle v w) = 1#1 ↔ _
  rw [bit_of, BitVec.sle, decide_eq_true_eq]
theorem lt_word {v w : BitVec 32} : IntOp.cmpi .slt v w = 1#1 ↔ v.toInt < w.toInt := by
  show BitVec.ofBool (BitVec.slt v w) = 1#1 ↔ _
  rw [bit_of, BitVec.slt, decide_eq_true_eq]
theorem eq_word {v w : BitVec 32} : IntOp.cmpi .eq v w = 1#1 ↔ v = w := by
  show BitVec.ofBool (v == w) = 1#1 ↔ _
  rw [bit_of, beq_iff_eq]
theorem ne_word {v w : BitVec 32} : IntOp.cmpi .ne v w = 1#1 ↔ v ≠ w := by
  show BitVec.ofBool (v != w) = 1#1 ↔ _
  rw [bit_of, bne_iff_ne]

theorem int_nat {v : BitVec 32} (h : 0 ≤ v.toInt) : v.toInt = v.toNat := by
  simp only [BitVec.toInt] at h ⊢
  split at h
  · rw [if_pos ‹_›]
  · have := v.isLt; omega

theorem int_small {v : BitVec 32} (h : v.toNat < 1000) : v.toInt = v.toNat := by
  simp only [BitVec.toInt]
  rw [if_pos (by omega)]

theorem small_word {n : ℕ} (h : n < 1000) : (BitVec.ofNat 32 n).toNat = n := by
  rw [BitVec.toNat_ofNat]; exact Nat.mod_eq_of_lt (by omega)

theorem min_word {a b : BitVec 32} (ha : a.toNat < 1000) (hb : b.toNat < 1000) : (IntOp.minsi a b).toNat = min a.toNat b.toNat := by
  unfold IntOp.minsi
  have e : BitVec.slt a b = true ↔ a.toNat < b.toNat := by
    rw [BitVec.slt, decide_eq_true_eq, int_small ha, int_small hb]; omega
  by_cases h : a.toNat < b.toNat
  · rw [if_pos (e.2 h)]; omega
  · rw [if_neg (fun x => h (e.1 x))]; omega

theorem less_one {v : BitVec 32} (h1 : 1 ≤ v.toNat) : (IntOp.subi v 1#32).toNat = v.toNat - 1 := by
  show (v - 1#32).toNat = _
  rw [BitVec.toNat_sub]
  have := v.isLt
  show (2 ^ 32 - 1 + v.toNat) % 2 ^ 32 = _
  omega

theorem read_word {j : ℕ} {v : BitVec 32} (hj : j ≤ 320) (h1 : 1 ≤ v.toNat) (h2 : v.toNat ≤ 320) :
    (IntOp.minsi (BitVec.ofNat 32 j) (IntOp.subi v 1#32)).toNat = min j (v.toNat - 1) := by
  rw [min_word (by rw [small_word (by omega)]; omega) (by rw [less_one h1]; omega), less_one h1, small_word (by omega)]

theorem less_zero : ∀ j : Fin 321, (IntOp.maxsi (IntOp.subi (BitVec.ofNat 32 j.val) 1#32) 0#32).toNat = j.val - 1 := by decide +kernel

theorem write_word {j : ℕ} {v : BitVec 32} (hj : j ≤ 320) (h1 : 1 ≤ v.toNat) (h2 : v.toNat ≤ 320) :
    (IntOp.minsi (IntOp.maxsi (IntOp.subi (BitVec.ofNat 32 j) 1#32) 0#32) (IntOp.subi v 1#32)).toNat = min (j - 1) (v.toNat - 1) := by
  have e := less_zero ⟨j, by omega⟩
  have e : (IntOp.maxsi (IntOp.subi (BitVec.ofNat 32 j) 1#32) 0#32).toNat = j - 1 := e
  rw [min_word (by rw [e]; omega) (by rw [less_one h1]; omega), less_one h1, e]

theorem one_ix (x : Cert.Kernel2Ideal.S1.Idx) : x = at1 := by
  funext a
  fin_cases a
  exact Subsingleton.elim (α := Fin 1) _ _

abbrev ix320 (j : ℕ) : S320.Idx := fun | 0 => ⟨min j 319, by show min j 319 < 320; omega⟩

theorem first_part (X : IVec S321 32) (h) (j : ℕ) (hj : j < 320) : extractStridedSlice S320 ![0] X h (ix320 j) = X (k321 j) := by
  refine congrArg X (funext fun a => Fin.ext ?_)
  fin_cases a
  show 0 + min j 319 = min j 320
  omega
theorem later_part (X : IVec S321 32) (h) (j : ℕ) (hj : j < 320) : extractStridedSlice S320 ![1] X h (ix320 j) = X (k321 (j + 1)) := by
  refine congrArg X (funext fun a => Fin.ext ?_)
  fin_cases a
  show 1 + min j 319 = min (j + 1) 320
  omega

theorem planned (T TI TO Fst N S P : IVec S321 32) (NU : IVec S1 32) (h1 : FVec F S81920x4096 .bf16) (h2 h3 : FVec F S2x64x4096x384 .f32) (h4 : FVec F S2x64x384x4096 .f32)
    (h : fn (F := F) T TI TO Fst N S P NU h1 h2 h3 h4 = fun _ => 1#1) : Sched T TI TO Fst N S P (NU at1).toNat := by
  have e := congrFun h (fun a => a.elim0)
  obtain ⟨e, c71⟩ := IntOp.andi_eq_one.1 (show IntOp.andi _ _ = 1#1 from e)
  obtain ⟨e, c67⟩ := IntOp.andi_eq_one.1 (show IntOp.andi _ _ = 1#1 from e)
  obtain ⟨e, c60⟩ := IntOp.andi_eq_one.1 (show IntOp.andi _ _ = 1#1 from e)
  obtain ⟨e, c33⟩ := IntOp.andi_eq_one.1 (show IntOp.andi _ _ = 1#1 from e)
  obtain ⟨e, c19⟩ := IntOp.andi_eq_one.1 (show IntOp.andi _ _ = 1#1 from e)
  obtain ⟨c4, c13⟩ := IntOp.andi_eq_one.1 (show IntOp.andi _ _ = 1#1 from e)
  obtain ⟨c2, c3⟩ := IntOp.andi_eq_one.1 (show IntOp.andi _ _ = 1#1 from c4)
  have e1 : shapeCast S_ NU shapeCasts_S1_S_ (fun a => a.elim0) = NU at1 := congrArg NU (one_ix _)
  have c2 := (ge_word.1 (show IntOp.cmpi .sge (shapeCast S_ NU shapeCasts_S1_S_ (fun a => a.elim0)) 1#32 = 1#1 from c2))
  have c3 := (le_word.1 (show IntOp.cmpi .sle (shapeCast S_ NU shapeCasts_S1_S_ (fun a => a.elim0)) 320#32 = 1#1 from c3))
  rw [e1] at c2 c3
  have k0 : (0#32 : BitVec 32).toInt = 0 := by decide
  have k1 : (1#32 : BitVec 32).toInt = 1 := by decide
  have k64 : (64#32 : BitVec 32).toInt = 64 := by decide
  have k320 : (320#32 : BitVec 32).toInt = 320 := by decide
  rw [k1] at c2
  rw [k320] at c3
  have en := int_nat (v := NU at1) (by omega)
  have hp : 1 ≤ (NU at1).toNat := by omega
  have hl : (NU at1).toNat ≤ 320 := by omega
  have A : ∀ j, IntOp.andi (IntOp.andi (IntOp.cmpi .sge (T (k321 j)) 0#32) (IntOp.cmpi .slt (T (k321 j)) 64#32)) (IntOp.cmpi .slt (N (k321 j)) 64#32) = 1#1 :=
    fun j => Host.reduce_andi_all _ _ _ _ _ c13 (k321 j)
  have B : ∀ j, IntOp.ori (IntOp.cmpi .eq (S (k321 j)) 0#32) (IntOp.cmpi .eq (S (k321 j)) 1#32) = 1#1 :=
    fun j => Host.reduce_andi_all _ _ _ _ _ c19 (k321 j)
  have C : ∀ j, IntOp.andi (IntOp.cmpi .eq (TI (k321 j)) (IntOp.minsi (BitVec.ofNat 32 (min j 320)) (IntOp.subi (shapeCast S_ NU shapeCasts_S1_S_ (fun a => a.elim0)) 1#32)))
      (IntOp.cmpi .eq (TO (k321 j)) (IntOp.minsi (IntOp.maxsi (IntOp.subi (BitVec.ofNat 32 (min j 320)) 1#32) 0#32) (IntOp.subi (shapeCast S_ NU shapeCasts_S1_S_ (fun a => a.elim0)) 1#32))) = 1#1 :=
    fun j => Host.reduce_andi_all _ _ _ _ _ c33 (k321 j)
  rw [e1] at C
  have D : ∀ j, j < 320 → IntOp.andi (Scalar.select (IntOp.cmpi .eq (Fst (k321 (j + 1))) 1#32)
      (IntOp.andi (IntOp.cmpi .eq (N (k321 j)) (T (k321 (j + 1)))) (IntOp.cmpi .ne (S (k321 (j + 1))) (S (k321 j))))
      (IntOp.andi (IntOp.andi (IntOp.cmpi .eq (T (k321 (j + 1))) (T (k321 j))) (IntOp.cmpi .eq (N (k321 (j + 1))) (N (k321 j)))) (IntOp.cmpi .eq (S (k321 (j + 1))) (S (k321 j)))))
      (IntOp.cmpi .eq (P (k321 (j + 1))) (S (k321 j))) = 1#1 := fun j hj => by
    have a := Host.reduce_andi_all _ _ _ _ _ c60 (ix320 j)
    rw [← later_part Fst slices_S321_S320_1 j hj, ← later_part T slices_S321_S320_1 j hj, ← later_part N slices_S321_S320_1 j hj, ← later_part S slices_S321_S320_1 j hj,
      ← later_part P slices_S321_S320_1 j hj, ← first_part T slices_S321_S320_0 j hj, ← first_part N slices_S321_S320_0 j hj, ← first_part S slices_S321_S320_0 j hj]
    exact a
  have hN : ∀ j, Cert.Kernel2Ideal.k0_cond3 (N (k321 j)) = 1#1 → (N (k321 j)).toNat < 64 := fun j hc => by
    obtain ⟨-, a⟩ := IntOp.andi_eq_one.1 (A j)
    have a := lt_word.1 a
    rw [k64] at a
    by_cases hz : (N (k321 j)).toInt < 0
    · exact absurd hc (cond3_neg hz)
    · have := int_nat (v := N (k321 j)) (by omega)
      omega
  have hF : ∀ j, Fst (k321 j) ≠ 1#32 → IntOp.cmpi .eq (Fst (k321 j)) 1#32 = 0#1 := fun j hn => by
    rcases bit_cases (IntOp.cmpi .eq (Fst (k321 j)) 1#32) with a | a
    · exact a
    · exact absurd (eq_word.1 a) hn
  refine { pos := hp, le := hl, te := fun j => ?_, nxt := hN, slot := fun j => ?_, first := ?_, next := fun j hj hf => ?_, same := fun j hj hf => ?_, prev := fun j hj => ?_, last := ?_, read := fun j hj => ?_, write := fun j hj => ?_ }
  · obtain ⟨a, -⟩ := IntOp.andi_eq_one.1 (A j)
    obtain ⟨a, b⟩ := IntOp.andi_eq_one.1 a
    have a := ge_word.1 a
    have b := lt_word.1 b
    rw [k0] at a
    rw [k64] at b
    have := int_nat a
    omega
  · rcases bit_or.1 (B j) with a | a
    · rw [eq_word.1 a]; decide
    · rw [eq_word.1 a]; decide
  · have a := eq_word.1 (show IntOp.cmpi .eq (shapeCast S_ (extractStridedSlice S1 ![0] Fst slices_S321_S1_0) shapeCasts_S1_S_ (fun a => a.elim0)) 1#32 = 1#1 from c67)
    refine Eq.trans (congrArg Fst (funext fun x => Fin.ext ?_)) a
    fin_cases x
    show min 0 320 = 0 + _
    exact (congrArg (fun z : Cert.Kernel2Ideal.S1.Idx => 0 + (z 0).val) (one_ix (Shape.reshapeEquiv shapeCasts_S1_S_ (fun a => a.elim0)))).symm
  · have a := (IntOp.andi_eq_one.1 (D j hj)).1
    rw [hf] at a
    obtain ⟨a, b⟩ := IntOp.andi_eq_one.1 (show IntOp.andi _ _ = 1#1 from a)
    exact ⟨eq_word.1 a, fun hh => ne_word.1 b (BitVec.eq_of_toNat_eq hh)⟩
  · have a := (IntOp.andi_eq_one.1 (D j hj)).1
    rw [hF _ hf] at a
    obtain ⟨a, b⟩ := IntOp.andi_eq_one.1 (show IntOp.andi _ _ = 1#1 from a)
    obtain ⟨a, d⟩ := IntOp.andi_eq_one.1 a
    exact ⟨eq_word.1 a, eq_word.1 d, eq_word.1 b⟩
  · exact eq_word.1 (IntOp.andi_eq_one.1 (D j hj)).2
  · have a := lt_word.1 (show IntOp.cmpi .slt (shapeCast S_ (extractStridedSlice S1 ![320] N slices_S321_S1_320) shapeCasts_S1_S_ (fun a => a.elim0)) 0#32 = 1#1 from c71)
    rw [k0] at a
    refine cond3_neg ?_
    refine Eq.mpr (congrArg (fun z : BitVec 32 => z.toInt < 0) (congrArg N (funext fun x => Fin.ext ?_))) a
    fin_cases x
    show min 320 320 = 320 + _
    exact (congrArg (fun z : Cert.Kernel2Ideal.S1.Idx => 320 + (z 0).val) (one_ix (Shape.reshapeEquiv shapeCasts_S1_S_ (fun a => a.elim0)))).symm
  · rw [eq_word.1 (IntOp.andi_eq_one.1 (C j)).1, show min j 320 = j by omega]
    exact read_word hj hp hl
  · rw [eq_word.1 (IntOp.andi_eq_one.1 (C j)).2, show min j 320 = j by omega]
    exact write_word hj hp hl

end Cert.Proof.Experts

end
-- ==== Proof.Ends.lean ====
/-
  The frames of the experts' call: from any memory whose tables hold a schedule, every argument ends as it was and every counter
  zero — at either instance, for the two programs are the same text.
-/
module

public import proofs.«01_k».proof.Defs
public import proofs.«01_k».proof.Proof.Grid
public import proofs.«01_k».proof.Proof.Plan
public import proofs.«01_k».proof.Proof.Gen.Kernel2
public import proofs.«01_k».proof.Proof.Gen.Kernel2Ideal
public import proofs.«01_k».proof.Proof.Gen.Reference2Ideal.Run
public import proofs.«01_k».proof.Proof.Gen.Pre_tiles_scheduled

@[expose] public section

set_option maxRecDepth 16384

noncomputable section

namespace Cert.Proof.Experts

open Cert.Kernel2Ideal Cert.Kernel2Ideal.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- The precondition at a core, read off as a schedule. -/
theorem planned_of (c : Dev nD)
    (h : Cert.Pre_tiles_scheduled.fn (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) = fun _ => 1#1) : Planned m c :=
  planned _ _ _ _ _ _ _ _ _ _ _ _ h

variable (H : ∀ c, Planned m c)

theorem rows_kept {r : PUnit × MemSt nD τ sig (Elt F)} (h : QC m H r) (c : Dev nD) : r.2.mem ((c : Thread nD τ).loc main_arg8) = m ((c : Thread nD τ).loc main_arg8) :=
  ((h c).1 0).trans (((dats m H 0 c).arrAt_in 0 rfl _).trans (A_eq m H c 0))

theorem args_kept {r : PUnit × MemSt nD τ sig (Elt F)} (h : QC m H r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11) :=
  ⟨(h c).2.1, (h c).2.2.1, (h c).2.2.2.1, (h c).2.2.2.2.1, (h c).2.2.2.2.2.1, (h c).2.2.2.2.2.2.1, (h c).2.2.2.2.2.2.2.1, (h c).2.2.2.2.2.2.2.2.1,
    rows_kept m H h c, (h c).2.2.2.2.2.2.2.2.2.1, (h c).2.2.2.2.2.2.2.2.2.2.1, (h c).2.2.2.2.2.2.2.2.2.2.2⟩

theorem frame_ideal : Cert.quiescent_Kernel2Ideal := fun m ρ hp =>
  (θ_run Cert.Kernel2Ideal.defs _ _).mono (fun _ h => ⟨fun c => args_kept m (fun c => planned_of m c (hp c)) h.1 c, h.2⟩)
    (run_main (F := Ideal) m ρ fun c => planned_of m c (hp c))

/-- The two instances' programs are the same text. -/
theorem body_same : @Cert.Kernel2.cc0_experts Bits _ Cert.Kernel2.Gen.facts = @Cert.Kernel2Ideal.cc0_experts Bits _ Cert.Kernel2Ideal.Gen.facts := by
  funext i a1 b1 a2 b2 a3 b3 a4 b4 a5 b5 a6 b6 a7 b7 a8 b8 a9 b9 a10 b10 a11 b11 a12 b12 a13 b13 a14 b14 a15 b15 a16 b16 a17 b17 a18 b18 a19 b19 a20 b20 a21 b21 s
  unfold Cert.Kernel2.cc0_experts Cert.Kernel2Ideal.cc0_experts
  rfl
theorem bodies_same : Cert.Kernel2.defs₀ (F := Bits) = Cert.Kernel2Ideal.defs₀ (F := Bits) := by
  unfold Cert.Kernel2.defs₀ Cert.Kernel2Ideal.defs₀
  rw [body_same]
  refine congrArg Defs.onTc (funext fun k => funext fun a => ?_)
  match k, a with
  | ⟨0, _⟩, (t, s) => rfl
theorem defs_same : Cert.Kernel2.defs (F := Bits) = Cert.Kernel2Ideal.defs (F := Bits) := by
  unfold Cert.Kernel2.defs Cert.Kernel2Ideal.defs
  rw [bodies_same]
  rfl

theorem frame_kernel : Cert.quiescent_Kernel2 := fun m ρ hp => by
  rw [defs_same]
  exact (θ_run Cert.Kernel2Ideal.defs _ _).mono (fun _ h => ⟨fun c => args_kept (F := Bits) m (fun c => planned_of (F := Bits) m c (hp c)) h.1 c, h.2⟩)
    (run_main (F := Bits) m ρ fun c => planned_of (F := Bits) m c (hp c))

theorem frame_reference : Cert.quiescent_Reference2Ideal := fun m ρ _ =>
  (θ_run Cert.Reference2Ideal.defs _ _).mono (fun _ h => ⟨fun c => (h c).2, Idealize.ShloMosaic.sem_eq_zero_of_no_sems (by decide) _⟩) (Cert.Reference2Ideal.Value.run (F := Ideal) m ρ)

end Cert.Proof.Experts

end
-- ==== Proof.Blocks.lean ====
/-
  What the experts' call leaves in the rows of the tiles: a tile's output is written back after the next tile's point, and the last
  tile's after the last point.
-/
module

public import proofs.«01_k».proof.Proof.Ends
public import Idealize.ShloMosaic.Lib.Pipeline.Value

@[expose] public section

set_option maxRecDepth 16384

noncomputable section

namespace Cert.Proof.Experts

open Cert.Kernel2Ideal Cert.Kernel2Ideal.Gen
open Idealize.ShloMosaic Idealize.ShloMosaic.TcCoe

variable {F : FTy → Type} [FloatOps F]
variable (m : (ℓ : Loc nD τ sig) → Buf (Elt F) ℓ) (H : ∀ c, Planned m c)

/-- The tiles' outputs, one under the other. -/
def outs (c : Dev nD) : S81920x4096.Idx → Elt F .bf16 := fun x =>
  yT (tG m c) (tU m c) (tD m c) (H c) (xb m c) ((x 0).val / 256) (at2 (a := 256) (b := 4096) ⟨(x 0).val % 256, Nat.mod_lt _ (by decide)⟩ (x 1))

theorem flushed_out (c : Dev nD) (t : Fin (cfgA m H).N) :
    (dats m H 0 c).flushed 1 t = (((cfgA m H).win 1).blk t).view.read (Elt F) (outs m H c) := by
  obtain rfl : c = 0 := Subsingleton.elim _ _
  refine funext fun y : S256x4096.Idx => ?_
  have hy : (y 0).val < 256 := (y 0).isLt
  have e0 : ((((cfgA m H).win 1).blk t).view.emb y (0 : Fin 2)).val = min (t.val - 1) (nT m 0 - 1) * 256 + 1 * (y 0).val := by
    show ((cfgA m H).win 1).index t (0 : Fin 2) * 256 + 1 * (y 0).val = _
    rw [index_out]; rfl
  have e1 : ((((cfgA m H).win 1).blk t).view.emb y (1 : Fin 2)).val = (y 1).val := by
    show ((cfgA m H).win 1).index t (1 : Fin 2) * 4096 + 1 * (y 1).val = _
    rw [index_out]
    show 0 * 4096 + 1 * (y 1).val = (y 1).val
    omega
  show yT (tG m 0) (tU m 0) (tD m 0) (H 0) (xb m 0) (min (t.val - 1) (nT m 0 - 1)) y
    = yT (tG m 0) (tU m 0) (tD m 0) (H 0) (xb m 0) (((((cfgA m H).win 1).blk t).view.emb y (0 : Fin 2)).val / 256)
        (at2 (a := 256) (b := 4096) ⟨((((cfgA m H).win 1).blk t).view.emb y (0 : Fin 2)).val % 256, Nat.mod_lt _ (by decide)⟩ ((((cfgA m H).win 1).blk t).view.emb y (1 : Fin 2)))
  refine congrArg₂ (fun j z => yT (tG m 0) (tU m 0) (tD m 0) (H 0) (xb m 0) j z) (by rw [e0]; omega) (funext fun a => Fin.ext ?_)
  fin_cases a
  · show (y 0).val = ((((cfgA m H).win 1).blk t).view.emb y (0 : Fin 2)).val % 256
    rw [e0]; omega
  · exact e1.symm

theorem covered (i : S81920x4096.Idx) (hi : (i 0).val / 256 < nT m 0) :
    ∃ t : Fin (cfgA m H).N, ((cfgA m H).win 1).flush t = true ∧ i ∈ (((cfgA m H).win 1).blk t).view.set := by
  have hN : (cfgA m H).N = 321 := N_0
  have h1 := (H 0).pos
  have h2 := (H 0).le
  have key : ∀ t : Fin (cfgA m H).N, min (t.val - 1) (nT m 0 - 1) = (i 0).val / 256 → i ∈ (((cfgA m H).win 1).blk t).view.set := fun t ht => by
    have e : i = (((cfgA m H).win 1).blk t).view.emb (at2 (a := 256) (b := 4096) ⟨(i 0).val % 256, Nat.mod_lt _ (by decide)⟩ (i 1)) := by
      refine funext fun a => Fin.ext ?_
      fin_cases a
      · show (i 0).val = ((cfgA m H).win 1).index t (0 : Fin 2) * 256 + 1 * ((i 0).val % 256)
        rw [index_out]
        show (i 0).val = min (t.val - 1) (nT m 0 - 1) * 256 + 1 * ((i 0).val % 256)
        rw [ht]; omega
      · show (i 1).val = ((cfgA m H).win 1).index t (1 : Fin 2) * 4096 + 1 * (i 1).val
        rw [index_out]
        show (i 1).val = 0 * 4096 + 1 * (i 1).val
        omega
    exact Eq.mpr (congrArg (fun z => z ∈ (((cfgA m H).win 1).blk t).view.set) e) ((((cfgA m H).win 1).blk t).view.emb_mem_set _)
  by_cases hl : (i 0).val / 256 + 1 < nT m 0
  · have ht : (i 0).val / 256 + 1 < (cfgA m H).N := by omega
    refine ⟨⟨(i 0).val / 256 + 1, ht⟩, (Pipeline.Window.flush_out _ rfl _).2 (Or.inr ⟨by show (i 0).val / 256 + 1 + 1 < (cfgA m H).N; omega, fun e => ?_⟩), key _ (by show min ((i 0).val / 256 + 1 - 1) _ = _; omega)⟩
    have e := congrFun e (0 : Fin 2)
    rw [index_out, index_out] at e
    have e' : min ((i 0).val / 256 + 1 + 1 - 1) (nT m 0 - 1) = min ((i 0).val / 256 + 1 - 1) (nT m 0 - 1) := e
    omega
  · have ht : 320 < (cfgA m H).N := by omega
    exact ⟨⟨320, ht⟩, (Pipeline.Window.flush_out _ rfl _).2 (Or.inl (by show 320 + 1 = (cfgA m H).N; omega)), key _ (by show min (320 - 1) _ = _; omega)⟩

theorem final_out (c : Dev nD) (i : S81920x4096.Idx) (hi : (i 0).val / 256 < nT m c) : (dats m H 0 c).arrAt 1 (cfgA m H).N i = outs m H c i := by
  obtain rfl : c = 0 := Subsingleton.elim _ _
  exact ((dats m H 0 0).arrAt_eq_piecewise 1 (outs m H 0) (fun t _ => flushed_out m H 0 t) i).trans (if_pos (covered m H i hi))

end Cert.Proof.Experts

end
-- ==== Proof.Value.lean ====
/-
  A tile's output at the ideal instance, element by element: the hidden rows from the sums over all 4096 columns, whatever the
  chunks' order, and the output from the sum over the 384 hidden columns.
-/
module

public import proofs.«01_k».proof.Proof.Step
public import Idealize.ShloMosaic.Lib.Pointwise
public import Idealize.ShloMosaic.Lib.ValueLayout

@[expose] public section

set_option maxRecDepth 16384

noncomputable section

namespace Cert.Proof.Experts

open Cert.Kernel2Ideal Cert.Kernel2Ideal.Gen
open Idealize.ShloMosaic Idealize.ShloMosaic.TcCoe

/-- A sum over 4096 columns in chunks of 512, a low one with a high one. -/
theorem sum_chunks (f : Fin 4096 → EReal) : ∑ k, f k
    = (((∑ k : Fin 512, f ⟨0 + k.val, by omega⟩) + (∑ k : Fin 512, f ⟨2048 + k.val, by omega⟩))
      + ((∑ k : Fin 512, f ⟨512 + k.val, by omega⟩) + (∑ k : Fin 512, f ⟨2560 + k.val, by omega⟩))
      + ((∑ k : Fin 512, f ⟨1024 + k.val, by omega⟩) + (∑ k : Fin 512, f ⟨3072 + k.val, by omega⟩))
      + ((∑ k : Fin 512, f ⟨1536 + k.val, by omega⟩) + (∑ k : Fin 512, f ⟨3584 + k.val, by omega⟩))) := by
  obtain ⟨g, hg⟩ : ∃ g : ℕ → EReal, ∀ n (h : n < 4096), f ⟨n, h⟩ = g n := ⟨fun n => if h : n < 4096 then f ⟨n, h⟩ else 0, fun n h => by simp only [dif_pos h]⟩
  have e : ∑ k, f k = ∑ k ∈ Finset.range 4096, g k := by
    rw [← Fin.sum_univ_eq_sum_range]
    exact Finset.sum_congr rfl fun k _ => hg k.val k.isLt
  have c : ∀ o (ho : o + 512 ≤ 4096), ∑ k : Fin 512, f ⟨o + k.val, by have := k.isLt; omega⟩ = ∑ k ∈ Finset.range 512, g (o + k) := fun o ho => by
    rw [← Fin.sum_univ_eq_sum_range (fun k => g (o + k))]
    exact Finset.sum_congr rfl fun k _ => hg _ _
  rw [e, c 0 (by omega), c 512 (by omega), c 1024 (by omega), c 1536 (by omega), c 2048 (by omega), c 2560 (by omega), c 3072 (by omega), c 3584 (by omega)]
  have st : ∀ n, ∑ k ∈ Finset.range (n + 512), g k = ∑ k ∈ Finset.range n, g k + ∑ k ∈ Finset.range 512, g (n + k) := fun n => Finset.sum_range_add g n 512
  have t := (st 3584).trans (congrArg (· + _) ((st 3072).trans (congrArg (· + _) ((st 2560).trans (congrArg (· + _) ((st 2048).trans (congrArg (· + _)
    ((st 1536).trans (congrArg (· + _) ((st 1024).trans (congrArg (· + _) (st 512))))))))))))
  refine t.trans ?_
  simp only [zero_add]
  ac_rfl

theorem cols_at (X : S256x4096.Idx → Elt Ideal .bf16) (o : ℕ) (h) (p : Fin 256) (k : Fin 512) (ho : o + k.val < 4096) :
    VecWindow.window X ![0, o] S256x512.size h (ix2 p k) = X (ix2 p ⟨o + k.val, ho⟩) := by
  refine congrArg X (funext fun a => Fin.ext ?_)
  fin_cases a
  · show 0 + 1 * p.val = p.val; omega
  · show o + 1 * k.val = o + k.val; omega

theorem rows_at (W : S4096x768.Idx → Elt Ideal .bf16) (o : ℕ) (h) (k : Fin 512) (j : Fin 768) (ho : o + k.val < 4096) :
    VecWindow.window W ![o, 0] S512x768.size h (ix2 k j) = W (ix2 ⟨o + k.val, ho⟩ j) := by
  refine congrArg W (funext fun a => Fin.ext ?_)
  fin_cases a
  · show o + 1 * k.val = o + k.val; omega
  · show 0 + 1 * j.val = j.val; omega

/-- A tile against the two matrices. -/
theorem acc4_at (X : S256x4096.Idx → Elt Ideal .bf16) (W : S4096x768.Idx → Elt Ideal .bf16) (p : Fin 256) (j : Fin 768) :
    acc4 (F := Ideal) X W (ix2 p j) = ∑ k : Fin 4096, (X (ix2 p k) * W (ix2 k j) : EReal) := by
  refine Eq.trans ?_ (sum_chunks (fun k => (X (ix2 p k) * W (ix2 k j) : EReal))).symm
  have e1 : ∀ o (ho : o + 512 ≤ 4096) (h h'), ∑ k : Fin 512, (VecWindow.window X ![0, o] S256x512.size h (ix2 p k) * VecWindow.window W ![o, 0] S512x768.size h' (ix2 k j) : EReal)
      = ∑ k : Fin 512, (X (ix2 p ⟨o + k.val, by have := k.isLt; omega⟩) * W (ix2 ⟨o + k.val, by have := k.isLt; omega⟩ j) : EReal) := fun o ho h h' =>
    Finset.sum_congr rfl fun k _ => congrArg₂ (fun a b : EReal => a * b) (cols_at X o h p k (by have := k.isLt; omega)) (rows_at W o h' k j (by have := k.isLt; omega))
  refine Eq.trans ?_ (congrArg₂ (· + ·) (congrArg₂ (· + ·) (congrArg₂ (· + ·)
    (congrArg₂ (· + ·) (e1 0 (by omega) inb_S256x4096_S256x512_0_0 inb_S4096x768_S512x768_0_0) (e1 2048 (by omega) inb_S256x4096_S256x512_0_2048 inb_S4096x768_S512x768_2048_0))
    (congrArg₂ (· + ·) (e1 512 (by omega) inb_S256x4096_S256x512_0_512 inb_S4096x768_S512x768_512_0) (e1 2560 (by omega) inb_S256x4096_S256x512_0_2560 inb_S4096x768_S512x768_2560_0)))
    (congrArg₂ (· + ·) (e1 1024 (by omega) inb_S256x4096_S256x512_0_1024 inb_S4096x768_S512x768_1024_0) (e1 3072 (by omega) inb_S256x4096_S256x512_0_3072 inb_S4096x768_S512x768_3072_0)))
    (congrArg₂ (· + ·) (e1 1536 (by omega) inb_S256x4096_S256x512_0_1536 inb_S4096x768_S512x768_1536_0) (e1 3584 (by omega) inb_S256x4096_S256x512_0_3584 inb_S4096x768_S512x768_3584_0)))
  pointwise [acc4, acc3, acc2, acc1, k0_pay8, k0_pay9, k0_pay10, k0_pay11]

theorem gmat_at (A : S2x64x4096x384.Idx → Elt Ideal .f32) (v : BitVec 32) (hv : v.toNat < 64) (h) (k : Fin 4096) (j : Fin 384) :
    gmat A v h (ix2 k j) = A (ix4 (0 : Fin 2) (⟨v.toNat, hv⟩ : Fin 64) k j) := by
  refine Eq.trans (congrArg (fun z => A ((Rect.unit (s := S2x64x4096x384) (k0_off2 v) S1x1x4096x384.size h).emb z)) (ValueIdx.reshapeEquiv_ix2_11ab (a := 4096) (b := 384) squeezes_S1x1x4096x384_S4096x384.numel_eq k j)) ?_
  refine congrArg A (funext fun a => Fin.ext ?_)
  fin_cases a
  · rfl
  · show v.toNat + 1 * 0 = v.toNat; omega
  · show 0 + 1 * k.val = k.val; omega
  · show 0 + 1 * j.val = j.val; omega

theorem dmat_at (A : S2x64x384x4096.Idx → Elt Ideal .f32) (v : BitVec 32) (hv : v.toNat < 64) (h) (f : Fin 384) (q : Fin 4096) :
    dmat A v h (ix2 f q) = A (ix4 (0 : Fin 2) (⟨v.toNat, hv⟩ : Fin 64) f q) := by
  refine Eq.trans (congrArg (fun z => A ((Rect.unit (s := S2x64x384x4096) (k0_off3 v) S1x1x384x4096.size h).emb z)) (ValueIdx.reshapeEquiv_ix2_11ab (a := 384) (b := 4096) squeezes_S1x1x384x4096_S384x4096.numel_eq f q)) ?_
  refine congrArg A (funext fun a => Fin.ext ?_)
  fin_cases a
  · rfl
  · show v.toNat + 1 * 0 = v.toNat; omega
  · show 0 + 1 * f.val = f.val; omega
  · show 0 + 1 * q.val = q.val; omega

theorem pay5_at (a) (k : Fin 4096) (j : Fin 384) : k0_pay5 (F := Ideal) a (ix2 k j) = a (ix2 k j) := by pointwise [k0_pay5]
theorem pay6_at (a) (k : Fin 4096) (j : Fin 384) : k0_pay6 (F := Ideal) a (ix2 k j) = a (ix2 k j) := by pointwise [k0_pay6]
theorem pay7_at (a) (f : Fin 384) (q : Fin 4096) : k0_pay7 (F := Ideal) a (ix2 f q) = a (ix2 f q) := by pointwise [k0_pay7]

theorem at2_ix2 {a b : ℕ} (i : Fin a) (j : Fin b) : at2 i j = ix2 i j := by funext x; fin_cases x <;> rfl

theorem gate_cols (G U : S4096x384.Idx → Elt Ideal .f32) (k : Fin 4096) (j : Fin 384) :
    wguOf G U (ix2 k ⟨j.val, by omega⟩) = G (ix2 k j) := by
  unfold wguOf
  rw [dif_pos (show ((ix2 k (⟨j.val, by omega⟩ : Fin 768) : S4096x768.Idx) 1).val < 384 from j.isLt)]
  exact (congrArg (k0_pay5 G) (at2_ix2 k j)).trans (pay5_at G k j)

theorem up_cols (G U : S4096x384.Idx → Elt Ideal .f32) (k : Fin 4096) (j : Fin 384) :
    wguOf G U (ix2 k ⟨384 + j.val, by omega⟩) = U (ix2 k j) := by
  unfold wguOf
  rw [dif_neg (show ¬ ((ix2 k (⟨384 + j.val, by omega⟩ : Fin 768) : S4096x768.Idx) 1).val < 384 from by show ¬ 384 + j.val < 384; omega)]
  have e : (⟨384 + j.val - 384, by omega⟩ : Fin 384) = j := Fin.ext (by show 384 + j.val - 384 = j.val; omega)
  exact ((congrArg (k0_pay6 U) (at2_ix2 k _)).trans (pay6_at U k _)).trans (congrArg (fun z => U (ix2 k z)) e)

/-- A row against a column of a matrix. -/
abbrev against (x : Fin 4096 → EReal) (w : Fin 4096 → EReal) : EReal := ∑ k, x k * w k
/-- A hidden element of a gate and an up product. -/
abbrev swish (g u : EReal) : EReal := g * Ideal.div 1 (1 + Ideal.exp (0 - g)) * u

theorem half_at (X W) (p : Fin 256) (j : Fin 384) :
    gateHalf (F := Ideal) X W (ix2 p j) = acc4 X W (ix2 p ⟨j.val, by omega⟩) ∧ upHalf (F := Ideal) X W (ix2 p j) = acc4 X W (ix2 p ⟨384 + j.val, by omega⟩) := by
  constructor
  · refine congrArg (acc4 X W) (funext fun a => Fin.ext ?_)
    fin_cases a
    · show 0 + 1 * p.val = p.val; omega
    · show 0 + 1 * j.val = j.val; omega
  · refine congrArg (acc4 X W) (funext fun a => Fin.ext ?_)
    fin_cases a
    · show 0 + 1 * p.val = p.val; omega
    · show 384 + 1 * j.val = 384 + j.val; omega

theorem hidden_at (X : S256x4096.Idx → Elt Ideal .bf16) (G U : S4096x384.Idx → Elt Ideal .f32) (p : Fin 256) (j : Fin 384) :
    hidden (F := Ideal) X (wguOf G U) (ix2 p j) = swish (against (fun k => X (ix2 p k)) (fun k => G (ix2 k j))) (against (fun k => X (ix2 p k)) (fun k => U (ix2 k j))) := by
  have eg : gateHalf (F := Ideal) X (wguOf G U) (ix2 p j) = against (fun k => X (ix2 p k)) (fun k => G (ix2 k j)) :=
    ((half_at X (wguOf G U) p j).1.trans (acc4_at X (wguOf G U) p _)).trans (Finset.sum_congr rfl fun k _ => congrArg (fun b : EReal => X (ix2 p k) * b) (gate_cols G U k j))
  have eu : upHalf (F := Ideal) X (wguOf G U) (ix2 p j) = against (fun k => X (ix2 p k)) (fun k => U (ix2 k j)) :=
    ((half_at X (wguOf G U) p j).2.trans (acc4_at X (wguOf G U) p _)).trans (Finset.sum_congr rfl fun k _ => congrArg (fun b : EReal => X (ix2 p k) * b) (up_cols G U k j))
  have e : ∀ a b : Vec Ideal S256x384 .f32, k0_pay48 (F := Ideal) a b (k0_pay12 a) (ix2 p j) = swish (a (ix2 p j)) (b (ix2 p j)) := fun a b => by
    pointwise [k0_pay48, k0_pay12]
  unfold hidden
  exact (e _ _).trans (congrArg₂ swish eg eu)

theorem out_cols (Hh : S256x384.Idx → Elt Ideal .bf16) (V : S384x4096.Idx → Elt Ideal .bf16) (p : Fin 256) (q : Fin 4096) :
    outTile (F := Ideal) Hh V (ix2 p q) = ∑ f : Fin 384, (Hh (ix2 p f) * V (ix2 f q) : EReal) := by
  have e : ∀ b : Vec Ideal S384x512 .bf16, ∀ r : Fin 512, k0_pay19 (F := Ideal) Hh b (ix2 p r) = ∑ f : Fin 384, (Hh (ix2 p f) * b (ix2 f r) : EReal) := fun b r => by
    pointwise [k0_pay19]
  unfold outTile
  refine Eq.trans (congrArg (k0_pay19 (F := Ideal) Hh _) (at2_ix2 p _)) ((e _ _).trans (Finset.sum_congr rfl fun f _ => congrArg (fun b : EReal => Hh (ix2 p f) * b) ?_))
  refine congrArg V (funext fun a => Fin.ext ?_)
  fin_cases a
  · show 0 + 1 * f.val = f.val; omega
  · show 512 * (q.val / 512) + 1 * (q.val % 512) = q.val; omega

section Tile

variable {T TI TO Fst N S P : S321.Idx → BitVec 32} {n : ℕ} (s : Sched T TI TO Fst N S P n) (xb : ℕ → S256x4096.Idx → Elt Ideal .bf16)
variable (MA MB : S2x64x4096x384.Idx → Elt Ideal .f32) (MC : S2x64x384x4096.Idx → Elt Ideal .f32)

/-- A tile's output: its rows through the expert its number names. -/
theorem tile_at (j : ℕ) (e : Fin 64) (he : (T (k321 j)).toNat = e.val) (p : Fin 256) (q : Fin 4096) :
    yT MA MB MC s xb j (ix2 p q)
      = ∑ f : Fin 384, swish (against (fun k => xb j (ix2 p k)) (fun k => MA (ix4 (0 : Fin 2) e k f))) (against (fun k => xb j (ix2 p k)) (fun k => MB (ix4 (0 : Fin 2) e k f)))
        * (MC (ix4 (0 : Fin 2) e f q) : EReal) := by
  have ee : (⟨(T (k321 j)).toNat, s.te j⟩ : Fin 64) = e := Fin.ext he
  unfold yT hid wT vT
  refine (out_cols _ _ p q).trans (Finset.sum_congr rfl fun f _ => congrArg₂ (fun a b : EReal => a * b) ?_ ?_)
  · refine (hidden_at _ _ _ p f).trans (congrArg₂ swish ?_ ?_)
    · exact Finset.sum_congr rfl fun k _ => congrArg (fun b : EReal => xb j (ix2 p k) * b) ((gmat_at MA _ (s.te j) _ k f).trans (congrArg (fun z => MA (ix4 (0 : Fin 2) z k f)) ee))
    · exact Finset.sum_congr rfl fun k _ => congrArg (fun b : EReal => xb j (ix2 p k) * b) ((gmat_at MB _ (s.te j) _ k f).trans (congrArg (fun z => MB (ix4 (0 : Fin 2) z k f)) ee))
  · exact (pay7_at _ f q).trans ((dmat_at MC _ (s.te j) _ f q).trans (congrArg (fun z => MC (ix4 (0 : Fin 2) z f q)) ee))

end Tile

end Cert.Proof.Experts

end
-- ==== Proof.Plain.lean ====
/-
  The experts' reference at the ideal instance, element by element: every other expert's part of a row is nothing.
-/
module

public import proofs.«01_k».proof.Proof.Value
public import proofs.«01_k».proof.Proof.Gen.Reference2Ideal.Run

@[expose] public section

set_option maxRecDepth 16384

noncomputable section

namespace Cert.Proof.Experts

open Cert.Reference2Ideal Cert.Reference2Ideal.Facts₀
open Idealize.ShloMosaic Idealize.ShloMosaic.TcCoe

/-- Every row against a matrix of each of the experts. -/
def gateRef (x : FVec Ideal S81920x4096 .bf16) (g : FVec Ideal S2x64x4096x384 .f32) : FVec Ideal S81920x64x384 .f32 :=
  Host.dotGeneral dot_S81920x4096_S64x4096x384_S81920x64x384_1_1_0_02_n_n none (extf .f32 x bitsLt_bf16_f32) (shapeCast _ (extractStridedSlice S1x64x4096x384 ![0, 0, 0, 0] g slices_S2x64x4096x384_S1x64x4096x384_0_0_0_0) shapeCasts_S1x64x4096x384_S64x4096x384)

/-- The hidden rows of every expert. -/
def hidRef (a b : FVec Ideal S81920x64x384 .f32) : FVec Ideal S81920x64x384 .f32 :=
  mulf (mulf a (Host.divf (broadcastInDim S81920x64x384 ![] bcast_S_S81920x64x384 (constant S_ .f32 0x3F800000#32)) (addf (broadcastInDim S81920x64x384 ![] bcast_S_S81920x64x384 (constant S_ .f32 0x3F800000#32)) (Host.exp (Host.negf a))))) b

/-- Whether a row is an expert's. -/
def ones (te : IVec S321 32) : FVec Ideal S81920x64 .f32 :=
  uitofp .f32 (cmpi .eq (broadcastInDim S81920x64 ![0, 1] bcast_S81920x1_S81920x64_0_1 (broadcastInDim S81920x1 ![0] bcast_S81920_S81920x1_0 (shapeCast _ (broadcastInDim S320x256 ![0] bcast_S320_S320x256_0 (extractStridedSlice S320 ![0] te slices_S321_S320_0)) shapeCasts_S320x256_S81920))) (broadcastInDim S81920x64 ![0, 1] bcast_S1x64_S81920x64_0_1 (iotaInDim S1x64 32 1)))

/-- The rows' outputs. -/
def outRef (h : FVec Ideal S81920x64x384 .f32) (o : FVec Ideal S81920x64 .f32) (d : FVec Ideal S2x64x384x4096 .f32) : FVec Ideal S81920x4096 .bf16 :=
  truncf .bf16 (Host.dotGeneral dot_S81920x64x384_S64x384x4096_S81920x4096_12_01_0_2_n_n none (mulf h (broadcastInDim S81920x64x384 ![0, 1, 2] bcast_S81920x64x1_S81920x64x384_0_1_2 (broadcastInDim S81920x64x1 ![0, 1] bcast_S81920x64_S81920x64x1_0_1 o))) (shapeCast _ (extractStridedSlice S1x64x384x4096 ![0, 0, 0, 0] d slices_S2x64x384x4096_S1x64x384x4096_0_0_0_0) shapeCasts_S1x64x384x4096_S64x384x4096)) bitsLt_bf16_f32

theorem gateRef_at (x g) (r : Fin 81920) (e : Fin 64) (j : Fin 384) :
    gateRef x g (ix3 r e j) = against (fun k => x (ix2 r k)) (fun k => g (ix4 (0 : Fin 2) e k j)) := by
  have h : gateRef x g (ix3 r e j) = ∑ k : Fin 4096, (x (ix2 r k) * g (ix4 (0 : Fin 2) e k j) : EReal) := by pointwise [gateRef]
  exact h

theorem hidRef_at (a b) (r : Fin 81920) (e : Fin 64) (j : Fin 384) : hidRef a b (ix3 r e j) = swish (a (ix3 r e j)) (b (ix3 r e j)) := by
  have h : hidRef a b (ix3 r e j) = (a (ix3 r e j) * Ideal.div 1 (1 + Ideal.exp (-(a (ix3 r e j)))) * b (ix3 r e j) : EReal) := by pointwise [hidRef]
  rw [h]
  unfold swish
  rw [zero_sub]

theorem ones_at (te : IVec S321 32) (r : Fin 81920) (e : Fin 64) : ones te (ix2 r e) = FloatOps.uitofp (F := Ideal) FTy.f32 (IntOp.cmpi .eq (te (ix1 ⟨r.val / 256, by omega⟩)) (BitVec.ofNat 32 e.val)) := by
  pointwise [ones]

theorem outRef_at (h o d) (r : Fin 81920) (q : Fin 4096) :
    outRef h o d (ix2 r q) = ∑ e : Fin 64, ∑ f : Fin 384, (h (ix3 r e f) * o (ix2 r e) * d (ix4 (0 : Fin 2) e f q) : EReal) := by
  pointwise [outRef]

theorem one_of : (FloatOps.uitofp (F := Ideal) FTy.f32 (1#1) : EReal) = 1 := by
  show (((1 : ℕ) : ℝ) : EReal) = 1
  norm_num
theorem zero_of : (FloatOps.uitofp (F := Ideal) FTy.f32 (0#1) : EReal) = 0 := by
  show (((0 : ℕ) : ℝ) : EReal) = 0
  norm_num

/-- A row's output through the one expert its tile names. -/
theorem outRef_pick (h : FVec Ideal S81920x64x384 .f32) (te : IVec S321 32) (d : FVec Ideal S2x64x384x4096 .f32) (r : Fin 81920) (q : Fin 4096) (e : Fin 64)
    (he : (te (ix1 ⟨r.val / 256, by omega⟩)).toNat = e.val) :
    outRef h (ones te) d (ix2 r q) = ∑ f : Fin 384, (h (ix3 r e f) * d (ix4 (0 : Fin 2) e f q) : EReal) := by
  have hw : te (ix1 ⟨r.val / 256, by omega⟩) = BitVec.ofNat 32 e.val := BitVec.eq_of_toNat_eq (by
    rw [he, BitVec.toNat_ofNat]; have := e.isLt; omega)
  have o1 : (ones te (ix2 r e) : EReal) = 1 := by
    refine (ones_at te r e).trans ?_
    rw [hw]
    refine Eq.trans (congrArg (FloatOps.uitofp (F := Ideal) FTy.f32) ?_) one_of
    show BitVec.ofBool (BitVec.ofNat 32 e.val == BitVec.ofNat 32 e.val) = 1#1
    rw [beq_self_eq_true]; rfl
  have o0 : ∀ e', e' ≠ e → (ones te (ix2 r e') : EReal) = 0 := fun e' hn => by
    refine (ones_at te r e').trans ?_
    rw [hw]
    refine Eq.trans (congrArg (FloatOps.uitofp (F := Ideal) FTy.f32) ?_) zero_of
    have hne : BitVec.ofNat 32 e.val ≠ BitVec.ofNat 32 e'.val := fun h => hn (Fin.ext (by
      have h := congrArg BitVec.toNat h
      rw [BitVec.toNat_ofNat, BitVec.toNat_ofNat] at h
      have := e.isLt
      have := e'.isLt
      omega))
    show BitVec.ofBool (BitVec.ofNat 32 e.val == BitVec.ofNat 32 e'.val) = 0#1
    rw [beq_eq_false_iff_ne.2 hne]; rfl
  refine (outRef_at h (ones te) d r q).trans ((Finset.sum_eq_single e (fun e' _ hn => ?_) (fun hh => absurd (Finset.mem_univ e) hh)).trans ?_)
  · refine Finset.sum_eq_zero fun f _ => ?_
    refine Eq.trans (congrArg (fun z : EReal => (h (ix3 r e' f) * z * d (ix4 (0 : Fin 2) e' f q) : EReal)) (o0 e' hn)) ?_
    show ((h (ix3 r e' f) : EReal) * 0 * (d (ix4 (0 : Fin 2) e' f q) : EReal) : EReal) = 0
    rw [mul_zero, zero_mul]
  · refine Finset.sum_congr rfl fun f _ => ?_
    refine Eq.trans (congrArg (fun z : EReal => (h (ix3 r e f) * z * d (ix4 (0 : Fin 2) e f q) : EReal)) o1) ?_
    show ((h (ix3 r e f) : EReal) * 1 * (d (ix4 (0 : Fin 2) e f q) : EReal) : EReal) = _
    rw [mul_one]

/-- The reference's rows. -/
def rowsOut (te : IVec S321 32) (x : FVec Ideal S81920x4096 .bf16) (g u : FVec Ideal S2x64x4096x384 .f32) (d : FVec Ideal S2x64x384x4096 .f32) : FVec Ideal S81920x4096 .bf16 :=
  outRef (hidRef (gateRef x g) (gateRef x u)) (ones te) d

theorem rowsOut_at (te x g u d) (r : Fin 81920) (q : Fin 4096) (e : Fin 64) (he : (te (ix1 ⟨r.val / 256, by omega⟩)).toNat = e.val) :
    rowsOut te x g u d (ix2 r q)
      = ∑ f : Fin 384, swish (against (fun k => x (ix2 r k)) (fun k => g (ix4 (0 : Fin 2) e k f))) (against (fun k => x (ix2 r k)) (fun k => u (ix4 (0 : Fin 2) e k f)))
        * (d (ix4 (0 : Fin 2) e f q) : EReal) :=
  (outRef_pick _ te d r q e he).trans (Finset.sum_congr rfl fun f _ => congrArg (fun z : EReal => (z * d (ix4 (0 : Fin 2) e f q) : EReal))
    ((hidRef_at _ _ r e f).trans (congrArg₂ swish (gateRef_at x g r e f) (gateRef_at x u r e f))))

end Cert.Proof.Experts

end
-- ==== Proof.Same.lean ====
/-
  The experts' call and its reference leave the same in every row of a tile.
-/
module

public import proofs.«01_k».proof.Proof.Blocks
public import proofs.«01_k».proof.Proof.Plain
public import proofs.«01_k».proof.Proof.Gen.On_rows_used

@[expose] public section

set_option maxRecDepth 16384

noncomputable section

namespace Cert.Proof.Experts

open Cert.Kernel2Ideal Cert.Kernel2Ideal.Gen
open Idealize.ShloMosaic Idealize.ShloMosaic.TcCoe
open Idealize.SL Idealize.SL.Sem

/-- The claim is made of the tiles' rows. -/
theorem used_of {F : FTy → Type} [FloatOps F] [Cert.On_rows_used.Facts] (T TI TO Fst N S P : IVec S321 32) (NU : IVec S1 32) (h1 : FVec F S81920x4096 .bf16) (h2 h3 : FVec F S2x64x4096x384 .f32) (h4 : FVec F S2x64x384x4096 .f32)
    (hn : (NU at1).toNat ≤ 320) (r : Fin 81920) (q : Fin 4096)
    (h : Cert.On_rows_used.fn (F := F) T TI TO Fst N S P NU h1 h2 h3 h4 (ix2 r q) = 1#1) : r.val / 256 < (NU at1).toNat := by
  have h : IntOp.cmpi .slt (BitVec.ofNat 32 r.val) (IntOp.muli (shapeCast Cert.On_rows_used.S_ NU Cert.On_rows_used.Facts.shapeCasts_S1_S_ (fun a => a.elim0)) 256#32) = 1#1 := h
  have e1 : shapeCast Cert.On_rows_used.S_ NU Cert.On_rows_used.Facts.shapeCasts_S1_S_ (fun a => a.elim0) = NU at1 := congrArg NU (one_ix _)
  rw [e1] at h
  have hr := r.isLt
  have em : (IntOp.muli (NU at1) 256#32).toNat = (NU at1).toNat * 256 := by
    show ((NU at1) * 256#32).toNat = _
    rw [BitVec.toNat_mul]
    show (NU at1).toNat * 256 % 2 ^ 32 = _
    omega
  have h := lt_word.1 h
  have ew : (BitVec.ofNat 32 r.val).toNat = r.val := by rw [BitVec.toNat_ofNat]; omega
  rw [BitVec.toInt_eq_toNat_of_lt (by omega), BitVec.toInt_eq_toNat_of_lt (by omega), em, ew] at h
  omega

theorem outs_agree (m : (ℓ : Loc nD τ sig) → Buf (Elt Ideal) ℓ) (H : ∀ c, Planned m c) (c : Dev nD) (x : S81920x4096.Idx) (hx : (x 0).val / 256 < nT m c) :
    outs m H c x = rowsOut (tT m c) (tX m c) (tG m c) (tU m c) (tD m c) x := by
  obtain ⟨r, q, rfl⟩ : ∃ (r : Fin 81920) (q : Fin 4096), x = ix2 r q := ⟨x 0, x 1, eq_ix2 x⟩
  have hx : r.val / 256 < nT m c := hx
  have hr := r.isLt
  have hq : r.val / 256 < 321 := by omega
  have ek : (k321 (r.val / 256) : S321.Idx) = ix1 (⟨r.val / 256, hq⟩ : Fin 321) := funext fun a => Fin.ext (by
    fin_cases a
    show min (r.val / 256) 320 = r.val / 256
    omega)
  have he : (tT m c (ix1 (⟨r.val / 256, hq⟩ : Fin 321))).toNat < 64 := by
    have h := (H c).te (r.val / 256)
    rwa [ek] at h
  have ex : ∀ k : Fin 4096, xb m c (r.val / 256) (ix2 (⟨r.val % 256, Nat.mod_lt _ (by decide)⟩ : Fin 256) k) = tX m c (ix2 r k) := fun k => by
    unfold xb
    refine congrArg (tX m c) (funext fun a => Fin.ext ?_)
    fin_cases a
    · show (256 * min (r.val / 256) (nT m c - 1) + r.val % 256) % 81920 = r.val
      omega
    · rfl
  have t := tile_at (H c) (xb m c) (tG m c) (tU m c) (tD m c) (r.val / 256) ⟨(tT m c (ix1 (⟨r.val / 256, hq⟩ : Fin 321))).toNat, he⟩
    (by rw [ek]) (⟨r.val % 256, Nat.mod_lt _ (by decide)⟩ : Fin 256) q
  have s := rowsOut_at (tT m c) (tX m c) (tG m c) (tU m c) (tD m c) r q ⟨(tT m c (ix1 (⟨r.val / 256, hq⟩ : Fin 321))).toNat, he⟩ rfl
  refine Eq.trans ?_ (t.trans (Eq.trans ?_ s.symm))
  · exact congrArg (yT (tG m c) (tU m c) (tD m c) (H c) (xb m c) (r.val / 256)) (at2_ix2 _ _)
  · refine Finset.sum_congr rfl fun f _ => congrArg (fun z : EReal => (z * tD m c (ix4 (0 : Fin 2) _ f q) : EReal)) (congrArg₂ swish ?_ ?_)
    · exact Finset.sum_congr rfl fun k _ => congrArg (fun z : EReal => (z * tG m c (ix4 (0 : Fin 2) _ k f) : EReal)) (ex k)
    · exact Finset.sum_congr rfl fun k _ => congrArg (fun z : EReal => (z * tU m c (ix4 (0 : Fin 2) _ k f) : EReal)) (ex k)

theorem agree : Cert.algebraic_Kernel2Ideal_Reference2Ideal_on_rows_used := by
  intro m g m' g' hp ha
  have H : ∀ c, Planned m c := fun c => planned_of m c (hp c)
  refine ⟨fun c => rowsOut (tT m c) (tX m c) (tG m c) (tU m c) (tD m c), ?_, ?_⟩
  · refine (θ_run Cert.Kernel2Ideal.defs _ _).mono (fun r h c => ⟨fun x hx => ?_, args_kept m H h.1 c⟩) (run_main (F := Ideal) m g H)
    have hl : (x 0).val / 256 < nT m c := used_of _ _ _ _ _ _ _ _ _ _ _ _ (H c).le (x 0) (x 1) ((congrArg (fun z => Cert.On_rows_used.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) z = 1#1) (eq_ix2 x)).mp hx)
    exact (congrFun ((h.1 c).1 1) x).trans ((final_out m H c x hl).trans (outs_agree m H c x hl))
  · refine (θ_run Cert.Reference2Ideal.defs _ _).mono (fun r h c => ⟨fun x _ => ?_, (h c).2⟩)
      (Cert.Reference2Ideal.Value.run (F := Ideal) m' g')
    have e := (h c).1
    rw [(ha c).1, (ha c).2.2.2.2.2.2.2.2.1, (ha c).2.2.2.2.2.2.2.2.2.1, (ha c).2.2.2.2.2.2.2.2.2.2.1, (ha c).2.2.2.2.2.2.2.2.2.2.2] at e
    exact congrFun e x

end Cert.Proof.Experts

end
-- ==== Proof.Project.lean ====
/-
  A projection: the blocks of the product are the whole product's, and with them the frames of the three programs.
-/
module

public import proofs.«01_k».proof.Defs
public import proofs.«01_k».proof.Proof.Gen.Kernel3
public import proofs.«01_k».proof.Proof.Gen.Kernel3Ideal.Value
public import proofs.«01_k».proof.Proof.Gen.Reference3Ideal.Run
public import Idealize.ShloMosaic.Lib.Pointwise
public import Idealize.ShloMosaic.Lib.Pipeline.Value

@[expose] public section

set_option maxRecDepth 16384

noncomputable section

namespace Cert.Proof.Project

open Cert.Kernel3Ideal Cert.Kernel3Ideal.Gen
open Idealize.ShloMosaic Idealize.ShloMosaic.TcCoe
open Idealize.SL Idealize.SL.Sem

/-- The whole product. -/
def product (x : FVec Ideal S8192x4096 .bf16) (w : FVec Ideal S4096x4096 .f32) : FVec Ideal S8192x4096 .bf16 :=
  truncf .bf16 (Host.dotGeneral Cert.Reference3Ideal.dot_S8192x4096_S4096x4096_S8192x4096_1_0_0_1_n_n none (extf .f32 x Cert.Reference3Ideal.Facts₀.bitsLt_bf16_f32) w) Cert.Reference3Ideal.Facts₀.bitsLt_bf16_f32

theorem product_at (x w) (r : Fin 8192) (q : Fin 4096) : product x w (ix2 r q) = ∑ k : Fin 4096, (x (ix2 r k) * w (ix2 k q) : EReal) := by
  pointwise [product]

theorem block_at (x w) (p : Fin 1024) (q : Fin 512) : k0_pay1 (F := Ideal) x w (ix2 p q) = ∑ k : Fin 4096, (x (ix2 p k) * w (ix2 k q) : EReal) := by
  pointwise [k0_pay1]

variable (m : (ℓ : Loc nD τ sig) → Buf (Elt Ideal) ℓ) (ρ : Dev nD → PrngReg)

theorem idx0 : ∀ t : Fin cfg0.N, (cfg0.grid.coords t 0).val = t.val / 8 ∧ (cfg0.grid.coords t 1).val = t.val % 8 :=
  (by decide +kernel : ∀ t : Fin grid0.N, (grid0.coords t 0).val = t.val / 8 ∧ (grid0.coords t 1).val = t.val % 8)

theorem word {n : ℕ} (h : n < 64) : (BitVec.ofNat 32 n).toNat = n := by rw [BitVec.toNat_ofNat]; omega

theorem index2 (t : Fin cfg0.N) : (cfg0.win 2).index t = ![t.val / 8, t.val % 8] := by
  have ht : t.val < 64 := t.isLt
  show ![(BitVec.ofNat 32 (cfg0.grid.coords t 0).val).toNat, (BitVec.ofNat 32 (cfg0.grid.coords t 1).val).toNat] = _
  rw [(idx0 t).1, (idx0 t).2, word (by omega), word (by omega)]
theorem index0 (t : Fin cfg0.N) : (cfg0.win 0).index t = ![t.val / 8, 0] := by
  have ht : t.val < 64 := t.isLt
  show ![(BitVec.ofNat 32 (cfg0.grid.coords t 0).val).toNat, 0] = _
  rw [(idx0 t).1, word (by omega)]
theorem index1 (t : Fin cfg0.N) : (cfg0.win 1).index t = ![0, t.val % 8] := by
  have ht : t.val < 64 := t.isLt
  show ![0, (BitVec.ofNat 32 (cfg0.grid.coords t 1).val).toNat] = _
  rw [(idx0 t).2, word (by omega)]

/-- A store of the whole block leaves what it stores. -/
theorem out_whole (x : Vec Ideal S1024x4096 .bf16) (w : Vec Ideal S4096x512 .f32) (p : Fin 1024) (q : Fin 512) :
    out0_2 (F := Ideal) x w (ix2 p q) = ∑ k : Fin 4096, (x (ix2 p k) * w (ix2 k q) : EReal) := by
  have e : (ix2 p q : S1024x512.Idx) = r0_2.emb (ix2 p q) := funext fun a => Fin.ext (by
    fin_cases a
    · show p.val = 0 + 1 * p.val; omega
    · show q.val = 0 + 1 * q.val; omega)
  unfold out0_2
  refine ((congrArg _ e).trans (View.canon_cons_emb r0_2 _ [] (ix2 p q))).trans ((block_at _ _ p q).trans (Finset.sum_congr rfl fun k _ => congrArg₂ (fun a b : EReal => a * b) ?_ ?_))
  · refine congrArg x (funext fun a => Fin.ext ?_)
    fin_cases a
    · show 0 + 1 * p.val = p.val; omega
    · show 0 + 1 * k.val = k.val; omega
  · refine congrArg w (funext fun a => Fin.ext ?_)
    fin_cases a
    · show 0 + 1 * k.val = k.val; omega
    · show 0 + 1 * q.val = q.val; omega

abbrev pX (c : Dev nD) : S8192x4096.Idx → Elt Ideal .bf16 := m ((c : Thread nD τ).loc main_arg0)
abbrev pW (c : Dev nD) : S4096x4096.Idx → Elt Ideal .f32 := m ((c : Thread nD τ).loc main_arg1)

/-- What a point writes back is its block of the whole product. -/
theorem flushed (c : Dev nD) (t : Fin cfg0.N) :
    (dats m 0 c).flushed 2 t = ((cfg0.win 2).blk t).view.read (Elt Ideal) (product (pX m c) (pW m c)) := by
  have ht : t.val < 64 := t.isLt
  rw [Cert.Kernel3Ideal.Value.flushed2]
  refine funext fun y : S1024x512.Idx => ?_
  obtain ⟨p, q, rfl⟩ : ∃ (p : Fin 1024) (q : Fin 512), y = ix2 p q := ⟨y 0, y 1, eq_ix2 y⟩
  have hp := p.isLt
  have hq := q.isLt
  have e : ((cfg0.win 2).blk t).view.emb (ix2 p q) = (ix2 (⟨t.val / 8 * 1024 + p.val, by omega⟩ : Fin 8192) (⟨t.val % 8 * 512 + q.val, by omega⟩ : Fin 4096) : S8192x4096.Idx) := by
    refine funext fun a => Fin.ext ?_
    fin_cases a
    · show (cfg0.win 2).index t (0 : Fin 2) * 1024 + 1 * p.val = t.val / 8 * 1024 + p.val
      rw [index2]
      show t.val / 8 * 1024 + 1 * p.val = _
      omega
    · show (cfg0.win 2).index t (1 : Fin 2) * 512 + 1 * q.val = t.val % 8 * 512 + q.val
      rw [index2]
      show t.val % 8 * 512 + 1 * q.val = _
      omega
  have ex : ∀ k : Fin 4096, iblk m c 0 t (ix2 p k) = pX m c (ix2 (⟨t.val / 8 * 1024 + p.val, by omega⟩ : Fin 8192) k) := fun k => by
    refine congrArg (pX m c) (funext fun a => Fin.ext ?_)
    fin_cases a
    · show (cfg0.win 0).index t (0 : Fin 2) * 1024 + 1 * p.val = t.val / 8 * 1024 + p.val
      rw [index0]
      show t.val / 8 * 1024 + 1 * p.val = _
      omega
    · show (cfg0.win 0).index t (1 : Fin 2) * 4096 + 1 * k.val = k.val
      rw [index0]
      show 0 * 4096 + 1 * k.val = k.val
      omega
  have ew : ∀ k : Fin 4096, iblk m c 1 t (ix2 k q) = pW m c (ix2 k (⟨t.val % 8 * 512 + q.val, by omega⟩ : Fin 4096)) := fun k => by
    refine congrArg (pW m c) (funext fun a => Fin.ext ?_)
    fin_cases a
    · show (cfg0.win 1).index t (0 : Fin 2) * 4096 + 1 * k.val = k.val
      rw [index1]
      show 0 * 4096 + 1 * k.val = k.val
      omega
    · show (cfg0.win 1).index t (1 : Fin 2) * 512 + 1 * q.val = t.val % 8 * 512 + q.val
      rw [index1]
      show t.val % 8 * 512 + 1 * q.val = _
      omega
  refine Eq.trans (out_whole (iblk m c 0 t) (iblk m c 1 t) p q) (Eq.trans ?_ ((congrArg (product (pX m c) (pW m c)) e).trans (product_at _ _ _ _)).symm)
  exact Finset.sum_congr rfl fun k _ => congrArg₂ (fun a b : EReal => a * b) (ex k) (ew k)

theorem covered (i : S8192x4096.Idx) : ∃ t : Fin cfg0.N, (cfg0.win 2).flush t = true ∧ i ∈ ((cfg0.win 2).blk t).view.set := by
  have h0 : (i 0).val < 8192 := (i 0).isLt
  have h1 : (i 1).val < 4096 := (i 1).isLt
  have ht : (i 0).val / 1024 * 8 + (i 1).val / 512 < cfg0.N := by show _ < 64; omega
  refine ⟨⟨(i 0).val / 1024 * 8 + (i 1).val / 512, ht⟩, flush0_2 _, ?_⟩
  have e : i = ((cfg0.win 2).blk ⟨(i 0).val / 1024 * 8 + (i 1).val / 512, ht⟩).view.emb
      (ix2 (⟨(i 0).val % 1024, Nat.mod_lt _ (by decide)⟩ : Fin 1024) (⟨(i 1).val % 512, Nat.mod_lt _ (by decide)⟩ : Fin 512)) := by
    refine funext fun a => Fin.ext ?_
    fin_cases a
    · show (i 0).val = (cfg0.win 2).index ⟨(i 0).val / 1024 * 8 + (i 1).val / 512, ht⟩ (0 : Fin 2) * 1024 + 1 * ((i 0).val % 1024)
      rw [index2]
      show (i 0).val = ((i 0).val / 1024 * 8 + (i 1).val / 512) / 8 * 1024 + 1 * ((i 0).val % 1024)
      omega
    · show (i 1).val = (cfg0.win 2).index ⟨(i 0).val / 1024 * 8 + (i 1).val / 512, ht⟩ (1 : Fin 2) * 512 + 1 * ((i 1).val % 512)
      rw [index2]
      show (i 1).val = ((i 0).val / 1024 * 8 + (i 1).val / 512) % 8 * 512 + 1 * ((i 1).val % 512)
      omega
  exact Eq.mpr (congrArg (fun z => z ∈ ((cfg0.win 2).blk ⟨(i 0).val / 1024 * 8 + (i 1).val / 512, ht⟩).view.set) e) (((cfg0.win 2).blk _).view.emb_mem_set _)

theorem final (c : Dev nD) : (dats m 0 c).arrAt 2 cfg0.N = product (pX m c) (pW m c) :=
  (dats m 0 c).arrAt_eq_of_cover 2 _ (fun t _ => flushed m c t) covered

theorem agree : Cert.algebraic_Kernel3Ideal_Reference3Ideal := by
  intro m g m' g' hp ha
  refine ⟨fun c => product (pX m c) (pW m c), ?_, ?_⟩
  · exact (θ_run Cert.Kernel3Ideal.defs _ _).mono (fun r h c => ⟨(h c).1.trans (final m c), (h c).2⟩) (Cert.Kernel3Ideal.Value.run_blocks (F := Ideal) m g)
  · refine (θ_run Cert.Reference3Ideal.defs _ _).mono (fun r h c => ⟨?_, (h c).2⟩) (Cert.Reference3Ideal.Value.run (F := Ideal) m' g')
    have e := (h c).1
    rw [(ha c).1, (ha c).2] at e
    exact e

theorem frame_ideal : Cert.quiescent_Kernel3Ideal := fun m ρ _ => Cert.Kernel3Ideal.Gen.frame (F := Ideal) m ρ

/-- The two instances' programs are the same text. -/
theorem body_same : @Cert.Kernel3.cc0_matmul Bits _ Cert.Kernel3.Gen.facts = @Cert.Kernel3Ideal.cc0_matmul Bits _ Cert.Kernel3Ideal.Gen.facts := by
  funext i a1 b1 a2 b2 a3 b3
  unfold Cert.Kernel3.cc0_matmul Cert.Kernel3Ideal.cc0_matmul
  rfl
theorem bodies_same : Cert.Kernel3.defs₀ (F := Bits) = Cert.Kernel3Ideal.defs₀ (F := Bits) := by
  unfold Cert.Kernel3.defs₀ Cert.Kernel3Ideal.defs₀
  rw [body_same]
  refine congrArg Defs.onTc (funext fun k => funext fun a => ?_)
  match k, a with
  | ⟨0, _⟩, (t, s) => rfl
theorem defs_same : Cert.Kernel3.defs (F := Bits) = Cert.Kernel3Ideal.defs (F := Bits) := by
  unfold Cert.Kernel3.defs Cert.Kernel3Ideal.defs
  rw [bodies_same]
  rfl

theorem frame_kernel : Cert.quiescent_Kernel3 := fun m ρ _ => by
  rw [defs_same]
  exact Cert.Kernel3Ideal.Gen.frame (F := Bits) m ρ

theorem frame_reference : Cert.quiescent_Reference3Ideal := fun m ρ _ =>
  (θ_run Cert.Reference3Ideal.defs _ _).mono (fun _ h => ⟨fun c => (h c).2, Idealize.ShloMosaic.sem_eq_zero_of_no_sems (by decide) _⟩) (Cert.Reference3Ideal.Value.run (F := Ideal) m ρ)

end Cert.Proof.Project

end
-- ==== Proof.NormRun.lean ====
/-
  The last normalisation's program point by point: the first columns of a row block start the running mean and square sum, the
  others extend them, the last scale the stored columns.
-/
module

public import proofs.«01_k».proof.Proof.Gen.Kernel4Ideal.Frame
public import proofs.«01_k».proof.Proof.Gen.Kernel4Ideal.Skeleton
public import Idealize.ShloMosaic.Lib.VecWindow
public import Idealize.ShloMosaic.Lib.Ring
public import Idealize.ShloMosaic.Lib.Pointwise
public import Idealize.ShloMosaic.Lib.ValueLayout

@[expose] public section

set_option maxRecDepth 16384

noncomputable section

namespace Cert.Proof.Norm

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The values of a block before it is normalised. -/
abbrev zb (x0 : Vec F S512x4096 .bf16) (x1 : Vec F S4096x512 .bf16) (x2 : Vec F S512x512 .bf16) (x5 : Vec F S512x256 .bf16) (x6 : Vec F S256x512 .bf16) (x7 : Vec F S1x512 .f32) : FVec F S512x512 .f32 :=
  k0_pay204 x0 x1 x7 x5 x6 x2

/-- The block of stored columns a point fills. -/
abbrev slot (i : grid0.Coords) : Rect S8x512x512 := Rect.unit (s := S8x512x512) (k0_off1 i) S1x512x512.size (k0_off1_inb i)

theorem read_one {κ : Kind} {sp : Space} {s : Shape} {e : EltTy} (v : View sig κ sp s e) (f : v.ty.Contents (Elt F)) (r : Rect s) (w : r.shape.Idx → Elt F e) :
    v.read (Elt F) (v.writes (Elt F) f [⟨r, w⟩]) = r.overlay (v.read (Elt F) f) w := by
  funext y
  by_cases hy : y ∈ r.set
  · obtain ⟨x, rfl⟩ : ∃ x, r.emb x = y := r.exists_idx_of_mem hy
    rw [View.read_writes_cons_emb, Rect.overlay_emb]
  · rw [View.read_writes_apply_of_forall_not_mem v f y _ (by intro p hp; rw [List.mem_singleton.mp hp]; exact hy), Rect.overlay_of_not_mem _ _ _ hy]

theorem read_all {κ : Kind} {sp : Space} {s : Shape} {e : EltTy} (v : View sig κ sp s e) (f : v.ty.Contents (Elt F)) {o : Fin s.rank → ℕ} (h : ∀ a, o a + s.size a ≤ s.size a) (w : s.Idx → Elt F e) :
    v.read (Elt F) (v.writes (Elt F) f [⟨Rect.unit (s := s) o s.size h, w⟩]) = w := by
  funext y
  have := View.read_writes_cons_emb v f (Rect.unit (s := s) o s.size h) w [] y
  rwa [Rect.emb_unit_full] at this

set_option maxHeartbeats 4000000 in
theorem head_run (c : Dev nD) (E : Set ℕ) (i : grid0.Coords) (arg2 : Memref sig .tc .vmem S512x4096 .bf16) (harg2 : arg2.IsWhole) (arg3 : Memref sig .tc .vmem S4096x512 .bf16) (harg3 : arg3.IsWhole) (arg4 : Memref sig .tc .vmem S512x512 .bf16) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x256 .bf16) (harg7 : arg7.IsWhole) (arg8 : Memref sig .tc .vmem S256x512 .bf16) (harg8 : arg8.IsWhole) (arg9 : Memref sig .tc .vmem S1x512 .f32) (harg9 : arg9.IsWhole) (arg10 : Memref sig .tc .vmem S512x4096 .f32) (harg10 : arg10.IsWhole) (arg11 : Memref sig .tc .vmem S8x512x512 .f32) (harg11 : arg11.IsWhole) (arg12 : Memref sig .tc .vmem S512x1 .f32) (harg12 : arg12.IsWhole) (arg13 : Memref sig .tc .vmem S512x1 .f32) (harg13 : arg13.IsWhole)
    (x0 : Vec F S512x4096 .bf16) (x1 : Vec F S4096x512 .bf16) (x2 : Vec F S512x512 .bf16) (x3 : Vec F S1x4096 .f32) (x4 : Vec F S1x4096 .f32) (x5 : Vec F S512x256 .bf16) (x6 : Vec F S256x512 .bf16) (x7 : Vec F S1x512 .f32) (A : Vec F S8x512x512 .f32) (K : (Σ' (_ : BitVec 32) (_ : FVec F S512x512 .f32) (_ : FVec F S512x1 .f32), FVec F S512x512 .f32) → sProp 𝕄) :
    iprop(owns (c : Thread nD τ) arg2 fullShare x0 ∗ owns (c : Thread nD τ) arg3 fullShare x1 ∗ owns (c : Thread nD τ) arg9 fullShare x7 ∗ owns (c : Thread nD τ) arg7 fullShare x5 ∗ owns (c : Thread nD τ) arg8 fullShare x6 ∗ owns (c : Thread nD τ) arg4 fullShare x2 ∗ owns (c : Thread nD τ) arg11 fullShare A
        ∗ (iprop(owns (c : Thread nD τ) arg2 fullShare x0 ∗ owns (c : Thread nD τ) arg3 fullShare x1 ∗ owns (c : Thread nD τ) arg9 fullShare x7 ∗ owns (c : Thread nD τ) arg7 fullShare x5 ∗ owns (c : Thread nD τ) arg8 fullShare x6 ∗ owns (c : Thread nD τ) arg4 fullShare x2 ∗ owns (c : Thread nD τ) arg11 fullShare ((slot i).overlay A (k0_pay205 x0 x1 x7 x5 x6 x2)))
          -∗ K ⟨BitVec.ofNat 32 (i 1).val, zb x0 x1 x2 x5 x6 x7, k0_pay206 x0 x1 x7 x5 x6 x2, k0_pay207 x0 x1 x7 x5 x6 x2⟩))
      ⊢ wp frame (wpE (defs₀ (F := F)) Variants.none c none) E (k0_part58 i arg2 harg2 arg3 harg3 arg4 harg4 arg5 harg5 arg6 harg6 arg7 harg7 arg8 harg8 arg9 harg9 arg10 harg10 arg11 harg11 arg12 harg12 arg13 harg13) K := by
  rw [k0_part58_eq_skeleton]; unfold k0_part58_skel
  unfold owns
  iintro ⟨⟨%f0, %hf0, H0⟩, ⟨%f1, %hf1, H1⟩, ⟨%f7, %hf7, H7⟩, ⟨%f5, %hf5, H5⟩, ⟨%f6, %hf6, H6⟩, ⟨%f2, %hf2, H2⟩, ⟨%f9, %hf9, H9⟩, Hk⟩
  subst hf0 hf1 hf7 hf5 hf6 hf2 hf9
  sl_exec
  sl_step
  rw [View.readAt_full arg2.view f0, View.readAt_full arg3.view f1, View.readAt_full arg9.view f7, View.readAt_full arg7.view f5, View.readAt_full arg8.view f6, View.readAt_full arg4.view f2]
  iapply Hk
  isplitl [H0]
  · iexists f0; isplitr; · ipureintro; exact rfl
    iexact H0
  isplitl [H1]
  · iexists f1; isplitr; · ipureintro; exact rfl
    iexact H1
  isplitl [H7]
  · iexists f7; isplitr; · ipureintro; exact rfl
    iexact H7
  isplitl [H5]
  · iexists f5; isplitr; · ipureintro; exact rfl
    iexact H5
  isplitl [H6]
  · iexists f6; isplitr; · ipureintro; exact rfl
    iexact H6
  isplitl [H2]
  · iexists f2; isplitr; · ipureintro; exact rfl
    iexact H2
  iexists arg11.view.writes (Elt F) f9 [⟨slot i, k0_pay205 (View.read (Elt F) arg2.view f0) (View.read (Elt F) arg3.view f1) (View.read (Elt F) arg9.view f7) (View.read (Elt F) arg7.view f5) (View.read (Elt F) arg8.view f6) (View.read (Elt F) arg4.view f2)⟩]
  isplitr
  · ipureintro; exact read_one _ _ _ _
  iexact H9

set_option maxHeartbeats 4000000 in
theorem first_run (c : Dev nD) (E : Set ℕ) (i : grid0.Coords) (arg2 : Memref sig .tc .vmem S512x4096 .bf16) (harg2 : arg2.IsWhole) (arg3 : Memref sig .tc .vmem S4096x512 .bf16) (harg3 : arg3.IsWhole) (arg4 : Memref sig .tc .vmem S512x512 .bf16) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x256 .bf16) (harg7 : arg7.IsWhole) (arg8 : Memref sig .tc .vmem S256x512 .bf16) (harg8 : arg8.IsWhole) (arg9 : Memref sig .tc .vmem S1x512 .f32) (harg9 : arg9.IsWhole) (arg10 : Memref sig .tc .vmem S512x4096 .f32) (harg10 : arg10.IsWhole) (arg11 : Memref sig .tc .vmem S8x512x512 .f32) (harg11 : arg11.IsWhole) (arg12 : Memref sig .tc .vmem S512x1 .f32) (harg12 : arg12.IsWhole) (arg13 : Memref sig .tc .vmem S512x1 .f32) (harg13 : arg13.IsWhole)
    (x0 : Vec F S512x4096 .bf16) (x1 : Vec F S4096x512 .bf16) (x2 : Vec F S512x512 .bf16) (x3 : Vec F S1x4096 .f32) (x4 : Vec F S1x4096 .f32) (x5 : Vec F S512x256 .bf16) (x6 : Vec F S256x512 .bf16) (x7 : Vec F S1x512 .f32) (O : Vec F S512x4096 .f32) (A : Vec F S8x512x512 .f32) (M S : Vec F S512x1 .f32)
    (h1 : (Scalar.cmpi .ne (Scalar.extui (Scalar.cmpi .eq (BitVec.ofNat 32 (i 1).val) 0#32) : BitVec 32) 0#32 = 1#1)) (h2 : ¬ (Scalar.cmpi .ne (Scalar.extui (Scalar.cmpi .sgt (BitVec.ofNat 32 (i 1).val) 0#32) : BitVec 32) 0#32 = 1#1)) (h3 : ¬ (k0_cond3 i = 1#1)) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare O ∗ owns (c : Thread nD τ) arg11 fullShare A ∗ owns (c : Thread nD τ) arg12 fullShare M ∗ owns (c : Thread nD τ) arg13 fullShare S
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare O ∗ owns (c : Thread nD τ) arg11 fullShare ((slot i).overlay A (k0_pay205 x0 x1 x7 x5 x6 x2)) ∗ owns (c : Thread nD τ) arg12 fullShare (k0_pay2 (k0_pay206 x0 x1 x7 x5 x6 x2)) ∗ owns (c : Thread nD τ) arg13 fullShare (k0_pay3 (zb x0 x1 x2 x5 x6 x7) (k0_pay207 x0 x1 x7 x5 x6 x2))) -∗ K ⟨⟩))
      ⊢ wp frame (wpE (defs₀ (F := F)) Variants.none c none) E (cc0_mm_ln_gated i arg2 harg2 arg3 harg3 arg4 harg4 arg5 harg5 arg6 harg6 arg7 harg7 arg8 harg8 arg9 harg9 arg10 harg10 arg11 harg11 arg12 harg12 arg13 harg13) K := by
  rw [cc0_mm_ln_gated_eq_skeleton]; unfold cc0_mm_ln_gated_skel
  iintro ⟨H0, H1, H2, H3, H4, H5, H6, H7, H8, H9, H10, H11, Hk⟩
  iapply (Entails.of_eq (wp_bind frame (wpE (defs₀ (F := F)) Variants.none c none) E _ _ _).symm)
  iapply head_run c E i arg2 harg2 arg3 harg3 arg4 harg4 arg5 harg5 arg6 harg6 arg7 harg7 arg8 harg8 arg9 harg9 arg10 harg10 arg11 harg11 arg12 harg12 arg13 harg13 x0 x1 x2 x3 x4 x5 x6 x7 A
  isplitl [H0]; · iexact H0
  isplitl [H1]; · iexact H1
  isplitl [H7]; · iexact H7
  isplitl [H5]; · iexact H5
  isplitl [H6]; · iexact H6
  isplitl [H2]; · iexact H2
  isplitl [H9]; · iexact H9
  iintro ⟨H0, H1, H7, H5, H6, H2, H9⟩
  unfold owns
  icases H10 with ⟨%f10, %hf10, H10⟩
  icases H11 with ⟨%f11, %hf11, H11⟩
  subst hf10 hf11
  sl_exec
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists arg12.view.writes (Elt F) f10 [⟨Rect.unit (s := S512x1) ![0, 0] S512x1.size inb_S512x1_S512x1_0_0, (k0_pay2 (k0_pay206 x0 x1 x7 x5 x6 x2))⟩]
    isplitr
    · ipureintro; exact read_all _ _ _ _
    iexact H10
  iexists arg13.view.writes (Elt F) f11 [⟨Rect.unit (s := S512x1) ![0, 0] S512x1.size inb_S512x1_S512x1_0_0, (k0_pay3 (zb x0 x1 x2 x5 x6 x7) (k0_pay207 x0 x1 x7 x5 x6 x2))⟩]
  isplitr
  · ipureintro; exact read_all _ _ _ _
  iexact H11

set_option maxHeartbeats 4000000 in
theorem mid_run (c : Dev nD) (E : Set ℕ) (i : grid0.Coords) (arg2 : Memref sig .tc .vmem S512x4096 .bf16) (harg2 : arg2.IsWhole) (arg3 : Memref sig .tc .vmem S4096x512 .bf16) (harg3 : arg3.IsWhole) (arg4 : Memref sig .tc .vmem S512x512 .bf16) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x256 .bf16) (harg7 : arg7.IsWhole) (arg8 : Memref sig .tc .vmem S256x512 .bf16) (harg8 : arg8.IsWhole) (arg9 : Memref sig .tc .vmem S1x512 .f32) (harg9 : arg9.IsWhole) (arg10 : Memref sig .tc .vmem S512x4096 .f32) (harg10 : arg10.IsWhole) (arg11 : Memref sig .tc .vmem S8x512x512 .f32) (harg11 : arg11.IsWhole) (arg12 : Memref sig .tc .vmem S512x1 .f32) (harg12 : arg12.IsWhole) (arg13 : Memref sig .tc .vmem S512x1 .f32) (harg13 : arg13.IsWhole)
    (x0 : Vec F S512x4096 .bf16) (x1 : Vec F S4096x512 .bf16) (x2 : Vec F S512x512 .bf16) (x3 : Vec F S1x4096 .f32) (x4 : Vec F S1x4096 .f32) (x5 : Vec F S512x256 .bf16) (x6 : Vec F S256x512 .bf16) (x7 : Vec F S1x512 .f32) (O : Vec F S512x4096 .f32) (A : Vec F S8x512x512 .f32) (M S : Vec F S512x1 .f32)
    (h1 : ¬ (Scalar.cmpi .ne (Scalar.extui (Scalar.cmpi .eq (BitVec.ofNat 32 (i 1).val) 0#32) : BitVec 32) 0#32 = 1#1)) (h2 : (Scalar.cmpi .ne (Scalar.extui (Scalar.cmpi .sgt (BitVec.ofNat 32 (i 1).val) 0#32) : BitVec 32) 0#32 = 1#1)) (h3 : ¬ (k0_cond3 i = 1#1)) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare O ∗ owns (c : Thread nD τ) arg11 fullShare A ∗ owns (c : Thread nD τ) arg12 fullShare M ∗ owns (c : Thread nD τ) arg13 fullShare S
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare O ∗ owns (c : Thread nD τ) arg11 fullShare ((slot i).overlay A (k0_pay205 x0 x1 x7 x5 x6 x2)) ∗ owns (c : Thread nD τ) arg12 fullShare (k0_pay7 (BitVec.ofNat 32 (i 1).val) (k0_pay206 x0 x1 x7 x5 x6 x2) M M) ∗ owns (c : Thread nD τ) arg13 fullShare (k0_pay8 (BitVec.ofNat 32 (i 1).val) (zb x0 x1 x2 x5 x6 x7) (k0_pay206 x0 x1 x7 x5 x6 x2) (k0_pay207 x0 x1 x7 x5 x6 x2) M S)) -∗ K ⟨⟩))
      ⊢ wp frame (wpE (defs₀ (F := F)) Variants.none c none) E (cc0_mm_ln_gated i arg2 harg2 arg3 harg3 arg4 harg4 arg5 harg5 arg6 harg6 arg7 harg7 arg8 harg8 arg9 harg9 arg10 harg10 arg11 harg11 arg12 harg12 arg13 harg13) K := by
  rw [cc0_mm_ln_gated_eq_skeleton]; unfold cc0_mm_ln_gated_skel
  iintro ⟨H0, H1, H2, H3, H4, H5, H6, H7, H8, H9, H10, H11, Hk⟩
  iapply (Entails.of_eq (wp_bind frame (wpE (defs₀ (F := F)) Variants.none c none) E _ _ _).symm)
  iapply head_run c E i arg2 harg2 arg3 harg3 arg4 harg4 arg5 harg5 arg6 harg6 arg7 harg7 arg8 harg8 arg9 harg9 arg10 harg10 arg11 harg11 arg12 harg12 arg13 harg13 x0 x1 x2 x3 x4 x5 x6 x7 A
  isplitl [H0]; · iexact H0
  isplitl [H1]; · iexact H1
  isplitl [H7]; · iexact H7
  isplitl [H5]; · iexact H5
  isplitl [H6]; · iexact H6
  isplitl [H2]; · iexact H2
  isplitl [H9]; · iexact H9
  iintro ⟨H0, H1, H7, H5, H6, H2, H9⟩
  unfold owns
  icases H10 with ⟨%f10, %hf10, H10⟩
  icases H11 with ⟨%f11, %hf11, H11⟩
  subst hf10 hf11
  sl_exec
  sl_step
  rw [View.readAt_full arg12.view f10, View.readAt_full arg13.view f11]
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists arg12.view.writes (Elt F) f10 [⟨Rect.unit (s := S512x1) ![0, 0] S512x1.size inb_S512x1_S512x1_0_0, (k0_pay7 (BitVec.ofNat 32 (i 1).val) (k0_pay206 x0 x1 x7 x5 x6 x2) (View.read (Elt F) arg12.view f10) (View.read (Elt F) arg12.view f10))⟩]
    isplitr
    · ipureintro; exact read_all _ _ _ _
    iexact H10
  iexists arg13.view.writes (Elt F) f11 [⟨Rect.unit (s := S512x1) ![0, 0] S512x1.size inb_S512x1_S512x1_0_0, (k0_pay8 (BitVec.ofNat 32 (i 1).val) (zb x0 x1 x2 x5 x6 x7) (k0_pay206 x0 x1 x7 x5 x6 x2) (k0_pay207 x0 x1 x7 x5 x6 x2) (View.read (Elt F) arg12.view f10) (View.read (Elt F) arg13.view f11))⟩]
  isplitr
  · ipureintro; exact read_all _ _ _ _
  iexact H11

structure Kept (p : Prop) : Prop where
  out : p
/-- One stored block of the normalised rows: 32 rows from `r`, 512 columns from `q`. -/
def blk (A : Vec F S8x512x512 .f32) (M S : Vec F S512x1 .f32) (g b : Vec F S1x4096 .f32) (r q : ℕ)
    (hM : ∀ a, (![r, 0] : Fin 2 → ℕ) a + S32x1.size a ≤ S512x1.size a)
    (hA : ∀ a, (![q / 512, r, 0] : Fin 3 → ℕ) a + S1x32x512.size a ≤ S8x512x512.size a)
    (hg : ∀ a, (![0, q] : Fin 2 → ℕ) a + S1x512.size a ≤ S1x4096.size a) : FVec F S32x512 .f32 :=
  k0_pay12 (fun x => M ((Rect.unit (s := S512x1) ![r, 0] S32x1.size hM).toLoadRect.idx x))
    (fun x => S ((Rect.unit (s := S512x1) ![r, 0] S32x1.size hM).toLoadRect.idx x))
    (fun x => A ((Rect.unit (s := S8x512x512) ![q / 512, r, 0] S1x32x512.size hA).toLoadRect.idx x))
    (fun x => g ((Rect.unit (s := S1x4096) ![0, q] S1x512.size hg).toLoadRect.idx x))
    (fun x => b ((Rect.unit (s := S1x4096) ![0, q] S1x512.size hg).toLoadRect.idx x))

theorem hM_of (r : ℕ) (hr : r < 16) : ∀ a, (![32 * r, 0] : Fin 2 → ℕ) a + S32x1.size a ≤ S512x1.size a := by
  intro a; fin_cases a
  · show 32 * r + 32 ≤ 512; omega
  · show 0 + 1 ≤ 1; omega
theorem hA_of (r q : ℕ) (hr : r < 16) (hq : q < 8) : ∀ a, (![512 * q / 512, 32 * r, 0] : Fin 3 → ℕ) a + S1x32x512.size a ≤ S8x512x512.size a := by
  intro a; fin_cases a
  · show 512 * q / 512 + 1 ≤ 8; omega
  · show 32 * r + 32 ≤ 512; omega
  · show 0 + 512 ≤ 512; omega
theorem hg_of (q : ℕ) (hq : q < 8) : ∀ a, (![0, 512 * q] : Fin 2 → ℕ) a + S1x512.size a ≤ S1x4096.size a := by
  intro a; fin_cases a
  · show 0 + 1 ≤ 1; omega
  · show 512 * q + 512 ≤ 4096; omega

theorem row_lt (y : S512x4096.Idx) : (y 0).val / 32 < 16 := by
  have : (y 0).val < 512 := (y 0).isLt
  omega
theorem col_lt (y : S512x4096.Idx) : (y 1).val / 512 < 8 := by
  have : (y 1).val < 4096 := (y 1).isLt
  omega

/-- The normalised rows a point stores. -/
def outv (A : Vec F S8x512x512 .f32) (M S : Vec F S512x1 .f32) (g b : Vec F S1x4096 .f32) : Vec F S512x4096 .f32 := fun y =>
  blk A M S g b (32 * ((y 0).val / 32)) (512 * ((y 1).val / 512)) (hM_of _ (row_lt y)) (hA_of _ _ (row_lt y) (col_lt y)) (hg_of _ (col_lt y))
    (ix2 ⟨(y 0).val % 32, Nat.mod_lt _ (by decide)⟩ ⟨(y 1).val % 512, Nat.mod_lt _ (by decide)⟩)

theorem blk_congr (A : Vec F S8x512x512 .f32) (M S : Vec F S512x1 .f32) (g b : Vec F S1x4096 .f32) {r q r' q' : ℕ} (er : r' = r) (eq : q' = q) (hM hA hg hM' hA' hg')
    {x x' : S32x512.Idx} (ex : x' = x) : blk A M S g b r q hM hA hg x = blk A M S g b r' q' hM' hA' hg' x' := by
  subst er eq ex; rfl

theorem agree_out (A : Vec F S8x512x512 .f32) (M S : Vec F S512x1 .f32) (g b : Vec F S1x4096 .f32) (r q : ℕ) (hr : r % 32 = 0) (hq : q % 512 = 0) (hM hA hg)
    (hO : ∀ a, (![r, q] : Fin 2 → ℕ) a + S32x512.size a ≤ S512x4096.size a) (x : S32x512.Idx) :
    blk A M S g b r q hM hA hg x = outv A M S g b ((Rect.unit (s := S512x4096) ![r, q] S32x512.size hO).emb x) := by
  have h0 : (x 0).val < 32 := (x 0).isLt
  have h1 : (x 1).val < 512 := (x 1).isLt
  have e0 : (((Rect.unit (s := S512x4096) ![r, q] S32x512.size hO).emb x) 0).val = r + (x 0).val := by
    show r + 1 * (x 0).val = _; omega
  have e1 : (((Rect.unit (s := S512x4096) ![r, q] S32x512.size hO).emb x) 1).val = q + (x 1).val := by
    show q + 1 * (x 1).val = _; omega
  unfold outv
  refine blk_congr A M S g b ?_ ?_ _ _ _ _ _ _ ?_
  · rw [e0]; omega
  · rw [e1]; omega
  · funext a
    refine Fin.ext ?_
    fin_cases a
    · show (((Rect.unit (s := S512x4096) ![r, q] S32x512.size hO).emb x) 0).val % 32 = (x 0).val
      rw [e0]; omega
    · show (((Rect.unit (s := S512x4096) ![r, q] S32x512.size hO).emb x) 1).val % 512 = (x 1).val
      rw [e1]; omega

theorem agree_read (arg11 : Memref sig .tc .vmem S8x512x512 .f32) (arg12 arg13 : Memref sig .tc .vmem S512x1 .f32) (arg5 arg6 : Memref sig .tc .vmem S1x4096 .f32)
    (f9 : arg11.view.ty.Contents (Elt F)) (g10 : arg12.view.ty.Contents (Elt F)) (g11 : arg13.view.ty.Contents (Elt F)) (f3 : arg5.view.ty.Contents (Elt F)) (f4 : arg6.view.ty.Contents (Elt F))
    (r q k : ℕ) (hr : r % 32 = 0) (hq : q % 512 = 0) (hk : k = q / 512) (hM hA hg)
    (hO : ∀ a, (![r, q] : Fin 2 → ℕ) a + S32x512.size a ≤ S512x4096.size a) :
    k0_pay12 (View.readAt (Elt F) arg12.view (Rect.unit (s := S512x1) ![r, 0] S32x1.size hM).toLoadRect g10)
      (View.readAt (Elt F) arg13.view (Rect.unit (s := S512x1) ![r, 0] S32x1.size hM).toLoadRect g11)
      (View.readAt (Elt F) arg11.view (Rect.unit (s := S8x512x512) ![k, r, 0] S1x32x512.size hA).toLoadRect f9)
      (View.readAt (Elt F) arg5.view (Rect.unit (s := S1x4096) ![0, q] S1x512.size hg).toLoadRect f3)
      (View.readAt (Elt F) arg6.view (Rect.unit (s := S1x4096) ![0, q] S1x512.size hg).toLoadRect f4)
      = fun x => outv (View.read (Elt F) arg11.view f9) (View.read (Elt F) arg12.view g10) (View.read (Elt F) arg13.view g11) (View.read (Elt F) arg5.view f3) (View.read (Elt F) arg6.view f4)
        ((Rect.unit (s := S512x4096) ![r, q] S32x512.size hO).emb x) := by
  subst hk
  exact funext fun x => agree_out _ _ _ _ _ r q hr hq hM hA hg hO x

theorem read_pieces {κ : Kind} {sp : Space} {s : Shape} {e : EltTy} (v : View sig κ sp s e) (f : v.ty.Contents (Elt F)) (L : List (View.Piece (Elt F) s e)) (G : s.Idx → Elt F e)
    (hL : ∀ p ∈ L, p.2 = fun x => G (p.1.emb x)) (hc : ∀ y, ∃ p ∈ L, y ∈ p.1.set) : v.read (Elt F) (v.writes (Elt F) f L) = G :=
  funext fun y => View.read_writes_apply_of_pieces v f G L (fun p hp x => congrFun (hL p hp) x) y (hc y)

set_option maxHeartbeats 4000000 in
theorem last_run (c : Dev nD) (E : Set ℕ) (i : grid0.Coords) (arg2 : Memref sig .tc .vmem S512x4096 .bf16) (harg2 : arg2.IsWhole) (arg3 : Memref sig .tc .vmem S4096x512 .bf16) (harg3 : arg3.IsWhole) (arg4 : Memref sig .tc .vmem S512x512 .bf16) (harg4 : arg4.IsWhole) (arg5 : Memref sig .tc .vmem S1x4096 .f32) (harg5 : arg5.IsWhole) (arg6 : Memref sig .tc .vmem S1x4096 .f32) (harg6 : arg6.IsWhole) (arg7 : Memref sig .tc .vmem S512x256 .bf16) (harg7 : arg7.IsWhole) (arg8 : Memref sig .tc .vmem S256x512 .bf16) (harg8 : arg8.IsWhole) (arg9 : Memref sig .tc .vmem S1x512 .f32) (harg9 : arg9.IsWhole) (arg10 : Memref sig .tc .vmem S512x4096 .f32) (harg10 : arg10.IsWhole) (arg11 : Memref sig .tc .vmem S8x512x512 .f32) (harg11 : arg11.IsWhole) (arg12 : Memref sig .tc .vmem S512x1 .f32) (harg12 : arg12.IsWhole) (arg13 : Memref sig .tc .vmem S512x1 .f32) (harg13 : arg13.IsWhole)
    (x0 : Vec F S512x4096 .bf16) (x1 : Vec F S4096x512 .bf16) (x2 : Vec F S512x512 .bf16) (x3 : Vec F S1x4096 .f32) (x4 : Vec F S1x4096 .f32) (x5 : Vec F S512x256 .bf16) (x6 : Vec F S256x512 .bf16) (x7 : Vec F S1x512 .f32) (O : Vec F S512x4096 .f32) (A : Vec F S8x512x512 .f32) (M S : Vec F S512x1 .f32)
    (h1 : ¬ (Scalar.cmpi .ne (Scalar.extui (Scalar.cmpi .eq (BitVec.ofNat 32 (i 1).val) 0#32) : BitVec 32) 0#32 = 1#1)) (h2 : (Scalar.cmpi .ne (Scalar.extui (Scalar.cmpi .sgt (BitVec.ofNat 32 (i 1).val) 0#32) : BitVec 32) 0#32 = 1#1)) (h3 : (k0_cond3 i = 1#1)) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare O ∗ owns (c : Thread nD τ) arg11 fullShare A ∗ owns (c : Thread nD τ) arg12 fullShare M ∗ owns (c : Thread nD τ) arg13 fullShare S
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outv ((slot i).overlay A (k0_pay205 x0 x1 x7 x5 x6 x2)) (k0_pay7 (BitVec.ofNat 32 (i 1).val) (k0_pay206 x0 x1 x7 x5 x6 x2) M M) (k0_pay8 (BitVec.ofNat 32 (i 1).val) (zb x0 x1 x2 x5 x6 x7) (k0_pay206 x0 x1 x7 x5 x6 x2) (k0_pay207 x0 x1 x7 x5 x6 x2) M S) x3 x4) ∗ owns (c : Thread nD τ) arg11 fullShare ((slot i).overlay A (k0_pay205 x0 x1 x7 x5 x6 x2)) ∗ owns (c : Thread nD τ) arg12 fullShare (k0_pay7 (BitVec.ofNat 32 (i 1).val) (k0_pay206 x0 x1 x7 x5 x6 x2) M M) ∗ owns (c : Thread nD τ) arg13 fullShare (k0_pay8 (BitVec.ofNat 32 (i 1).val) (zb x0 x1 x2 x5 x6 x7) (k0_pay206 x0 x1 x7 x5 x6 x2) (k0_pay207 x0 x1 x7 x5 x6 x2) M S)) -∗ K ⟨⟩))
      ⊢ wp frame (wpE (defs₀ (F := F)) Variants.none c none) E (cc0_mm_ln_gated i arg2 harg2 arg3 harg3 arg4 harg4 arg5 harg5 arg6 harg6 arg7 harg7 arg8 harg8 arg9 harg9 arg10 harg10 arg11 harg11 arg12 harg12 arg13 harg13) K := by
  rw [cc0_mm_ln_gated_eq_skeleton]; unfold cc0_mm_ln_gated_skel
  iintro ⟨H0, H1, H2, H3, H4, H5, H6, H7, H8, H9, H10, H11, Hk⟩
  iapply (Entails.of_eq (wp_bind frame (wpE (defs₀ (F := F)) Variants.none c none) E _ _ _).symm)
  iapply head_run c E i arg2 harg2 arg3 harg3 arg4 harg4 arg5 harg5 arg6 harg6 arg7 harg7 arg8 harg8 arg9 harg9 arg10 harg10 arg11 harg11 arg12 harg12 arg13 harg13 x0 x1 x2 x3 x4 x5 x6 x7 A
  isplitl [H0]; · iexact H0
  isplitl [H1]; · iexact H1
  isplitl [H7]; · iexact H7
  isplitl [H5]; · iexact H5
  isplitl [H6]; · iexact H6
  isplitl [H2]; · iexact H2
  isplitl [H9]; · iexact H9
  iintro ⟨H0, H1, H7, H5, H6, H2, H9⟩
  have hh : Kept (k0_cond3 i = 1#1) := ⟨h3⟩
  clear h3
  unfold owns
  icases H10 with ⟨%f10, %hf10, H10⟩
  icases H11 with ⟨%f11, %hf11, H11⟩
  subst hf10 hf11
  sl_exec
  rw [View.readAt_full arg12.view f10, View.readAt_full arg13.view f11]
  have e10 := read_all arg12.view f10 inb_S512x1_S512x1_0_0 (k0_pay7 (BitVec.ofNat 32 (i 1).val) (k0_pay206 x0 x1 x7 x5 x6 x2) (View.read (Elt F) arg12.view f10) (View.read (Elt F) arg12.view f10))
  have e11 := read_all arg13.view f11 inb_S512x1_S512x1_0_0 (k0_pay8 (BitVec.ofNat 32 (i 1).val) (zb x0 x1 x2 x5 x6 x7) (k0_pay206 x0 x1 x7 x5 x6 x2) (k0_pay207 x0 x1 x7 x5 x6 x2) (View.read (Elt F) arg12.view f10) (View.read (Elt F) arg13.view f11))
  generalize arg12.view.writes (Elt F) f10 [⟨Rect.unit (s := S512x1) ![0, 0] S512x1.size inb_S512x1_S512x1_0_0, (k0_pay7 (BitVec.ofNat 32 (i 1).val) (k0_pay206 x0 x1 x7 x5 x6 x2) (View.read (Elt F) arg12.view f10) (View.read (Elt F) arg12.view f10))⟩] = g10 at e10 ⊢
  generalize arg13.view.writes (Elt F) f11 [⟨Rect.unit (s := S512x1) ![0, 0] S512x1.size inb_S512x1_S512x1_0_0, (k0_pay8 (BitVec.ofNat 32 (i 1).val) (zb x0 x1 x2 x5 x6 x7) (k0_pay206 x0 x1 x7 x5 x6 x2) (k0_pay207 x0 x1 x7 x5 x6 x2) (View.read (Elt F) arg12.view f10) (View.read (Elt F) arg13.view f11))⟩] = g11 at e11 ⊢
  rw [← e10, ← e11]
  clear e10 e11
  icases H3 with ⟨%f3, %hf3, H3⟩
  icases H4 with ⟨%f4, %hf4, H4⟩
  icases H8 with ⟨%f8, %hf8, H8⟩
  icases H9 with ⟨%f9, %hf9, H9⟩
  subst hf3 hf4
  rw [← hf9]
  have h3 := hh.out
  sl_exec
  sl_step
  iapply Hk
  isplitl [H0]; · iexact H0
  isplitl [H1]; · iexact H1
  isplitl [H2]; · iexact H2
  isplitl [H3]
  · iexists f3; isplitr; · ipureintro; exact rfl
    iexact H3
  isplitl [H4]
  · iexists f4; isplitr; · ipureintro; exact rfl
    iexact H4
  isplitl [H5]; · iexact H5
  isplitl [H6]; · iexact H6
  isplitl [H7]; · iexact H7
  isplitl [H8]
  · iexists _; isplitr
    swap; · iexact H8
    ipureintro
    have ag := agree_read (F := F) arg11 arg12 arg13 arg5 arg6 f9 g10 g11 f3 f4
    refine read_pieces _ _ _ _ ?_ ?_
    · skip
      refine List.forall_mem_cons.mpr ⟨ag 480 3584 7 (by decide) (by decide) (by decide) inb_S512x1_S32x1_480_0 inb_S8x512x512_S1x32x512_7_480_0 inb_S1x4096_S1x512_0_3584 inb_S512x4096_S32x512_480_3584, ?_⟩
      refine List.forall_mem_cons.mpr ⟨ag 480 1536 3 (by decide) (by decide) (by decide) inb_S512x1_S32x1_480_0 inb_S8x512x512_S1x32x512_3_480_0 inb_S1x4096_S1x512_0_1536 inb_S512x4096_S32x512_480_1536, ?_⟩
      refine List.forall_mem_cons.mpr ⟨ag 480 3072 6 (by decide) (by decide) (by decide) inb_S512x1_S32x1_480_0 inb_S8x512x512_S1x32x512_6_480_0 inb_S1x4096_S1x512_0_3072 inb_S512x4096_S32x512_480_3072, ?_⟩
      refine List.forall_mem_cons.mpr ⟨ag 480 1024 2 (by decide) (by decide) (by decide) inb_S512x1_S32x1_480_0 inb_S8x512x512_S1x32x512_2_480_0 inb_S1x4096_S1x512_0_1024 inb_S512x4096_S32x512_480_1024, ?_⟩
      refine List.forall_mem_cons.mpr ⟨ag 480 2560 5 (by decide) (by decide) (by decide) inb_S512x1_S32x1_480_0 inb_S8x512x512_S1x32x512_5_480_0 inb_S1x4096_S1x512_0_2560 inb_S512x4096_S32x512_480_2560, ?_⟩
      refine List.forall_mem_cons.mpr ⟨ag 480 512 1 (by decide) (by decide) (by decide) inb_S512x1_S32x1_480_0 inb_S8x512x512_S1x32x512_1_480_0 inb_S1x4096_S1x512_0_512 inb_S512x4096_S32x512_480_512, ?_⟩
      refine List.forall_mem_cons.mpr ⟨ag 480 2048 4 (by decide) (by decide) (by decide) inb_S512x1_S32x1_480_0 inb_S8x512x512_S1x32x512_4_480_0 inb_S1x4096_S1x512_0_2048 inb_S512x4096_S32x512_480_2048, ?_⟩
      refine List.forall_mem_cons.mpr ⟨ag 480 0 0 (by decide) (by decide) (by decide) inb_S512x1_S32x1_480_0 inb_S8x512x512_S1x32x512_0_480_0 inb_S1x4096_S1x512_0_0 inb_S512x4096_S32x512_480_0, ?_⟩
      refine List.forall_mem_cons.mpr ⟨ag 448 3584 7 (by decide) (by decide) (by decide) inb_S512x1_S32x1_448_0 inb_S8x512x512_S1x32x512_7_448_0 inb_S1x4096_S1x512_0_3584 inb_S512x4096_S32x512_448_3584, ?_⟩
      refine List.forall_mem_cons.mpr ⟨ag 448 1536 3 (by decide) (by decide) (by decide) inb_S512x1_S32x1_448_0 inb_S8x512x512_S1x32x512_3_448_0 inb_S1x4096_S1x512_0_1536 inb_S512x4096_S32x512_448_1536, ?_⟩
      refine List.forall_mem_cons.mpr ⟨ag 448 3072 6 (by decide) (by decide) (by decide) inb_S512x1_S32x1_448_0 inb_S8x512x512_S1x32x512_6_448_0 inb_S1x4096_S1x512_0_3072 inb_S512x4096_S32x512_448_3072, ?_⟩
      refine List.forall_mem_cons.mpr ⟨ag 448 1024 2 (by decide) (by decide) (by decide) inb_S512x1_S32x1_448_0 inb_S8x512x512_S1x32x512_2_448_0 inb_S1x4096_S1x512_0_1024 inb_S512x4096_S32x512_448_1024, ?_⟩
      refine List.forall_mem_cons.mpr ⟨ag 448 2560 5 (by decide) (by decide) (by decide) inb_S512x1_S32x1_448_0 inb_S8x512x512_S1x32x512_5_448_0 inb_S1x4096_S1x512_0_2560 inb_S512x4096_S32x512_448_2560, ?_⟩
      refine List.forall_mem_cons.mpr ⟨ag 448 512 1 (by decide) (by decide) (by decide) inb_S512x1_S32x1_448_0 inb_S8x512x512_S1x32x512_1_448_0 inb_S1x4096_S1x512_0_512 inb_S512x4096_S32x512_448_512, ?_⟩
      refine List.forall_mem_cons.mpr ⟨ag 448 2048 4 (by decide) (by decide) (by decide) inb_S512x1_S32x1_448_0 inb_S8x512x512_S1x32x512_4_448_0 inb_S1x4096_S1x512_0_2048 inb_S512x4096_S32x512_448_2048, ?_⟩
      refine List.forall_mem_cons.mpr ⟨ag 448 0 0 (by decide) (by decide) (by decide) inb_S512x1_S32x1_448_0 inb_S8x512x512_S1x32x512_0_448_0 inb_S1x4096_S1x512_0_0 inb_S512x4096_S32x512_448_0, ?_⟩
      refine List.forall_mem_cons.mpr ⟨ag 416 3584 7 (by decide) (by decide) (by decide) inb_S512x1_S32x1_416_0 inb_S8x512x512_S1x32x512_7_416_0 inb_S1x4096_S1x512_0_3584 inb_S512x4096_S32x512_416_3584, ?_⟩
      refine List.forall_mem_cons.mpr ⟨ag 416 1536 3 (by decide) (by decide) (by decide) inb_S512x1_S32x1_416_0 inb_S8x512x512_S1x32x512_3_416_0 inb_S1x4096_S1x512_0_1536 inb_S512x4096_S32x512_416_1536, ?_⟩
      refine List.forall_mem_cons.mpr ⟨ag 416 3072 6 (by decide) (by decide) (by decide) inb_S512x1_S32x1_416_0 inb_S8x512x512_S1x32x512_6_416_0 inb_S1x4096_S1x512_0_3072 inb_S512x4096_S32x512_416_3072, ?_⟩
      refine List.forall_mem_cons.mpr ⟨ag 416 1024 2 (by decide) (by decide) (by decide) inb_S512x1_S32x1_416_0 inb_S8x512x512_S1x32x512_2_416_0 inb_S1x4096_S1x512_0_1024 inb_S512x4096_S32x512_416_1024, ?_⟩
      refine List.forall_mem_cons.mpr ⟨ag 416 2560 5 (by decide) (by decide) (by decide) inb_S512x1_S32x1_416_0 inb_S8x512x512_S1x32x512_5_416_0 inb_S1x4096_S1x512_0_2560 inb_S512x4096_S32x512_416_2560, ?_⟩
      refine List.forall_mem_cons.mpr ⟨ag 416 512 1 (by decide) (by decide) (by decide) inb_S512x1_S32x1_416_0 inb_S8x512x512_S1x32x512_1_416_0 inb_S1x4096_S1x512_0_512 inb_S512x4096_S32x512_416_512, ?_⟩
      refine List.forall_mem_cons.mpr ⟨ag 416 2048 4 (by decide) (by decide) (by decide) inb_S512x1_S32x1_416_0 inb_S8x512x512_S1x32x512_4_416_0 inb_S1x4096_S1x512_0_2048 inb_S512x4096_S32x512_416_2048, ?_⟩
      refine List.forall_mem_cons.mpr ⟨ag 416 0 0 (by decide) (by decide) (by decide) inb_S512x1_S32x1_416_0 inb_S8x512x512_S1x32x512_0_416_0 inb_S1x4096_S1x512_0_0 inb_S512x4096_S32x512_416_0, ?_⟩
      refine List.forall_mem_cons.mpr ⟨ag 384 3584 7 (by decide) (by decide) (by decide) inb_S512x1_S32x1_384_0 inb_S8x512x512_S1x32x512_7_384_0 inb_S1x4096_S1x512_0_3584 inb_S512x4096_S32x512_384_3584, ?_⟩
      refine List.forall_mem_cons.mpr ⟨ag 384 1536 3 (by decide) (by decide) (by decide) inb_S512x1_S32x1_384_0 inb_S8x512x512_S1x32x512_3_384_0 inb_S1x4096_S1x512_0_1536 inb_S512x4096_S32x512_384_1536, ?_⟩
      refine List.forall_mem_cons.mpr ⟨ag 384 3072 6 (by decide) (by decide) (by decide) inb_S512x1_S32x1_384_0 inb_S8x512x512_S1x32x512_6_384_0 inb_S1x4096_S1x512_0_3072 inb_S512x4096_S32x512_384_3072, ?_⟩
      refine List.forall_mem_cons.mpr ⟨ag 384 1024 2 (by decide) (by decide) (by decide) inb_S512x1_S32x1_384_0 inb_S8x512x512_S1x32x512_2_384_0 inb_S1x4096_S1x512_0_1024 inb_S512x4096_S32x512_384_1024, ?_⟩
      refine List.forall_mem_cons.mpr ⟨ag 384 2560 5 (by decide) (by decide) (by decide) inb_S512x1_S32x1_384_0 inb_S8x512x512_S1x32x512_5_384_0 inb_S1x4096_S1x512_0_2560 inb_S512x4096_S32x512_384_2560, ?_⟩
      refine List.forall_mem_cons.mpr ⟨ag 384 512 1 (by decide) (by decide) (by decide) inb_S512x1_S32x1_384_0 inb_S8x512x512_S1x32x512_1_384_0 inb_S1x4096_S1x512_0_512 inb_S512x4096_S32x512_384_512, ?_⟩
      refine List.forall_mem_cons.mpr ⟨ag 384 2048 4 (by decide) (by decide) (by decide) inb_S512x1_S32x1_384_0 inb_S8x512x512_S1x32x512_4_384_0 inb_S1x4096_S1x512_0_2048 inb_S512x4096_S32x512_384_2048, ?_⟩
      refine List.forall_mem_cons.mpr ⟨ag 384 0 0 (by decide) (by decide) (by decide) inb_S512x1_S32x1_384_0 inb_S8x512x512_S1x32x512_0_384_0 inb_S1x4096_S1x512_0_0 inb_S512x4096_S32x512_384_0, ?_⟩
      refine List.forall_mem_cons.mpr ⟨ag 352 3584 7 (by decide) (by decide) (by decide) inb_S512x1_S32x1_352_0 inb_S8x512x512_S1x32x512_7_352_0 inb_S1x4096_S1x512_0_3584 inb_S512x4096_S32x512_352_3584, ?_⟩
      refine List.forall_mem_cons.mpr ⟨ag 352 1536 3 (by decide) (by decide) (by decide) inb_S512x1_S32x1_352_0 inb_S8x512x512_S1x32x512_3_352_0 inb_S1x4096_S1x512_0_1536 inb_S512x4096_S32x512_352_1536, ?_⟩
      refine List.forall_mem_cons.mpr ⟨ag 352 3072 6 (by decide) (by decide) (by decide) inb_S512x1_S32x1_352_0 inb_S8x512x512_S1x32x512_6_352_0 inb_S1x4096_S1x512_0_3072 inb_S512x4096_S32x512_352_3072, ?_⟩
      refine List.forall_mem_cons.mpr ⟨ag 352 1024 2 (by decide) (by decide) (by decide) inb_S512x1_S32x1_352_0 inb_S8x512x512_S1x32x512_2_352_0 inb_S1x4096_S1x512_0_1024 inb_S512x4096_S32x512_352_1024, ?_⟩
      refine List.forall_mem_cons.mpr ⟨ag 352 2560 5 (by decide) (by decide) (by decide) inb_S512x1_S32x1_352_0 inb_S8x512x512_S1x32x512_5_352_0 inb_S1x4096_S1x512_0_2560 inb_S512x4096_S32x512_352_2560, ?_⟩
      refine List.forall_mem_cons.mpr ⟨ag 352 512 1 (by decide) (by decide) (by decide) inb_S512x1_S32x1_352_0 inb_S8x512x512_S1x32x512_1_352_0 inb_S1x4096_S1x512_0_512 inb_S512x4096_S32x512_352_512, ?_⟩
      refine List.forall_mem_cons.mpr ⟨ag 352 2048 4 (by decide) (by decide) (by decide) inb_S512x1_S32x1_352_0 inb_S8x512x512_S1x32x512_4_352_0 inb_S1x4096_S1x512_0_2048 inb_S512x4096_S32x512_352_2048, ?_⟩
      refine List.forall_mem_cons.mpr ⟨ag 352 0 0 (by decide) (by decide) (by decide) inb_S512x1_S32x1_352_0 inb_S8x512x512_S1x32x512_0_352_0 inb_S1x4096_S1x512_0_0 inb_S512x4096_S32x512_352_0, ?_⟩
      refine List.forall_mem_cons.mpr ⟨ag 320 3584 7 (by decide) (by decide) (by decide) inb_S512x1_S32x1_320_0 inb_S8x512x512_S1x32x512_7_320_0 inb_S1x4096_S1x512_0_3584 inb_S512x4096_S32x512_320_3584, ?_⟩
      refine List.forall_mem_cons.mpr ⟨ag 320 1536 3 (by decide) (by decide) (by decide) inb_S512x1_S32x1_320_0 inb_S8x512x512_S1x32x512_3_320_0 inb_S1x4096_S1x512_0_1536 inb_S512x4096_S32x512_320_1536, ?_⟩
      refine List.forall_mem_cons.mpr ⟨ag 320 3072 6 (by decide) (by decide) (by decide) inb_S512x1_S32x1_320_0 inb_S8x512x512_S1x32x512_6_320_0 inb_S1x4096_S1x512_0_3072 inb_S512x4096_S32x512_320_3072, ?_⟩
      refine List.forall_mem_cons.mpr ⟨ag 320 1024 2 (by decide) (by decide) (by decide) inb_S512x1_S32x1_320_0 inb_S8x512x512_S1x32x512_2_320_0 inb_S1x4096_S1x512_0_1024 inb_S512x4096_S32x512_320_1024, ?_⟩
      refine List.forall_mem_cons.mpr ⟨ag 320 2560 5 (by decide) (by decide) (by decide) inb_S512x1_S32x1_320_0 inb_S8x512x512_S1x32x512_5_320_0 inb_S1x4096_S1x512_0_2560 inb_S512x4096_S32x512_320_2560, ?_⟩
      refine List.forall_mem_cons.mpr ⟨ag 320 512 1 (by decide) (by decide) (by decide) inb_S512x1_S32x1_320_0 inb_S8x512x512_S1x32x512_1_320_0 inb_S1x4096_S1x512_0_512 inb_S512x4096_S32x512_320_512, ?_⟩
      refine List.forall_mem_cons.mpr ⟨ag 320 2048 4 (by decide) (by decide) (by decide) inb_S512x1_S32x1_320_0 inb_S8x512x512_S1x32x512_4_320_0 inb_S1x4096_S1x512_0_2048 inb_S512x4096_S32x512_320_2048, ?_⟩
      refine List.forall_mem_cons.mpr ⟨ag 320 0 0 (by decide) (by decide) (by decide) inb_S512x1_S32x1_320_0 inb_S8x512x512_S1x32x512_0_320_0 inb_S1x4096_S1x512_0_0 inb_S512x4096_S32x512_320_0, ?_⟩
      refine List.forall_mem_cons.mpr ⟨ag 288 3584 7 (by decide) (by decide) (by decide) inb_S512x1_S32x1_288_0 inb_S8x512x512_S1x32x512_7_288_0 inb_S1x4096_S1x512_0_3584 inb_S512x4096_S32x512_288_3584, ?_⟩
      refine List.forall_mem_cons.mpr ⟨ag 288 1536 3 (by decide) (by decide) (by decide) inb_S512x1_S32x1_288_0 inb_S8x512x512_S1x32x512_3_288_0 inb_S1x4096_S1x512_0_1536 inb_S512x4096_S32x512_288_1536, ?_⟩
      refine List.forall_mem_cons.mpr ⟨ag 288 3072 6 (by decide) (by decide) (by decide) inb_S512x1_S32x1_288_0 inb_S8x512x512_S1x32x512_6_288_0 inb_S1x4096_S1x512_0_3072 inb_S512x4096_S32x512_288_3072, ?_⟩
      refine List.forall_mem_cons.mpr ⟨ag 288 1024 2 (by decide) (by decide) (by decide) inb_S512x1_S32x1_288_0 inb_S8x512x512_S1x32x512_2_288_0 inb_S1x4096_S1x512_0_1024 inb_S512x4096_S32x512_288_1024, ?_⟩
      refine List.forall_mem_cons.mpr ⟨ag 288 2560 5 (by decide) (by decide) (by decide) inb_S512x1_S32x1_288_0 inb_S8x512x512_S1x32x512_5_288_0 inb_S1x4096_S1x512_0_2560 inb_S512x4096_S32x512_288_2560, ?_⟩
      refine List.forall_mem_cons.mpr ⟨ag 288 512 1 (by decide) (by decide) (by decide) inb_S512x1_S32x1_288_0 inb_S8x512x512_S1x32x512_1_288_0 inb_S1x4096_S1x512_0_512 inb_S512x4096_S32x512_288_512, ?_⟩
      refine List.forall_mem_cons.mpr ⟨ag 288 2048 4 (by decide) (by decide) (by decide) inb_S512x1_S32x1_288_0 inb_S8x512x512_S1x32x512_4_288_0 inb_S1x4096_S1x512_0_2048 inb_S512x4096_S32x512_288_2048, ?_⟩
      refine List.forall_mem_cons.mpr ⟨ag 288 0 0 (by decide) (by decide) (by decide) inb_S512x1_S32x1_288_0 inb_S8x512x512_S1x32x512_0_288_0 inb_S1x4096_S1x512_0_0 inb_S512x4096_S32x512_288_0, ?_⟩
      refine List.forall_mem_cons.mpr ⟨ag 256 3584 7 (by decide) (by decide) (by decide) inb_S512x1_S32x1_256_0 inb_S8x512x512_S1x32x512_7_256_0 inb_S1x4096_S1x512_0_3584 inb_S512x4096_S32x512_256_3584, ?_⟩
      refine List.forall_mem_cons.mpr ⟨ag 256 1536 3 (by decide) (by decide) (by decide) inb_S512x1_S32x1_256_0 inb_S8x512x512_S1x32x512_3_256_0 inb_S1x4096_S1x512_0_1536 inb_S512x4096_S32x512_256_1536, ?_⟩
      refine List.forall_mem_cons.mpr ⟨ag 256 3072 6 (by decide) (by decide) (by decide) inb_S512x1_S32x1_256_0 inb_S8x512x512_S1x32x512_6_256_0 inb_S1x4096_S1x512_0_3072 inb_S512x4096_S32x512_256_3072, ?_⟩
      refine List.forall_mem_cons.mpr ⟨ag 256 1024 2 (by decide) (by decide) (by decide) inb_S512x1_S32x1_256_0 inb_S8x512x512_S1x32x512_2_256_0 inb_S1x4096_S1x512_0_1024 inb_S512x4096_S32x512_256_1024, ?_⟩
      refine List.forall_mem_cons.mpr ⟨ag 256 2560 5 (by decide) (by decide) (by decide) inb_S512x1_S32x1_256_0 inb_S8x512x512_S1x32x512_5_256_0 inb_S1x4096_S1x512_0_2560 inb_S512x4096_S32x512_256_2560, ?_⟩
      refine List.forall_mem_cons.mpr ⟨ag 256 512 1 (by decide) (by decide) (by decide) inb_S512x1_S32x1_256_0 inb_S8x512x512_S1x32x512_1_256_0 inb_S1x4096_S1x512_0_512 inb_S512x4096_S32x512_256_512, ?_⟩
      refine List.forall_mem_cons.mpr ⟨ag 256 2048 4 (by decide) (by decide) (by decide) inb_S512x1_S32x1_256_0 inb_S8x512x512_S1x32x512_4_256_0 inb_S1x4096_S1x512_0_2048 inb_S512x4096_S32x512_256_2048, ?_⟩
      refine List.forall_mem_cons.mpr ⟨ag 256 0 0 (by decide) (by decide) (by decide) inb_S512x1_S32x1_256_0 inb_S8x512x512_S1x32x512_0_256_0 inb_S1x4096_S1x512_0_0 inb_S512x4096_S32x512_256_0, ?_⟩
      refine List.forall_mem_cons.mpr ⟨ag 224 3584 7 (by decide) (by decide) (by decide) inb_S512x1_S32x1_224_0 inb_S8x512x512_S1x32x512_7_224_0 inb_S1x4096_S1x512_0_3584 inb_S512x4096_S32x512_224_3584, ?_⟩
      refine List.forall_mem_cons.mpr ⟨ag 224 1536 3 (by decide) (by decide) (by decide) inb_S512x1_S32x1_224_0 inb_S8x512x512_S1x32x512_3_224_0 inb_S1x4096_S1x512_0_1536 inb_S512x4096_S32x512_224_1536, ?_⟩
      refine List.forall_mem_cons.mpr ⟨ag 224 3072 6 (by decide) (by decide) (by decide) inb_S512x1_S32x1_224_0 inb_S8x512x512_S1x32x512_6_224_0 inb_S1x4096_S1x512_0_3072 inb_S512x4096_S32x512_224_3072, ?_⟩
      refine List.forall_mem_cons.mpr ⟨ag 224 1024 2 (by decide) (by decide) (by decide) inb_S512x1_S32x1_224_0 inb_S8x512x512_S1x32x512_2_224_0 inb_S1x4096_S1x512_0_1024 inb_S512x4096_S32x512_224_1024, ?_⟩
      refine List.forall_mem_cons.mpr ⟨ag 224 2560 5 (by decide) (by decide) (by decide) inb_S512x1_S32x1_224_0 inb_S8x512x512_S1x32x512_5_224_0 inb_S1x4096_S1x512_0_2560 inb_S512x4096_S32x512_224_2560, ?_⟩
      refine List.forall_mem_cons.mpr ⟨ag 224 512 1 (by decide) (by decide) (by decide) inb_S512x1_S32x1_224_0 inb_S8x512x512_S1x32x512_1_224_0 inb_S1x4096_S1x512_0_512 inb_S512x4096_S32x512_224_512, ?_⟩
      refine List.forall_mem_cons.mpr ⟨ag 224 2048 4 (by decide) (by decide) (by decide) inb_S512x1_S32x1_224_0 inb_S8x512x512_S1x32x512_4_224_0 inb_S1x4096_S1x512_0_2048 inb_S512x4096_S32x512_224_2048, ?_⟩
      refine List.forall_mem_cons.mpr ⟨ag 224 0 0 (by decide) (by decide) (by decide) inb_S512x1_S32x1_224_0 inb_S8x512x512_S1x32x512_0_224_0 inb_S1x4096_S1x512_0_0 inb_S512x4096_S32x512_224_0, ?_⟩
      refine List.forall_mem_cons.mpr ⟨ag 192 3584 7 (by decide) (by decide) (by decide) inb_S512x1_S32x1_192_0 inb_S8x512x512_S1x32x512_7_192_0 inb_S1x4096_S1x512_0_3584 inb_S512x4096_S32x512_192_3584, ?_⟩
      refine List.forall_mem_cons.mpr ⟨ag 192 1536 3 (by decide) (by decide) (by decide) inb_S512x1_S32x1_192_0 inb_S8x512x512_S1x32x512_3_192_0 inb_S1x4096_S1x512_0_1536 inb_S512x4096_S32x512_192_1536, ?_⟩
      refine List.forall_mem_cons.mpr ⟨ag 192 3072 6 (by decide) (by decide) (by decide) inb_S512x1_S32x1_192_0 inb_S8x512x512_S1x32x512_6_192_0 inb_S1x4096_S1x512_0_3072 inb_S512x4096_S32x512_192_3072, ?_⟩
      refine List.forall_mem_cons.mpr ⟨ag 192 1024 2 (by decide) (by decide) (by decide) inb_S512x1_S32x1_192_0 inb_S8x512x512_S1x32x512_2_192_0 inb_S1x4096_S1x512_0_1024 inb_S512x4096_S32x512_192_1024, ?_⟩
      refine List.forall_mem_cons.mpr ⟨ag 192 2560 5 (by decide) (by decide) (by decide) inb_S512x1_S32x1_192_0 inb_S8x512x512_S1x32x512_5_192_0 inb_S1x4096_S1x512_0_2560 inb_S512x4096_S32x512_192_2560, ?_⟩
      refine List.forall_mem_cons.mpr ⟨ag 192 512 1 (by decide) (by decide) (by decide) inb_S512x1_S32x1_192_0 inb_S8x512x512_S1x32x512_1_192_0 inb_S1x4096_S1x512_0_512 inb_S512x4096_S32x512_192_512, ?_⟩
      refine List.forall_mem_cons.mpr ⟨ag 192 2048 4 (by decide) (by decide) (by decide) inb_S512x1_S32x1_192_0 inb_S8x512x512_S1x32x512_4_192_0 inb_S1x4096_S1x512_0_2048 inb_S512x4096_S32x512_192_2048, ?_⟩
      refine List.forall_mem_cons.mpr ⟨ag 192 0 0 (by decide) (by decide) (by decide) inb_S512x1_S32x1_192_0 inb_S8x512x512_S1x32x512_0_192_0 inb_S1x4096_S1x512_0_0 inb_S512x4096_S32x512_192_0, ?_⟩
      refine List.forall_mem_cons.mpr ⟨ag 160 3584 7 (by decide) (by decide) (by decide) inb_S512x1_S32x1_160_0 inb_S8x512x512_S1x32x512_7_160_0 inb_S1x4096_S1x512_0_3584 inb_S512x4096_S32x512_160_3584, ?_⟩
      refine List.forall_mem_cons.mpr ⟨ag 160 1536 3 (by decide) (by decide) (by decide) inb_S512x1_S32x1_160_0 inb_S8x512x512_S1x32x512_3_160_0 inb_S1x4096_S1x512_0_1536 inb_S512x4096_S32x512_160_1536, ?_⟩
      refine List.forall_mem_cons.mpr ⟨ag 160 3072 6 (by decide) (by decide) (by decide) inb_S512x1_S32x1_160_0 inb_S8x512x512_S1x32x512_6_160_0 inb_S1x4096_S1x512_0_3072 inb_S512x4096_S32x512_160_3072, ?_⟩
      refine List.forall_mem_cons.mpr ⟨ag 160 1024 2 (by decide) (by decide) (by decide) inb_S512x1_S32x1_160_0 inb_S8x512x512_S1x32x512_2_160_0 inb_S1x4096_S1x512_0_1024 inb_S512x4096_S32x512_160_1024, ?_⟩
      refine List.forall_mem_cons.mpr ⟨ag 160 2560 5 (by decide) (by decide) (by decide) inb_S512x1_S32x1_160_0 inb_S8x512x512_S1x32x512_5_160_0 inb_S1x4096_S1x512_0_2560 inb_S512x4096_S32x512_160_2560, ?_⟩
      refine List.forall_mem_cons.mpr ⟨ag 160 512 1 (by decide) (by decide) (by decide) inb_S512x1_S32x1_160_0 inb_S8x512x512_S1x32x512_1_160_0 inb_S1x4096_S1x512_0_512 inb_S512x4096_S32x512_160_512, ?_⟩
      refine List.forall_mem_cons.mpr ⟨ag 160 2048 4 (by decide) (by decide) (by decide) inb_S512x1_S32x1_160_0 inb_S8x512x512_S1x32x512_4_160_0 inb_S1x4096_S1x512_0_2048 inb_S512x4096_S32x512_160_2048, ?_⟩
      refine List.forall_mem_cons.mpr ⟨ag 160 0 0 (by decide) (by decide) (by decide) inb_S512x1_S32x1_160_0 inb_S8x512x512_S1x32x512_0_160_0 inb_S1x4096_S1x512_0_0 inb_S512x4096_S32x512_160_0, ?_⟩
      refine List.forall_mem_cons.mpr ⟨ag 128 3584 7 (by decide) (by decide) (by decide) inb_S512x1_S32x1_128_0 inb_S8x512x512_S1x32x512_7_128_0 inb_S1x4096_S1x512_0_3584 inb_S512x4096_S32x512_128_3584, ?_⟩
      refine List.forall_mem_cons.mpr ⟨ag 128 1536 3 (by decide) (by decide) (by decide) inb_S512x1_S32x1_128_0 inb_S8x512x512_S1x32x512_3_128_0 inb_S1x4096_S1x512_0_1536 inb_S512x4096_S32x512_128_1536, ?_⟩
      refine List.forall_mem_cons.mpr ⟨ag 128 3072 6 (by decide) (by decide) (by decide) inb_S512x1_S32x1_128_0 inb_S8x512x512_S1x32x512_6_128_0 inb_S1x4096_S1x512_0_3072 inb_S512x4096_S32x512_128_3072, ?_⟩
      refine List.forall_mem_cons.mpr ⟨ag 128 1024 2 (by decide) (by decide) (by decide) inb_S512x1_S32x1_128_0 inb_S8x512x512_S1x32x512_2_128_0 inb_S1x4096_S1x512_0_1024 inb_S512x4096_S32x512_128_1024, ?_⟩
      refine List.forall_mem_cons.mpr ⟨ag 128 2560 5 (by decide) (by decide) (by decide) inb_S512x1_S32x1_128_0 inb_S8x512x512_S1x32x512_5_128_0 inb_S1x4096_S1x512_0_2560 inb_S512x4096_S32x512_128_2560, ?_⟩
      refine List.forall_mem_cons.mpr ⟨ag 128 512 1 (by decide) (by decide) (by decide) inb_S512x1_S32x1_128_0 inb_S8x512x512_S1x32x512_1_128_0 inb_S1x4096_S1x512_0_512 inb_S512x4096_S32x512_128_512, ?_⟩
      refine List.forall_mem_cons.mpr ⟨ag 128 2048 4 (by decide) (by decide) (by decide) inb_S512x1_S32x1_128_0 inb_S8x512x512_S1x32x512_4_128_0 inb_S1x4096_S1x512_0_2048 inb_S512x4096_S32x512_128_2048, ?_⟩
      refine List.forall_mem_cons.mpr ⟨ag 128 0 0 (by decide) (by decide) (by decide) inb_S512x1_S32x1_128_0 inb_S8x512x512_S1x32x512_0_128_0 inb_S1x4096_S1x512_0_0 inb_S512x4096_S32x512_128_0, ?_⟩
      refine List.forall_mem_cons.mpr ⟨ag 96 3584 7 (by decide) (by decide) (by decide) inb_S512x1_S32x1_96_0 inb_S8x512x512_S1x32x512_7_96_0 inb_S1x4096_S1x512_0_3584 inb_S512x4096_S32x512_96_3584, ?_⟩
      refine List.forall_mem_cons.mpr ⟨ag 96 1536 3 (by decide) (by decide) (by decide) inb_S512x1_S32x1_96_0 inb_S8x512x512_S1x32x512_3_96_0 inb_S1x4096_S1x512_0_1536 inb_S512x4096_S32x512_96_1536, ?_⟩
      refine List.forall_mem_cons.mpr ⟨ag 96 3072 6 (by decide) (by decide) (by decide) inb_S512x1_S32x1_96_0 inb_S8x512x512_S1x32x512_6_96_0 inb_S1x4096_S1x512_0_3072 inb_S512x4096_S32x512_96_3072, ?_⟩
      refine List.forall_mem_cons.mpr ⟨ag 96 1024 2 (by decide) (by decide) (by decide) inb_S512x1_S32x1_96_0 inb_S8x512x512_S1x32x512_2_96_0 inb_S1x4096_S1x512_0_1024 inb_S512x4096_S32x512_96_1024, ?_⟩
      refine List.forall_mem_cons.mpr ⟨ag 96 2560 5 (by decide) (by decide) (by decide) inb_S512x1_S32x1_96_0 inb_S8x512x512_S1x32x512_5_96_0 inb_S1x4096_S1x512_0_2560 inb_S512x4096_S32x512_96_2560, ?_⟩
      refine List.forall_mem_cons.mpr ⟨ag 96 512 1 (by decide) (by decide) (by decide) inb_S512x1_S32x1_96_0 inb_S8x512x512_S1x32x512_1_96_0 inb_S1x4096_S1x512_0_512 inb_S512x4096_S32x512_96_512, ?_⟩
      refine List.forall_mem_cons.mpr ⟨ag 96 2048 4 (by decide) (by decide) (by decide) inb_S512x1_S32x1_96_0 inb_S8x512x512_S1x32x512_4_96_0 inb_S1x4096_S1x512_0_2048 inb_S512x4096_S32x512_96_2048, ?_⟩
      refine List.forall_mem_cons.mpr ⟨ag 96 0 0 (by decide) (by decide) (by decide) inb_S512x1_S32x1_96_0 inb_S8x512x512_S1x32x512_0_96_0 inb_S1x4096_S1x512_0_0 inb_S512x4096_S32x512_96_0, ?_⟩
      refine List.forall_mem_cons.mpr ⟨ag 64 3584 7 (by decide) (by decide) (by decide) inb_S512x1_S32x1_64_0 inb_S8x512x512_S1x32x512_7_64_0 inb_S1x4096_S1x512_0_3584 inb_S512x4096_S32x512_64_3584, ?_⟩
      refine List.forall_mem_cons.mpr ⟨ag 64 1536 3 (by decide) (by decide) (by decide) inb_S512x1_S32x1_64_0 inb_S8x512x512_S1x32x512_3_64_0 inb_S1x4096_S1x512_0_1536 inb_S512x4096_S32x512_64_1536, ?_⟩
      refine List.forall_mem_cons.mpr ⟨ag 64 3072 6 (by decide) (by decide) (by decide) inb_S512x1_S32x1_64_0 inb_S8x512x512_S1x32x512_6_64_0 inb_S1x4096_S1x512_0_3072 inb_S512x4096_S32x512_64_3072, ?_⟩
      refine List.forall_mem_cons.mpr ⟨ag 64 1024 2 (by decide) (by decide) (by decide) inb_S512x1_S32x1_64_0 inb_S8x512x512_S1x32x512_2_64_0 inb_S1x4096_S1x512_0_1024 inb_S512x4096_S32x512_64_1024, ?_⟩
      refine List.forall_mem_cons.mpr ⟨ag 64 2560 5 (by decide) (by decide) (by decide) inb_S512x1_S32x1_64_0 inb_S8x512x512_S1x32x512_5_64_0 inb_S1x4096_S1x512_0_2560 inb_S512x4096_S32x512_64_2560, ?_⟩
      refine List.forall_mem_cons.mpr ⟨ag 64 512 1 (by decide) (by decide) (by decide) inb_S512x1_S32x1_64_0 inb_S8x512x512_S1x32x512_1_64_0 inb_S1x4096_S1x512_0_512 inb_S512x4096_S32x512_64_512, ?_⟩
      refine List.forall_mem_cons.mpr ⟨ag 64 2048 4 (by decide) (by decide) (by decide) inb_S512x1_S32x1_64_0 inb_S8x512x512_S1x32x512_4_64_0 inb_S1x4096_S1x512_0_2048 inb_S512x4096_S32x512_64_2048, ?_⟩
      refine List.forall_mem_cons.mpr ⟨ag 64 0 0 (by decide) (by decide) (by decide) inb_S512x1_S32x1_64_0 inb_S8x512x512_S1x32x512_0_64_0 inb_S1x4096_S1x512_0_0 inb_S512x4096_S32x512_64_0, ?_⟩
      refine List.forall_mem_cons.mpr ⟨ag 32 3584 7 (by decide) (by decide) (by decide) inb_S512x1_S32x1_32_0 inb_S8x512x512_S1x32x512_7_32_0 inb_S1x4096_S1x512_0_3584 inb_S512x4096_S32x512_32_3584, ?_⟩
      refine List.forall_mem_cons.mpr ⟨ag 32 1536 3 (by decide) (by decide) (by decide) inb_S512x1_S32x1_32_0 inb_S8x512x512_S1x32x512_3_32_0 inb_S1x4096_S1x512_0_1536 inb_S512x4096_S32x512_32_1536, ?_⟩
      refine List.forall_mem_cons.mpr ⟨ag 32 3072 6 (by decide) (by decide) (by decide) inb_S512x1_S32x1_32_0 inb_S8x512x512_S1x32x512_6_32_0 inb_S1x4096_S1x512_0_3072 inb_S512x4096_S32x512_32_3072, ?_⟩
      refine List.forall_mem_cons.mpr ⟨ag 32 1024 2 (by decide) (by decide) (by decide) inb_S512x1_S32x1_32_0 inb_S8x512x512_S1x32x512_2_32_0 inb_S1x4096_S1x512_0_1024 inb_S512x4096_S32x512_32_1024, ?_⟩
      refine List.forall_mem_cons.mpr ⟨ag 32 2560 5 (by decide) (by decide) (by decide) inb_S512x1_S32x1_32_0 inb_S8x512x512_S1x32x512_5_32_0 inb_S1x4096_S1x512_0_2560 inb_S512x4096_S32x512_32_2560, ?_⟩
      refine List.forall_mem_cons.mpr ⟨ag 32 512 1 (by decide) (by decide) (by decide) inb_S512x1_S32x1_32_0 inb_S8x512x512_S1x32x512_1_32_0 inb_S1x4096_S1x512_0_512 inb_S512x4096_S32x512_32_512, ?_⟩
      refine List.forall_mem_cons.mpr ⟨ag 32 2048 4 (by decide) (by decide) (by decide) inb_S512x1_S32x1_32_0 inb_S8x512x512_S1x32x512_4_32_0 inb_S1x4096_S1x512_0_2048 inb_S512x4096_S32x512_32_2048, ?_⟩
      refine List.forall_mem_cons.mpr ⟨ag 32 0 0 (by decide) (by decide) (by decide) inb_S512x1_S32x1_32_0 inb_S8x512x512_S1x32x512_0_32_0 inb_S1x4096_S1x512_0_0 inb_S512x4096_S32x512_32_0, ?_⟩
      refine List.forall_mem_cons.mpr ⟨ag 0 3584 7 (by decide) (by decide) (by decide) inb_S512x1_S32x1_0_0 inb_S8x512x512_S1x32x512_7_0_0 inb_S1x4096_S1x512_0_3584 inb_S512x4096_S32x512_0_3584, ?_⟩
      refine List.forall_mem_cons.mpr ⟨ag 0 1536 3 (by decide) (by decide) (by decide) inb_S512x1_S32x1_0_0 inb_S8x512x512_S1x32x512_3_0_0 inb_S1x4096_S1x512_0_1536 inb_S512x4096_S32x512_0_1536, ?_⟩
      refine List.forall_mem_cons.mpr ⟨ag 0 3072 6 (by decide) (by decide) (by decide) inb_S512x1_S32x1_0_0 inb_S8x512x512_S1x32x512_6_0_0 inb_S1x4096_S1x512_0_3072 inb_S512x4096_S32x512_0_3072, ?_⟩
      refine List.forall_mem_cons.mpr ⟨ag 0 1024 2 (by decide) (by decide) (by decide) inb_S512x1_S32x1_0_0 inb_S8x512x512_S1x32x512_2_0_0 inb_S1x4096_S1x512_0_1024 inb_S512x4096_S32x512_0_1024, ?_⟩
      refine List.forall_mem_cons.mpr ⟨ag 0 2560 5 (by decide) (by decide) (by decide) inb_S512x1_S32x1_0_0 inb_S8x512x512_S1x32x512_5_0_0 inb_S1x4096_S1x512_0_2560 inb_S512x4096_S32x512_0_2560, ?_⟩
      refine List.forall_mem_cons.mpr ⟨ag 0 512 1 (by decide) (by decide) (by decide) inb_S512x1_S32x1_0_0 inb_S8x512x512_S1x32x512_1_0_0 inb_S1x4096_S1x512_0_512 inb_S512x4096_S32x512_0_512, ?_⟩
      refine List.forall_mem_cons.mpr ⟨ag 0 2048 4 (by decide) (by decide) (by decide) inb_S512x1_S32x1_0_0 inb_S8x512x512_S1x32x512_4_0_0 inb_S1x4096_S1x512_0_2048 inb_S512x4096_S32x512_0_2048, ?_⟩
      refine List.forall_mem_cons.mpr ⟨ag 0 0 0 (by decide) (by decide) (by decide) inb_S512x1_S32x1_0_0 inb_S8x512x512_S1x32x512_0_0_0 inb_S1x4096_S1x512_0_0 inb_S512x4096_S32x512_0_0, ?_⟩
      exact fun p hp => absurd hp List.not_mem_nil
    · exact View.cover_of_tiledL _ S32x512.size (by rfl)
  isplitl [H9]
  · iexists f9; isplitr; · ipureintro; exact rfl
    iexact H9
  isplitl [H10]
  · iexists g10
    isplitr; · ipureintro; exact rfl
    iexact H10
  iexists g11
  isplitr; · ipureintro; exact rfl
  iexact H11

end Cert.Proof.Norm

end
-- ==== Proof.NormGrid.lean ====
/-
  The last normalisation's grid: what each point leaves of the running mean, the running square sum and the stored columns.
-/
module

public import proofs.«01_k».proof.Proof.Gen.Kernel4Ideal.Frame
public import proofs.«01_k».proof.Proof.Gen.Kernel4Ideal.Skeleton
public import proofs.«01_k».proof.Proof.NormRun
public import Idealize.ShloMosaic.Lib.Claim
public import Idealize.ShloMosaic.Lib.Ring
public import Idealize.ShloMosaic.Lib.Pointwise
public import Idealize.ShloMosaic.Lib.ValueLayout

@[expose] public section

set_option maxRecDepth 16384

noncomputable section

namespace Cert.Proof.Norm

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem col : ∀ t : Fin grid0.N, (grid0.coords t 1).val = t.val % 8 := by decide +kernel
theorem first_iff : ∀ t : Fin grid0.N, (Scalar.cmpi .ne (Scalar.extui (Scalar.cmpi .eq (BitVec.ofNat 32 (grid0.coords t 1).val) 0#32) : BitVec 32) 0#32 = 1#1) ↔ t.val % 8 = 0 := by decide +kernel
theorem later_iff : ∀ t : Fin grid0.N, (Scalar.cmpi .ne (Scalar.extui (Scalar.cmpi .sgt (BitVec.ofNat 32 (grid0.coords t 1).val) 0#32) : BitVec 32) 0#32 = 1#1) ↔ t.val % 8 ≠ 0 := by decide +kernel
theorem last_iff : ∀ t : Fin grid0.N, (k0_cond3 (grid0.coords t) = 1#1) ↔ t.val % 8 = 7 := by decide +kernel
theorem off_eq : ∀ t : Fin grid0.N, k0_off1 (grid0.coords t) = ![t.val % 8, 0, 0] := by decide +kernel
theorem N_eq : grid0.N = 128 := by decide +kernel

variable (m : (ℓ : Loc nD τ sig) → Buf (Elt F) ℓ) (ρ : Dev nD → PrngReg)

/-- A point's block before it is normalised. -/
def zt (c : Dev nD) (t : Fin cfg0.N) : FVec F S512x512 .f32 := zb (iblk m c 0 t) (iblk m c 1 t) (iblk m c 2 t) (iblk m c 5 t) (iblk m c 6 t) (iblk m c 7 t)

/-- What a point starts the running mean and square sum with, -/
def start (c : Dev nD) (t : Fin cfg0.N) : FVec F S512x1 .f32 × FVec F S512x1 .f32 :=
  (k0_pay2 (k0_pay206 (iblk m c 0 t) (iblk m c 1 t) (iblk m c 7 t) (iblk m c 5 t) (iblk m c 6 t) (iblk m c 2 t)),
   k0_pay3 (zt m c t) (k0_pay207 (iblk m c 0 t) (iblk m c 1 t) (iblk m c 7 t) (iblk m c 5 t) (iblk m c 6 t) (iblk m c 2 t)))

/-- and what it makes of those it finds. -/
def extend (c : Dev nD) (t : Fin cfg0.N) (p : FVec F S512x1 .f32 × FVec F S512x1 .f32) : FVec F S512x1 .f32 × FVec F S512x1 .f32 :=
  (k0_pay7 (BitVec.ofNat 32 (grid0.coords t 1).val) (k0_pay206 (iblk m c 0 t) (iblk m c 1 t) (iblk m c 7 t) (iblk m c 5 t) (iblk m c 6 t) (iblk m c 2 t)) p.1 p.1,
   k0_pay8 (BitVec.ofNat 32 (grid0.coords t 1).val) (zt m c t) (k0_pay206 (iblk m c 0 t) (iblk m c 1 t) (iblk m c 7 t) (iblk m c 5 t) (iblk m c 6 t) (iblk m c 2 t)) (k0_pay207 (iblk m c 0 t) (iblk m c 1 t) (iblk m c 7 t) (iblk m c 5 t) (iblk m c 6 t) (iblk m c 2 t)) p.1 p.2)

/-- The running mean and square sum after each point. -/
def stat (c : Dev nD) : (n : ℕ) → n < cfg0.N → FVec F S512x1 .f32 × FVec F S512x1 .f32
  | 0, h => start m c ⟨0, h⟩
  | n + 1, h => if (n + 1) % 8 = 0 then start m c ⟨n + 1, h⟩ else extend m c ⟨n + 1, h⟩ (stat c n (Nat.lt_of_succ_lt h))

theorem stat_start (c : Dev nD) (t : Fin cfg0.N) (h : t.val % 8 = 0) : stat m c t.val t.isLt = start m c t := by
  obtain ⟨n, hn⟩ := t
  cases n with
  | zero => rfl
  | succ n => exact if_pos h

theorem stat_extend (c : Dev nD) (n : ℕ) (hn : n + 1 < cfg0.N) (h : (n + 1) % 8 ≠ 0) :
    stat m c (n + 1) hn = extend m c ⟨n + 1, hn⟩ (stat m c n (Nat.lt_of_succ_lt hn)) := if_neg h

/-- The columns stored of a point's row block when all are. -/
def cols (c : Dev nD) (t : Fin cfg0.N) : Vec F S8x512x512 .f32 := fun y =>
  zt m c ⟨t.val / 8 * 8 + (y 0).val, by have h := t.isLt; have hN : cfg0.N = 128 := N_eq; have hy : (y 0).val < 8 := (y 0).isLt; omega⟩ (ix2 (y 1) (y 2))

/-- The scratch buffers hold what the points before left. -/
def Good (c : Dev nD) (n : ℕ) (A : Vec F S8x512x512 .f32) (M S : Vec F S512x1 .f32) : Prop :=
  ∀ k (hk : k < cfg0.N), n = k + 1 → (∀ y, (y 0).val ≤ k % 8 → A y = cols m c ⟨k, hk⟩ y) ∧ M = (stat m c k hk).1 ∧ S = (stat m c k hk).2

def Held0 (c : Dev nD) (n : ℕ) : sProp 𝕄 :=
  iprop(∃ A M S, owns (c : Thread nD τ) (Memref.whole cc0_scratch0) fullShare A ∗ owns (c : Thread nD τ) (Memref.whole cc0_scratch1) fullShare M ∗ owns (c : Thread nD τ) (Memref.whole cc0_scratch2) fullShare S
    ∗ (∃ r, prngReg c r) ∗ ⌜Good m c n A M S⌝)

/-- What a point leaves of the output's block. -/
def outAt (c : Dev nD) (t : Fin cfg0.N) : Vec F S512x4096 .f32 :=
  outv (cols m c t) (stat m c t.val t.isLt).1 (stat m c t.val t.isLt).2 (iblk m c 3 t) (iblk m c 4 t)

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := Held0 m c t.val
  q w := Pipeline.shareOf (Pipeline.Cfg.spec cfg0) w
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = outAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-- A slot's columns, and the rest. -/
theorem overlay_slot (t : Fin cfg0.N) (A : Vec F S8x512x512 .f32) (w : Vec F S1x512x512 .f32) (y : S8x512x512.Idx) :
    ((slot (grid0.coords t)).overlay A w : Vec F S8x512x512 .f32) y = if (y 0).val = t.val % 8 then w (ix3 (0 : Fin 1) (y 1) (y 2)) else A y := by
  have e0 : k0_off1 (grid0.coords t) 0 = t.val % 8 := by rw [off_eq]; rfl
  have e1 : k0_off1 (grid0.coords t) 1 = 0 := by rw [off_eq]; rfl
  have e2 : k0_off1 (grid0.coords t) 2 = 0 := by rw [off_eq]; rfl
  by_cases h : (y 0).val = t.val % 8
  · rw [if_pos h]
    have e : y = (slot (grid0.coords t)).emb (ix3 (0 : Fin 1) (y 1) (y 2)) := by
      refine funext fun a => Fin.ext ?_
      fin_cases a
      · show (y 0).val = k0_off1 (grid0.coords t) 0 + 1 * 0
        omega
      · show (y 1).val = k0_off1 (grid0.coords t) 1 + 1 * (y 1).val
        omega
      · show (y 2).val = k0_off1 (grid0.coords t) 2 + 1 * (y 2).val
        omega
    exact (congrArg ((slot (grid0.coords t)).overlay A w) e).trans (Rect.overlay_emb _ _ _ _)
  · rw [if_neg h]
    refine Rect.overlay_of_not_mem _ _ _ ?_
    intro hm
    obtain ⟨x, hx⟩ := (slot (grid0.coords t)).exists_idx_of_mem hm
    refine h ?_
    rw [← hx]
    show k0_off1 (grid0.coords t) 0 + 1 * (x 0).val = _
    have : (x 0).val < 1 := (x 0).isLt
    omega

theorem stored (c : Dev nD) (t : Fin cfg0.N) (y : S8x512x512.Idx) (h : (y 0).val = t.val % 8) :
    (k0_pay205 (iblk m c 0 t) (iblk m c 1 t) (iblk m c 7 t) (iblk m c 5 t) (iblk m c 6 t) (iblk m c 2 t) : FVec F S1x512x512 .f32) (ix3 (0 : Fin 1) (y 1) (y 2)) = cols m c t y := by
  have e : (⟨t.val / 8 * 8 + (y 0).val, by have h := t.isLt; have hN : cfg0.N = 128 := N_eq; have hy : (y 0).val < 8 := (y 0).isLt; omega⟩ : Fin cfg0.N) = t := Fin.ext (by show t.val / 8 * 8 + (y 0).val = t.val; omega)
  unfold cols
  rw [e]
  unfold zt
  unfold k0_pay205
  exact ValueIdx.shapeCast_ab_1ab_apply _ _ _ _ _

theorem good_start (c : Dev nD) (t : Fin cfg0.N) (h : t.val % 8 = 0) (A : Vec F S8x512x512 .f32) :
    Good m c (t.val + 1) ((slot (grid0.coords t)).overlay A (k0_pay205 (iblk m c 0 t) (iblk m c 1 t) (iblk m c 7 t) (iblk m c 5 t) (iblk m c 6 t) (iblk m c 2 t))) (start m c t).1 (start m c t).2 := by
  intro k hk e
  obtain rfl : t = ⟨k, hk⟩ := Fin.ext (by show t.val = k; omega)
  refine ⟨fun y hy => ?_, ?_, ?_⟩
  · have h' : k % 8 = 0 := h
    have e0 : (y 0).val = k % 8 := by omega
    rw [overlay_slot, if_pos e0]
    exact stored m c ⟨k, hk⟩ y e0
  · exact (congrArg Prod.fst (stat_start m c ⟨k, hk⟩ h)).symm
  · exact (congrArg Prod.snd (stat_start m c ⟨k, hk⟩ h)).symm

theorem good_extend (c : Dev nD) (t : Fin cfg0.N) (h : t.val % 8 ≠ 0) (A : Vec F S8x512x512 .f32) (M S : Vec F S512x1 .f32) (hg : Good m c t.val A M S) :
    Good m c (t.val + 1) ((slot (grid0.coords t)).overlay A (k0_pay205 (iblk m c 0 t) (iblk m c 1 t) (iblk m c 7 t) (iblk m c 5 t) (iblk m c 6 t) (iblk m c 2 t))) (extend m c t (M, S)).1 (extend m c t (M, S)).2 := by
  intro k hk e
  obtain rfl : t = ⟨k, hk⟩ := Fin.ext (by show t.val = k; omega)
  have h' : k % 8 ≠ 0 := h
  obtain ⟨k', rfl⟩ : ∃ k', k = k' + 1 := ⟨k - 1, by omega⟩
  obtain ⟨g1, rfl, rfl⟩ := hg k' (Nat.lt_of_succ_lt hk) rfl
  have es := stat_extend m c k' hk h'
  refine ⟨fun y hy => ?_, ?_, ?_⟩
  · by_cases e0 : (y 0).val = (k' + 1) % 8
    · rw [overlay_slot, if_pos e0]
      exact stored m c ⟨k' + 1, hk⟩ y e0
    · rw [overlay_slot, if_neg e0, g1 y (by omega)]
      unfold cols
      have : k' / 8 = (k' + 1) / 8 := by omega
      simp only [this]
  · exact (congrArg Prod.fst es).symm
  · exact (congrArg Prod.snd es).symm

theorem good_last (c : Dev nD) (t : Fin cfg0.N) (h : t.val % 8 = 7) (A : Vec F S8x512x512 .f32) (M S : Vec F S512x1 .f32) (hg : Good m c (t.val + 1) A M S) :
    outv A M S (iblk m c 3 t) (iblk m c 4 t) = outAt m c t := by
  obtain ⟨g1, rfl, rfl⟩ := hg t.val t.isLt rfl
  obtain rfl : A = cols m c t := funext fun y => g1 y (by have hy : (y 0).val < 8 := (y 0).isLt; omega)
  rfl

/-- What is due of a window at a point: the block as it was where the point leaves it and nothing is written back, else what the point leaves. -/
theorem pick (i f : Bool) {A B X : sProp 𝕄} (h : (i = true ∧ f = false ∧ (X ⊢ B)) ∨ ((i = false ∨ f = true) ∧ (X ⊢ A))) :
    X ⊢ (match (generalizing := false) i with | true => (match (generalizing := false) f with | false => B | true => A) | false => A) := by
  rcases h with ⟨rfl, rfl, h⟩ | ⟨rfl | rfl, h⟩
  · exact h
  · exact h
  · cases i <;> exact h

theorem defs₀_row (t : Fin cfg0.N) :
    defs₀ (F := F) .tc cfg0.body (cfg0.bodyArgs t (cfg0.slots t)) = bodyAt0 t := by
  unfold defs₀; rw [Defs.onTc_tc]

/-- The output's window as a point finds it. -/
def bef (c : Dev nD) (t : Fin cfg0.N) (d : S512x4096.Idx → Elt F .f32) : Vec F S512x4096 .f32 := (dats m 0 c).before 8 t d

theorem out_due (c : Dev nD) (t : Fin cfg0.N) (d : S512x4096.Idx → Elt F .f32) :
    (cfg0.idle 8 (cfg0.grid.coords t) = true ∧ (cfg0.win 8).flush t = false
      ∧ ((owns (c : Thread nD τ) (st0_8 t) fullShare (if t.val % 8 = 7 then outAt m c t else bef m c t d) : sProp 𝕄)
        ⊢ iprop(∃ d, owns (c : Thread nD τ) (st0_8 t) fullShare (bef m c t d))))
    ∨ ((cfg0.idle 8 (cfg0.grid.coords t) = false ∨ (cfg0.win 8).flush t = true)
      ∧ ((owns (c : Thread nD τ) (st0_8 t) fullShare (if t.val % 8 = 7 then outAt m c t else bef m c t d) : sProp 𝕄)
        ⊢ owns (c : Thread nD τ) (st0_8 t) fullShare ((dats m 0 c).after 8 t))) := by
  by_cases h : t.val % 8 = 7
  · right
    rw [if_pos h]
    exact ⟨.inr ((flush0_8 t).2 h), .rfl⟩
  · left
    rw [if_neg h]
    refine ⟨?_, ?_, ?_⟩
    · show (!(k0_cond3 (grid0.coords t) == 1#1)) = true
      rw [Bool.not_eq_true', beq_eq_false_iff_ne]
      exact fun e => h ((last_iff t).1 e)
    · rw [← Bool.not_eq_true]
      exact fun e => h ((flush0_8 t).1 e)
    · iintro H
      iexists d
      iexact H

abbrev postAt (c : Dev nD) (t : Fin cfg0.N) (d : S512x4096.Idx → Elt F .f32) : sProp 𝕄 :=
  iprop(Held0 m c (t.val + 1) ∗ (dats m 0 c).owesAt () t.succ
    ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t)
    ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t)
    ∗ owns (c : Thread nD τ) (st0_8 t) fullShare (if t.val % 8 = 7 then outAt m c t else bef m c t d))

set_option maxHeartbeats 1000000 in
theorem sound_body (c : Dev nD) (t : Fin cfg0.N) :
    iprop(Held0 m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))) ⊢ wp frame (wpE (defs₀ (F := F)) Variants.none c none) Set.univ (bodyAt0 t) (fun _ => iprop(∃ d, postAt m c t d)) := by
  unfold bodyAt0
  simp only [before0, before1, before2, before3, before4, before5, before6, before7]
  unfold Held0
  iintro ⟨⟨%A, %M, %S, HA, HM, HS, Hr, %hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  by_cases h0 : t.val % 8 = 0
  · iapply (first_run c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (bef m c t d8) A M S ((first_iff t).2 h0) (fun e => (later_iff t).1 e h0) (fun e => by have := (last_iff t).1 e; omega) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HA]; · iexact HA
    isplitl [HM]; · iexact HM
    isplitl [HS]; · iexact HS
    iintro ⟨H0, H1, H2, H3, H4, H5, H6, H7, H8, H9, H10, H11⟩
    iexists d8
    unfold postAt Held0
    isplitl [H9 H10 H11 Hr]
    · iexists _, _, _
      isplitl [H9]; · iexact H9
      isplitl [H10]; · iexact H10
      isplitl [H11]; · iexact H11
      isplitl [Hr]; · iexact Hr
      ipureintro; exact good_start m c t h0 A
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    rw [if_neg (by omega)]
    iexact H8
  · by_cases h7 : t.val % 8 = 7
    · iapply (last_run c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (bef m c t d8) A M S (fun e => h0 ((first_iff t).1 e)) ((later_iff t).2 h0) ((last_iff t).2 h7) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HA]; · iexact HA
      isplitl [HM]; · iexact HM
      isplitl [HS]; · iexact HS
      iintro ⟨H0, H1, H2, H3, H4, H5, H6, H7, H8, H9, H10, H11⟩
      iexists d8
      unfold postAt Held0
      isplitl [H9 H10 H11 Hr]
      · iexists _, _, _
        isplitl [H9]; · iexact H9
        isplitl [H10]; · iexact H10
        isplitl [H11]; · iexact H11
        isplitl [Hr]; · iexact Hr
        ipureintro; exact good_extend m c t h0 A M S hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      rw [if_pos h7, ← good_last m c t h7 _ _ _ (good_extend m c t h0 A M S hg)]
      iexact H8
    · iapply (mid_run c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (bef m c t d8) A M S (fun e => h0 ((first_iff t).1 e)) ((later_iff t).2 h0) (fun e => h7 ((last_iff t).1 e)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HA]; · iexact HA
      isplitl [HM]; · iexact HM
      isplitl [HS]; · iexact HS
      iintro ⟨H0, H1, H2, H3, H4, H5, H6, H7, H8, H9, H10, H11⟩
      iexists d8
      unfold postAt Held0
      isplitl [H9 H10 H11 Hr]
      · iexists _, _, _
        isplitl [H9]; · iexact H9
        isplitl [H10]; · iexact H10
        isplitl [H11]; · iexact H11
        isplitl [Hr]; · iexact Hr
        ipureintro; exact good_extend m c t h0 A M S hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      rw [if_neg h7]
      iexact H8

theorem body_obligation (c : Dev nD) : BodyObligation (dats m 0 c) (defs₀ (F := F)) Variants.none () Set.univ := fun t => by
  rw [bigSep_W0, bigSep_W0, defs₀_row]
  refine BIBase.Entails.trans (sound_body m c t) (wp_mono frame (wpE (defs₀ (F := F)) Variants.none c none) Set.univ
    (fun _ => sProp.exists_elim fun d1 => sep_mono .rfl (sep_mono .rfl (sep_mono .rfl (sep_mono .rfl (sep_mono .rfl (sep_mono .rfl (sep_mono .rfl (sep_mono .rfl (sep_mono .rfl (sep_mono .rfl
      (pick (cfg0.idle 8 (cfg0.grid.coords t)) ((cfg0.win 8).flush t) (out_due m c t d1)))))))))))))

/-! ## The run -/

theorem held_in (c : Dev nD) : (Pipeline.ΦA spec0 c : sProp 𝕄) ⊢ Held0 m c 0 := by
  unfold Pipeline.ΦA Held0
  rw [scopedRest0_eq]
  simp only [owns_whole]
  iintro ⟨⟨⟨%f0, S0⟩, ⟨%f1, S1⟩, ⟨%f2, S2⟩⟩, Hr⟩
  iexists f0, f1, f2
  isplitl [S0]; · iexact S0
  isplitl [S1]; · iexact S1
  isplitl [S2]; · iexact S2
  isplitl [Hr]; · iexact Hr
  ipureintro
  exact fun k _ e => absurd e (by omega)

theorem held_out (c : Dev nD) (n : ℕ) : (Held0 m c n : sProp 𝕄) ⊢ Pipeline.ΦA spec0 c := by
  unfold Pipeline.ΦA Held0
  rw [scopedRest0_eq]
  simp only [owns_whole]
  iintro ⟨%f0, %f1, %f2, S0, S1, S2, Hr, -⟩
  isplitr [Hr]
  · isplitl [S0]; · (iexists f0; iexact S0)
    isplitl [S1]; · (iexists f1; iexact S1)
    iexists f2; iexact S2
  iexact Hr

set_option backward.isDefEq.respectTransparency.types false in
set_option maxHeartbeats 800000 in
theorem run : θ_run defs (onTc (τ := τ) (main (F := F))) ⟨m, fun _ => 0, ρ⟩ (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := held_in m) (hout := fun c => held_out m c _)

theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run m ρ))) ((θ_run defs _ _).mono (fun _ h => h.2) (run m ρ))

/-- The output's array and the arguments at the end. -/
theorem run_out : θ_run defs (onTc (τ := τ) (main (F := F))) ⟨m, fun _ => 0, ρ⟩ (fun r => ∀ c : Dev nD,
      r.2.mem ((c.tc : Thread nD τ).loc main_v6) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.2.1 c).1 8, h.1.1 c⟩) (θ_run_and (frame_all m ρ) (run m ρ))

end Cert.Proof.Norm

end
-- ==== Proof.Welford.lean ====
/-
  A row's mean and square sum taken chunk by chunk are the whole row's, over the extended reals: where every entry is real by
  arithmetic, and where one is infinite both square sums are infinite.
-/
module

public import Idealize.ShloMosaic.Lib.Pointwise
public import Idealize.ShloMosaic.Lib.IdealHost

@[expose] public section

set_option maxRecDepth 16384

noncomputable section

namespace Cert.Proof.Welford

theorem sq_nonneg (x : EReal) : 0 ≤ x * x := by
  induction x with
  | bot => rw [EReal.bot_mul_bot]; exact le_top
  | coe r => exact_mod_cast mul_self_nonneg r
  | top => rw [EReal.top_mul_top]; exact le_top

/-- An infinite entry is infinitely far from anything. -/
theorem sq_far (x c : EReal) (h : x = ⊤ ∨ x = ⊥) : (x - c) * (x - c) = ⊤ := by
  rcases h with rfl | rfl
  · induction c with
    | bot => simp
    | coe r => simp
    | top => simp
  · simp

theorem sum_top {ι : Type} [Fintype ι] [DecidableEq ι] (f : ι → EReal) (h0 : ∀ i, 0 ≤ f i) (i : ι) (hi : f i = ⊤) : ∑ i, f i = ⊤ := by
  refine top_le_iff.1 ?_
  rw [← hi]
  exact Finset.single_le_sum (fun j _ => h0 j) (Finset.mem_univ i)

/-- A chunk's mean, -/
def cMean (z : Fin 512 → EReal) : EReal := (∑ k, z k) * (((1 / 512 : ℝ)) : EReal)
/-- and its square sum. -/
def cSq (z : Fin 512 → EReal) : EReal := ∑ k, (z k - cMean z) * (z k - cMean z)

/-- The weight of a chunk after `n` chunks. -/
def wt (n : ℕ) : ℝ := 512 / (n * 512 + 512)

theorem cSq_nonneg (z) : 0 ≤ cSq z := Finset.sum_nonneg fun _ _ => sq_nonneg _

def mean (z : Fin 8 → Fin 512 → EReal) : ℕ → EReal
  | 0 => cMean (z 0)
  | n + 1 => mean z n + (cMean (z (Fin.ofNat 8 (n + 1))) - mean z n) * ((wt (n + 1) : ℝ) : EReal)

def sq (z : Fin 8 → Fin 512 → EReal) : ℕ → EReal
  | 0 => cSq (z 0)
  | n + 1 => sq z n + cSq (z (Fin.ofNat 8 (n + 1))) + (cMean (z (Fin.ofNat 8 (n + 1))) - mean z n) * (cMean (z (Fin.ofNat 8 (n + 1))) - mean z n) * (((n + 1 : ℕ) * 512 * wt (n + 1) : ℝ) : EReal)

theorem wt_nonneg (n : ℕ) : 0 ≤ wt n := by unfold wt; positivity

theorem add_nonneg' (z : Fin 8 → Fin 512 → EReal) (n : ℕ) : (0:EReal) ≤ (cMean (z (Fin.ofNat 8 (n + 1))) - mean z n) * (cMean (z (Fin.ofNat 8 (n + 1))) - mean z n) * (((n + 1 : ℕ) * 512 * wt (n + 1) : ℝ) : EReal) :=
  mul_nonneg (sq_nonneg _) (by have := wt_nonneg (n + 1); exact_mod_cast (by positivity : (0:ℝ) ≤ (n + 1 : ℕ) * 512 * wt (n + 1)))

theorem sq_ge (z : Fin 8 → Fin 512 → EReal) : ∀ n, 0 ≤ sq z n ∧ ∀ j, j ≤ n → cSq (z (Fin.ofNat 8 j)) ≤ sq z n
  | 0 => ⟨cSq_nonneg _, fun j hj => by obtain rfl : j = 0 := by omega
                                       exact le_refl _⟩
  | n + 1 => by
    obtain ⟨h0, h1⟩ := sq_ge z n
    have hn := add_nonneg' z n
    have hb := cSq_nonneg (z (Fin.ofNat 8 (n + 1)))
    refine ⟨add_nonneg (add_nonneg h0 hb) hn, fun j hj => ?_⟩
    show _ ≤ sq z n + cSq (z (Fin.ofNat 8 (n + 1))) + _
    rcases Nat.lt_or_ge j (n + 1) with h | h
    · exact (h1 j (by omega)).trans ((le_add_of_nonneg_right hb).trans (le_add_of_nonneg_right hn))
    · obtain rfl : j = n + 1 := by omega
      exact (le_add_of_nonneg_left h0).trans (le_add_of_nonneg_right hn)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! Over the reals. -/

def rT (r : Fin 512 → ℝ) : ℝ := ∑ k, r k
def rQ (r : Fin 512 → ℝ) : ℝ := ∑ k, r k * r k

theorem dev (r : Fin 512 → ℝ) (c : ℝ) : ∑ k, (r k - c) * (r k - c) = rQ r - 2 * c * rT r + 512 * (c * c) := by
  have : ∀ k, (r k - c) * (r k - c) = r k * r k - 2 * c * r k + c * c := fun k => by ring
  simp only [this, Finset.sum_add_distrib, Finset.sum_sub_distrib, ← Finset.mul_sum, rQ, rT]
  simp
  ring

def rMean (z : Fin 8 → Fin 512 → ℝ) : ℕ → ℝ
  | 0 => rT (z 0) * (1 / 512)
  | n + 1 => rMean z n + (rT (z (Fin.ofNat 8 (n + 1))) * (1 / 512) - rMean z n) * wt (n + 1)

def rSq (z : Fin 8 → Fin 512 → ℝ) : ℕ → ℝ
  | 0 => rQ (z 0) - rT (z 0) * rT (z 0) / 512
  | n + 1 => rSq z n + (rQ (z (Fin.ofNat 8 (n + 1))) - rT (z (Fin.ofNat 8 (n + 1))) * rT (z (Fin.ofNat 8 (n + 1))) / 512)
      + (rT (z (Fin.ofNat 8 (n + 1))) * (1 / 512) - rMean z n) * (rT (z (Fin.ofNat 8 (n + 1))) * (1 / 512) - rMean z n) * ((n + 1 : ℕ) * 512 * wt (n + 1))

theorem cMean_coe (r : Fin 512 → ℝ) : cMean (fun k => (r k : EReal)) = ((rT r * (1 / 512) : ℝ) : EReal) := by
  unfold cMean rT
  rw [EReal.coe_mul, coe_sum]

theorem cSq_coe (r : Fin 512 → ℝ) : cSq (fun k => (r k : EReal)) = ((rQ r - rT r * rT r / 512 : ℝ) : EReal) := by
  unfold cSq
  rw [cMean_coe]
  simp only [← EReal.coe_sub, ← EReal.coe_mul, ← coe_sum]
  rw [dev]
  congr 1
  ring

theorem mean_coe (z : Fin 8 → Fin 512 → ℝ) : ∀ n, mean (fun j k => (z j k : EReal)) n = ((rMean z n : ℝ) : EReal)
  | 0 => cMean_coe _
  | n + 1 => by
    unfold mean rMean
    rw [mean_coe z n, cMean_coe]
    push_cast
    rfl

theorem sq_coe (z : Fin 8 → Fin 512 → ℝ) : ∀ n, sq (fun j k => (z j k : EReal)) n = ((rSq z n : ℝ) : EReal)
  | 0 => cSq_coe _
  | n + 1 => by
    unfold sq rSq
    rw [sq_coe z n, mean_coe z n, cMean_coe, cSq_coe]
    simp only [← EReal.coe_sub, ← EReal.coe_mul, ← EReal.coe_add]

theorem rMean_all (z : Fin 8 → Fin 512 → ℝ) : rMean z 7 = (∑ j, rT (z j)) / 4096 := by
  simp only [rMean, wt, Fin.sum_univ_eight]
  simp only [show Fin.ofNat 8 (0+1) = 1 from rfl, show Fin.ofNat 8 (1+1) = 2 from rfl, show Fin.ofNat 8 (2+1) = 3 from rfl, show Fin.ofNat 8 (3+1) = 4 from rfl, show Fin.ofNat 8 (4+1) = 5 from rfl, show Fin.ofNat 8 (5+1) = 6 from rfl, show Fin.ofNat 8 (6+1) = 7 from rfl]
  push_cast
  ring

theorem rSq_all (z : Fin 8 → Fin 512 → ℝ) : rSq z 7 = (∑ j, rQ (z j)) - (∑ j, rT (z j)) * (∑ j, rT (z j)) / 4096 := by
  simp only [rSq, rMean, wt, Fin.sum_univ_eight]
  simp only [show Fin.ofNat 8 (0+1) = 1 from rfl, show Fin.ofNat 8 (1+1) = 2 from rfl, show Fin.ofNat 8 (2+1) = 3 from rfl, show Fin.ofNat 8 (3+1) = 4 from rfl, show Fin.ofNat 8 (4+1) = 5 from rfl, show Fin.ofNat 8 (5+1) = 6 from rfl, show Fin.ofNat 8 (6+1) = 7 from rfl]
  push_cast
  ring

/-- The whole row's mean. -/
def whole (z : Fin 8 → Fin 512 → EReal) : EReal := (∑ j, ∑ k, z j k) * (((1 / 4096 : ℝ)) : EReal)

/-- THE TWO WAYS AGREE, or both square sums are infinite. -/
theorem agree (z : Fin 8 → Fin 512 → EReal) :
    (sq z 7 = ⊤ ∧ ∀ c, ∑ j, ∑ k, (z j k - c) * (z j k - c) = ⊤)
    ∨ (mean z 7 = whole z ∧ sq z 7 = ∑ j, ∑ k, (z j k - whole z) * (z j k - whole z)) := by
  classical
  by_cases h : ∃ j k, z j k = ⊤ ∨ z j k = ⊥
  · left
    obtain ⟨j, k, h⟩ := h
    have hB : ∀ c, ∑ k, (z j k - c) * (z j k - c) = ⊤ := fun c => sum_top _ (fun _ => sq_nonneg _) k (sq_far _ _ h)
    refine ⟨?_, fun c => sum_top _ (fun _ => Finset.sum_nonneg fun _ _ => sq_nonneg _) j (hB c)⟩
    have := (sq_ge z 7).2 j.val (by omega)
    rw [show Fin.ofNat 8 j.val = j from Fin.ext (Nat.mod_eq_of_lt j.isLt), show cSq (z j) = ⊤ from hB _] at this
    exact top_le_iff.1 this
  · right
    push Not at h
    have hz : ∀ j k, ((z j k).toReal : EReal) = z j k := fun j k => EReal.coe_toReal (h j k).1 (h j k).2
    obtain ⟨r, rfl⟩ : ∃ r : Fin 8 → Fin 512 → ℝ, z = fun j k => (r j k : EReal) := ⟨fun j k => (z j k).toReal, funext fun j => funext fun k => (hz j k).symm⟩
    have hw : whole (fun j k => (r j k : EReal)) = ((rMean r 7 : ℝ) : EReal) := by
      unfold whole
      simp only [← coe_sum, ← EReal.coe_mul]
      rw [rMean_all]
      congr 1
      show (∑ j, rT (r j)) * _ = _
      ring
    refine ⟨(mean_coe r 7).trans hw.symm, ?_⟩
    rw [hw, sq_coe]
    simp only [← EReal.coe_sub, ← EReal.coe_mul, ← coe_sum]
    refine EReal.coe_eq_coe_iff.2 ?_
    simp only [dev]
    rw [rSq_all, rMean_all, Finset.sum_add_distrib, Finset.sum_sub_distrib, ← Finset.mul_sum]
    simp only [Finset.sum_const, Finset.card_univ, Fintype.card_fin, nsmul_eq_mul]
    push_cast
    ring

end Cert.Proof.Welford

end
-- ==== Proof.NormEntry.lean ====
/-
  The last normalisation entry by entry: the gated sum, a block's mean and square sum, the stored rows and the plain reference.
-/
module

public import proofs.«01_k».proof.Proof.NormGrid
public import proofs.«01_k».proof.Proof.Welford
public import proofs.«01_k».proof.Proof.Gen.Reference4Ideal.Run
public import Idealize.ShloMosaic.Lib.IdealHost

@[expose] public section
set_option maxRecDepth 16384
noncomputable section
namespace Cert.Proof.Norm
open Cert.Kernel4Ideal Cert.Kernel4Ideal.Gen
open Idealize.ShloMosaic Idealize.ShloMosaic.TcCoe
open Idealize.SL Idealize.SL.Sem

/-- The gated sum's entry, from its rows and columns. -/
def zval (x : Fin 4096 → EReal) (w : Fin 4096 → EReal) (b : EReal) (p : Fin 256 → EReal) (u : Fin 256 → EReal) (r : EReal) : EReal :=
  Ideal.ofBits .f32 0x3FB504F3#32 * r + Ideal.div 1 (1 + Ideal.exp (-((∑ k, x k * w k) + b))) * (∑ k, p k * u k)

theorem zb_at (x0 x1 x2 x5 x6 x7) (p q : Fin 512) : (zb (F := Ideal) x0 x1 x2 x5 x6 x7 : FVec Ideal S512x512 .f32) (ix2 p q)
    = zval (fun k => x0 (ix2 p k)) (fun k => x1 (ix2 k q)) (x7 (ix2 (0 : Fin 1) q)) (fun k => x5 (ix2 p k)) (fun k => x6 (ix2 k q)) (x2 (ix2 p q)) := by
  pointwise [zb, k0_pay204, zval]
  rw [zero_sub]

theorem mean_at (x0 x1 x2 x5 x6 x7) (p : Fin 512) : (k0_pay206 (F := Ideal) x0 x1 x7 x5 x6 x2 : FVec Ideal S512x1 .f32) (ix2 p (0 : Fin 1))
    = Ideal.div (∑ k : Fin 512, (zb (F := Ideal) x0 x1 x2 x5 x6 x7 : FVec Ideal S512x512 .f32) (ix2 p k)) (Ideal.ofBits .f32 0x44000000#32) := by
  unfold k0_pay206 zb
  generalize k0_pay204 (F := Ideal) x0 x1 x7 x5 x6 x2 = z
  pointwise

theorem spread_at (x0 x1 x2 x5 x6 x7) (p q : Fin 512) : (k0_pay207 (F := Ideal) x0 x1 x7 x5 x6 x2 : FVec Ideal S512x512 .f32) (ix2 p q)
    = (k0_pay206 (F := Ideal) x0 x1 x7 x5 x6 x2 : FVec Ideal S512x1 .f32) (ix2 p (0 : Fin 1)) := by
  unfold k0_pay207
  generalize k0_pay206 (F := Ideal) x0 x1 x7 x5 x6 x2 = z
  pointwise

theorem sq_at (z M : FVec Ideal S512x512 .f32) (p : Fin 512) : (k0_pay1 (F := Ideal) z M : FVec Ideal S512x1 .f32) (ix2 p (0 : Fin 1))
    = ∑ k : Fin 512, ((z (ix2 p k) - M (ix2 p k)) * (z (ix2 p k) - M (ix2 p k)) : EReal) := by
  pointwise [k0_pay1]

theorem start_mean (C : FVec Ideal S512x1 .f32) (p : Fin 512) : (k0_pay2 (F := Ideal) C : FVec Ideal S512x1 .f32) (ix2 p (0 : Fin 1)) = C (ix2 p (0 : Fin 1)) := by
  pointwise [k0_pay2]

theorem start_sq (z M : FVec Ideal S512x512 .f32) (p : Fin 512) : (k0_pay3 (F := Ideal) z M : FVec Ideal S512x1 .f32) (ix2 p (0 : Fin 1)) = (k0_pay1 (F := Ideal) z M : FVec Ideal S512x1 .f32) (ix2 p (0 : Fin 1)) := by
  unfold k0_pay3
  generalize k0_pay1 (F := Ideal) z M = y
  pointwise

theorem next_mean (a : BitVec 32) (C M : FVec Ideal S512x1 .f32) (p : Fin 512) : (k0_pay7 (F := Ideal) a C M M : FVec Ideal S512x1 .f32) (ix2 p (0 : Fin 1))
    = ((M (ix2 p (0 : Fin 1)) : EReal) + (C (ix2 p (0 : Fin 1)) - M (ix2 p (0 : Fin 1))) * Ideal.div (Ideal.ofBits .f32 0x44000000#32) (k0_pay5 (F := Ideal) a) : EReal) := by
  unfold k0_pay7
  generalize k0_pay5 (F := Ideal) a = y
  pointwise [k0_pay6]

theorem next_sq (a : BitVec 32) (z Z : FVec Ideal S512x512 .f32) (C M S : FVec Ideal S512x1 .f32) (p : Fin 512) : (k0_pay8 (F := Ideal) a z C Z M S : FVec Ideal S512x1 .f32) (ix2 p (0 : Fin 1))
    = ((S (ix2 p (0 : Fin 1)) : EReal) + (k0_pay1 (F := Ideal) z Z : FVec Ideal S512x1 .f32) (ix2 p (0 : Fin 1)) + (C (ix2 p (0 : Fin 1)) - M (ix2 p (0 : Fin 1))) * (C (ix2 p (0 : Fin 1)) - M (ix2 p (0 : Fin 1)))
      * Ideal.div ((k0_pay4 (F := Ideal) a : EReal) * Ideal.ofBits .f32 0x44000000#32) (k0_pay5 (F := Ideal) a) : EReal) := by
  unfold k0_pay8
  generalize k0_pay5 (F := Ideal) a = y
  generalize k0_pay4 (F := Ideal) a = u
  generalize k0_pay1 (F := Ideal) z Z = w
  pointwise [k0_pay6]

/-- An entry of a normalised row. -/
def nval (z mu s g b : EReal) : EReal := (z - mu) * Ideal.rsqrt s * g + b

theorem out_at (M S : FVec Ideal S32x1 .f32) (A : FVec Ideal S1x32x512 .f32) (g b : FVec Ideal S1x512 .f32) (p : Fin 32) (q : Fin 512) :
    (k0_pay12 (F := Ideal) M S A g b : FVec Ideal S32x512 .f32) (ix2 p q)
    = nval (A (ix3 (0 : Fin 1) p q)) (M (ix2 p (0 : Fin 1))) ((S (ix2 p (0 : Fin 1)) : EReal) * Ideal.ofBits .f32 0x39800000#32 + Ideal.ofBits .f32 0x3727C5AC#32) (g (ix2 (0 : Fin 1) q)) (b (ix2 (0 : Fin 1) q)) := by
  pointwise [k0_pay12, k0_pay11, nval]

/-- The plain normalisation of a row. -/
def rowval (z : Fin 4096 → EReal) (g b : EReal) (q : Fin 4096) : EReal :=
  nval (z q) (Ideal.div (∑ k, z k) (Ideal.ofBits .f32 0x45800000#32))
    (Ideal.div (∑ k, (z k - Ideal.div (∑ k, z k) (Ideal.ofBits .f32 0x45800000#32)) * (z k - Ideal.div (∑ k, z k) (Ideal.ofBits .f32 0x45800000#32))) (Ideal.ofBits .f32 0x45800000#32) + Ideal.ofBits .f32 0x3727C5AC#32) g b

section
variable (x : FVec Ideal S8192x4096 .bf16) (pe : FVec Ideal S8192x256 .f32) (wg : FVec Ideal S4096x4096 .f32) (wp : FVec Ideal S256x4096 .f32) (bg g b : FVec Ideal S4096 .f32)

/-- The gated sum of whole arrays. -/
def zat (r : Fin 8192) (q : Fin 4096) : EReal := zval (fun k => x (ix2 r k)) (fun k => wg (ix2 k q)) (bg (ix1 q)) (fun k => pe (ix2 r k)) (fun k => wp (ix2 k q)) (x (ix2 r q))
/-- The normalised gated sum of whole arrays. -/
def normed : FVec Ideal S8192x4096 .f32 := fun i => rowval (zat x pe wg wp bg (i 0)) (g (ix1 (i 1))) (b (ix1 (i 1))) (i 1)
end

open Cert.Reference4Ideal in
theorem reference_at (m : (ℓ : Loc Cert.Reference4Ideal.nD Cert.Reference4Ideal.τ Cert.Reference4Ideal.sig) → Buf (Elt Ideal) ℓ) (c : Dev Cert.Reference4Ideal.nD) (r : Fin 8192) (q : Fin 4096) :
    (Cert.Reference4Ideal.Value.res_main_v39 (F := Ideal) m c : FVec Ideal Cert.Reference4Ideal.S8192x4096 .f32) (ix2 r q)
      = rowval (zat (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) r)
        (m ((c.tc : Thread Cert.Reference4Ideal.nD Cert.Reference4Ideal.τ).loc Cert.Reference4Ideal.main_arg5) (ix1 q)) (m ((c.tc : Thread Cert.Reference4Ideal.nD Cert.Reference4Ideal.τ).loc Cert.Reference4Ideal.main_arg6) (ix1 q)) q := by
  unfold Cert.Reference4Ideal.Value.res_main_v39
  generalize m ((c.tc : Thread Cert.Reference4Ideal.nD Cert.Reference4Ideal.τ).loc Cert.Reference4Ideal.main_arg0) = x
  generalize m ((c.tc : Thread Cert.Reference4Ideal.nD Cert.Reference4Ideal.τ).loc Cert.Reference4Ideal.main_arg1) = pe
  generalize m ((c.tc : Thread Cert.Reference4Ideal.nD Cert.Reference4Ideal.τ).loc Cert.Reference4Ideal.main_arg2) = wg
  generalize m ((c.tc : Thread Cert.Reference4Ideal.nD Cert.Reference4Ideal.τ).loc Cert.Reference4Ideal.main_arg3) = wp
  generalize m ((c.tc : Thread Cert.Reference4Ideal.nD Cert.Reference4Ideal.τ).loc Cert.Reference4Ideal.main_arg4) = bg
  generalize m ((c.tc : Thread Cert.Reference4Ideal.nD Cert.Reference4Ideal.τ).loc Cert.Reference4Ideal.main_arg5) = g
  generalize m ((c.tc : Thread Cert.Reference4Ideal.nD Cert.Reference4Ideal.τ).loc Cert.Reference4Ideal.main_arg6) = b
  pointwise [rowval, nval, zat, zval]

end Cert.Proof.Norm
end
-- ==== Proof.NormValue.lean ====
/-
  The last normalisation's blocks: what a row block leaves is the plain normalisation's rows, and with it the whole array.
-/
module

public import proofs.«01_k».proof.Defs
public import proofs.«01_k».proof.Proof.NormEntry
public import proofs.«01_k».proof.Proof.Gen.Kernel4
public import Idealize.ShloMosaic.Lib.Pipeline.Value

@[expose] public section
set_option maxRecDepth 16384
noncomputable section
namespace Cert.Proof.Norm
open Cert.Kernel4Ideal Cert.Kernel4Ideal.Gen
open Idealize.ShloMosaic Idealize.ShloMosaic.TcCoe
open Idealize.SL Idealize.SL.Sem

/-! ## The constants -/

theorem c512 : Ideal.ofBits .f32 0x44000000#32 = ((512 : ℝ) : EReal) := by
  simp [Ideal.ofBits, Ideal.ieee, -EReal.coe_mul]; norm_num
theorem c4096 : Ideal.ofBits .f32 0x45800000#32 = ((4096 : ℝ) : EReal) := by
  simp [Ideal.ofBits, Ideal.ieee, -EReal.coe_mul]; norm_num
theorem c4096i : Ideal.ofBits .f32 0x39800000#32 = ((1 / 4096 : ℝ) : EReal) := by
  simp [Ideal.ofBits, Ideal.ieee, -EReal.coe_mul]; norm_num
theorem eps_real : ∃ r : ℝ, Ideal.ofBits .f32 0x3727C5AC#32 = (r : EReal) := by
  refine ⟨10995116 / 1099511627776, ?_⟩
  simp [Ideal.ofBits, Ideal.ieee, -EReal.coe_mul]
  norm_num

theorem div_real (x : EReal) (r : ℝ) (h : r ≠ 0) : Ideal.div x (r : EReal) = x * ((1 / r : ℝ) : EReal) := by
  unfold Ideal.div
  rw [if_neg (by exact_mod_cast h), one_div, EReal.coe_inv]

theorem seen (n : ℕ) (h : n < 8) : (k0_pay4 (F := Ideal) (BitVec.ofNat 32 n) : EReal) = (((n : ℝ) * 512 : ℝ) : EReal) := by
  have e : (Scalar.muli (BitVec.ofNat 32 n) 512#32 : BitVec 32).toInt = (n : Int) * 512 := by
    interval_cases n <;> decide
  show (((Scalar.muli (BitVec.ofNat 32 n) 512#32 : BitVec 32).toInt : ℝ) : EReal) = _
  rw [e]
  push_cast
  rfl
theorem seen_next (n : ℕ) (h : n < 8) : (k0_pay5 (F := Ideal) (BitVec.ofNat 32 n) : EReal) = (((n : ℝ) * 512 + 512 : ℝ) : EReal) := by
  show (k0_pay4 (F := Ideal) (BitVec.ofNat 32 n) : EReal) + Ideal.ofBits .f32 0x44000000#32 = _
  rw [seen n h, c512, ← EReal.coe_add]

theorem weight (n : ℕ) (h : n < 8) : Ideal.div (Ideal.ofBits .f32 0x44000000#32) (k0_pay5 (F := Ideal) (BitVec.ofNat 32 n)) = ((Welford.wt n : ℝ) : EReal) := by
  rw [seen_next n h, c512, div_real _ _ (by positivity), ← EReal.coe_mul]
  refine EReal.coe_eq_coe_iff.2 ?_
  unfold Welford.wt
  ring
theorem weight_sq (n : ℕ) (h : n < 8) : Ideal.div ((k0_pay4 (F := Ideal) (BitVec.ofNat 32 n) : EReal) * Ideal.ofBits .f32 0x44000000#32) (k0_pay5 (F := Ideal) (BitVec.ofNat 32 n)) = (((n : ℕ) * 512 * Welford.wt n : ℝ) : EReal) := by
  rw [seen_next n h, seen n h, c512, div_real _ _ (by positivity), ← EReal.coe_mul, ← EReal.coe_mul]
  refine EReal.coe_eq_coe_iff.2 ?_
  unfold Welford.wt
  ring

/-- A row's sum, chunk by chunk. -/
theorem chunks (f : Fin 4096 → EReal) : ∑ k, f k = ∑ j : Fin 8, ∑ k : Fin 512, f ⟨j.val * 512 + k.val, by have := j.isLt; have := k.isLt; omega⟩ := by
  rw [← Fintype.sum_prod_type' (fun (j : Fin 8) (k : Fin 512) => f ⟨j.val * 512 + k.val, by have := j.isLt; have := k.isLt; omega⟩)]
  refine ((Equiv.sum_comp (finProdFinEquiv (m := 8) (n := 512)) f).symm.trans (Finset.sum_congr rfl fun x _ => congrArg f (Fin.ext ?_)))
  show x.2.val + 512 * x.1.val = x.1.val * 512 + x.2.val
  omega

/-- The two ways of normalising a row agree. -/
theorem row_eq (z : Fin 4096 → EReal) (g b : EReal) (q : Fin 4096) (w : Fin 8 → Fin 512 → EReal)
    (hw : ∀ j k, w j k = z ⟨j.val * 512 + k.val, by have := j.isLt; have := k.isLt; omega⟩) :
    nval (z q) (Welford.mean w 7) (Welford.sq w 7 * Ideal.ofBits .f32 0x39800000#32 + Ideal.ofBits .f32 0x3727C5AC#32) g b = rowval z g b q := by
  have hs : Ideal.div (∑ k, z k) (Ideal.ofBits .f32 0x45800000#32) = Welford.whole w := by
    rw [c4096, div_real _ _ (by norm_num), chunks]
    unfold Welford.whole
    simp only [hw]
  have hd : ∀ c, ∑ k, (z k - c) * (z k - c) = ∑ j, ∑ k, (w j k - c) * (w j k - c) := fun c => by
    rw [chunks]
    simp only [hw]
  unfold rowval
  rw [hs, hd, c4096, c4096i, div_real _ _ (by norm_num)]
  rcases Welford.agree w with ⟨h1, h2⟩ | ⟨h1, h2⟩
  · obtain ⟨e, he⟩ := eps_real
    rw [h1, h2, he, EReal.top_mul_coe_of_pos (by norm_num), EReal.top_add_coe]
    unfold nval
    rw [show Ideal.rsqrt ⊤ = 0 from rfl, mul_zero, mul_zero]
  · rw [h1, h2]

/-! ## The arrays the blocks are of -/

variable (m : (ℓ : Loc nD τ sig) → Buf (Elt Ideal) ℓ) (c : Dev nD)

abbrev aX : FVec Ideal S8192x4096 .bf16 := m ((c : Thread nD τ).loc main_arg0)
abbrev aP : FVec Ideal S8192x256 .f32 := m ((c : Thread nD τ).loc main_arg1)
abbrev aG : FVec Ideal S4096x4096 .f32 := m ((c : Thread nD τ).loc main_arg2)
abbrev aU : FVec Ideal S256x4096 .f32 := m ((c : Thread nD τ).loc main_arg3)
abbrev aB : FVec Ideal S4096 .f32 := m ((c : Thread nD τ).loc main_arg4)
abbrev aL : FVec Ideal S4096 .f32 := m ((c : Thread nD τ).loc main_arg5)
abbrev aC : FVec Ideal S4096 .f32 := m ((c : Thread nD τ).loc main_arg6)

theorem V_v0 : (V m c main_v0 : S4096x4096.Idx → EReal) = aG m c := by
  unfold V hostOps0
  after_results_simp
  rfl
theorem V_v1 : (V m c main_v1 : S8192x256.Idx → EReal) = aP m c := by
  unfold V hostOps0
  after_results_simp
  rfl
theorem V_v2 : (V m c main_v2 : S256x4096.Idx → EReal) = aU m c := by
  unfold V hostOps0
  after_results_simp
  rfl
theorem V_v3 : (V m c main_v3 : S1x4096.Idx → EReal) = shapeCast S1x4096 (aL m c) shapeCasts_S4096_S1x4096 := by
  unfold V hostOps0
  after_results_simp
  rfl
theorem V_v3_at (q : Fin 4096) : (V m c main_v3 : S1x4096.Idx → EReal) (ix2 (0 : Fin 1) q) = aL m c (ix1 q) := by
  rw [V_v3]
  exact ValueIdx.shapeCast_a_1a_apply _ _ _ _
theorem V_v4 : (V m c main_v4 : S1x4096.Idx → EReal) = shapeCast S1x4096 (aC m c) shapeCasts_S4096_S1x4096 := by
  unfold V hostOps0
  after_results_simp
  rfl
theorem V_v4_at (q : Fin 4096) : (V m c main_v4 : S1x4096.Idx → EReal) (ix2 (0 : Fin 1) q) = aC m c (ix1 q) := by
  rw [V_v4]
  exact ValueIdx.shapeCast_a_1a_apply _ _ _ _
theorem V_v5 : (V m c main_v5 : S1x4096.Idx → EReal) = shapeCast S1x4096 (aB m c) shapeCasts_S4096_S1x4096 := by
  unfold V hostOps0
  after_results_simp
  rfl
theorem V_v5_at (q : Fin 4096) : (V m c main_v5 : S1x4096.Idx → EReal) (ix2 (0 : Fin 1) q) = aB m c (ix1 q) := by
  rw [V_v5]
  exact ValueIdx.shapeCast_a_1a_apply _ _ _ _

theorem idx0 : ∀ t : Fin cfg0.N, (cfg0.grid.coords t 0).val = t.val / 8 ∧ (cfg0.grid.coords t 1).val = t.val % 8 :=
  (by decide +kernel : ∀ t : Fin grid0.N, (grid0.coords t 0).val = t.val / 8 ∧ (grid0.coords t 1).val = t.val % 8)
theorem lt_128 (t : Fin cfg0.N) : t.val < 128 := Nat.lt_of_lt_of_eq t.isLt N_eq
theorem word {n : ℕ} (h : n < 128) : (BitVec.ofNat 32 n).toNat = n := by rw [BitVec.toNat_ofNat]; omega
theorem index0 (t : Fin cfg0.N) : (cfg0.win 0).index t = ![t.val / 8, 0] := by
  have ht := lt_128 t
  show ![(BitVec.ofNat 32 (cfg0.grid.coords t 0).val).toNat, 0] = _
  rw [(idx0 t).1, word (by omega)]
theorem index1 (t : Fin cfg0.N) : (cfg0.win 1).index t = ![0, t.val % 8] := by
  have ht := lt_128 t
  show ![0, (BitVec.ofNat 32 (cfg0.grid.coords t 1).val).toNat] = _
  rw [(idx0 t).2, word (by omega)]
theorem index2 (t : Fin cfg0.N) : (cfg0.win 2).index t = ![t.val / 8, t.val % 8] := by
  have ht := lt_128 t
  show ![(BitVec.ofNat 32 (cfg0.grid.coords t 0).val).toNat, (BitVec.ofNat 32 (cfg0.grid.coords t 1).val).toNat] = _
  rw [(idx0 t).1, word (by omega), (idx0 t).2, word (by omega)]
theorem index3 (t : Fin cfg0.N) : (cfg0.win 3).index t = ![0, 0] := by
  have ht := lt_128 t
  show ![0, 0] = _
  rfl
theorem index4 (t : Fin cfg0.N) : (cfg0.win 4).index t = ![0, 0] := by
  have ht := lt_128 t
  show ![0, 0] = _
  rfl
theorem index5 (t : Fin cfg0.N) : (cfg0.win 5).index t = ![t.val / 8, 0] := by
  have ht := lt_128 t
  show ![(BitVec.ofNat 32 (cfg0.grid.coords t 0).val).toNat, 0] = _
  rw [(idx0 t).1, word (by omega)]
theorem index6 (t : Fin cfg0.N) : (cfg0.win 6).index t = ![0, t.val % 8] := by
  have ht := lt_128 t
  show ![0, (BitVec.ofNat 32 (cfg0.grid.coords t 1).val).toNat] = _
  rw [(idx0 t).2, word (by omega)]
theorem index7 (t : Fin cfg0.N) : (cfg0.win 7).index t = ![0, t.val % 8] := by
  have ht := lt_128 t
  show ![0, (BitVec.ofNat 32 (cfg0.grid.coords t 1).val).toNat] = _
  rw [(idx0 t).2, word (by omega)]
theorem index8 (t : Fin cfg0.N) : (cfg0.win 8).index t = ![t.val / 8, 0] := by
  have ht := lt_128 t
  show ![(BitVec.ofNat 32 (cfg0.grid.coords t 0).val).toNat, 0] = _
  rw [(idx0 t).1, word (by omega)]
theorem block0 (t : Fin cfg0.N) (p : Fin 512) (q : Fin 4096) : (iblk m c 0 t : S512x4096.Idx → EReal) (ix2 p q) = aX m c (ix2 (⟨t.val / 8 * 512 + p.val, by have := lt_128 t; have := p.isLt; omega⟩ : Fin 8192) q) := by
  have e : ((cfg0.win 0).blk t).view.emb (ix2 p q) = (ix2 (⟨t.val / 8 * 512 + p.val, by have := lt_128 t; have := p.isLt; omega⟩ : Fin 8192) q : S8192x4096.Idx) := by
    refine funext fun a => Fin.ext ?_
    fin_cases a
    · show (cfg0.win 0).index t (0 : Fin 2) * 512 + 1 * p.val = t.val / 8 * 512 + p.val
      rw [index0]
      show t.val / 8 * 512 + 1 * p.val = _
      omega
    · show (cfg0.win 0).index t (1 : Fin 2) * 4096 + 1 * q.val = q.val
      rw [index0]
      show 0 * 4096 + 1 * q.val = _
      omega
  refine (congrArg (V m c main_arg0 : S8192x4096.Idx → EReal) e).trans ?_
  exact congrFun (V_main_arg0 m c) _
theorem block1 (t : Fin cfg0.N) (p : Fin 4096) (q : Fin 512) : (iblk m c 1 t : S4096x512.Idx → EReal) (ix2 p q) = aG m c (ix2 p (⟨t.val % 8 * 512 + q.val, by have := q.isLt; omega⟩ : Fin 4096)) := by
  have e : ((cfg0.win 1).blk t).view.emb (ix2 p q) = (ix2 p (⟨t.val % 8 * 512 + q.val, by have := q.isLt; omega⟩ : Fin 4096) : S4096x4096.Idx) := by
    refine funext fun a => Fin.ext ?_
    fin_cases a
    · show (cfg0.win 1).index t (0 : Fin 2) * 4096 + 1 * p.val = p.val
      rw [index1]
      show 0 * 4096 + 1 * p.val = _
      omega
    · show (cfg0.win 1).index t (1 : Fin 2) * 512 + 1 * q.val = t.val % 8 * 512 + q.val
      rw [index1]
      show t.val % 8 * 512 + 1 * q.val = _
      omega
  refine (congrArg (V m c main_v0 : S4096x4096.Idx → EReal) e).trans ?_
  exact congrFun (V_v0 m c) _
theorem block2 (t : Fin cfg0.N) (p : Fin 512) (q : Fin 512) : (iblk m c 2 t : S512x512.Idx → EReal) (ix2 p q) = aX m c (ix2 (⟨t.val / 8 * 512 + p.val, by have := lt_128 t; have := p.isLt; omega⟩ : Fin 8192) (⟨t.val % 8 * 512 + q.val, by have := q.isLt; omega⟩ : Fin 4096)) := by
  have e : ((cfg0.win 2).blk t).view.emb (ix2 p q) = (ix2 (⟨t.val / 8 * 512 + p.val, by have := lt_128 t; have := p.isLt; omega⟩ : Fin 8192) (⟨t.val % 8 * 512 + q.val, by have := q.isLt; omega⟩ : Fin 4096) : S8192x4096.Idx) := by
    refine funext fun a => Fin.ext ?_
    fin_cases a
    · show (cfg0.win 2).index t (0 : Fin 2) * 512 + 1 * p.val = t.val / 8 * 512 + p.val
      rw [index2]
      show t.val / 8 * 512 + 1 * p.val = _
      omega
    · show (cfg0.win 2).index t (1 : Fin 2) * 512 + 1 * q.val = t.val % 8 * 512 + q.val
      rw [index2]
      show t.val % 8 * 512 + 1 * q.val = _
      omega
  refine (congrArg (V m c main_arg0 : S8192x4096.Idx → EReal) e).trans ?_
  exact congrFun (V_main_arg0 m c) _
theorem block5 (t : Fin cfg0.N) (p : Fin 512) (q : Fin 256) : (iblk m c 5 t : S512x256.Idx → EReal) (ix2 p q) = aP m c (ix2 (⟨t.val / 8 * 512 + p.val, by have := lt_128 t; have := p.isLt; omega⟩ : Fin 8192) q) := by
  have e : ((cfg0.win 5).blk t).view.emb (ix2 p q) = (ix2 (⟨t.val / 8 * 512 + p.val, by have := lt_128 t; have := p.isLt; omega⟩ : Fin 8192) q : S8192x256.Idx) := by
    refine funext fun a => Fin.ext ?_
    fin_cases a
    · show (cfg0.win 5).index t (0 : Fin 2) * 512 + 1 * p.val = t.val / 8 * 512 + p.val
      rw [index5]
      show t.val / 8 * 512 + 1 * p.val = _
      omega
    · show (cfg0.win 5).index t (1 : Fin 2) * 256 + 1 * q.val = q.val
      rw [index5]
      show 0 * 256 + 1 * q.val = _
      omega
  refine (congrArg (V m c main_v1 : S8192x256.Idx → EReal) e).trans ?_
  exact congrFun (V_v1 m c) _
theorem block6 (t : Fin cfg0.N) (p : Fin 256) (q : Fin 512) : (iblk m c 6 t : S256x512.Idx → EReal) (ix2 p q) = aU m c (ix2 p (⟨t.val % 8 * 512 + q.val, by have := q.isLt; omega⟩ : Fin 4096)) := by
  have e : ((cfg0.win 6).blk t).view.emb (ix2 p q) = (ix2 p (⟨t.val % 8 * 512 + q.val, by have := q.isLt; omega⟩ : Fin 4096) : S256x4096.Idx) := by
    refine funext fun a => Fin.ext ?_
    fin_cases a
    · show (cfg0.win 6).index t (0 : Fin 2) * 256 + 1 * p.val = p.val
      rw [index6]
      show 0 * 256 + 1 * p.val = _
      omega
    · show (cfg0.win 6).index t (1 : Fin 2) * 512 + 1 * q.val = t.val % 8 * 512 + q.val
      rw [index6]
      show t.val % 8 * 512 + 1 * q.val = _
      omega
  refine (congrArg (V m c main_v2 : S256x4096.Idx → EReal) e).trans ?_
  exact congrFun (V_v2 m c) _
theorem block3 (t : Fin cfg0.N) (q : Fin 4096) : (iblk m c 3 t : S1x4096.Idx → EReal) (ix2 (0 : Fin 1) q) = aL m c (ix1 q) := by
  have e : ((cfg0.win 3).blk t).view.emb (ix2 (0 : Fin 1) q) = (ix2 (0 : Fin 1) q : S1x4096.Idx) := by
    refine funext fun a => Fin.ext ?_
    fin_cases a
    · show (cfg0.win 3).index t (0 : Fin 2) * 1 + 1 * 0 = 0
      rw [index3]
      show 0 * 1 + 1 * 0 = _
      omega
    · show (cfg0.win 3).index t (1 : Fin 2) * 4096 + 1 * q.val = q.val
      rw [index3]
      show 0 * 4096 + 1 * q.val = _
      omega
  refine (congrArg (V m c main_v3 : S1x4096.Idx → EReal) e).trans ?_
  exact V_v3_at m c _
theorem block4 (t : Fin cfg0.N) (q : Fin 4096) : (iblk m c 4 t : S1x4096.Idx → EReal) (ix2 (0 : Fin 1) q) = aC m c (ix1 q) := by
  have e : ((cfg0.win 4).blk t).view.emb (ix2 (0 : Fin 1) q) = (ix2 (0 : Fin 1) q : S1x4096.Idx) := by
    refine funext fun a => Fin.ext ?_
    fin_cases a
    · show (cfg0.win 4).index t (0 : Fin 2) * 1 + 1 * 0 = 0
      rw [index4]
      show 0 * 1 + 1 * 0 = _
      omega
    · show (cfg0.win 4).index t (1 : Fin 2) * 4096 + 1 * q.val = q.val
      rw [index4]
      show 0 * 4096 + 1 * q.val = _
      omega
  refine (congrArg (V m c main_v4 : S1x4096.Idx → EReal) e).trans ?_
  exact V_v4_at m c _
theorem block7 (t : Fin cfg0.N) (q : Fin 512) : (iblk m c 7 t : S1x512.Idx → EReal) (ix2 (0 : Fin 1) q) = aB m c (ix1 (⟨t.val % 8 * 512 + q.val, by have := q.isLt; omega⟩ : Fin 4096)) := by
  have e : ((cfg0.win 7).blk t).view.emb (ix2 (0 : Fin 1) q) = (ix2 (0 : Fin 1) (⟨t.val % 8 * 512 + q.val, by have := q.isLt; omega⟩ : Fin 4096) : S1x4096.Idx) := by
    refine funext fun a => Fin.ext ?_
    fin_cases a
    · show (cfg0.win 7).index t (0 : Fin 2) * 1 + 1 * 0 = 0
      rw [index7]
      show 0 * 1 + 1 * 0 = _
      omega
    · show (cfg0.win 7).index t (1 : Fin 2) * 512 + 1 * q.val = t.val % 8 * 512 + q.val
      rw [index7]
      show t.val % 8 * 512 + 1 * q.val = _
      omega
  refine (congrArg (V m c main_v5 : S1x4096.Idx → EReal) e).trans ?_
  exact V_v5_at m c _

/-- A point's block is a block of the whole gated sum. -/
theorem zt_at (t : Fin cfg0.N) (p q : Fin 512) : (zt m c t : S512x512.Idx → EReal) (ix2 p q)
    = zat (aX m c) (aP m c) (aG m c) (aU m c) (aB m c) (⟨t.val / 8 * 512 + p.val, by have := lt_128 t; have := p.isLt; omega⟩ : Fin 8192) (⟨t.val % 8 * 512 + q.val, by have := q.isLt; omega⟩ : Fin 4096) := by
  unfold zt
  refine (zb_at _ _ _ _ _ _ p q).trans ?_
  unfold zat
  rw [funext fun k => block0 m c t p k, funext fun k => block1 m c t k q, block2 m c t p q, funext fun k => block5 m c t p k, funext fun k => block6 m c t k q, block7 m c t q]

/-- A row of a row block, chunk by chunk. -/
def chunk (i : ℕ) (hi : i < 16) (p : Fin 512) : Fin 8 → Fin 512 → EReal := fun j k =>
  (zt m c ⟨i * 8 + j.val, by have hN : cfg0.N = 128 := N_eq; have := j.isLt; omega⟩ : S512x512.Idx → EReal) (ix2 p k)

theorem chunk_at (i : ℕ) (hi : i < 16) (p : Fin 512) (t : Fin cfg0.N) (j : Fin 8) (ht : t.val = i * 8 + j.val) :
    chunk m c i hi p j = fun k => (zt m c t : S512x512.Idx → EReal) (ix2 p k) := by
  funext k
  exact congrArg (fun s : Fin cfg0.N => (zt m c s : S512x512.Idx → EReal) (ix2 p k)) (Fin.ext ht.symm)

theorem cmean_at (i : ℕ) (hi : i < 16) (p : Fin 512) (t : Fin cfg0.N) (j : Fin 8) (ht : t.val = i * 8 + j.val) :
    (k0_pay206 (F := Ideal) (iblk m c 0 t) (iblk m c 1 t) (iblk m c 7 t) (iblk m c 5 t) (iblk m c 6 t) (iblk m c 2 t) : FVec Ideal S512x1 .f32) (ix2 p (0 : Fin 1)) = Welford.cMean (chunk m c i hi p j) := by
  rw [chunk_at m c i hi p t j ht]
  refine (mean_at _ _ _ _ _ _ p).trans ?_
  rw [c512, div_real _ _ (by norm_num)]
  rfl

theorem csq_at (i : ℕ) (hi : i < 16) (p : Fin 512) (t : Fin cfg0.N) (j : Fin 8) (ht : t.val = i * 8 + j.val) :
    (k0_pay1 (F := Ideal) (zt m c t) (k0_pay207 (iblk m c 0 t) (iblk m c 1 t) (iblk m c 7 t) (iblk m c 5 t) (iblk m c 6 t) (iblk m c 2 t)) : FVec Ideal S512x1 .f32) (ix2 p (0 : Fin 1)) = Welford.cSq (chunk m c i hi p j) := by
  refine (sq_at _ _ p).trans ?_
  unfold Welford.cSq
  refine Finset.sum_congr rfl fun k _ => ?_
  rw [(spread_at _ _ _ _ _ _ p k).trans (cmean_at m c i hi p t j ht)]
  rw [chunk_at m c i hi p t j ht]

/-- The running mean and square sum, entry by entry. -/
theorem stat_at (i : ℕ) (hi : i < 16) (p : Fin 512) : ∀ n (hn : n < 8),
    ((stat m c (i * 8 + n) (by have hN : cfg0.N = 128 := N_eq; omega)).1 : FVec Ideal S512x1 .f32) (ix2 p (0 : Fin 1)) = Welford.mean (chunk m c i hi p) n
    ∧ ((stat m c (i * 8 + n) (by have hN : cfg0.N = 128 := N_eq; omega)).2 : FVec Ideal S512x1 .f32) (ix2 p (0 : Fin 1)) = Welford.sq (chunk m c i hi p) n
  | 0, hn => by
    have hN : cfg0.N = 128 := N_eq
    have hlt : i * 8 + 0 < cfg0.N := by omega
    have e := stat_start m c ⟨i * 8 + 0, hlt⟩ (by show (i * 8 + 0) % 8 = 0; omega)
    have e' : stat m c (i * 8 + 0) hlt = _ := e
    rw [e']
    exact ⟨(start_mean _ p).trans (cmean_at m c i hi p _ 0 rfl), (start_sq _ _ p).trans (csq_at m c i hi p _ 0 rfl)⟩
  | n + 1, hn => by
    have hN : cfg0.N = 128 := N_eq
    have hlt : i * 8 + n + 1 < cfg0.N := by omega
    obtain ⟨h1, h2⟩ := stat_at i hi p n (by omega)
    have e : stat m c (i * 8 + (n + 1)) hlt = _ := stat_extend m c (i * 8 + n) hlt (by omega)
    have ec : (grid0.coords (⟨i * 8 + n + 1, hlt⟩ : Fin cfg0.N) 1).val = n + 1 := by rw [col]; show (i * 8 + n + 1) % 8 = n + 1; omega
    have ej : (Fin.ofNat 8 (n + 1)).val = n + 1 := Nat.mod_eq_of_lt hn
    have hm := cmean_at m c i hi p ⟨i * 8 + n + 1, hlt⟩ (Fin.ofNat 8 (n + 1)) (by rw [ej]; rfl)
    have hs := csq_at m c i hi p ⟨i * 8 + n + 1, hlt⟩ (Fin.ofNat 8 (n + 1)) (by rw [ej]; rfl)
    rw [e]
    unfold extend
    rw [ec]
    refine ⟨(next_mean _ _ _ p).trans ?_, (next_sq _ _ _ _ _ _ p).trans ?_⟩
    · rw [hm, h1, weight (n + 1) hn]
      rfl
    · rw [hm, hs, h1, h2, weight_sq (n + 1) hn]
      rfl

/-- What a row block leaves, entry by entry. -/
theorem outAt_at (t : Fin cfg0.N) (h7 : t.val % 8 = 7) (p : Fin 512) (q : Fin 4096) : (outAt m c t : S512x4096.Idx → EReal) (ix2 p q)
    = normed (aX m c) (aP m c) (aG m c) (aU m c) (aB m c) (aL m c) (aC m c) (ix2 (⟨t.val / 8 * 512 + p.val, by have := lt_128 t; have := p.isLt; omega⟩ : Fin 8192) q) := by
  have ht := lt_128 t
  have hi : t.val / 8 < 16 := by omega
  have hp := p.isLt
  have hq := q.isLt
  unfold outAt outv blk
  refine (out_at _ _ _ _ _ (⟨p.val % 32, Nat.mod_lt _ (by decide)⟩ : Fin 32) (⟨q.val % 512, Nat.mod_lt _ (by decide)⟩ : Fin 512)).trans ?_
  have hst : ∀ (n : ℕ) (hn : n < cfg0.N), n = t.val / 8 * 8 + 7 → ((stat m c n hn).1 : FVec Ideal S512x1 .f32) (ix2 p (0 : Fin 1)) = Welford.mean (chunk m c (t.val / 8) hi p) 7
      ∧ ((stat m c n hn).2 : FVec Ideal S512x1 .f32) (ix2 p (0 : Fin 1)) = Welford.sq (chunk m c (t.val / 8) hi p) 7 := fun n hn e => by
    subst e
    exact stat_at m c (t.val / 8) hi p 7 (by decide)
  obtain ⟨hM, hS⟩ := hst t.val t.isLt (by omega)
  refine Eq.trans ?_ (row_eq (zat (aX m c) (aP m c) (aG m c) (aU m c) (aB m c) (⟨t.val / 8 * 512 + p.val, by omega⟩ : Fin 8192)) (aL m c (ix1 q)) (aC m c (ix1 q)) q (chunk m c (t.val / 8) hi p) ?_)
  · have er : ∀ hh, (Rect.unit (s := S512x1) ![32 * (p.val / 32), 0] S32x1.size hh).toLoadRect.idx (ix2 (⟨p.val % 32, Nat.mod_lt _ (by decide)⟩ : Fin 32) (0 : Fin 1)) = (ix2 p (0 : Fin 1) : S512x1.Idx) := fun hh => by
      refine funext fun a => Fin.ext ?_
      fin_cases a
      · show 32 * (p.val / 32) + 1 * (p.val % 32) = p.val
        omega
      · rfl
    have eg : ∀ hh, (Rect.unit (s := S1x4096) ![0, 512 * (q.val / 512)] S1x512.size hh).toLoadRect.idx (ix2 (0 : Fin 1) (⟨q.val % 512, Nat.mod_lt _ (by decide)⟩ : Fin 512)) = (ix2 (0 : Fin 1) q : S1x4096.Idx) := fun hh => by
      refine funext fun a => Fin.ext ?_
      fin_cases a
      · rfl
      · show 512 * (q.val / 512) + 1 * (q.val % 512) = q.val
        omega
    have ea : ∀ hh, (Rect.unit (s := S8x512x512) ![512 * (q.val / 512) / 512, 32 * (p.val / 32), 0] S1x32x512.size hh).toLoadRect.idx (ix3 (0 : Fin 1) (⟨p.val % 32, Nat.mod_lt _ (by decide)⟩ : Fin 32) (⟨q.val % 512, Nat.mod_lt _ (by decide)⟩ : Fin 512))
        = (ix3 (⟨q.val / 512, by omega⟩ : Fin 8) p (⟨q.val % 512, Nat.mod_lt _ (by decide)⟩ : Fin 512) : S8x512x512.Idx) := fun hh => by
      refine funext fun a => Fin.ext ?_
      fin_cases a
      · show 512 * (q.val / 512) / 512 + 1 * 0 = q.val / 512
        omega
      · show 32 * (p.val / 32) + 1 * (p.val % 32) = p.val
        omega
      · show 0 + 1 * (q.val % 512) = q.val % 512
        omega
    have ez : (cols m c t : S8x512x512.Idx → EReal) (ix3 (⟨q.val / 512, by omega⟩ : Fin 8) p (⟨q.val % 512, Nat.mod_lt _ (by decide)⟩ : Fin 512))
        = zat (aX m c) (aP m c) (aG m c) (aU m c) (aB m c) (⟨t.val / 8 * 512 + p.val, by omega⟩ : Fin 8192) q := by
      refine (zt_at m c ⟨t.val / 8 * 8 + q.val / 512, _⟩ p (⟨q.val % 512, Nat.mod_lt _ (by decide)⟩ : Fin 512)).trans ?_
      refine congrArg₂ (zat (aX m c) (aP m c) (aG m c) (aU m c) (aB m c)) (Fin.ext ?_) (Fin.ext ?_)
      · show (t.val / 8 * 8 + q.val / 512) / 8 * 512 + p.val = t.val / 8 * 512 + p.val
        omega
      · show (t.val / 8 * 8 + q.val / 512) % 8 * 512 + q.val % 512 = q.val
        omega
    refine Eq.trans (b := nval _ _ _ _ _) ?_ (congr (congr (congr (congr (congrArg nval ez) hM) (congrArg (fun s : EReal => s * Ideal.ofBits .f32 0x39800000#32 + Ideal.ofBits .f32 0x3727C5AC#32) hS)) (block3 m c t q)) (block4 m c t q))
    exact congr (congr (congr (congr (congrArg nval (congrArg (cols m c t : S8x512x512.Idx → EReal) (ea _))) (congrArg ((stat m c t.val t.isLt).1 : S512x1.Idx → EReal) (er _)))
      (congrArg (fun y => (((stat m c t.val t.isLt).2 : S512x1.Idx → EReal) y * Ideal.ofBits .f32 0x39800000#32 + Ideal.ofBits .f32 0x3727C5AC#32 : EReal)) (er _)))
      (congrArg (iblk m c 3 t : S1x4096.Idx → EReal) (eg _))) (congrArg (iblk m c 4 t : S1x4096.Idx → EReal) (eg _))
  · intro j k
    have hj := j.isLt
    have hk := k.isLt
    unfold chunk
    refine (zt_at m c _ p k).trans ?_
    refine congrArg₂ (zat (aX m c) (aP m c) (aG m c) (aU m c) (aB m c)) (Fin.ext ?_) (Fin.ext ?_)
    · show (t.val / 8 * 8 + j.val) / 8 * 512 + p.val = t.val / 8 * 512 + p.val
      omega
    · show (t.val / 8 * 8 + j.val) % 8 * 512 + k.val = j.val * 512 + k.val
      omega

end Cert.Proof.Norm
end
-- ==== Proof.Norm.lean ====
/-
  The last normalisation: the call's array is the plain normalisation's, and the frames of the three programs.
-/
module

public import proofs.«01_k».proof.Defs
public import proofs.«01_k».proof.Proof.NormValue
public import proofs.«01_k».proof.Proof.Gen.Kernel4

@[expose] public section

set_option maxRecDepth 16384

noncomputable section

namespace Cert.Proof.Norm

open Cert.Kernel4Ideal Cert.Kernel4Ideal.Gen
open Idealize.ShloMosaic Idealize.ShloMosaic.TcCoe
open Idealize.SL Idealize.SL.Sem

section
variable (m : (ℓ : Loc nD τ sig) → Buf (Elt Ideal) ℓ)

/-- The normalised rows of the call's arguments. -/
abbrev result (c : Dev nD) : FVec Ideal S8192x4096 .f32 := normed (aX m c) (aP m c) (aG m c) (aU m c) (aB m c) (aL m c) (aC m c)

/-- What a row block writes back is its block of the whole array. -/
theorem flushed (c : Dev nD) (t : Fin cfg0.N) (hf : (cfg0.win 8).flush t = true) :
    (dats m 0 c).flushed 8 t = ((cfg0.win 8).blk t).view.read (Elt Ideal) (result m c) := by
  have h7 := (flush0_8 t).1 hf
  have ht := lt_128 t
  show (cfg0.win 8).cut (grid0.coords t) ((dats m 0 c).after 8 t) = _
  rw [after8]
  refine funext fun y : S512x4096.Idx => ?_
  obtain ⟨p, q, rfl⟩ : ∃ (p : Fin 512) (q : Fin 4096), y = ix2 p q := ⟨y 0, y 1, eq_ix2 y⟩
  have hp := p.isLt
  have e : ((cfg0.win 8).blk t).view.emb (ix2 p q) = (ix2 (⟨t.val / 8 * 512 + p.val, by omega⟩ : Fin 8192) q : S8192x4096.Idx) := by
    refine funext fun a => Fin.ext ?_
    fin_cases a
    · show (cfg0.win 8).index t (0 : Fin 2) * 512 + 1 * p.val = t.val / 8 * 512 + p.val
      rw [index8]
      show t.val / 8 * 512 + 1 * p.val = _
      omega
    · show (cfg0.win 8).index t (1 : Fin 2) * 4096 + 1 * q.val = q.val
      rw [index8]
      show 0 * 4096 + 1 * q.val = _
      omega
  exact Eq.trans (outAt_at m c t h7 p q) (congrArg (result m c) e).symm

theorem covered (i : S8192x4096.Idx) : ∃ t : Fin cfg0.N, (cfg0.win 8).flush t = true ∧ i ∈ ((cfg0.win 8).blk t).view.set := by
  have h0 : (i 0).val < 8192 := (i 0).isLt
  have hN : cfg0.N = 128 := N_eq
  have ht : (i 0).val / 512 * 8 + 7 < cfg0.N := by omega
  refine ⟨⟨(i 0).val / 512 * 8 + 7, ht⟩, (flush0_8 _).2 (by show ((i 0).val / 512 * 8 + 7) % 8 = 7; omega), ?_⟩
  have e : i = ((cfg0.win 8).blk ⟨(i 0).val / 512 * 8 + 7, ht⟩).view.emb (ix2 (⟨(i 0).val % 512, Nat.mod_lt _ (by decide)⟩ : Fin 512) (i 1 : Fin 4096)) := by
    refine funext fun a => Fin.ext ?_
    fin_cases a
    · show (i 0).val = (cfg0.win 8).index ⟨(i 0).val / 512 * 8 + 7, ht⟩ (0 : Fin 2) * 512 + 1 * ((i 0).val % 512)
      rw [index8]
      show (i 0).val = ((i 0).val / 512 * 8 + 7) / 8 * 512 + 1 * ((i 0).val % 512)
      omega
    · show (i 1).val = (cfg0.win 8).index ⟨(i 0).val / 512 * 8 + 7, ht⟩ (1 : Fin 2) * 4096 + 1 * (i 1).val
      rw [index8]
      show (i 1).val = 0 * 4096 + 1 * (i 1).val
      omega
  exact Eq.mpr (congrArg (fun z => z ∈ ((cfg0.win 8).blk ⟨(i 0).val / 512 * 8 + 7, ht⟩).view.set) e) (((cfg0.win 8).blk _).view.emb_mem_set _)

theorem final (c : Dev nD) : (dats m 0 c).arrAt 8 cfg0.N = result m c :=
  (dats m 0 c).arrAt_eq_of_cover 8 _ (fun t h => flushed m c t h) covered
end

theorem agree : Cert.algebraic_Kernel4Ideal_Reference4Ideal := by
  intro m g m' g' hp ha
  refine ⟨fun c => result m c, ?_, ?_⟩
  · exact (θ_run Cert.Kernel4Ideal.defs _ _).mono (fun r h c => ⟨(h c).1.trans (final m c), (h c).2⟩) (run_out (F := Ideal) m g)
  · refine (θ_run Cert.Reference4Ideal.defs _ _).mono (fun r h c => ⟨(h c).1.trans ?_, (h c).2⟩) (Cert.Reference4Ideal.Value.run (F := Ideal) m' g')
    refine funext fun y : S8192x4096.Idx => ?_
    obtain ⟨p, q, rfl⟩ : ∃ (p : Fin 8192) (q : Fin 4096), y = ix2 p q := ⟨y 0, y 1, eq_ix2 y⟩
    refine (reference_at m' c p q).trans ?_
    obtain ⟨h0, h1, h2, h3, h4, h5, h6⟩ := ha c
    rw [h0, h1, h2, h3, h4, h5, h6]
    rfl

theorem frame_ideal : Cert.quiescent_Kernel4Ideal := fun m ρ _ => frame_all (F := Ideal) m ρ

theorem frame_reference : Cert.quiescent_Reference4Ideal := fun m ρ _ =>
  (θ_run Cert.Reference4Ideal.defs _ _).mono (fun _ h => ⟨fun c => (h c).2, Idealize.ShloMosaic.sem_eq_zero_of_no_sems (by decide) _⟩) (Cert.Reference4Ideal.Value.run (F := Ideal) m ρ)

/-- The two instances' programs are the same text. -/
theorem body_same : @Cert.Kernel4.cc0_mm_ln_gated Bits _ Cert.Kernel4.Gen.facts = @Cert.Kernel4Ideal.cc0_mm_ln_gated Bits _ Cert.Kernel4Ideal.Gen.facts := by
  rfl
theorem bodies_same : Cert.Kernel4.defs₀ (F := Bits) = Cert.Kernel4Ideal.defs₀ (F := Bits) := by
  unfold Cert.Kernel4.defs₀ Cert.Kernel4Ideal.defs₀
  rw [body_same]
  refine congrArg Defs.onTc (funext fun k => funext fun a => ?_)
  match k, a with
  | ⟨0, _⟩, (t, s) => rfl
theorem defs_same : Cert.Kernel4.defs (F := Bits) = Cert.Kernel4Ideal.defs (F := Bits) := by
  unfold Cert.Kernel4.defs Cert.Kernel4Ideal.defs
  rw [bodies_same]
  rfl

theorem frame_kernel : Cert.quiescent_Kernel4 := fun m ρ _ => by
  rw [defs_same]
  exact frame_all (F := Bits) m ρ

end Cert.Proof.Norm

end
-- ==== Proof.lean ====
/-
  The certificate's proof, for each of the four calls: the frames of the three programs; the two kernels being one text, that the
  idealized one keeps it; and the call against its reference.
-/
module

public import proofs.«01_k».proof.Defs
public import proofs.«01_k».proof.Proof.Agree
public import proofs.«01_k».proof.Proof.Same
public import proofs.«01_k».proof.Proof.Project
public import proofs.«01_k».proof.Proof.Norm
public import proofs.«01_k».proof.Proof.Gen.Kernel2
public import proofs.«01_k».proof.Proof.Gen.Reference2Ideal.Run
public import proofs.«01_k».proof.Proof.Gen.Pre_tiles_scheduled
public import proofs.«01_k».proof.Proof.Gen.On_rows_used

@[expose] public section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_slots_apart.Gen.facts, Cert.Pre_tiles_scheduled.Gen.facts, Cert.On_rows_written.Gen.facts, Cert.On_rows_used.Gen.facts,
    Dispatch.frame_kernel, Dispatch.frame_ideal, Dispatch.frame_reference, fun m ρ _ => Dispatch.frame_reference m ρ trivial,
    Experts.frame_kernel, Experts.frame_ideal, Experts.frame_reference, fun m ρ _ => Experts.frame_reference m ρ trivial,
    Project.frame_kernel, Project.frame_ideal, Project.frame_reference,
    Norm.frame_kernel, Norm.frame_ideal, Norm.frame_reference,
    trivial, Dispatch.agree, trivial, Experts.agree, trivial, Project.agree, trivial, Norm.agree⟩

end Cert.Proof

end
